-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))) = (fun _ => 1#1)

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_flash [hPre_finite_flash : Cert.Pre_finite_flash.Facts] (m : (ℓ : Loc Cert.FlashIdeal.nD Cert.FlashIdeal.τ Cert.FlashIdeal.sig) → Buf (Elt Ideal) ℓ) : Prop :=
  ∀ c : Dev Cert.FlashIdeal.nD,
    (Cert.Pre_finite_flash.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_flash [hPre_finite_flash : Cert.Pre_finite_flash.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_flash.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite_conv [hPre_finite_conv : Cert.Pre_finite_conv.Facts] (m : (ℓ : Loc Cert.ConvIdeal.nD Cert.ConvIdeal.τ Cert.ConvIdeal.sig) → Buf (Elt Ideal) ℓ) : Prop :=
  ∀ c : Dev Cert.ConvIdeal.nD,
    (Cert.Pre_finite_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_tail [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_tail [hPre_finite_tail : Cert.Pre_finite_tail.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6))) = (fun _ => 1#1)

def Pre_Adaw (m : (ℓ : Loc Cert.Adaw.nD Cert.Adaw.τ Cert.Adaw.sig) → Buf (Elt Bits) ℓ) : Prop :=
  True

def Pre_AdawIdeal (m : (ℓ : Loc Cert.AdawIdeal.nD Cert.AdawIdeal.τ Cert.AdawIdeal.sig) → Buf (Elt Ideal) ℓ) : Prop :=
  True

def Pre_AdawRefIdeal (m : (ℓ : Loc Cert.AdawRefIdeal.nD Cert.AdawRefIdeal.τ Cert.AdawRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_Adamod (m : (ℓ : Loc Cert.Adamod.nD Cert.Adamod.τ Cert.Adamod.sig) → Buf (Elt Bits) ℓ) : Prop :=
  True

def Pre_AdamodIdeal (m : (ℓ : Loc Cert.AdamodIdeal.nD Cert.AdamodIdeal.τ Cert.AdamodIdeal.sig) → Buf (Elt Ideal) ℓ) : Prop :=
  True

def Pre_AdamodRefIdeal (m : (ℓ : Loc Cert.AdamodRefIdeal.nD Cert.AdamodRefIdeal.τ Cert.AdamodRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_finite_flash [hFlashIdeal : Cert.FlashIdeal.Facts] [hPre_finite_flash : Cert.Pre_finite_flash.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_flash m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_finite_flash [hFlashRefIdeal : Cert.FlashRefIdeal.Facts] [hPre_finite_flash : Cert.Pre_finite_flash.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_flash m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvIdeal_pre_finite_conv [hConvIdeal : Cert.ConvIdeal.Facts] [hPre_finite_conv : Cert.Pre_finite_conv.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite_conv m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailIdeal_pre_finite_tail [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_tail m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6))
      ∧ r.2.sem = fun _ => 0)

def quiescent_TailRefIdeal_pre_finite_tail [hTailRefIdeal : Cert.TailRefIdeal.Facts] [hPre_finite_tail : Cert.Pre_finite_tail.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_tail m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6))
      ∧ r.2.sem = fun _ => 0)

def quiescent_Adaw [hAdaw : Cert.Adaw.Facts] : Prop :=
  ∀ (m : (ℓ : Loc Cert.Adaw.nD Cert.Adaw.τ Cert.Adaw.sig) → Buf (Elt Bits) ℓ) (g : Dev Cert.Adaw.nD → PrngReg), Pre_Adaw m →
    θ_run (Cert.Adaw.defs (F := Bits)) (onTc (τ := Cert.Adaw.τ) (Cert.Adaw.main (F := Bits))) ⟨m, fun _ => 0, g⟩ (fun r => (∀ c : Dev Cert.Adaw.nD,
      r.2.mem ((c.tc : Thread Cert.Adaw.nD Cert.Adaw.τ).loc Cert.Adaw.main_arg0) = m ((c.tc : Thread Cert.Adaw.nD Cert.Adaw.τ).loc Cert.Adaw.main_arg0)
      ∧ r.2.mem ((c.tc : Thread Cert.Adaw.nD Cert.Adaw.τ).loc Cert.Adaw.main_arg1) = m ((c.tc : Thread Cert.Adaw.nD Cert.Adaw.τ).loc Cert.Adaw.main_arg1))
      ∧ r.2.sem = fun _ => 0)

def quiescent_AdawIdeal [hAdawIdeal : Cert.AdawIdeal.Facts] : Prop :=
  ∀ (m : (ℓ : Loc Cert.AdawIdeal.nD Cert.AdawIdeal.τ Cert.AdawIdeal.sig) → Buf (Elt Ideal) ℓ) (g : Dev Cert.AdawIdeal.nD → PrngReg), Pre_AdawIdeal m →
    θ_run (Cert.AdawIdeal.defs (F := Ideal)) (onTc (τ := Cert.AdawIdeal.τ) (Cert.AdawIdeal.main (F := Ideal))) ⟨m, fun _ => 0, g⟩ (fun r => (∀ c : Dev Cert.AdawIdeal.nD,
      r.2.mem ((c.tc : Thread Cert.AdawIdeal.nD Cert.AdawIdeal.τ).loc Cert.AdawIdeal.main_arg0) = m ((c.tc : Thread Cert.AdawIdeal.nD Cert.AdawIdeal.τ).loc Cert.AdawIdeal.main_arg0)
      ∧ r.2.mem ((c.tc : Thread Cert.AdawIdeal.nD Cert.AdawIdeal.τ).loc Cert.AdawIdeal.main_arg1) = m ((c.tc : Thread Cert.AdawIdeal.nD Cert.AdawIdeal.τ).loc Cert.AdawIdeal.main_arg1))
      ∧ r.2.sem = fun _ => 0)

def quiescent_AdawRefIdeal [hAdawRefIdeal : Cert.AdawRefIdeal.Facts] : Prop :=
  ∀ (m : (ℓ : Loc Cert.AdawRefIdeal.nD Cert.AdawRefIdeal.τ Cert.AdawRefIdeal.sig) → Buf (Elt Ideal) ℓ) (g : Dev Cert.AdawRefIdeal.nD → PrngReg), Pre_AdawRefIdeal m →
    θ_run (Cert.AdawRefIdeal.defs (F := Ideal)) (onTc (τ := Cert.AdawRefIdeal.τ) (Cert.AdawRefIdeal.main (F := Ideal))) ⟨m, fun _ => 0, g⟩ (fun r => (∀ c : Dev Cert.AdawRefIdeal.nD,
      r.2.mem ((c.tc : Thread Cert.AdawRefIdeal.nD Cert.AdawRefIdeal.τ).loc Cert.AdawRefIdeal.main_arg0) = m ((c.tc : Thread Cert.AdawRefIdeal.nD Cert.AdawRefIdeal.τ).loc Cert.AdawRefIdeal.main_arg0)
      ∧ r.2.mem ((c.tc : Thread Cert.AdawRefIdeal.nD Cert.AdawRefIdeal.τ).loc Cert.AdawRefIdeal.main_arg1) = m ((c.tc : Thread Cert.AdawRefIdeal.nD Cert.AdawRefIdeal.τ).loc Cert.AdawRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Adamod [hAdamod : Cert.Adamod.Facts] : Prop :=
  ∀ (m : (ℓ : Loc Cert.Adamod.nD Cert.Adamod.τ Cert.Adamod.sig) → Buf (Elt Bits) ℓ) (g : Dev Cert.Adamod.nD → PrngReg), Pre_Adamod m →
    θ_run (Cert.Adamod.defs (F := Bits)) (onTc (τ := Cert.Adamod.τ) (Cert.Adamod.main (F := Bits))) ⟨m, fun _ => 0, g⟩ (fun r => (∀ c : Dev Cert.Adamod.nD,
      r.2.mem ((c.tc : Thread Cert.Adamod.nD Cert.Adamod.τ).loc Cert.Adamod.main_arg0) = m ((c.tc : Thread Cert.Adamod.nD Cert.Adamod.τ).loc Cert.Adamod.main_arg0)
      ∧ r.2.mem ((c.tc : Thread Cert.Adamod.nD Cert.Adamod.τ).loc Cert.Adamod.main_arg1) = m ((c.tc : Thread Cert.Adamod.nD Cert.Adamod.τ).loc Cert.Adamod.main_arg1)
      ∧ r.2.mem ((c.tc : Thread Cert.Adamod.nD Cert.Adamod.τ).loc Cert.Adamod.main_arg2) = m ((c.tc : Thread Cert.Adamod.nD Cert.Adamod.τ).loc Cert.Adamod.main_arg2))
      ∧ r.2.sem = fun _ => 0)

def quiescent_AdamodIdeal [hAdamodIdeal : Cert.AdamodIdeal.Facts] : Prop :=
  ∀ (m : (ℓ : Loc Cert.AdamodIdeal.nD Cert.AdamodIdeal.τ Cert.AdamodIdeal.sig) → Buf (Elt Ideal) ℓ) (g : Dev Cert.AdamodIdeal.nD → PrngReg), Pre_AdamodIdeal m →
    θ_run (Cert.AdamodIdeal.defs (F := Ideal)) (onTc (τ := Cert.AdamodIdeal.τ) (Cert.AdamodIdeal.main (F := Ideal))) ⟨m, fun _ => 0, g⟩ (fun r => (∀ c : Dev Cert.AdamodIdeal.nD,
      r.2.mem ((c.tc : Thread Cert.AdamodIdeal.nD Cert.AdamodIdeal.τ).loc Cert.AdamodIdeal.main_arg0) = m ((c.tc : Thread Cert.AdamodIdeal.nD Cert.AdamodIdeal.τ).loc Cert.AdamodIdeal.main_arg0)
      ∧ r.2.mem ((c.tc : Thread Cert.AdamodIdeal.nD Cert.AdamodIdeal.τ).loc Cert.AdamodIdeal.main_arg1) = m ((c.tc : Thread Cert.AdamodIdeal.nD Cert.AdamodIdeal.τ).loc Cert.AdamodIdeal.main_arg1)
      ∧ r.2.mem ((c.tc : Thread Cert.AdamodIdeal.nD Cert.AdamodIdeal.τ).loc Cert.AdamodIdeal.main_arg2) = m ((c.tc : Thread Cert.AdamodIdeal.nD Cert.AdamodIdeal.τ).loc Cert.AdamodIdeal.main_arg2))
      ∧ r.2.sem = fun _ => 0)

def quiescent_AdamodRefIdeal [hAdamodRefIdeal : Cert.AdamodRefIdeal.Facts] : Prop :=
  ∀ (m : (ℓ : Loc Cert.AdamodRefIdeal.nD Cert.AdamodRefIdeal.τ Cert.AdamodRefIdeal.sig) → Buf (Elt Ideal) ℓ) (g : Dev Cert.AdamodRefIdeal.nD → PrngReg), Pre_AdamodRefIdeal m →
    θ_run (Cert.AdamodRefIdeal.defs (F := Ideal)) (onTc (τ := Cert.AdamodRefIdeal.τ) (Cert.AdamodRefIdeal.main (F := Ideal))) ⟨m, fun _ => 0, g⟩ (fun r => (∀ c : Dev Cert.AdamodRefIdeal.nD,
      r.2.mem ((c.tc : Thread Cert.AdamodRefIdeal.nD Cert.AdamodRefIdeal.τ).loc Cert.AdamodRefIdeal.main_arg0) = m ((c.tc : Thread Cert.AdamodRefIdeal.nD Cert.AdamodRefIdeal.τ).loc Cert.AdamodRefIdeal.main_arg0)
      ∧ r.2.mem ((c.tc : Thread Cert.AdamodRefIdeal.nD Cert.AdamodRefIdeal.τ).loc Cert.AdamodRefIdeal.main_arg1) = m ((c.tc : Thread Cert.AdamodRefIdeal.nD Cert.AdamodRefIdeal.τ).loc Cert.AdamodRefIdeal.main_arg1)
      ∧ r.2.mem ((c.tc : Thread Cert.AdamodRefIdeal.nD Cert.AdamodRefIdeal.τ).loc Cert.AdamodRefIdeal.main_arg2) = m ((c.tc : Thread Cert.AdamodRefIdeal.nD Cert.AdamodRefIdeal.τ).loc Cert.AdamodRefIdeal.main_arg2))
      ∧ r.2.sem = fun _ => 0)

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v54) = v0 c
          ∧ r.2.mem ((c.tc : Thread Cert.NormRefIdeal.nD Cert.NormRefIdeal.τ).loc Cert.NormRefIdeal.main_v58) = v1 c
          ∧ r.2.mem ((c.tc : Thread Cert.NormRefIdeal.nD Cert.NormRefIdeal.τ).loc Cert.NormRefIdeal.main_v59) = v2 c
          ∧ r.2.mem ((c.tc : Thread Cert.NormRefIdeal.nD Cert.NormRefIdeal.τ).loc Cert.NormRefIdeal.main_v55) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Flash_FlashIdeal : Prop :=
  IdealRules.named_const.Statement Cert.FlashIdeal.κ "ln2" .f32 0x3F317218#32 ((Real.log 2 : ℝ) : EReal)

def algebraic_FlashIdeal_FlashRefIdeal_pre_finite_flash [hFlashIdeal : Cert.FlashIdeal.Facts] [hFlashRefIdeal : Cert.FlashRefIdeal.Facts] [hPre_finite_flash : Cert.Pre_finite_flash.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_flash m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v46_0)) (v1 : (c : Dev Cert.FlashIdeal.nD) → Buf (Elt Ideal) ((c.tc : Thread Cert.FlashIdeal.nD Cert.FlashIdeal.τ).loc Cert.FlashIdeal.main_v46_1)) (v2 : (c : Dev Cert.FlashIdeal.nD) → Buf (Elt Ideal) ((c.tc : Thread Cert.FlashIdeal.nD Cert.FlashIdeal.τ).loc Cert.FlashIdeal.main_v46_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v46_0) = v0 c
          ∧ r.2.mem ((c.tc : Thread Cert.FlashIdeal.nD Cert.FlashIdeal.τ).loc Cert.FlashIdeal.main_v46_1) = v1 c
          ∧ r.2.mem ((c.tc : Thread Cert.FlashIdeal.nD Cert.FlashIdeal.τ).loc Cert.FlashIdeal.main_v46_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v70) = v0 c
          ∧ r.2.mem ((c.tc : Thread Cert.FlashRefIdeal.nD Cert.FlashRefIdeal.τ).loc Cert.FlashRefIdeal.main_v73) = v1 c
          ∧ r.2.mem ((c.tc : Thread Cert.FlashRefIdeal.nD Cert.FlashRefIdeal.τ).loc Cert.FlashRefIdeal.main_v75) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Conv_ConvIdeal : Prop :=
  True

def algebraic_ConvIdeal_ConvRefIdeal_on_conv_columns_pre_finite_conv [hConvIdeal : Cert.ConvIdeal.Facts] [hConvRefIdeal : Cert.ConvRefIdeal.Facts] [hPre_finite_conv : Cert.Pre_finite_conv.Facts] [hOn_conv_columns : Cert.On_conv_columns.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_finite_conv m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          (∀ i : (⟨2, ![8192, 6144]⟩ : Shape).Idx, (Cert.On_conv_columns.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2))).1 i = 1#1 → r.2.mem ((c.tc : Thread Cert.ConvIdeal.nD Cert.ConvIdeal.τ).loc Cert.ConvIdeal.main_v0_0) i = v0 c i)
          ∧ (∀ i : (⟨2, ![8, 1024]⟩ : Shape).Idx, (Cert.On_conv_columns.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2))).2 i = 1#1 → r.2.mem ((c.tc : Thread Cert.ConvIdeal.nD Cert.ConvIdeal.τ).loc Cert.ConvIdeal.main_v0_1) i = v1 c i)
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          (∀ i : (⟨2, ![8192, 6144]⟩ : Shape).Idx, (Cert.On_conv_columns.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2))).1 i = 1#1 → r.2.mem ((c.tc : Thread Cert.ConvRefIdeal.nD Cert.ConvRefIdeal.τ).loc Cert.ConvRefIdeal.main_v89) i = v0 c i)
          ∧ (∀ i : (⟨2, ![8, 1024]⟩ : Shape).Idx, (Cert.On_conv_columns.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2))).2 i = 1#1 → r.2.mem ((c.tc : Thread Cert.ConvRefIdeal.nD Cert.ConvRefIdeal.τ).loc Cert.ConvRefIdeal.main_v90) i = v1 c i)
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Tail_TailIdeal : Prop :=
  True

def algebraic_TailIdeal_TailRefIdeal_pre_finite_tail [hTailIdeal : Cert.TailIdeal.Facts] [hTailRefIdeal : Cert.TailRefIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_tail m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)) (v3 : (c : Dev Cert.TailIdeal.nD) → Buf (Elt Ideal) ((c.tc : Thread Cert.TailIdeal.nD Cert.TailIdeal.τ).loc Cert.TailIdeal.main_v0_3)) (v4 : (c : Dev Cert.TailIdeal.nD) → Buf (Elt Ideal) ((c.tc : Thread Cert.TailIdeal.nD Cert.TailIdeal.τ).loc Cert.TailIdeal.main_v0_4)) (v5 : (c : Dev Cert.TailIdeal.nD) → Buf (Elt Ideal) ((c.tc : Thread Cert.TailIdeal.nD Cert.TailIdeal.τ).loc Cert.TailIdeal.main_v0_5)) (v6 : (c : Dev Cert.TailIdeal.nD) → Buf (Elt Ideal) ((c.tc : Thread Cert.TailIdeal.nD Cert.TailIdeal.τ).loc Cert.TailIdeal.main_v0_6)) (v7 : (c : Dev Cert.TailIdeal.nD) → Buf (Elt Ideal) ((c.tc : Thread Cert.TailIdeal.nD Cert.TailIdeal.τ).loc Cert.TailIdeal.main_v0_7)) (v8 : (c : Dev Cert.TailIdeal.nD) → Buf (Elt Ideal) ((c.tc : Thread Cert.TailIdeal.nD Cert.TailIdeal.τ).loc Cert.TailIdeal.main_v0_8)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_v0_3) = v3 c
          ∧ r.2.mem ((c.tc : Thread Cert.TailIdeal.nD Cert.TailIdeal.τ).loc Cert.TailIdeal.main_v0_4) = v4 c
          ∧ r.2.mem ((c.tc : Thread Cert.TailIdeal.nD Cert.TailIdeal.τ).loc Cert.TailIdeal.main_v0_5) = v5 c
          ∧ r.2.mem ((c.tc : Thread Cert.TailIdeal.nD Cert.TailIdeal.τ).loc Cert.TailIdeal.main_v0_6) = v6 c
          ∧ r.2.mem ((c.tc : Thread Cert.TailIdeal.nD Cert.TailIdeal.τ).loc Cert.TailIdeal.main_v0_7) = v7 c
          ∧ r.2.mem ((c.tc : Thread Cert.TailIdeal.nD Cert.TailIdeal.τ).loc Cert.TailIdeal.main_v0_8) = v8 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v67) = v0 c
          ∧ r.2.mem ((c.tc : Thread Cert.TailRefIdeal.nD Cert.TailRefIdeal.τ).loc Cert.TailRefIdeal.main_v84) = v1 c
          ∧ r.2.mem ((c.tc : Thread Cert.TailRefIdeal.nD Cert.TailRefIdeal.τ).loc Cert.TailRefIdeal.main_v86) = v2 c
          ∧ r.2.mem ((c.tc : Thread Cert.TailRefIdeal.nD Cert.TailRefIdeal.τ).loc Cert.TailRefIdeal.main_v87) = v3 c
          ∧ r.2.mem ((c.tc : Thread Cert.TailRefIdeal.nD Cert.TailRefIdeal.τ).loc Cert.TailRefIdeal.main_v88) = v4 c
          ∧ r.2.mem ((c.tc : Thread Cert.TailRefIdeal.nD Cert.TailRefIdeal.τ).loc Cert.TailRefIdeal.main_v89) = v5 c
          ∧ r.2.mem ((c.tc : Thread Cert.TailRefIdeal.nD Cert.TailRefIdeal.τ).loc Cert.TailRefIdeal.main_v83) = v6 c
          ∧ r.2.mem ((c.tc : Thread Cert.TailRefIdeal.nD Cert.TailRefIdeal.τ).loc Cert.TailRefIdeal.main_v72) = v7 c
          ∧ r.2.mem ((c.tc : Thread Cert.TailRefIdeal.nD Cert.TailRefIdeal.τ).loc Cert.TailRefIdeal.main_v90) = v8 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6))

def preserves_Adaw_AdawIdeal : Prop :=
  True

def algebraic_AdawIdeal_AdawRefIdeal [hAdawIdeal : Cert.AdawIdeal.Facts] [hAdawRefIdeal : Cert.AdawRefIdeal.Facts] : Prop :=
  ∀ (m : (ℓ : Loc Cert.AdawIdeal.nD Cert.AdawIdeal.τ Cert.AdawIdeal.sig) → Buf (Elt Ideal) ℓ) (g : Dev Cert.AdawIdeal.nD → PrngReg)
    (m' : (ℓ : Loc Cert.AdawRefIdeal.nD Cert.AdawRefIdeal.τ Cert.AdawRefIdeal.sig) → Buf (Elt Ideal) ℓ) (g' : Dev Cert.AdawRefIdeal.nD → PrngReg), Pre_AdawIdeal m →
    (∀ c : Dev Cert.AdawIdeal.nD,
      m' ((c.tc : Thread Cert.AdawRefIdeal.nD Cert.AdawRefIdeal.τ).loc Cert.AdawRefIdeal.main_arg0) = m ((c.tc : Thread Cert.AdawIdeal.nD Cert.AdawIdeal.τ).loc Cert.AdawIdeal.main_arg0)
      ∧ m' ((c.tc : Thread Cert.AdawRefIdeal.nD Cert.AdawRefIdeal.τ).loc Cert.AdawRefIdeal.main_arg1) = m ((c.tc : Thread Cert.AdawIdeal.nD Cert.AdawIdeal.τ).loc Cert.AdawIdeal.main_arg1)) →
    ∃ (v0 : (c : Dev Cert.AdawIdeal.nD) → Buf (Elt Ideal) ((c.tc : Thread Cert.AdawIdeal.nD Cert.AdawIdeal.τ).loc Cert.AdawIdeal.main_v1)),
      θ_run (Cert.AdawIdeal.defs (F := Ideal)) (onTc (τ := Cert.AdawIdeal.τ) (Cert.AdawIdeal.main (F := Ideal))) ⟨m, fun _ => 0, g⟩ (fun r => ∀ c : Dev Cert.AdawIdeal.nD,
          r.2.mem ((c.tc : Thread Cert.AdawIdeal.nD Cert.AdawIdeal.τ).loc Cert.AdawIdeal.main_v1) = v0 c
          ∧ r.2.mem ((c.tc : Thread Cert.AdawIdeal.nD Cert.AdawIdeal.τ).loc Cert.AdawIdeal.main_arg0) = m ((c.tc : Thread Cert.AdawIdeal.nD Cert.AdawIdeal.τ).loc Cert.AdawIdeal.main_arg0)
          ∧ r.2.mem ((c.tc : Thread Cert.AdawIdeal.nD Cert.AdawIdeal.τ).loc Cert.AdawIdeal.main_arg1) = m ((c.tc : Thread Cert.AdawIdeal.nD Cert.AdawIdeal.τ).loc Cert.AdawIdeal.main_arg1))
      ∧ θ_run (Cert.AdawRefIdeal.defs (F := Ideal)) (onTc (τ := Cert.AdawRefIdeal.τ) (Cert.AdawRefIdeal.main (F := Ideal))) ⟨m', fun _ => 0, g'⟩ (fun r => ∀ c : Dev Cert.AdawRefIdeal.nD,
          r.2.mem ((c.tc : Thread Cert.AdawRefIdeal.nD Cert.AdawRefIdeal.τ).loc Cert.AdawRefIdeal.main_v4) = v0 c
          ∧ r.2.mem ((c.tc : Thread Cert.AdawRefIdeal.nD Cert.AdawRefIdeal.τ).loc Cert.AdawRefIdeal.main_arg0) = m' ((c.tc : Thread Cert.AdawRefIdeal.nD Cert.AdawRefIdeal.τ).loc Cert.AdawRefIdeal.main_arg0)
          ∧ r.2.mem ((c.tc : Thread Cert.AdawRefIdeal.nD Cert.AdawRefIdeal.τ).loc Cert.AdawRefIdeal.main_arg1) = m' ((c.tc : Thread Cert.AdawRefIdeal.nD Cert.AdawRefIdeal.τ).loc Cert.AdawRefIdeal.main_arg1))

def preserves_Fwd_FwdIdeal : Prop :=
  IdealRules.named_const.Statement Cert.FwdIdeal.κ "masked" .f32 0xF149F2CA#32 ⊥
  ∧ IdealRules.named_const.Statement Cert.FwdIdeal.κ "log2e" .f32 0x3FB8AA3B#32 (((Real.log 2)⁻¹ : ℝ) : EReal)

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v14_0)) (v1 : (c : Dev Cert.FwdIdeal.nD) → Buf (Elt Ideal) ((c.tc : Thread Cert.FwdIdeal.nD Cert.FwdIdeal.τ).loc Cert.FwdIdeal.main_v14_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v14_0) = v0 c
          ∧ r.2.mem ((c.tc : Thread Cert.FwdIdeal.nD Cert.FwdIdeal.τ).loc Cert.FwdIdeal.main_v14_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v25) = v0 c
          ∧ r.2.mem ((c.tc : Thread Cert.FwdRefIdeal.nD Cert.FwdRefIdeal.τ).loc Cert.FwdRefIdeal.main_v37) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Adamod_AdamodIdeal : Prop :=
  True

def algebraic_AdamodIdeal_AdamodRefIdeal [hAdamodIdeal : Cert.AdamodIdeal.Facts] [hAdamodRefIdeal : Cert.AdamodRefIdeal.Facts] : Prop :=
  ∀ (m : (ℓ : Loc Cert.AdamodIdeal.nD Cert.AdamodIdeal.τ Cert.AdamodIdeal.sig) → Buf (Elt Ideal) ℓ) (g : Dev Cert.AdamodIdeal.nD → PrngReg)
    (m' : (ℓ : Loc Cert.AdamodRefIdeal.nD Cert.AdamodRefIdeal.τ Cert.AdamodRefIdeal.sig) → Buf (Elt Ideal) ℓ) (g' : Dev Cert.AdamodRefIdeal.nD → PrngReg), Pre_AdamodIdeal m →
    (∀ c : Dev Cert.AdamodIdeal.nD,
      m' ((c.tc : Thread Cert.AdamodRefIdeal.nD Cert.AdamodRefIdeal.τ).loc Cert.AdamodRefIdeal.main_arg0) = m ((c.tc : Thread Cert.AdamodIdeal.nD Cert.AdamodIdeal.τ).loc Cert.AdamodIdeal.main_arg0)
      ∧ m' ((c.tc : Thread Cert.AdamodRefIdeal.nD Cert.AdamodRefIdeal.τ).loc Cert.AdamodRefIdeal.main_arg1) = m ((c.tc : Thread Cert.AdamodIdeal.nD Cert.AdamodIdeal.τ).loc Cert.AdamodIdeal.main_arg1)
      ∧ m' ((c.tc : Thread Cert.AdamodRefIdeal.nD Cert.AdamodRefIdeal.τ).loc Cert.AdamodRefIdeal.main_arg2) = m ((c.tc : Thread Cert.AdamodIdeal.nD Cert.AdamodIdeal.τ).loc Cert.AdamodIdeal.main_arg2)) →
    ∃ (v0 : (c : Dev Cert.AdamodIdeal.nD) → Buf (Elt Ideal) ((c.tc : Thread Cert.AdamodIdeal.nD Cert.AdamodIdeal.τ).loc Cert.AdamodIdeal.main_v0)),
      θ_run (Cert.AdamodIdeal.defs (F := Ideal)) (onTc (τ := Cert.AdamodIdeal.τ) (Cert.AdamodIdeal.main (F := Ideal))) ⟨m, fun _ => 0, g⟩ (fun r => ∀ c : Dev Cert.AdamodIdeal.nD,
          r.2.mem ((c.tc : Thread Cert.AdamodIdeal.nD Cert.AdamodIdeal.τ).loc Cert.AdamodIdeal.main_v0) = v0 c
          ∧ r.2.mem ((c.tc : Thread Cert.AdamodIdeal.nD Cert.AdamodIdeal.τ).loc Cert.AdamodIdeal.main_arg0) = m ((c.tc : Thread Cert.AdamodIdeal.nD Cert.AdamodIdeal.τ).loc Cert.AdamodIdeal.main_arg0)
          ∧ r.2.mem ((c.tc : Thread Cert.AdamodIdeal.nD Cert.AdamodIdeal.τ).loc Cert.AdamodIdeal.main_arg1) = m ((c.tc : Thread Cert.AdamodIdeal.nD Cert.AdamodIdeal.τ).loc Cert.AdamodIdeal.main_arg1)
          ∧ r.2.mem ((c.tc : Thread Cert.AdamodIdeal.nD Cert.AdamodIdeal.τ).loc Cert.AdamodIdeal.main_arg2) = m ((c.tc : Thread Cert.AdamodIdeal.nD Cert.AdamodIdeal.τ).loc Cert.AdamodIdeal.main_arg2))
      ∧ θ_run (Cert.AdamodRefIdeal.defs (F := Ideal)) (onTc (τ := Cert.AdamodRefIdeal.τ) (Cert.AdamodRefIdeal.main (F := Ideal))) ⟨m', fun _ => 0, g'⟩ (fun r => ∀ c : Dev Cert.AdamodRefIdeal.nD,
          r.2.mem ((c.tc : Thread Cert.AdamodRefIdeal.nD Cert.AdamodRefIdeal.τ).loc Cert.AdamodRefIdeal.main_v3) = v0 c
          ∧ r.2.mem ((c.tc : Thread Cert.AdamodRefIdeal.nD Cert.AdamodRefIdeal.τ).loc Cert.AdamodRefIdeal.main_arg0) = m' ((c.tc : Thread Cert.AdamodRefIdeal.nD Cert.AdamodRefIdeal.τ).loc Cert.AdamodRefIdeal.main_arg0)
          ∧ r.2.mem ((c.tc : Thread Cert.AdamodRefIdeal.nD Cert.AdamodRefIdeal.τ).loc Cert.AdamodRefIdeal.main_arg1) = m' ((c.tc : Thread Cert.AdamodRefIdeal.nD Cert.AdamodRefIdeal.τ).loc Cert.AdamodRefIdeal.main_arg1)
          ∧ r.2.mem ((c.tc : Thread Cert.AdamodRefIdeal.nD Cert.AdamodRefIdeal.τ).loc Cert.AdamodRefIdeal.main_arg2) = m' ((c.tc : Thread Cert.AdamodRefIdeal.nD Cert.AdamodRefIdeal.τ).loc Cert.AdamodRefIdeal.main_arg2))

def Claim : Prop :=
  ∃ (hNorm : Cert.Norm.Facts) (hNormIdeal : Cert.NormIdeal.Facts) (hNormRefIdeal : Cert.NormRefIdeal.Facts) (hFlash : Cert.Flash.Facts) (hFlashIdeal : Cert.FlashIdeal.Facts) (hFlashRefIdeal : Cert.FlashRefIdeal.Facts) (hConv : Cert.Conv.Facts) (hConvIdeal : Cert.ConvIdeal.Facts) (hConvRefIdeal : Cert.ConvRefIdeal.Facts) (hTail : Cert.Tail.Facts) (hTailIdeal : Cert.TailIdeal.Facts) (hTailRefIdeal : Cert.TailRefIdeal.Facts) (hAdaw : Cert.Adaw.Facts) (hAdawIdeal : Cert.AdawIdeal.Facts) (hAdawRefIdeal : Cert.AdawRefIdeal.Facts) (hFwd : Cert.Fwd.Facts) (hFwdIdeal : Cert.FwdIdeal.Facts) (hFwdRefIdeal : Cert.FwdRefIdeal.Facts) (hAdamod : Cert.Adamod.Facts) (hAdamodIdeal : Cert.AdamodIdeal.Facts) (hAdamodRefIdeal : Cert.AdamodRefIdeal.Facts) (hPre_finite_norm : Cert.Pre_finite_norm.Facts) (hPre_finite_flash : Cert.Pre_finite_flash.Facts) (hPre_finite_conv : Cert.Pre_finite_conv.Facts) (hPre_finite_tail : Cert.Pre_finite_tail.Facts) (hPre_finite_fwd : Cert.Pre_finite_fwd.Facts) (hOn_conv_columns : Cert.On_conv_columns.Facts),
    quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_Flash (hFlash := hFlash)
    ∧ quiescent_FlashIdeal (hFlashIdeal := hFlashIdeal)
    ∧ quiescent_FlashIdeal_pre_finite_flash (hFlashIdeal := hFlashIdeal) (hPre_finite_flash := hPre_finite_flash)
    ∧ quiescent_FlashRefIdeal (hFlashRefIdeal := hFlashRefIdeal)
    ∧ quiescent_FlashRefIdeal_pre_finite_flash (hFlashRefIdeal := hFlashRefIdeal) (hPre_finite_flash := hPre_finite_flash)
    ∧ quiescent_Conv (hConv := hConv)
    ∧ quiescent_ConvIdeal (hConvIdeal := hConvIdeal)
    ∧ quiescent_ConvIdeal_pre_finite_conv (hConvIdeal := hConvIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_Tail (hTail := hTail)
    ∧ quiescent_TailIdeal (hTailIdeal := hTailIdeal)
    ∧ quiescent_TailIdeal_pre_finite_tail (hTailIdeal := hTailIdeal) (hPre_finite_tail := hPre_finite_tail)
    ∧ quiescent_TailRefIdeal (hTailRefIdeal := hTailRefIdeal)
    ∧ quiescent_TailRefIdeal_pre_finite_tail (hTailRefIdeal := hTailRefIdeal) (hPre_finite_tail := hPre_finite_tail)
    ∧ quiescent_Adaw (hAdaw := hAdaw)
    ∧ quiescent_AdawIdeal (hAdawIdeal := hAdawIdeal)
    ∧ quiescent_AdawRefIdeal (hAdawRefIdeal := hAdawRefIdeal)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Adamod (hAdamod := hAdamod)
    ∧ quiescent_AdamodIdeal (hAdamodIdeal := hAdamodIdeal)
    ∧ quiescent_AdamodRefIdeal (hAdamodRefIdeal := hAdamodRefIdeal)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_Flash_FlashIdeal
    ∧ algebraic_FlashIdeal_FlashRefIdeal_pre_finite_flash (hFlashIdeal := hFlashIdeal) (hFlashRefIdeal := hFlashRefIdeal) (hPre_finite_flash := hPre_finite_flash)
    ∧ preserves_Conv_ConvIdeal
    ∧ algebraic_ConvIdeal_ConvRefIdeal_on_conv_columns_pre_finite_conv (hConvIdeal := hConvIdeal) (hConvRefIdeal := hConvRefIdeal) (hPre_finite_conv := hPre_finite_conv) (hOn_conv_columns := hOn_conv_columns)
    ∧ preserves_Tail_TailIdeal
    ∧ algebraic_TailIdeal_TailRefIdeal_pre_finite_tail (hTailIdeal := hTailIdeal) (hTailRefIdeal := hTailRefIdeal) (hPre_finite_tail := hPre_finite_tail)
    ∧ preserves_Adaw_AdawIdeal
    ∧ algebraic_AdawIdeal_AdawRefIdeal (hAdawIdeal := hAdawIdeal) (hAdawRefIdeal := hAdawRefIdeal)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Adamod_AdamodIdeal
    ∧ algebraic_AdamodIdeal_AdamodRefIdeal (hAdamodIdeal := hAdamodIdeal) (hAdamodRefIdeal := hAdamodRefIdeal)
-- ==== On_conv_columns.lean ====
abbrev S8192x6144 : Shape := ⟨2, ![8192, 6144]⟩
abbrev S8192x1024 : Shape := ⟨2, ![8192, 1024]⟩
abbrev S3x1024 : Shape := ⟨2, ![3, 1024]⟩
abbrev S_ : Shape := ⟨0, ![]⟩
abbrev S8x1024 : Shape := ⟨2, ![8, 1024]⟩

class Facts : Prop where
  bcast_S_S8192x6144 : S_.BroadcastsInDim S8192x6144 (![] : Fin 0 → Fin S8192x6144.rank)
  bcast_S_S8x1024 : S_.BroadcastsInDim S8x1024 (![] : Fin 0 → Fin S8x1024.rank)

variable [Facts]

def fn {F : FTy → Type} [FloatOps F] (main_arg0 : FVec F S8192x6144 .bf16) (main_arg1 : FVec F S8192x1024 .bf16) (main_arg2 : FVec F S3x1024 .f32) : IVec S8192x6144 1 × IVec S8x1024 1 :=
  let main_v0 : IVec S8192x6144 32 := iotaInDim S8192x6144 32 1
  let main_c : IVec S_ 32 := constantI S_ 32 4096#32
  let main_v1 : IVec S8192x6144 32 := broadcastInDim S8192x6144 ![] bcast_S_S8192x6144 main_c
  let main_v2 : IVec S8192x6144 1 := cmpi .slt main_v0 main_v1
  let main_v3 : IVec S8x1024 32 := iotaInDim S8x1024 32 1
  let main_c_0 : IVec S_ 32 := constantI S_ 32 0#32
  let main_v4 : IVec S8x1024 32 := broadcastInDim S8x1024 ![] bcast_S_S8x1024 main_c_0
  let main_v5 : IVec S8x1024 1 := cmpi .sge main_v3 main_v4
  (main_v2, main_v5)
-- ==== Pre_finite_conv.lean ====
abbrev S8192x6144 : Shape := ⟨2, ![8192, 6144]⟩
abbrev S8192x1024 : Shape := ⟨2, ![8192, 1024]⟩
abbrev S3x1024 : Shape := ⟨2, ![3, 1024]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S3x1024 : S_.BroadcastsInDim S3x1024 (![] : Fin 0 → Fin S3x1024.rank)
  reducesTo_S3x1024_S_d0_1 : S3x1024.ReducesTo [0, 1] S_

variable [Facts]

def fn {F : FTy → Type} [FloatOps F] (main_arg0 : FVec F S8192x6144 .bf16) (main_arg1 : FVec F S8192x1024 .bf16) (main_arg2 : FVec F S3x1024 .f32) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S3x1024 .f32 := Host.absf main_arg2
  let main_cst_2 : FVec F S_ .f32 := constant S_ .f32 0x7F800000#32
  let main_v12 : FVec F S3x1024 .f32 := broadcastInDim S3x1024 ![] bcast_S_S3x1024 main_cst_2
  let main_v13 : IVec S3x1024 1 := cmpf .olt main_v11 main_v12
  let main_c_3 : IVec S_ 1 := constantI S_ 1 1#1
  let main_v14 : IVec S_ 1 := (fun x v => Host.reduce IntOp.andi x v reducesTo_S3x1024_S_d0_1 h_S_) main_v13 main_c_3
  let main_v15 : IVec S_ 1 := andi main_v10 main_v14
  main_v15
-- ==== Pre_finite_flash.lean ====
abbrev S8192x8x192 : Shape := ⟨3, ![8192, 8, 192]⟩
abbrev S8192x8x128 : Shape := ⟨3, ![8192, 8, 128]⟩
abbrev S8192x1024 : Shape := ⟨2, ![8192, 1024]⟩
abbrev S_ : Shape := ⟨0, ![]⟩

class Facts : Prop where
  bcast_S_S8192x8x192 : S_.BroadcastsInDim S8192x8x192 (![] : Fin 0 → Fin S8192x8x192.rank)
  reducesTo_S8192x8x192_S_d0_1_2 : S8192x8x192.ReducesTo [0, 1, 2] S_
  h_S_ : 0 < S_.numel
  bcast_S_S8192x8x128 : S_.BroadcastsInDim S8192x8x128 (![] : Fin 0 → Fin S8192x8x128.rank)
  reducesTo_S8192x8x128_S_d0_1_2 : S8192x8x128.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x8x192 .f32) (main_arg1 : FVec F S8192x8x192 .f32) (main_arg2 : FVec F S8192x8x128 .f32) (main_arg3 : FVec F S8192x1024 .f32) : IVec S_ 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_c : IVec S_ 1 := constantI S_ 1 1#1
  let main_v3 : IVec S_ 1 := (fun x v => Host.reduce IntOp.andi x v reducesTo_S8192x8x192_S_d0_1_2 h_S_) main_v2 main_c
  let main_v4 : FVec F S8192x8x192 .f32 := Host.absf main_arg1
  let main_cst_0 : FVec F S_ .f32 := constant S_ .f32 0x7F800000#32
  let main_v5 : FVec F S8192x8x192 .f32 := broadcastInDim S8192x8x192 ![] bcast_S_S8192x8x192 main_cst_0
  let main_v6 : IVec S8192x8x192 1 := cmpf .olt main_v4 main_v5
  let main_c_1 : IVec S_ 1 := constantI S_ 1 1#1
  let main_v7 : IVec S_ 1 := (fun x v => Host.reduce IntOp.andi x v reducesTo_S8192x8x192_S_d0_1_2 h_S_) main_v6 main_c_1
  let main_v8 : IVec S_ 1 := andi main_v3 main_v7
  let main_v9 : FVec F S8192x8x128 .f32 := Host.absf main_arg2
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  let main_c_3 : IVec S_ 1 := constantI S_ 1 1#1
  let main_v12 : IVec S_ 1 := (fun x v => Host.reduce IntOp.andi x v reducesTo_S8192x8x128_S_d0_1_2 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_fwd.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)
  reducesTo_S8192x8x192_S_d0_1_2 : S8192x8x192.ReducesTo [0, 1, 2] S_
  h_S_ : 0 < S_.numel
  bcast_S_S8192x8x128 : S_.BroadcastsInDim S8192x8x128 (![] : Fin 0 → Fin S8192x8x128.rank)
  reducesTo_S8192x8x128_S_d0_1_2 : S8192x8x128.ReducesTo [0, 1, 2] S_

variable [Facts]

def fn {F : FTy → Type} [FloatOps F] (main_arg0 : FVec F S8192x8x192 .f32) (main_arg1 : FVec F S8192x8x192 .f32) (main_arg2 : FVec F S8192x8x128 .f32) : IVec S_ 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_c : IVec S_ 1 := constantI S_ 1 1#1
  let main_v3 : IVec S_ 1 := (fun x v => Host.reduce IntOp.andi x v reducesTo_S8192x8x192_S_d0_1_2 h_S_) main_v2 main_c
  let main_v4 : FVec F S8192x8x192 .f32 := Host.absf main_arg1
  let main_cst_0 : FVec F S_ .f32 := constant S_ .f32 0x7F800000#32
  let main_v5 : FVec F S8192x8x192 .f32 := broadcastInDim S8192x8x192 ![] bcast_S_S8192x8x192 main_cst_0
  let main_v6 : IVec S8192x8x192 1 := cmpf .olt main_v4 main_v5
  let main_c_1 : IVec S_ 1 := constantI S_ 1 1#1
  let main_v7 : IVec S_ 1 := (fun x v => Host.reduce IntOp.andi x v reducesTo_S8192x8x192_S_d0_1_2 h_S_) main_v6 main_c_1
  let main_v8 : IVec S_ 1 := andi main_v3 main_v7
  let main_v9 : FVec F S8192x8x128 .f32 := Host.absf main_arg2
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  let main_c_3 : IVec S_ 1 := constantI S_ 1 1#1
  let main_v12 : IVec S_ 1 := (fun x v => Host.reduce IntOp.andi x v reducesTo_S8192x8x128_S_d0_1_2 h_S_) main_v11 main_c_3
  let main_v13 : IVec S_ 1 := andi main_v8 main_v12
  main_v13
-- ==== Pre_finite_norm.lean ====
abbrev S8192x2048 : Shape := ⟨2, ![8192, 2048]⟩
abbrev S1x2048 : Shape := ⟨2, ![1, 2048]⟩
abbrev S1x6144 : Shape := ⟨2, ![1, 6144]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bitsLt_bf16_f32 : FTy.bits .bf16 < FTy.bits .f32
  bcast_S_S1x2048 : S_.BroadcastsInDim S1x2048 (![] : Fin 0 → Fin S1x2048.rank)
  reducesTo_S1x2048_S_d0_1 : S1x2048.ReducesTo [0, 1] S_
  bcast_S_S1x6144 : S_.BroadcastsInDim S1x6144 (![] : Fin 0 → Fin S1x6144.rank)
  reducesTo_S1x6144_S_d0_1 : S1x6144.ReducesTo [0, 1] S_

variable [Facts]

def fn_part1 {F : FTy → Type} [FloatOps F] (main_v14 : IVec S_ 1) (main_v15 : FVec F S1x6144 .f32) (main_v16 : FVec F S1x6144 .f32) : IVec S_ 1 :=
  let main_v17 : IVec S1x6144 1 := cmpf .olt main_v15 main_v16
  let main_c_5 : IVec S_ 1 := constantI S_ 1 1#1
  let main_v18 : IVec S_ 1 := (fun x v => Host.reduce IntOp.andi x v reducesTo_S1x6144_S_d0_1 h_S_) main_v17 main_c_5
  let main_v19 : IVec S_ 1 := andi main_v14 main_v18
  main_v19

def fn {F : FTy → Type} [FloatOps F] (main_arg0 : FVec F S8192x2048 .f32) (main_arg1 : FVec F S8192x2048 .bf16) (main_arg2 : FVec F S8192x2048 .f32) (main_arg3 : FVec F S1x2048 .f32) (main_arg4 : FVec F S1x6144 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_c_1 : IVec S_ 1 := constantI S_ 1 1#1
  let main_v8 : IVec S_ 1 := (fun x v => Host.reduce IntOp.andi x v reducesTo_S8192x2048_S_d0_1 h_S_) main_v7 main_c_1
  let main_v9 : IVec S_ 1 := andi main_v3 main_v8
  let main_v10 : FVec F S1x2048 .f32 := Host.absf main_arg3
  let main_cst_2 : FVec F S_ .f32 := constant S_ .f32 0x7F800000#32
  let main_v11 : FVec F S1x2048 .f32 := broadcastInDim S1x2048 ![] bcast_S_S1x2048 main_cst_2
  let main_v12 : IVec S1x2048 1 := cmpf .olt main_v10 main_v11
  let main_c_3 : IVec S_ 1 := constantI S_ 1 1#1
  let main_v13 : IVec S_ 1 := (fun x v => Host.reduce IntOp.andi x v reducesTo_S1x2048_S_d0_1 h_S_) main_v12 main_c_3
  let main_v14 : IVec S_ 1 := andi main_v9 main_v13
  let main_v15 : FVec F S1x6144 .f32 := Host.absf main_arg4
  let main_cst_4 : FVec F S_ .f32 := constant S_ .f32 0x7F800000#32
  let main_v16 : FVec F S1x6144 .f32 := broadcastInDim S1x6144 ![] bcast_S_S1x6144 main_cst_4
  fn_part1 (F := F) main_v14 main_v15 main_v16
-- ==== Pre_finite_tail.lean ====
abbrev S8192x2048 : Shape := ⟨2, ![8192, 2048]⟩
abbrev S8192x1024 : Shape := ⟨2, ![8192, 1024]⟩
abbrev S8192x6144 : Shape := ⟨2, ![8192, 6144]⟩
abbrev S1x6144 : Shape := ⟨2, ![1, 6144]⟩
abbrev S2048x2048 : Shape := ⟨2, ![2048, 2048]⟩
abbrev S3x1024 : Shape := ⟨2, ![3, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  bcast_S_S8192x6144 : S_.BroadcastsInDim S8192x6144 (![] : Fin 0 → Fin S8192x6144.rank)
  reducesTo_S8192x6144_S_d0_1 : S8192x6144.ReducesTo [0, 1] S_
  bcast_S_S1x6144 : S_.BroadcastsInDim S1x6144 (![] : Fin 0 → Fin S1x6144.rank)
  reducesTo_S1x6144_S_d0_1 : S1x6144.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S3x1024 : S_.BroadcastsInDim S3x1024 (![] : Fin 0 → Fin S3x1024.rank)
  reducesTo_S3x1024_S_d0_1 : S3x1024.ReducesTo [0, 1] S_

variable [Facts]

def fn_part2 {F : FTy → Type} [FloatOps F] (main_v31 : IVec S_ 1) (main_v34 : IVec S3x1024 1) : IVec S_ 1 :=
  let main_c_11 : IVec S_ 1 := constantI S_ 1 1#1
  let main_v35 : IVec S_ 1 := (fun x v => Host.reduce IntOp.andi x v reducesTo_S3x1024_S_d0_1 h_S_) main_v34 main_c_11
  let main_v36 : IVec S_ 1 := andi main_v31 main_v35
  main_v36

def fn_part1 {F : FTy → Type} [FloatOps F] (main_arg4 : FVec F S1x6144 .f32) (main_arg5 : FVec F S2048x2048 .bf16) (main_arg6 : FVec F S3x1024 .f32) (main_v14 : IVec S_ 1) (main_v16 : FVec F S8192x6144 .f32) (main_cst_4 : FVec F S_ .f32) : IVec S_ 1 :=
  let main_v17 : FVec F S8192x6144 .f32 := broadcastInDim S8192x6144 ![] bcast_S_S8192x6144 main_cst_4
  let main_v18 : IVec S8192x6144 1 := cmpf .olt main_v16 main_v17
  let main_c_5 : IVec S_ 1 := constantI S_ 1 1#1
  let main_v19 : IVec S_ 1 := (fun x v => Host.reduce IntOp.andi x v reducesTo_S8192x6144_S_d0_1 h_S_) main_v18 main_c_5
  let main_v20 : IVec S_ 1 := andi main_v14 main_v19
  let main_v21 : FVec F S1x6144 .f32 := Host.absf main_arg4
  let main_cst_6 : FVec F S_ .f32 := constant S_ .f32 0x7F800000#32
  let main_v22 : FVec F S1x6144 .f32 := broadcastInDim S1x6144 ![] bcast_S_S1x6144 main_cst_6
  let main_v23 : IVec S1x6144 1 := cmpf .olt main_v21 main_v22
  let main_c_7 : IVec S_ 1 := constantI S_ 1 1#1
  let main_v24 : IVec S_ 1 := (fun x v => Host.reduce IntOp.andi x v reducesTo_S1x6144_S_d0_1 h_S_) main_v23 main_c_7
  let main_v25 : IVec S_ 1 := andi main_v20 main_v24
  let main_v26 : FVec F S2048x2048 .f32 := (extf .f32 · bitsLt_bf16_f32) main_arg5
  let main_v27 : FVec F S2048x2048 .f32 := Host.absf main_v26
  let main_cst_8 : FVec F S_ .f32 := constant S_ .f32 0x7F800000#32
  let main_v28 : FVec F S2048x2048 .f32 := broadcastInDim S2048x2048 ![] bcast_S_S2048x2048 main_cst_8
  let main_v29 : IVec S2048x2048 1 := cmpf .olt main_v27 main_v28
  let main_c_9 : IVec S_ 1 := constantI S_ 1 1#1
  let main_v30 : IVec S_ 1 := (fun x v => Host.reduce IntOp.andi x v reducesTo_S2048x2048_S_d0_1 h_S_) main_v29 main_c_9
  let main_v31 : IVec S_ 1 := andi main_v25 main_v30
  let main_v32 : FVec F S3x1024 .f32 := Host.absf main_arg6
  let main_cst_10 : FVec F S_ .f32 := constant S_ .f32 0x7F800000#32
  let main_v33 : FVec F S3x1024 .f32 := broadcastInDim S3x1024 ![] bcast_S_S3x1024 main_cst_10
  let main_v34 : IVec S3x1024 1 := cmpf .olt main_v32 main_v33
  fn_part2 (F := F) main_v31 main_v34

def fn {F : FTy → Type} [FloatOps F] (main_arg0 : FVec F S8192x2048 .f32) (main_arg1 : FVec F S8192x2048 .f32) (main_arg2 : FVec F S8192x1024 .bf16) (main_arg3 : FVec F S8192x6144 .bf16) (main_arg4 : FVec F S1x6144 .f32) (main_arg5 : FVec F S2048x2048 .bf16) (main_arg6 : FVec F S3x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x1024 .f32 := (extf .f32 · bitsLt_bf16_f32) main_arg2
  let main_v10 : FVec F S8192x1024 .f32 := Host.absf main_v9
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v8 main_v13
  let main_v15 : FVec F S8192x6144 .f32 := (extf .f32 · bitsLt_bf16_f32) main_arg3
  let main_v16 : FVec F S8192x6144 .f32 := Host.absf main_v15
  let main_cst_4 : FVec F S_ .f32 := constant S_ .f32 0x7F800000#32
  fn_part1 (F := F) main_arg4 main_arg5 main_arg6 main_v14 main_v16 main_cst_4
-- ==== Norm.lean ====
abbrev S8192x2048 : Shape := ⟨2, ![8192, 2048]⟩
abbrev S1x2048 : Shape := ⟨2, ![1, 2048]⟩
abbrev S1x6144 : Shape := ⟨2, ![1, 6144]⟩
abbrev S512x2048 : Shape := ⟨2, ![512, 2048]⟩
abbrev S8x2048 : Shape := ⟨2, ![8, 2048]⟩
abbrev S16x2048 : Shape := ⟨2, ![16, 2048]⟩
abbrev S16 : Shape := ⟨1, ![16]⟩
abbrev S16x1 : Shape := ⟨2, ![16, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S1x6144, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x6144, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32 : BitVec 32 := 4#32
  let v20 : BitVec 32 := Scalar.muli arg10 c4_i32
  let c0_i32_10 : BitVec 32 := 0#32
  let v21 : BitVec 32 := Scalar.addi v20 c0_i32_10
  let c16_i32 : BitVec 32 := 16#32
  let v22 : BitVec 32 := Scalar.muli v21 c16_i32
  v22
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_11 : BitVec 32 := 4#32
  let v24 : BitVec 32 := Scalar.muli arg10 c4_i32_11
  let c1_i32_12 : BitVec 32 := 1#32
  let v25 : BitVec 32 := Scalar.addi v24 c1_i32_12
  let c16_i32_13 : BitVec 32 := 16#32
  let v26 : BitVec 32 := Scalar.muli v25 c16_i32_13
  v26
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_14 : BitVec 32 := 4#32
  let v28 : BitVec 32 := Scalar.muli arg10 c4_i32_14
  let c2_i32 : BitVec 32 := 2#32
  let v29 : BitVec 32 := Scalar.addi v28 c2_i32
  let c16_i32_15 : BitVec 32 := 16#32
  let v30 : BitVec 32 := Scalar.muli v29 c16_i32_15
  v30
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_16 : BitVec 32 := 4#32
  let v32 : BitVec 32 := Scalar.muli arg10 c4_i32_16
  let c3_i32 : BitVec 32 := 3#32
  let v33 : BitVec 32 := Scalar.addi v32 c3_i32
  let c16_i32_17 : BitVec 32 := 16#32
  let v34 : BitVec 32 := Scalar.muli v33 c16_i32_17
  v34
def k0_off1 (k0_t1 : Fin k0_t1_loop.trips) (c0_i32_10 : BitVec 32) : Fin 2 → Nat :=
  let c0_i32 : BitVec 32 := 0#32
  let c1_i32 : BitVec 32 := 1#32
  let arg10 : BitVec 32 := Scf.iv c0_i32 c1_i32 k0_t1
  let c4_i32 : BitVec 32 := 4#32
  let v20 : BitVec 32 := Scalar.muli arg10 c4_i32
  let v21 : BitVec 32 := Scalar.addi v20 c0_i32_10
  let c16_i32 : BitVec 32 := 16#32
  let v22 : BitVec 32 := Scalar.muli v21 c16_i32
  let v23 : BitVec 32 := v22
  let v36 : Index := Scalar.indexCast v23
  let c0_18 : Index := 0#32
  ![v36.toNat, 0]
def k0_cond1 (i : grid0.Coords) : BitVec 1 :=
  let arg0 : BitVec 32 := BitVec.ofNat 32 (i 0).val
  let c0_i32_6 : BitVec 32 := 0#32
  let v14 : BitVec 1 := Scalar.cmpi .eq arg0 c0_i32_6
  let v15 : BitVec 32 := Scalar.extui v14
  let c0_i32_7 : BitVec 32 := 0#32
  let v16 : BitVec 1 := Scalar.cmpi .ne v15 c0_i32_7
  v16

def k0_cond2 (i : grid0.Coords) : BitVec 1 :=
  let arg0 : BitVec 32 := BitVec.ofNat 32 (i 0).val
  let c0_i32_8 : BitVec 32 := 0#32
  let v17 : BitVec 1 := Scalar.cmpi .sgt arg0 c0_i32_8
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormRefIdeal.lean ====
abbrev S8192x2048 : Shape := ⟨2, ![8192, 2048]⟩
abbrev S1x2048 : Shape := ⟨2, ![1, 2048]⟩
abbrev S1x6144 : Shape := ⟨2, ![1, 6144]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S1x6144, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S1x2048, .f32⟩
  | .hbm, ⟨73, _⟩ => ⟨S_, .f32⟩
  | .hbm, ⟨74, _⟩ => ⟨S1x2048, .f32⟩
  | .hbm, ⟨75, _⟩ => ⟨S1x6144, .f32⟩
  | .hbm, ⟨76, _⟩ => ⟨S1x2048, .f32⟩
  | .hbm, ⟨77, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Flash.lean ====
abbrev S8192x8x192 : Shape := ⟨3, ![8192, 8, 192]⟩
abbrev S8192x8x128 : Shape := ⟨3, ![8192, 8, 128]⟩
abbrev S8192x1024 : Shape := ⟨2, ![8192, 1024]⟩
abbrev S_ : Shape := ⟨0, ![]⟩
abbrev S8x8192x192 : Shape := ⟨3, ![8, 8192, 192]⟩
abbrev S8x8192x256 : Shape := ⟨3, ![8, 8192, 256]⟩
abbrev S8x8192x128 : Shape := ⟨3, ![8, 8192, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x8x1024 : Shape := ⟨3, ![8, 8, 1024]⟩
abbrev S1x8192x256 : Shape := ⟨3, ![1, 8192, 256]⟩
abbrev S1x2048x256 : Shape := ⟨3, ![1, 2048, 256]⟩
abbrev S1x2048x128 : Shape := ⟨3, ![1, 2048, 128]⟩
abbrev S8192x128 : Shape := ⟨2, ![8192, 128]⟩
abbrev S1x8x1024 : Shape := ⟨3, ![1, 8, 1024]⟩
abbrev S8192x256 : Shape := ⟨2, ![8192, 256]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S1x1x1024 : Shape := ⟨3, ![1, 1, 1024]⟩
abbrev S1x1024 : Shape := ⟨2, ![1, 1024]⟩
abbrev S512x256 : Shape := ⟨2, ![512, 256]⟩
abbrev S512x128 : Shape := ⟨2, ![512, 128]⟩
abbrev S1x512x256 : Shape := ⟨3, ![1, 512, 256]⟩
abbrev S1x512 : Shape := ⟨2, ![1, 512]⟩
abbrev S512x512 : Shape := ⟨2, ![512, 512]⟩
abbrev S1024x1024 : Shape := ⟨2, ![1024, 1024]⟩

abbrev nBuf : Space → Nat
  | .hbm => 66
  | .vmem => 19
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x8x192, .f32⟩
  | .hbm, ⟨8, _⟩ => ⟨S8192x8x192, .f32⟩
  | .hbm, ⟨9, _⟩ => ⟨S8192x8x192, .f32⟩
  | .hbm, ⟨10, _⟩ => ⟨S8192x8x192, .f32⟩
  | .hbm, ⟨11, _⟩ => ⟨S8x8192x192, .f32⟩
  | .hbm, ⟨12, _⟩ => ⟨S_, .i32⟩
  | .hbm, ⟨13, _⟩ => ⟨S_, .f32⟩
  | .hbm, ⟨14, _⟩ => ⟨S8x8192x256, .f32⟩
  | .hbm, ⟨15, _⟩ => ⟨S8x8192x192, .f32⟩
  | .hbm, ⟨16, _⟩ => ⟨S_, .i32⟩
  | .hbm, ⟨17, _⟩ => ⟨S_, .f32⟩
  | .hbm, ⟨18, _⟩ => ⟨S8x8192x256, .f32⟩
  | .hbm, ⟨19, _⟩ => ⟨S8x8192x128, .f32⟩
  | .hbm, ⟨20, _⟩ => ⟨S8x8192x8192, .f32⟩
  | .hbm, ⟨21, _⟩ => ⟨S8192, .i32⟩
  | .hbm, ⟨22, _⟩ => ⟨S1x8192, .i32⟩
  | .hbm, ⟨23, _⟩ => ⟨S8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S1x8192x8192, .i1⟩
  | .hbm, ⟨29, _⟩ => ⟨S_, .f32⟩
  | .hbm, ⟨30, _⟩ => ⟨S_, .f32⟩
  | .hbm, ⟨31, _⟩ => ⟨S8x8192x8192, .i1⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x128, .f32⟩
  | .hbm, ⟨46, _⟩ => ⟨S8x8192x128, .f32⟩
  | .hbm, ⟨47, _⟩ => ⟨S8x8192x128, .f32⟩
  | .hbm, ⟨48, _⟩ => ⟨S8x8192x1, .f32⟩
  | .hbm, ⟨49, _⟩ => ⟨S8x8192x1, .f32⟩
  | .hbm, ⟨50, _⟩ => ⟨S8x8192x1, .f32⟩
  | .hbm, ⟨51, _⟩ => ⟨S8x8192x1, .f32⟩
  | .hbm, ⟨52, _⟩ => ⟨S8192x8x128, .f32⟩
  | .hbm, ⟨53, _⟩ => ⟨S8x8192x128, .f32⟩
  | .hbm, ⟨54, _⟩ => ⟨S8x8192x128, .f32⟩
  | .hbm, ⟨55, _⟩ => ⟨S_, .f32⟩
  | .hbm, ⟨56, _⟩ => ⟨S8x8192, .f32⟩
  | .hbm, ⟨57, _⟩ => ⟨S8x8192x256, .bf16⟩
  | .hbm, ⟨58, _⟩ => ⟨S8x8192x256, .bf16⟩
  | .hbm, ⟨59, _⟩ => ⟨S8x8192x128, .bf16⟩
  | .hbm, ⟨60, _⟩ => ⟨S8192x1024, .bf16⟩
  | .hbm, ⟨61, _⟩ => ⟨S8x8x1024, .f32⟩
  | .hbm, ⟨62, _⟩ => ⟨S8x8x1024, .f32⟩
  | .hbm, ⟨63, _⟩ => ⟨S8x8192x256, .bf16⟩
  | .hbm, ⟨64, _⟩ => ⟨S8x8192x256, .bf16⟩
  | .hbm, ⟨65, _⟩ => ⟨S8x8192x128, .bf16⟩
  | .local _ .vmem, ⟨0, _⟩ => ⟨S1x8192x256, .bf16⟩
  | .local _ .vmem, ⟨1, _⟩ => ⟨S1x8192x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S8192x128, .bf16⟩
  | .local _ .vmem, ⟨7, _⟩ => ⟨S8192x128, .bf16⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8192x256, .bf16⟩
  | .local _ .vmem, ⟨13, _⟩ => ⟨S1x8192x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x2048x128, .bf16⟩
  | .local _ .vmem, ⟨17, _⟩ => ⟨S1x2048x128, .bf16⟩
  | .local _ .vmem, ⟨18, _⟩ => ⟨S8192x256, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46_0 : Ref sig .tc := ⟨.hbm, 63, rfl⟩
abbrev main_v46_1 : Ref sig .tc := ⟨.hbm, 64, rfl⟩
abbrev main_v46_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_off1 (i : grid0.Coords) (c1_i32 : BitVec 32) : Fin 3 → Nat :=
  let c0_5 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let v5 : BitVec 32 := Scalar.addi v4 c1_i32
  let v10 : Index := Scalar.indexCast v5
  let c0_6 : Index := 0#32
  ![0, v10.toNat, 0]
def k0_mult1 (i : grid0.Coords) : BitVec 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1024_i32 : BitVec 32 := 1024#32
  let v16 : BitVec 32 := Scalar.muli v5 c1024_i32
  let c0_i32_9 : BitVec 32 := 0#32
  let v17 : BitVec 32 := Scalar.addi v16 c0_i32_9
  v17
def k0_off2 (i : grid0.Coords) (c1_i32 : BitVec 32) (c0_i32_9 : BitVec 32) : Fin 3 → Nat :=
  let c0_10 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let v5 : BitVec 32 := Scalar.addi v4 c1_i32
  let c1024_i32 : BitVec 32 := 1024#32
  let v16 : BitVec 32 := Scalar.muli v5 c1024_i32
  let v17 : BitVec 32 := Scalar.addi v16 c0_i32_9
  let v18 : BitVec 32 := v17
  let v21 : Index := Scalar.indexCast v18
  let c0_11 : Index := 0#32
  ![0, v21.toNat, 0]
def k0_off3 (i : grid0.Coords) (c1_i32 : BitVec 32) (c0_i32_9 : BitVec 32) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let v5 : BitVec 32 := Scalar.addi v4 c1_i32
  let c1024_i32 : BitVec 32 := 1024#32
  let v16 : BitVec 32 := Scalar.muli v5 c1024_i32
  let v17 : BitVec 32 := Scalar.addi v16 c0_i32_9
  let v18 : BitVec 32 := v17
  let v24 : Index := Scalar.indexCast v18
  let c0_12 : Index := 0#32
  ![v24.toNat, 0]
def k0_off4 (i : grid0.Coords) (c1_i32 : BitVec 32) (c0_i32_9 : BitVec 32) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let v5 : BitVec 32 := Scalar.addi v4 c1_i32
  let c1024_i32 : BitVec 32 := 1024#32
  let v16 : BitVec 32 := Scalar.muli v5 c1024_i32
  let v17 : BitVec 32 := Scalar.addi v16 c0_i32_9
  let v18 : BitVec 32 := v17
  let v47 : Index := Scalar.indexCast v18
  let c0_18 : Index := 0#32
  ![v47.toNat, 0]
def k0_mult2 (i : grid0.Coords) : BitVec 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1024_i32_20 : BitVec 32 := 1024#32
  let v54 : BitVec 32 := Scalar.muli v5 c1024_i32_20
  let c512_i32 : BitVec 32 := 512#32
  let v55 : BitVec 32 := Scalar.addi v54 c512_i32
  v55
def k0_mult3 (i : grid0.Coords) : BitVec 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1024_i32_31 : BitVec 32 := 1024#32
  let v87 : BitVec 32 := Scalar.muli v5 c1024_i32_31
  let c512_i32_32 : BitVec 32 := 512#32
  let v88 : BitVec 32 := Scalar.addi v87 c512_i32_32
  v88
@[reducible] def k0_t1_loop (i : grid0.Coords) : Scf.Loop 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_46 : BitVec 32 := 1#32
  ⟨v129, v134, c1_i32_46⟩
def k0_mult4 (i : grid0.Coords) (k0_t1 : Fin (k0_t1_loop i).trips) : BitVec 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c1_i32_46 : BitVec 32 := 1#32
  let arg12 : BitVec 32 := Scf.iv v129 c1_i32_46 k0_t1
  let c1024_i32_119 : BitVec 32 := 1024#32
  let v293 : BitVec 32 := Scalar.muli arg12 c1024_i32_119
  v293
def k0_off5 (i : grid0.Coords) (k0_t1 : Fin (k0_t1_loop i).trips) : Fin 3 → Nat :=
  let c0_120 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c1_i32_46 : BitVec 32 := 1#32
  let arg12 : BitVec 32 := Scf.iv v129 c1_i32_46 k0_t1
  let c1024_i32_119 : BitVec 32 := 1024#32
  let v293 : BitVec 32 := Scalar.muli arg12 c1024_i32_119
  let v294 : BitVec 32 := v293
  let v295 : Index := Scalar.indexCast v294
  let c0_121 : Index := 0#32
  ![0, v295.toNat, 0]
def k0_off6 (i : grid0.Coords) (k0_t1 : Fin (k0_t1_loop i).trips) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c1_i32_46 : BitVec 32 := 1#32
  let arg12 : BitVec 32 := Scf.iv v129 c1_i32_46 k0_t1
  let c1024_i32_119 : BitVec 32 := 1024#32
  let v293 : BitVec 32 := Scalar.muli arg12 c1024_i32_119
  let v294 : BitVec 32 := v293
  let v298 : Index := Scalar.indexCast v294
  let c0_122 : Index := 0#32
  ![v298.toNat, 0]
def k0_off7 (i : grid0.Coords) (k0_t1 : Fin (k0_t1_loop i).trips) : Fin 3 → Nat :=
  let c0_123 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c1_i32_46 : BitVec 32 := 1#32
  let arg12 : BitVec 32 := Scf.iv v129 c1_i32_46 k0_t1
  let v301 : Index := Scalar.indexCast arg12
  let c0_124 : Index := 0#32
  ![0, v301.toNat, 0]
def k0_off8 (i : grid0.Coords) (k0_t1 : Fin (k0_t1_loop i).trips) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c1_i32_46 : BitVec 32 := 1#32
  let arg12 : BitVec 32 := Scf.iv v129 c1_i32_46 k0_t1
  let c1024_i32_119 : BitVec 32 := 1024#32
  let v293 : BitVec 32 := Scalar.muli arg12 c1024_i32_119
  let v294 : BitVec 32 := v293
  let v320 : Index := Scalar.indexCast v294
  let c0_132 : Index := 0#32
  ![v320.toNat, 0]
@[reducible] def k0_t2_loop (i : grid0.Coords) : Scf.Loop 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let v131 : BitVec 32 := Scalar.addi v129 v130
  let c1_i32_47 : BitVec 32 := 1#32
  ⟨v134, v131, c1_i32_47⟩
def k0_mult5 (i : grid0.Coords) (k0_t2 : Fin (k0_t2_loop i).trips) : BitVec 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_47 : BitVec 32 := 1#32
  let arg12 : BitVec 32 := Scf.iv v134 c1_i32_47 k0_t2
  let c1024_i32_119 : BitVec 32 := 1024#32
  let v293 : BitVec 32 := Scalar.muli arg12 c1024_i32_119
  v293
def k0_off9 (i : grid0.Coords) (k0_t2 : Fin (k0_t2_loop i).trips) : Fin 3 → Nat :=
  let c0_120 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_47 : BitVec 32 := 1#32
  let arg12 : BitVec 32 := Scf.iv v134 c1_i32_47 k0_t2
  let c1024_i32_119 : BitVec 32 := 1024#32
  let v293 : BitVec 32 := Scalar.muli arg12 c1024_i32_119
  let v294 : BitVec 32 := v293
  let v295 : Index := Scalar.indexCast v294
  let c0_121 : Index := 0#32
  ![0, v295.toNat, 0]
def k0_off10 (i : grid0.Coords) (k0_t2 : Fin (k0_t2_loop i).trips) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_47 : BitVec 32 := 1#32
  let arg12 : BitVec 32 := Scf.iv v134 c1_i32_47 k0_t2
  let c1024_i32_119 : BitVec 32 := 1024#32
  let v293 : BitVec 32 := Scalar.muli arg12 c1024_i32_119
  let v294 : BitVec 32 := v293
  let v298 : Index := Scalar.indexCast v294
  let c0_122 : Index := 0#32
  ![v298.toNat, 0]
def k0_off11 (i : grid0.Coords) (k0_t2 : Fin (k0_t2_loop i).trips) : Fin 3 → Nat :=
  let c0_123 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_47 : BitVec 32 := 1#32
  let arg12 : BitVec 32 := Scf.iv v134 c1_i32_47 k0_t2
  let v301 : Index := Scalar.indexCast arg12
  let c0_124 : Index := 0#32
  ![0, v301.toNat, 0]
def k0_off12 (i : grid0.Coords) (k0_t2 : Fin (k0_t2_loop i).trips) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_47 : BitVec 32 := 1#32
  let arg12 : BitVec 32 := Scf.iv v134 c1_i32_47 k0_t2
  let c1024_i32_119 : BitVec 32 := 1024#32
  let v293 : BitVec 32 := Scalar.muli arg12 c1024_i32_119
  let v294 : BitVec 32 := v293
  let v320 : Index := Scalar.indexCast v294
  let c0_132 : Index := 0#32
  ![v320.toNat, 0]
def k0_mult6 (i : grid0.Coords) : BitVec 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1024_i32_67 : BitVec 32 := 1024#32
  let v159 : BitVec 32 := Scalar.muli v148 c1024_i32_67
  let c0_i32_68 : BitVec 32 := 0#32
  let v160 : BitVec 32 := Scalar.addi v159 c0_i32_68
  v160
def k0_mult7 (i : grid0.Coords) : BitVec 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1024_i32_80 : BitVec 32 := 1024#32
  let v197 : BitVec 32 := Scalar.muli v148 c1024_i32_80
  let c512_i32_81 : BitVec 32 := 512#32
  let v198 : BitVec 32 := Scalar.addi v197 c512_i32_81
  v198
def k0_mult8 (i : grid0.Coords) : BitVec 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1024_i32_92 : BitVec 32 := 1024#32
  let v230 : BitVec 32 := Scalar.muli v148 c1024_i32_92
  let c512_i32_93 : BitVec 32 := 512#32
  let v231 : BitVec 32 := Scalar.addi v230 c512_i32_93
  v231
@[reducible] def k0_t3_loop (i : grid0.Coords) : Scf.Loop 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_108 : BitVec 32 := 1#32
  ⟨v272, v277, c1_i32_108⟩
def k0_mult9 (i : grid0.Coords) (k0_t3 : Fin (k0_t3_loop i).trips) : BitVec 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c1_i32_108 : BitVec 32 := 1#32
  let arg12 : BitVec 32 := Scf.iv v272 c1_i32_108 k0_t3
  let c1024_i32_119 : BitVec 32 := 1024#32
  let v293 : BitVec 32 := Scalar.muli arg12 c1024_i32_119
  v293
def k0_off13 (i : grid0.Coords) (k0_t3 : Fin (k0_t3_loop i).trips) : Fin 3 → Nat :=
  let c0_120 : Index := 0#32
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c1_i32_108 : BitVec 32 := 1#32
  let arg12 : BitVec 32 := Scf.iv v272 c1_i32_108 k0_t3
  let c1024_i32_119 : BitVec 32 := 1024#32
  let v293 : BitVec 32 := Scalar.muli arg12 c1024_i32_119
  let v294 : BitVec 32 := v293
  let v295 : Index := Scalar.indexCast v294
  let c0_121 : Index := 0#32
  ![0, v295.toNat, 0]
def k0_off14 (i : grid0.Coords) (k0_t3 : Fin (k0_t3_loop i).trips) : Fin 2 → Nat :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c1_i32_108 : BitVec 32 := 1#32
  let arg12 : BitVec 32 := Scf.iv v272 c1_i32_108 k0_t3
  let c1024_i32_119 : BitVec 32 := 1024#32
  let v293 : BitVec 32 := Scalar.muli arg12 c1024_i32_119
  let v294 : BitVec 32 := v293
  let v298 : Index := Scalar.indexCast v294
  let c0_122 : Index := 0#32
  ![v298.toNat, 0]
def k0_off15 (i : grid0.Coords) (k0_t3 : Fin (k0_t3_loop i).trips) : Fin 3 → Nat :=
  let c0_123 : Index := 0#32
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c1_i32_108 : BitVec 32 := 1#32
  let arg12 : BitVec 32 := Scf.iv v272 c1_i32_108 k0_t3
  let v301 : Index := Scalar.indexCast arg12
  let c0_124 : Index := 0#32
  ![0, v301.toNat, 0]
def k0_off16 (i : grid0.Coords) (k0_t3 : Fin (k0_t3_loop i).trips) : Fin 2 → Nat :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c1_i32_108 : BitVec 32 := 1#32
  let arg12 : BitVec 32 := Scf.iv v272 c1_i32_108 k0_t3
  let c1024_i32_119 : BitVec 32 := 1024#32
  let v293 : BitVec 32 := Scalar.muli arg12 c1024_i32_119
  let v294 : BitVec 32 := v293
  let v320 : Index := Scalar.indexCast v294
  let c0_132 : Index := 0#32
  ![v320.toNat, 0]
@[reducible] def k0_t4_loop (i : grid0.Coords) : Scf.Loop 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let v274 : BitVec 32 := Scalar.addi v272 v273
  let c1_i32_109 : BitVec 32 := 1#32
  ⟨v277, v274, c1_i32_109⟩
def k0_mult10 (i : grid0.Coords) (k0_t4 : Fin (k0_t4_loop i).trips) : BitVec 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_109 : BitVec 32 := 1#32
  let arg12 : BitVec 32 := Scf.iv v277 c1_i32_109 k0_t4
  let c1024_i32_119 : BitVec 32 := 1024#32
  let v293 : BitVec 32 := Scalar.muli arg12 c1024_i32_119
  v293
def k0_off17 (i : grid0.Coords) (k0_t4 : Fin (k0_t4_loop i).trips) : Fin 3 → Nat :=
  let c0_120 : Index := 0#32
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_109 : BitVec 32 := 1#32
  let arg12 : BitVec 32 := Scf.iv v277 c1_i32_109 k0_t4
  let c1024_i32_119 : BitVec 32 := 1024#32
  let v293 : BitVec 32 := Scalar.muli arg12 c1024_i32_119
  let v294 : BitVec 32 := v293
  let v295 : Index := Scalar.indexCast v294
  let c0_121 : Index := 0#32
  ![0, v295.toNat, 0]
def k0_off18 (i : grid0.Coords) (k0_t4 : Fin (k0_t4_loop i).trips) : Fin 2 → Nat :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_109 : BitVec 32 := 1#32
  let arg12 : BitVec 32 := Scf.iv v277 c1_i32_109 k0_t4
  let c1024_i32_119 : BitVec 32 := 1024#32
  let v293 : BitVec 32 := Scalar.muli arg12 c1024_i32_119
  let v294 : BitVec 32 := v293
  let v298 : Index := Scalar.indexCast v294
  let c0_122 : Index := 0#32
  ![v298.toNat, 0]
def k0_off19 (i : grid0.Coords) (k0_t4 : Fin (k0_t4_loop i).trips) : Fin 3 → Nat :=
  let c0_123 : Index := 0#32
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_109 : BitVec 32 := 1#32
  let arg12 : BitVec 32 := Scf.iv v277 c1_i32_109 k0_t4
  let v301 : Index := Scalar.indexCast arg12
  let c0_124 : Index := 0#32
  ![0, v301.toNat, 0]
def k0_off20 (i : grid0.Coords) (k0_t4 : Fin (k0_t4_loop i).trips) : Fin 2 → Nat :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_109 : BitVec 32 := 1#32
  let arg12 : BitVec 32 := Scf.iv v277 c1_i32_109 k0_t4
  let c1024_i32_119 : BitVec 32 := 1024#32
  let v293 : BitVec 32 := Scalar.muli arg12 c1024_i32_119
  let v294 : BitVec 32 := v293
  let v320 : Index := Scalar.indexCast v294
  let c0_132 : Index := 0#32
  ![v320.toNat, 0]
def k0_cond2 (i : grid0.Coords) : BitVec 1 :=
  let c3_i32 : BitVec 32 := 3#32
  let arg1 : BitVec 32 := BitVec.ofNat 32 (i 1).val
  let v0 : BitVec 32 := Scalar.subi c3_i32 arg1
  let c0_i32_117 : BitVec 32 := 0#32
  let v290 : BitVec 1 := Scalar.cmpi .eq v0 c0_i32_117
  let v291 : BitVec 32 := Scalar.extui v290
  let c0_i32_118 : BitVec 32 := 0#32
  let v292 : BitVec 1 := Scalar.cmpi .ne v291 c0_i32_118
  v292

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashIdeal.lean ====
variable {F : FTy → Type} [FloatOps F] [Named F]
def κ : String → Option EReal := fun
  | "ln2" => some ((Real.log 2 : ℝ) : EReal)
  | _ => none
-- ==== FlashRefIdeal.lean ====
abbrev S8192x8x192 : Shape := ⟨3, ![8192, 8, 192]⟩
abbrev S8192x8x128 : Shape := ⟨3, ![8192, 8, 128]⟩
abbrev S8192x1024 : Shape := ⟨2, ![8192, 1024]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8x8192x256 : Shape := ⟨3, ![8, 8192, 256]⟩
abbrev S8x8192x128 : Shape := ⟨3, ![8, 8192, 128]⟩

abbrev nBuf : Space → Nat
  | .hbm => 107
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S8192, .i32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x128x8192, .f32⟩
  | .hbm, ⟨61, _⟩ => ⟨S8192x8x128, .f32⟩
  | .hbm, ⟨62, _⟩ => ⟨S8192x1024, .f32⟩
  | .hbm, ⟨63, _⟩ => ⟨S8192x8x128, .f32⟩
  | .hbm, ⟨64, _⟩ => ⟨S8x128x8192, .f32⟩
  | .hbm, ⟨65, _⟩ => ⟨S8x8192x8192, .f32⟩
  | .hbm, ⟨66, _⟩ => ⟨S8x128x8192, .f32⟩
  | .hbm, ⟨67, _⟩ => ⟨S8192x8x128, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192, .f32⟩
  | .hbm, ⟨73, _⟩ => ⟨S8x8192x1, .f32⟩
  | .hbm, ⟨74, _⟩ => ⟨S8x8192x1, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192x8192, .f32⟩
  | .hbm, ⟨87, _⟩ => ⟨S8x8192x8192, .f32⟩
  | .hbm, ⟨88, _⟩ => ⟨S8x8192x192, .f32⟩
  | .hbm, ⟨89, _⟩ => ⟨S8192x8x192, .f32⟩
  | .hbm, ⟨90, _⟩ => ⟨S8x8192x192, .f32⟩
  | .hbm, ⟨91, _⟩ => ⟨S8192x8x192, .f32⟩
  | .hbm, ⟨92, _⟩ => ⟨S_, .f32⟩
  | .hbm, ⟨93, _⟩ => ⟨S8192x8x192, .f32⟩
  | .hbm, ⟨94, _⟩ => ⟨S8192x8x192, .f32⟩
  | .hbm, ⟨95, _⟩ => ⟨S8x8192x192, .f32⟩
  | .hbm, ⟨96, _⟩ => ⟨S8x8192x192, .bf16⟩
  | .hbm, ⟨97, _⟩ => ⟨S_, .i32⟩
  | .hbm, ⟨98, _⟩ => ⟨S_, .bf16⟩
  | .hbm, ⟨99, _⟩ => ⟨S8x8192x256, .bf16⟩
  | .hbm, ⟨100, _⟩ => ⟨S8x8192x192, .f32⟩
  | .hbm, ⟨101, _⟩ => ⟨S8x8192x192, .bf16⟩
  | .hbm, ⟨102, _⟩ => ⟨S_, .i32⟩
  | .hbm, ⟨103, _⟩ => ⟨S_, .bf16⟩
  | .hbm, ⟨104, _⟩ => ⟨S8x8192x256, .bf16⟩
  | .hbm, ⟨105, _⟩ => ⟨S8x8192x128, .f32⟩
  | .hbm, ⟨106, _⟩ => ⟨S8x8192x128, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c : Ref sig .tc := ⟨.hbm, 97, rfl⟩
abbrev main_call2_v0 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_call3_v0 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== Conv.lean ====
abbrev S8192x6144 : Shape := ⟨2, ![8192, 6144]⟩
abbrev S8192x1024 : Shape := ⟨2, ![8192, 1024]⟩
abbrev S3x1024 : Shape := ⟨2, ![3, 1024]⟩
abbrev S8x1024 : Shape := ⟨2, ![8, 1024]⟩
abbrev S512x1024 : Shape := ⟨2, ![512, 1024]⟩
abbrev S16x1024 : Shape := ⟨2, ![16, 1024]⟩
abbrev S512x4096 : Shape := ⟨2, ![512, 4096]⟩
abbrev S528x1024 : Shape := ⟨2, ![528, 1024]⟩
abbrev S1x1024 : Shape := ⟨2, ![1, 1024]⟩
abbrev S1024 : Shape := ⟨1, ![1024]⟩
abbrev S5x1024 : Shape := ⟨2, ![5, 1024]⟩

abbrev nBuf : Space → Nat
  | .hbm => 5
  | .vmem => 24
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .bf16⟩
  | .hbm, ⟨2, _⟩ => ⟨S3x1024, .f32⟩
  | .hbm, ⟨3, _⟩ => ⟨S8192x6144, .bf16⟩
  | .hbm, ⟨4, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S512x1024, .bf16⟩
  | .local _ .vmem, ⟨17, _⟩ => ⟨S512x1024, .bf16⟩
  | .local _ .vmem, ⟨18, _⟩ => ⟨S16x1024, .bf16⟩
  | .local _ .vmem, ⟨19, _⟩ => ⟨S16x1024, .bf16⟩
  | .local _ .vmem, ⟨20, _⟩ => ⟨S3x1024, .f32⟩
  | .local _ .vmem, ⟨21, _⟩ => ⟨S512x4096, .bf16⟩
  | .local _ .vmem, ⟨22, _⟩ => ⟨S512x4096, .bf16⟩
  | .local _ .vmem, ⟨23, _⟩ => ⟨S8x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_36 : BitVec 32 := 0#32
  let v108 : BitVec 1 := Scalar.cmpi .eq arg0 c0_i32_36
  let v109 : BitVec 32 := Scalar.extui v108
  let c0_i32_37 : BitVec 32 := 0#32
  let v110 : BitVec 1 := Scalar.cmpi .ne v109 c0_i32_37
  v110

def k0_cond2 (i : grid0.Coords) : BitVec 1 :=
  let arg0 : BitVec 32 := BitVec.ofNat 32 (i 0).val
  let c0_i32_38 : BitVec 32 := 0#32
  let v111 : BitVec 1 := Scalar.cmpi .sgt arg0 c0_i32_38
  let v112 : BitVec 32 := Scalar.extui v111
  let c0_i32_39 : BitVec 32 := 0#32
  let v113 : BitVec 1 := Scalar.cmpi .ne v112 c0_i32_39
  v113

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvRefIdeal.lean ====
abbrev S8192x6144 : Shape := ⟨2, ![8192, 6144]⟩
abbrev S8192x1024 : Shape := ⟨2, ![8192, 1024]⟩
abbrev S3x1024 : Shape := ⟨2, ![3, 1024]⟩
abbrev S8192x4096 : Shape := ⟨2, ![8192, 4096]⟩
abbrev S1x8192x1024 : Shape := ⟨3, ![1, 8192, 1024]⟩
abbrev S1x2x1024 : Shape := ⟨3, ![1, 2, 1024]⟩
abbrev S_ : Shape := ⟨0, ![]⟩
abbrev S1x8194x1024 : Shape := ⟨3, ![1, 8194, 1024]⟩
abbrev S1x1024 : Shape := ⟨2, ![1, 1024]⟩
abbrev S1024 : Shape := ⟨1, ![1024]⟩
abbrev S1x1x1024 : Shape := ⟨3, ![1, 1, 1024]⟩
abbrev S8x1024 : Shape := ⟨2, ![8, 1024]⟩

abbrev nBuf : Space → Nat
  | .hbm => 131
  | .vmem => 0
  | .smem => 0
  | _ => 0

abbrev hbmTy0_0 (i : Nat) : BufTy := match i % 128 with
  | 0 => ⟨S8192x6144, .bf16⟩
  | 1 => ⟨S8192x1024, .bf16⟩
  | 2 => ⟨S3x1024, .f32⟩
  | 3 => ⟨S8192x6144, .f32⟩
  | 4 => ⟨S8192x4096, .f32⟩
  | 5 => ⟨S8192x1024, .f32⟩
  | 6 => ⟨S8192x1024, .f32⟩
  | 7 => ⟨S8192x1024, .f32⟩
  | 8 => ⟨S8192x1024, .f32⟩
  | 9 => ⟨S1x8192x1024, .f32⟩
  | 10 => ⟨S1x8192x1024, .f32⟩
  | 11 => ⟨S1x8192x1024, .f32⟩
  | 12 => ⟨S1x8192x1024, .f32⟩
  | 13 => ⟨S1x8192x1024, .f32⟩
  | 14 => ⟨S1x2x1024, .f32⟩
  | 15 => ⟨S_, .f32⟩
  | 16 => ⟨S1x2x1024, .f32⟩
  | 17 => ⟨S1x8194x1024, .f32⟩
  | 18 => ⟨S_, .f32⟩
  | 19 => ⟨S1x2x1024, .f32⟩
  | 20 => ⟨S1x1024, .f32⟩
  | 21 => ⟨S1024, .f32⟩
  | 22 => ⟨S1x8192x1024, .f32⟩
  | 23 => ⟨S1x1x1024, .f32⟩
  | 24 => ⟨S1x8192x1024, .f32⟩
  | 25 => ⟨S1x8192x1024, .f32⟩
  | 26 => ⟨S_, .f32⟩
  | 27 => ⟨S1x8192x1024, .f32⟩
  | 28 => ⟨S1x8192x1024, .f32⟩
  | 29 => ⟨S1x1024, .f32⟩
  | 30 => ⟨S1024, .f32⟩
  | 31 => ⟨S1x8192x1024, .f32⟩
  | 32 => ⟨S1x1x1024, .f32⟩
  | 33 => ⟨S1x8192x1024, .f32⟩
  | 34 => ⟨S1x8192x1024, .f32⟩
  | 35 => ⟨S1x8192x1024, .f32⟩
  | 36 => ⟨S1x1024, .f32⟩
  | 37 => ⟨S1024, .f32⟩
  | 38 => ⟨S1x8192x1024, .f32⟩
  | 39 => ⟨S1x1x1024, .f32⟩
  | 40 => ⟨S1x8192x1024, .f32⟩
  | 41 => ⟨S1x8192x1024, .f32⟩
  | 42 => ⟨S1x8192x1024, .f32⟩
  | 43 => ⟨S1x8192x1024, .f32⟩
  | 44 => ⟨S1x8192x1024, .f32⟩
  | 45 => ⟨S1x8192x1024, .f32⟩
  | 46 => ⟨S_, .f32⟩
  | 47 => ⟨S1x8192x1024, .f32⟩
  | 48 => ⟨S1x8192x1024, .f32⟩
  | 49 => ⟨S_, .f32⟩
  | 50 => ⟨S1x8192x1024, .f32⟩
  | 51 => ⟨S1x8192x1024, .f32⟩
  | 52 => ⟨S_, .f32⟩
  | 53 => ⟨S1x8192x1024, .f32⟩
  | 54 => ⟨S1x8192x1024, .f32⟩
  | 55 => ⟨S1x8192x1024, .f32⟩
  | 56 => ⟨S1x8192x1024, .f32⟩
  | 57 => ⟨S1x8192x1024, .f32⟩
  | 58 => ⟨S8192x1024, .f32⟩
  | 59 => ⟨S8192x1024, .f32⟩
  | 60 => ⟨S1x8192x1024, .f32⟩
  | 61 => ⟨S1x8192x1024, .f32⟩
  | 62 => ⟨S1x8192x1024, .f32⟩
  | 63 => ⟨S1x8192x1024, .f32⟩
  | 64 => ⟨S1x8192x1024, .f32⟩
  | 65 => ⟨S1x8192x1024, .f32⟩
  | 66 => ⟨S1x8192x1024, .f32⟩
  | 67 => ⟨S1x8192x1024, .f32⟩
  | 68 => ⟨S1x8192x1024, .f32⟩
  | 69 => ⟨S1x8192x1024, .f32⟩
  | 70 => ⟨S1x8192x1024, .f32⟩
  | 71 => ⟨S1x8192x1024, .f32⟩
  | 72 => ⟨S_, .f32⟩
  | 73 => ⟨S1x1024, .f32⟩
  | 74 => ⟨S1x1x1024, .f32⟩
  | 75 => ⟨S_, .f32⟩
  | 76 => ⟨S1024, .f32⟩
  | 77 => ⟨S_, .f32⟩
  | 78 => ⟨S1x8194x1024, .f32⟩
  | 79 => ⟨S1x1024, .f32⟩
  | 80 => ⟨S_, .f32⟩
  | 81 => ⟨S3x1024, .f32⟩
  | 82 => ⟨S1x8192x1024, .f32⟩
  | 83 => ⟨S1x8192x1024, .f32⟩
  | 84 => ⟨S1x8192x1024, .f32⟩
  | 85 => ⟨S_, .f32⟩
  | 86 => ⟨S1x1024, .f32⟩
  | 87 => ⟨S1x1x1024, .f32⟩
  | 88 => ⟨S_, .f32⟩
  | 89 => ⟨S1024, .f32⟩
  | 90 => ⟨S_, .f32⟩
  | 91 => ⟨S1x8194x1024, .f32⟩
  | 92 => ⟨S1x8194x1024, .f32⟩
  | 93 => ⟨S1x1024, .f32⟩
  | 94 => ⟨S_, .f32⟩
  | 95 => ⟨S3x1024, .f32⟩
  | 96 => ⟨S3x1024, .f32⟩
  | 97 => ⟨S1x8192x1024, .f32⟩
  | 98 => ⟨S1x8192x1024, .f32⟩
  | 99 => ⟨S1x8192x1024, .f32⟩
  | 100 => ⟨S_, .f32⟩
  | 101 => ⟨S1x1024, .f32⟩
  | 102 => ⟨S1x1x1024, .f32⟩
  | 103 => ⟨S_, .f32⟩
  | 104 => ⟨S1024, .f32⟩
  | 105 => ⟨S_, .f32⟩
  | 106 => ⟨S1x8194x1024, .f32⟩
  | 107 => ⟨S1x8194x1024, .f32⟩
  | 108 => ⟨S1x1024, .f32⟩
  | 109 => ⟨S_, .f32⟩
  | 110 => ⟨S3x1024, .f32⟩
  | 111 => ⟨S3x1024, .f32⟩
  | 112 => ⟨S1x2x1024, .f32⟩
  | 113 => ⟨S1x8192x1024, .f32⟩
  | 114 => ⟨S1x8192x1024, .f32⟩
  | 115 => ⟨S1x8192x1024, .f32⟩
  | 116 => ⟨S_, .f32⟩
  | 117 => ⟨S8192x1024, .f32⟩
  | 118 => ⟨S_, .f32⟩
  | 119 => ⟨S8192x1024, .f32⟩
  | 120 => ⟨S_, .f32⟩
  | 121 => ⟨S8192x1024, .f32⟩
  | 122 => ⟨S_, .f32⟩
  | 123 => ⟨S8192x1024, .f32⟩
  | 124 => ⟨S8192x4096, .f32⟩
  | 125 => ⟨S_, .f32⟩
  | 126 => ⟨S8192x6144, .f32⟩
  | 127 => ⟨S8192x6144, .bf16⟩
  | _ => ⟨S8192x6144, .bf16⟩

abbrev hbmTy0_1 (i : Nat) : BufTy := match i % 128 with
  | 0 => ⟨S_, .i32⟩
  | 1 => ⟨S_, .f32⟩
  | 2 => ⟨S8x1024, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v38_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v38_1 : Ref sig .tc := ⟨.hbm, 55, rfl⟩
abbrev main_v38_0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_2 : Ref sig .tc := ⟨.hbm, 72, rfl⟩
abbrev main_v51 : Ref sig .tc := ⟨.hbm, 73, rfl⟩
abbrev main_v52 : Ref sig .tc := ⟨.hbm, 74, rfl⟩
abbrev main_cst_3 : Ref sig .tc := ⟨.hbm, 75, rfl⟩
abbrev main_v53 : Ref sig .tc := ⟨.hbm, 76, rfl⟩
abbrev main_cst_4 : Ref sig .tc := ⟨.hbm, 77, rfl⟩
abbrev main_v54 : Ref sig .tc := ⟨.hbm, 78, rfl⟩
abbrev main_v55 : Ref sig .tc := ⟨.hbm, 79, rfl⟩
abbrev main_cst_5 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_6 : Ref sig .tc := ⟨.hbm, 85, rfl⟩
abbrev main_v60 : Ref sig .tc := ⟨.hbm, 86, rfl⟩
abbrev main_v61 : Ref sig .tc := ⟨.hbm, 87, rfl⟩
abbrev main_cst_7 : Ref sig .tc := ⟨.hbm, 88, rfl⟩
abbrev main_v62 : Ref sig .tc := ⟨.hbm, 89, rfl⟩
abbrev main_cst_8 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_9 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_10 : Ref sig .tc := ⟨.hbm, 100, rfl⟩
abbrev main_v71 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_13 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_14 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_c : Ref sig .tc := ⟨.hbm, 128, rfl⟩
abbrev main_call2_v0 : Ref sig .tc := ⟨.hbm, 129, rfl⟩
abbrev main_v90 : Ref sig .tc := ⟨.hbm, 130, rfl⟩

abbrev nD : Nat := 1
abbrev τ : Topo := Topo.v7x

variable {F : FTy → Type} [FloatOps F]
-- ==== Tail.lean ====
abbrev S8192x2048 : Shape := ⟨2, ![8192, 2048]⟩
abbrev S8192x1024 : Shape := ⟨2, ![8192, 1024]⟩
abbrev S8192x6144 : Shape := ⟨2, ![8192, 6144]⟩
abbrev S1x6144 : Shape := ⟨2, ![1, 6144]⟩
abbrev S2048x2048 : Shape := ⟨2, ![2048, 2048]⟩
abbrev S3x1024 : Shape := ⟨2, ![3, 1024]⟩
abbrev S2048x8192 : Shape := ⟨2, ![2048, 8192]⟩
abbrev S8x1x8192 : Shape := ⟨3, ![8, 1, 8192]⟩
abbrev S1x2048 : Shape := ⟨2, ![1, 2048]⟩
abbrev S1x128 : Shape := ⟨2, ![1, 128]⟩
abbrev S256x2048 : Shape := ⟨2, ![256, 2048]⟩
abbrev S256x1024 : Shape := ⟨2, ![256, 1024]⟩
abbrev S16x1024 : Shape := ⟨2, ![16, 1024]⟩
abbrev S2048x256 : Shape := ⟨2, ![2048, 256]⟩
abbrev S8x1x256 : Shape := ⟨3, ![8, 1, 256]⟩
abbrev S256x1152 : Shape := ⟨2, ![256, 1152]⟩
abbrev S1024x2048 : Shape := ⟨2, ![1024, 2048]⟩
abbrev S272x1024 : Shape := ⟨2, ![272, 1024]⟩
abbrev S1x1024 : Shape := ⟨2, ![1, 1024]⟩
abbrev S1024x256 : Shape := ⟨2, ![1024, 256]⟩
abbrev S128x256 : Shape := ⟨2, ![128, 256]⟩
abbrev S256 : Shape := ⟨1, ![256]⟩
abbrev S1x256 : Shape := ⟨2, ![1, 256]⟩
abbrev S1x1x256 : Shape := ⟨3, ![1, 1, 256]⟩
abbrev S2048 : Shape := ⟨1, ![2048]⟩
abbrev S1 : Shape := ⟨1, ![1]⟩
abbrev S1x1 : Shape := ⟨2, ![1, 1]⟩

abbrev nBuf : Space → Nat
  | .hbm => 16
  | .vmem => 39
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .bf16⟩
  | .hbm, ⟨3, _⟩ => ⟨S8192x6144, .bf16⟩
  | .hbm, ⟨4, _⟩ => ⟨S1x6144, .f32⟩
  | .hbm, ⟨5, _⟩ => ⟨S2048x2048, .bf16⟩
  | .hbm, ⟨6, _⟩ => ⟨S3x1024, .f32⟩
  | .hbm, ⟨7, _⟩ => ⟨S8192x2048, .f32⟩
  | .hbm, ⟨8, _⟩ => ⟨S8192x2048, .bf16⟩
  | .hbm, ⟨9, _⟩ => ⟨S2048x8192, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8x1x8192, .f32⟩
  | .hbm, ⟨14, _⟩ => ⟨S1x2048, .f32⟩
  | .hbm, ⟨15, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S1x6144, .f32⟩
  | .local _ .vmem, ⟨9, _⟩ => ⟨S2048x2048, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S16x1024, .bf16⟩
  | .local _ .vmem, ⟨19, _⟩ => ⟨S16x1024, .bf16⟩
  | .local _ .vmem, ⟨20, _⟩ => ⟨S16x1024, .bf16⟩
  | .local _ .vmem, ⟨21, _⟩ => ⟨S16x1024, .bf16⟩
  | .local _ .vmem, ⟨22, _⟩ => ⟨S3x1024, .f32⟩
  | .local _ .vmem, ⟨23, _⟩ => ⟨S256x2048, .f32⟩
  | .local _ .vmem, ⟨24, _⟩ => ⟨S256x2048, .f32⟩
  | .local _ .vmem, ⟨25, _⟩ => ⟨S256x2048, .bf16⟩
  | .local _ .vmem, ⟨26, _⟩ => ⟨S256x2048, .bf16⟩
  | .local _ .vmem, ⟨27, _⟩ => ⟨S2048x256, .bf16⟩
  | .local _ .vmem, ⟨28, _⟩ => ⟨S2048x256, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S8x1x256, .f32⟩
  | .local _ .vmem, ⟨36, _⟩ => ⟨S8x1x256, .f32⟩
  | .local _ .vmem, ⟨37, _⟩ => ⟨S1x2048, .f32⟩
  | .local _ .vmem, ⟨38, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg21_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem21_0 : DmaSem sig := 38

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_79 : BitVec 32 := 0#32
  let v166 : BitVec 1 := Scalar.cmpi .eq arg0 c0_i32_79
  let v167 : BitVec 32 := Scalar.extui v166
  let c0_i32_80 : BitVec 32 := 0#32
  let v168 : BitVec 1 := Scalar.cmpi .ne v167 c0_i32_80
  v168

def k0_cond2 (i : grid0.Coords) : BitVec 1 :=
  let arg0 : BitVec 32 := BitVec.ofNat 32 (i 0).val
  let c0_i32_81 : BitVec 32 := 0#32
  let v169 : BitVec 1 := Scalar.cmpi .sgt arg0 c0_i32_81
  let v170 : BitVec 32 := Scalar.extui v169
  let c0_i32_82 : BitVec 32 := 0#32
  let v171 : BitVec 1 := Scalar.cmpi .ne v170 c0_i32_82
  v171

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== TailRefIdeal.lean ====
abbrev S8192x2048 : Shape := ⟨2, ![8192, 2048]⟩
abbrev S8192x1024 : Shape := ⟨2, ![8192, 1024]⟩
abbrev S8192x6144 : Shape := ⟨2, ![8192, 6144]⟩
abbrev S1x6144 : Shape := ⟨2, ![1, 6144]⟩
abbrev S2048x2048 : Shape := ⟨2, ![2048, 2048]⟩
abbrev S3x1024 : Shape := ⟨2, ![3, 1024]⟩
abbrev S8192x4096 : Shape := ⟨2, ![8192, 4096]⟩
abbrev S1x8192x1024 : Shape := ⟨3, ![1, 8192, 1024]⟩
abbrev S1x2x1024 : Shape := ⟨3, ![1, 2, 1024]⟩
abbrev S_ : Shape := ⟨0, ![]⟩
abbrev S1x8194x1024 : Shape := ⟨3, ![1, 8194, 1024]⟩
abbrev S1x1024 : Shape := ⟨2, ![1, 1024]⟩
abbrev S1024 : Shape := ⟨1, ![1024]⟩
abbrev S1x1x1024 : Shape := ⟨3, ![1, 1, 1024]⟩
abbrev S1x2048 : Shape := ⟨2, ![1, 2048]⟩
abbrev S8192 : Shape := ⟨1, ![8192]⟩
abbrev S2048 : Shape := ⟨1, ![2048]⟩
abbrev S8192x8x128 : Shape := ⟨3, ![8192, 8, 128]⟩
abbrev S8192x8 : Shape := ⟨2, ![8192, 8]⟩
abbrev S8x8192 : Shape := ⟨2, ![8, 8192]⟩
abbrev S8x1x8192 : Shape := ⟨3, ![8, 1, 8192]⟩
abbrev S2048x8192 : Shape := ⟨2, ![2048, 8192]⟩
abbrev S1x128 : Shape := ⟨2, ![1, 128]⟩

abbrev nBuf : Space → Nat
  | .hbm => 133
  | .vmem => 0
  | .smem => 0
  | _ => 0

abbrev hbmTy0_0 (i : Nat) : BufTy := match i % 128 with
  | 0 => ⟨S8192x2048, .f32⟩
  | 1 => ⟨S8192x2048, .f32⟩
  | 2 => ⟨S8192x1024, .bf16⟩
  | 3 => ⟨S8192x6144, .bf16⟩
  | 4 => ⟨S1x6144, .f32⟩
  | 5 => ⟨S2048x2048, .bf16⟩
  | 6 => ⟨S3x1024, .f32⟩
  | 7 => ⟨S8192x1024, .f32⟩
  | 8 => ⟨S8192x6144, .f32⟩
  | 9 => ⟨S2048x2048, .f32⟩
  | 10 => ⟨S8192x4096, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S1x8192x1024, .f32⟩
  | 21 => ⟨S1x2x1024, .f32⟩
  | 22 => ⟨S_, .f32⟩
  | 23 => ⟨S1x2x1024, .f32⟩
  | 24 => ⟨S1x8194x1024, .f32⟩
  | 25 => ⟨S1x1024, .f32⟩
  | 26 => ⟨S1024, .f32⟩
  | 27 => ⟨S1x8192x1024, .f32⟩
  | 28 => ⟨S1x1x1024, .f32⟩
  | 29 => ⟨S1x8192x1024, .f32⟩
  | 30 => ⟨S1x8192x1024, .f32⟩
  | 31 => ⟨S_, .f32⟩
  | 32 => ⟨S1x8192x1024, .f32⟩
  | 33 => ⟨S1x8192x1024, .f32⟩
  | 34 => ⟨S1x1024, .f32⟩
  | 35 => ⟨S1024, .f32⟩
  | 36 => ⟨S1x8192x1024, .f32⟩
  | 37 => ⟨S1x1x1024, .f32⟩
  | 38 => ⟨S1x8192x1024, .f32⟩
  | 39 => ⟨S1x8192x1024, .f32⟩
  | 40 => ⟨S1x8192x1024, .f32⟩
  | 41 => ⟨S1x1024, .f32⟩
  | 42 => ⟨S1024, .f32⟩
  | 43 => ⟨S1x8192x1024, .f32⟩
  | 44 => ⟨S1x1x1024, .f32⟩
  | 45 => ⟨S1x8192x1024, .f32⟩
  | 46 => ⟨S1x8192x1024, .f32⟩
  | 47 => ⟨S1x8192x1024, .f32⟩
  | 48 => ⟨S1x8192x1024, .f32⟩
  | 49 => ⟨S1x8192x1024, .f32⟩
  | 50 => ⟨S1x8192x1024, .f32⟩
  | 51 => ⟨S_, .f32⟩
  | 52 => ⟨S1x8192x1024, .f32⟩
  | 53 => ⟨S1x8192x1024, .f32⟩
  | 54 => ⟨S_, .f32⟩
  | 55 => ⟨S1x8192x1024, .f32⟩
  | 56 => ⟨S1x8192x1024, .f32⟩
  | 57 => ⟨S1x8192x1024, .f32⟩
  | 58 => ⟨S1x8192x1024, .f32⟩
  | 59 => ⟨S8192x1024, .f32⟩
  | 60 => ⟨S1x2048, .f32⟩
  | 61 => ⟨S1x2048, .f32⟩
  | 62 => ⟨S1x2048, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x2048, .f32⟩
  | 78 => ⟨S8192x2048, .f32⟩
  | 79 => ⟨S8192x2048, .f32⟩
  | 80 => ⟨S8192x2048, .f32⟩
  | 81 => ⟨S8192x2048, .f32⟩
  | 82 => ⟨S8192x2048, .f32⟩
  | 83 => ⟨S8192x2048, .f32⟩
  | 84 => ⟨S_, .f32⟩
  | 85 => ⟨S8192x2048, .f32⟩
  | 86 => ⟨S8192x2048, .f32⟩
  | 87 => ⟨S_, .f32⟩
  | 88 => ⟨S8192, .f32⟩
  | 89 => ⟨S_, .f32⟩
  | 90 => ⟨S8192, .f32⟩
  | 91 => ⟨S8192, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S8192, .f32⟩
  | 100 => ⟨S_, .f32⟩
  | 101 => ⟨S8192, .f32⟩
  | 102 => ⟨S8192, .f32⟩
  | 103 => ⟨S8192x2048, .f32⟩
  | 104 => ⟨S8192x2048, .f32⟩
  | 105 => ⟨S8192x2048, .f32⟩
  | 106 => ⟨S8192x2048, .f32⟩
  | 107 => ⟨S8192x2048, .f32⟩
  | 108 => ⟨S_, .f32⟩
  | 109 => ⟨S2048, .f32⟩
  | 110 => ⟨S1x2048, .f32⟩
  | 111 => ⟨S8192x2048, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x8x128, .f32⟩
  | 122 => ⟨S_, .f32⟩
  | 123 => ⟨S8192x8, .f32⟩
  | 124 => ⟨S8x8192, .f32⟩
  | 125 => ⟨S8x1x8192, .f32⟩
  | 126 => ⟨S8192x2048, .bf16⟩
  | 127 => ⟨S2048x8192, .f32⟩
  | _ => ⟨S8192x2048, .f32⟩

abbrev hbmTy0_1 (i : Nat) : BufTy := match i % 128 with
  | 0 => ⟨S2048x8192, .bf16⟩
  | 1 => ⟨S8192x1024, .bf16⟩
  | 2 => ⟨S8192x1024, .bf16⟩
  | 3 => ⟨S8192x1024, .bf16⟩
  | 4 => ⟨S1x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_v46_2 : Ref sig .tc := ⟨.hbm, 70, rfl⟩
abbrev main_call1_cst_1 : Ref sig .tc := ⟨.hbm, 71, rfl⟩
abbrev main_call1_v6 : Ref sig .tc := ⟨.hbm, 72, rfl⟩
abbrev main_call1_v7 : Ref sig .tc := ⟨.hbm, 73, rfl⟩
abbrev main_v46_1 : Ref sig .tc := ⟨.hbm, 74, rfl⟩
abbrev main_v46_0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_1 : Ref sig .tc := ⟨.hbm, 84, rfl⟩
abbrev main_v55 : Ref sig .tc := ⟨.hbm, 85, rfl⟩
abbrev main_v56 : Ref sig .tc := ⟨.hbm, 86, rfl⟩
abbrev main_cst_2 : Ref sig .tc := ⟨.hbm, 87, rfl⟩
abbrev main_v57 : Ref sig .tc := ⟨.hbm, 88, rfl⟩
abbrev main_cst_3 : Ref sig .tc := ⟨.hbm, 89, rfl⟩
abbrev main_v58 : Ref sig .tc := ⟨.hbm, 90, rfl⟩
abbrev main_v59 : Ref sig .tc := ⟨.hbm, 91, rfl⟩
abbrev main_cst_4 : Ref sig .tc := ⟨.hbm, 92, rfl⟩
abbrev main_v60 : Ref sig .tc := ⟨.hbm, 93, rfl⟩
abbrev main_cst_5 : Ref sig .tc := ⟨.hbm, 94, rfl⟩
abbrev main_v61 : Ref sig .tc := ⟨.hbm, 95, rfl⟩
abbrev main_cst_6 : Ref sig .tc := ⟨.hbm, 96, rfl⟩
abbrev main_cst_7 : Ref sig .tc := ⟨.hbm, 97, rfl⟩
abbrev main_v62 : Ref sig .tc := ⟨.hbm, 98, rfl⟩
abbrev main_v63 : Ref sig .tc := ⟨.hbm, 99, rfl⟩
abbrev main_cst_8 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_9 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_10 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩

abbrev nD : Nat := 1
abbrev τ : Topo := Topo.v7x

variable {F : FTy → Type} [FloatOps F]
-- ==== Adaw.lean ====
abbrev S8x2048 : Shape := ⟨2, ![8, 2048]⟩
abbrev S8x768 : Shape := ⟨2, ![8, 768]⟩
abbrev S2048x8 : Shape := ⟨2, ![2048, 8]⟩
abbrev S2048x768 : Shape := ⟨2, ![2048, 768]⟩
abbrev S2048x1 : Shape := ⟨2, ![2048, 1]⟩
abbrev S1x768 : Shape := ⟨2, ![1, 768]⟩

abbrev nBuf : Space → Nat
  | .hbm => 4
  | .vmem => 3
  | .smem => 0
  | _ => 0

abbrev bufTy : (tb : Table) → Fin (tcTables nBuf tb) → BufTy
  | .hbm, ⟨0, _⟩ => ⟨S8x2048, .f32⟩
  | .hbm, ⟨1, _⟩ => ⟨S8x768, .f32⟩
  | .hbm, ⟨2, _⟩ => ⟨S2048x8, .f32⟩
  | .hbm, ⟨3, _⟩ => ⟨S2048x768, .f32⟩
  | .local _ .vmem, ⟨0, _⟩ => ⟨S2048x8, .f32⟩
  | .local _ .vmem, ⟨1, _⟩ => ⟨S8x768, .f32⟩
  | .local _ .vmem, ⟨2, _⟩ => ⟨S2048x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdawRefIdeal.lean ====
abbrev S8x2048 : Shape := ⟨2, ![8, 2048]⟩
abbrev S8x768 : Shape := ⟨2, ![8, 768]⟩
abbrev S_ : Shape := ⟨0, ![]⟩
abbrev S2048x768 : Shape := ⟨2, ![2048, 768]⟩
abbrev S768x2048 : Shape := ⟨2, ![768, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x768, .f32⟩
  | .hbm, ⟨2, _⟩ => ⟨S_, .f32⟩
  | .hbm, ⟨3, _⟩ => ⟨S2048x768, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x768, .f32⟩
  | .hbm, ⟨14, _⟩ => ⟨S768x2048, .f32⟩
  | .hbm, ⟨15, _⟩ => ⟨S2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Fwd.lean ====
abbrev S8192x8x192 : Shape := ⟨3, ![8192, 8, 192]⟩
abbrev S8192x8x128 : Shape := ⟨3, ![8192, 8, 128]⟩
abbrev S_ : Shape := ⟨0, ![]⟩
abbrev S8x8192x192 : Shape := ⟨3, ![8, 8192, 192]⟩
abbrev S8x8192x256 : Shape := ⟨3, ![8, 8192, 256]⟩
abbrev S8x8192x128 : Shape := ⟨3, ![8, 8192, 128]⟩
abbrev S8192x1024 : Shape := ⟨2, ![8192, 1024]⟩
abbrev S8x1x8192 : Shape := ⟨3, ![8, 1, 8192]⟩
abbrev S1x1024x256 : Shape := ⟨3, ![1, 1024, 256]⟩
abbrev S1x8192x256 : Shape := ⟨3, ![1, 8192, 256]⟩
abbrev S1024x128 : Shape := ⟨2, ![1024, 128]⟩
abbrev S1x1x1024 : Shape := ⟨3, ![1, 1, 1024]⟩
abbrev S1x256x256 : Shape := ⟨3, ![1, 256, 256]⟩
abbrev S256x256 : Shape := ⟨2, ![256, 256]⟩
abbrev S256x1 : Shape := ⟨2, ![256, 1]⟩
abbrev S1x512x256 : Shape := ⟨3, ![1, 512, 256]⟩
abbrev S512x256 : Shape := ⟨2, ![512, 256]⟩
abbrev S256x512 : Shape := ⟨2, ![256, 512]⟩
abbrev S256 : Shape := ⟨1, ![256]⟩
abbrev S256x128 : Shape := ⟨2, ![256, 128]⟩
abbrev S128x256 : Shape := ⟨2, ![128, 256]⟩
abbrev S1x256 : Shape := ⟨2, ![1, 256]⟩
abbrev S1x1x256 : Shape := ⟨3, ![1, 1, 256]⟩

abbrev nBuf : Space → Nat
  | .hbm => 26
  | .vmem => 10
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x8x192, .f32⟩
  | .hbm, ⟨8, _⟩ => ⟨S8192x8x192, .f32⟩
  | .hbm, ⟨9, _⟩ => ⟨S8x8192x192, .f32⟩
  | .hbm, ⟨10, _⟩ => ⟨S_, .i32⟩
  | .hbm, ⟨11, _⟩ => ⟨S_, .f32⟩
  | .hbm, ⟨12, _⟩ => ⟨S8x8192x256, .f32⟩
  | .hbm, ⟨13, _⟩ => ⟨S8x8192x256, .bf16⟩
  | .hbm, ⟨14, _⟩ => ⟨S8x8192x192, .f32⟩
  | .hbm, ⟨15, _⟩ => ⟨S_, .i32⟩
  | .hbm, ⟨16, _⟩ => ⟨S_, .f32⟩
  | .hbm, ⟨17, _⟩ => ⟨S8x8192x256, .f32⟩
  | .hbm, ⟨18, _⟩ => ⟨S8x8192x256, .bf16⟩
  | .hbm, ⟨19, _⟩ => ⟨S8x8192x128, .f32⟩
  | .hbm, ⟨20, _⟩ => ⟨S_, .f32⟩
  | .hbm, ⟨21, _⟩ => ⟨S8x8192x128, .f32⟩
  | .hbm, ⟨22, _⟩ => ⟨S8x8192x256, .f32⟩
  | .hbm, ⟨23, _⟩ => ⟨S8x8192x256, .bf16⟩
  | .hbm, ⟨24, _⟩ => ⟨S8192x1024, .bf16⟩
  | .hbm, ⟨25, _⟩ => ⟨S8x1x8192, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_9 : BitVec 32 := 1#32
  ⟨c0_i32, v14, c1_i32_9⟩
def k0_mult1 (i : grid0.Coords) (k0_t1 : Fin (k0_t1_loop i).trips) : BitVec 32 :=
  let c2_i32_100 : BitVec 32 := 2#32
  let c0_i32 : BitVec 32 := 0#32
  let c1_i32_9 : BitVec 32 := 1#32
  let arg7 : BitVec 32 := Scf.iv c0_i32 c1_i32_9 k0_t1
  let v257 : BitVec 32 := Scalar.muli c2_i32_100 arg7
  let c0_i32_101 : BitVec 32 := 0#32
  let v258 : BitVec 32 := Scalar.addi v257 c0_i32_101
  let c512_i32_102 : BitVec 32 := 512#32
  let v259 : BitVec 32 := Scalar.muli v258 c512_i32_102
  v259
def k0_off1 (i : grid0.Coords) (k0_t1 : Fin (k0_t1_loop i).trips) (c0_i32_101 : BitVec 32) : Fin 3 → Nat :=
  let c0_103 : Index := 0#32
  let c2_i32_100 : BitVec 32 := 2#32
  let c0_i32 : BitVec 32 := 0#32
  let c1_i32_9 : BitVec 32 := 1#32
  let arg7 : BitVec 32 := Scf.iv c0_i32 c1_i32_9 k0_t1
  let v257 : BitVec 32 := Scalar.muli c2_i32_100 arg7
  let v258 : BitVec 32 := Scalar.addi v257 c0_i32_101
  let c512_i32_102 : BitVec 32 := 512#32
  let v259 : BitVec 32 := Scalar.muli v258 c512_i32_102
  let v260 : BitVec 32 := v259
  let v261 : Index := Scalar.indexCast v260
  let c0_104 : Index := 0#32
  ![0, v261.toNat, 0]
def k0_mult2 (i : grid0.Coords) (k0_t1 : Fin (k0_t1_loop i).trips) : BitVec 32 :=
  let c2_i32_110 : BitVec 32 := 2#32
  let c0_i32 : BitVec 32 := 0#32
  let c1_i32_9 : BitVec 32 := 1#32
  let arg7 : BitVec 32 := Scf.iv c0_i32 c1_i32_9 k0_t1
  let v281 : BitVec 32 := Scalar.muli c2_i32_110 arg7
  let c0_i32_111 : BitVec 32 := 0#32
  let v282 : BitVec 32 := Scalar.addi v281 c0_i32_111
  let c512_i32_112 : BitVec 32 := 512#32
  let v283 : BitVec 32 := Scalar.muli v282 c512_i32_112
  v283
def k0_mult3 (i : grid0.Coords) (k0_t1 : Fin (k0_t1_loop i).trips) : BitVec 32 :=
  let c2_i32_120 : BitVec 32 := 2#32
  let c0_i32 : BitVec 32 := 0#32
  let c1_i32_9 : BitVec 32 := 1#32
  let arg7 : BitVec 32 := Scf.iv c0_i32 c1_i32_9 k0_t1
  let v305 : BitVec 32 := Scalar.muli c2_i32_120 arg7
  let c0_i32_121 : BitVec 32 := 0#32
  let v306 : BitVec 32 := Scalar.addi v305 c0_i32_121
  let c512_i32_122 : BitVec 32 := 512#32
  let v307 : BitVec 32 := Scalar.muli v306 c512_i32_122
  v307
def k0_mult4 (i : grid0.Coords) (k0_t1 : Fin (k0_t1_loop i).trips) : BitVec 32 :=
  let c2_i32_130 : BitVec 32 := 2#32
  let c0_i32 : BitVec 32 := 0#32
  let c1_i32_9 : BitVec 32 := 1#32
  let arg7 : BitVec 32 := Scf.iv c0_i32 c1_i32_9 k0_t1
  let v329 : BitVec 32 := Scalar.muli c2_i32_130 arg7
  let c0_i32_131 : BitVec 32 := 0#32
  let v330 : BitVec 32 := Scalar.addi v329 c0_i32_131
  let c512_i32_132 : BitVec 32 := 512#32
  let v331 : BitVec 32 := Scalar.muli v330 c512_i32_132
  v331
def k0_mult5 (i : grid0.Coords) (k0_t1 : Fin (k0_t1_loop i).trips) : BitVec 32 :=
  let c2_i32_140 : BitVec 32 := 2#32
  let c0_i32 : BitVec 32 := 0#32
  let c1_i32_9 : BitVec 32 := 1#32
  let arg7 : BitVec 32 := Scf.iv c0_i32 c1_i32_9 k0_t1
  let v353 : BitVec 32 := Scalar.muli c2_i32_140 arg7
  let c1_i32_141 : BitVec 32 := 1#32
  let v354 : BitVec 32 := Scalar.addi v353 c1_i32_141
  let c512_i32_142 : BitVec 32 := 512#32
  let v355 : BitVec 32 := Scalar.muli v354 c512_i32_142
  v355
def k0_mult6 (i : grid0.Coords) (k0_t1 : Fin (k0_t1_loop i).trips) : BitVec 32 :=
  let c2_i32_150 : BitVec 32 := 2#32
  let c0_i32 : BitVec 32 := 0#32
  let c1_i32_9 : BitVec 32 := 1#32
  let arg7 : BitVec 32 := Scf.iv c0_i32 c1_i32_9 k0_t1
  let v377 : BitVec 32 := Scalar.muli c2_i32_150 arg7
  let c1_i32_151 : BitVec 32 := 1#32
  let v378 : BitVec 32 := Scalar.addi v377 c1_i32_151
  let c512_i32_152 : BitVec 32 := 512#32
  let v379 : BitVec 32 := Scalar.muli v378 c512_i32_152
  v379
def k0_mult7 (i : grid0.Coords) (k0_t1 : Fin (k0_t1_loop i).trips) : BitVec 32 :=
  let c2_i32_160 : BitVec 32 := 2#32
  let c0_i32 : BitVec 32 := 0#32
  let c1_i32_9 : BitVec 32 := 1#32
  let arg7 : BitVec 32 := Scf.iv c0_i32 c1_i32_9 k0_t1
  let v401 : BitVec 32 := Scalar.muli c2_i32_160 arg7
  let c1_i32_161 : BitVec 32 := 1#32
  let v402 : BitVec 32 := Scalar.addi v401 c1_i32_161
  let c512_i32_162 : BitVec 32 := 512#32
  let v403 : BitVec 32 := Scalar.muli v402 c512_i32_162
  v403
def k0_mult8 (i : grid0.Coords) (k0_t1 : Fin (k0_t1_loop i).trips) : BitVec 32 :=
  let c2_i32_170 : BitVec 32 := 2#32
  let c0_i32 : BitVec 32 := 0#32
  let c1_i32_9 : BitVec 32 := 1#32
  let arg7 : BitVec 32 := Scf.iv c0_i32 c1_i32_9 k0_t1
  let v425 : BitVec 32 := Scalar.muli c2_i32_170 arg7
  let c1_i32_171 : BitVec 32 := 1#32
  let v426 : BitVec 32 := Scalar.addi v425 c1_i32_171
  let c512_i32_172 : BitVec 32 := 512#32
  let v427 : BitVec 32 := Scalar.muli v426 c512_i32_172
  v427
@[reducible] def k0_t2_loop (i : grid0.Coords) : Scf.Loop 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_10 : BitVec 32 := 1#32
  ⟨v14, v11, c1_i32_10⟩
def k0_mult9 (i : grid0.Coords) (k0_t2 : Fin (k0_t2_loop i).trips) : BitVec 32 :=
  let c2_i32_100 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v257 : BitVec 32 := Scalar.muli c2_i32_100 arg7
  let c0_i32_101 : BitVec 32 := 0#32
  let v258 : BitVec 32 := Scalar.addi v257 c0_i32_101
  let c512_i32_102 : BitVec 32 := 512#32
  let v259 : BitVec 32 := Scalar.muli v258 c512_i32_102
  v259
def k0_off2 (i : grid0.Coords) (k0_t2 : Fin (k0_t2_loop i).trips) (c0_i32_101 : BitVec 32) : Fin 3 → Nat :=
  let c0_103 : Index := 0#32
  let c2_i32_100 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v257 : BitVec 32 := Scalar.muli c2_i32_100 arg7
  let v258 : BitVec 32 := Scalar.addi v257 c0_i32_101
  let c512_i32_102 : BitVec 32 := 512#32
  let v259 : BitVec 32 := Scalar.muli v258 c512_i32_102
  let v260 : BitVec 32 := v259
  let v261 : Index := Scalar.indexCast v260
  let c0_104 : Index := 0#32
  ![0, v261.toNat, 0]
def k0_mult10 (i : grid0.Coords) (k0_t2 : Fin (k0_t2_loop i).trips) : BitVec 32 :=
  let c2_i32_110 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v281 : BitVec 32 := Scalar.muli c2_i32_110 arg7
  let c0_i32_111 : BitVec 32 := 0#32
  let v282 : BitVec 32 := Scalar.addi v281 c0_i32_111
  let c512_i32_112 : BitVec 32 := 512#32
  let v283 : BitVec 32 := Scalar.muli v282 c512_i32_112
  v283
def k0_mult11 (i : grid0.Coords) (k0_t2 : Fin (k0_t2_loop i).trips) : BitVec 32 :=
  let c2_i32_120 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v305 : BitVec 32 := Scalar.muli c2_i32_120 arg7
  let c0_i32_121 : BitVec 32 := 0#32
  let v306 : BitVec 32 := Scalar.addi v305 c0_i32_121
  let c512_i32_122 : BitVec 32 := 512#32
  let v307 : BitVec 32 := Scalar.muli v306 c512_i32_122
  v307
def k0_mult12 (i : grid0.Coords) (k0_t2 : Fin (k0_t2_loop i).trips) : BitVec 32 :=
  let c2_i32_130 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v329 : BitVec 32 := Scalar.muli c2_i32_130 arg7
  let c0_i32_131 : BitVec 32 := 0#32
  let v330 : BitVec 32 := Scalar.addi v329 c0_i32_131
  let c512_i32_132 : BitVec 32 := 512#32
  let v331 : BitVec 32 := Scalar.muli v330 c512_i32_132
  v331
def k0_mult13 (i : grid0.Coords) (k0_t2 : Fin (k0_t2_loop i).trips) : BitVec 32 :=
  let c2_i32_140 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v353 : BitVec 32 := Scalar.muli c2_i32_140 arg7
  let c1_i32_141 : BitVec 32 := 1#32
  let v354 : BitVec 32 := Scalar.addi v353 c1_i32_141
  let c512_i32_142 : BitVec 32 := 512#32
  let v355 : BitVec 32 := Scalar.muli v354 c512_i32_142
  v355
def k0_mult14 (i : grid0.Coords) (k0_t2 : Fin (k0_t2_loop i).trips) : BitVec 32 :=
  let c2_i32_150 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v377 : BitVec 32 := Scalar.muli c2_i32_150 arg7
  let c1_i32_151 : BitVec 32 := 1#32
  let v378 : BitVec 32 := Scalar.addi v377 c1_i32_151
  let c512_i32_152 : BitVec 32 := 512#32
  let v379 : BitVec 32 := Scalar.muli v378 c512_i32_152
  v379
def k0_mult15 (i : grid0.Coords) (k0_t2 : Fin (k0_t2_loop i).trips) : BitVec 32 :=
  let c2_i32_160 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v401 : BitVec 32 := Scalar.muli c2_i32_160 arg7
  let c1_i32_161 : BitVec 32 := 1#32
  let v402 : BitVec 32 := Scalar.addi v401 c1_i32_161
  let c512_i32_162 : BitVec 32 := 512#32
  let v403 : BitVec 32 := Scalar.muli v402 c512_i32_162
  v403
def k0_mult16 (i : grid0.Coords) (k0_t2 : Fin (k0_t2_loop i).trips) : BitVec 32 :=
  let c2_i32_170 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v425 : BitVec 32 := Scalar.muli c2_i32_170 arg7
  let c1_i32_171 : BitVec 32 := 1#32
  let v426 : BitVec 32 := Scalar.addi v425 c1_i32_171
  let c512_i32_172 : BitVec 32 := 512#32
  let v427 : BitVec 32 := Scalar.muli v426 c512_i32_172
  v427
def k0_mult17 (i : grid0.Coords) : BitVec 32 :=
  let c2_i32 : BitVec 32 := 2#32
  let arg1 : BitVec 32 := BitVec.ofNat 32 (i 1).val
  let v17 : BitVec 32 := Scalar.muli c2_i32 arg1
  let c0_i32_11 : BitVec 32 := 0#32
  let v18 : BitVec 32 := Scalar.addi v17 c0_i32_11
  let c512_i32 : BitVec 32 := 512#32
  let v19 : BitVec 32 := Scalar.muli v18 c512_i32
  v19
def k0_off3 (i : grid0.Coords) (c0_i32_11 : BitVec 32) : Fin 3 → Nat :=
  let c0_12 : Index := 0#32
  let c2_i32 : BitVec 32 := 2#32
  let arg1 : BitVec 32 := BitVec.ofNat 32 (i 1).val
  let v17 : BitVec 32 := Scalar.muli c2_i32 arg1
  let v18 : BitVec 32 := Scalar.addi v17 c0_i32_11
  let c512_i32 : BitVec 32 := 512#32
  let v19 : BitVec 32 := Scalar.muli v18 c512_i32
  let v20 : BitVec 32 := v19
  let v21 : Index := Scalar.indexCast v20
  let c0_13 : Index := 0#32
  ![0, v21.toNat, 0]
def k0_mult18 (i : grid0.Coords) : BitVec 32 :=
  let c2_i32_21 : BitVec 32 := 2#32
  let arg1 : BitVec 32 := BitVec.ofNat 32 (i 1).val
  let v48 : BitVec 32 := Scalar.muli c2_i32_21 arg1
  let c0_i32_22 : BitVec 32 := 0#32
  let v49 : BitVec 32 := Scalar.addi v48 c0_i32_22
  let c512_i32_23 : BitVec 32 := 512#32
  let v50 : BitVec 32 := Scalar.muli v49 c512_i32_23
  v50
def k0_mult19 (i : grid0.Coords) : BitVec 32 :=
  let c2_i32_32 : BitVec 32 := 2#32
  let arg1 : BitVec 32 := BitVec.ofNat 32 (i 1).val
  let v79 : BitVec 32 := Scalar.muli c2_i32_32 arg1
  let c0_i32_33 : BitVec 32 := 0#32
  let v80 : BitVec 32 := Scalar.addi v79 c0_i32_33
  let c512_i32_34 : BitVec 32 := 512#32
  let v81 : BitVec 32 := Scalar.muli v80 c512_i32_34
  v81
def k0_mult20 (i : grid0.Coords) : BitVec 32 :=
  let c2_i32_42 : BitVec 32 := 2#32
  let arg1 : BitVec 32 := BitVec.ofNat 32 (i 1).val
  let v103 : BitVec 32 := Scalar.muli c2_i32_42 arg1
  let c0_i32_43 : BitVec 32 := 0#32
  let v104 : BitVec 32 := Scalar.addi v103 c0_i32_43
  let c512_i32_44 : BitVec 32 := 512#32
  let v105 : BitVec 32 := Scalar.muli v104 c512_i32_44
  v105
def k0_mult21 (i : grid0.Coords) : BitVec 32 :=
  let c2_i32_52 : BitVec 32 := 2#32
  let arg1 : BitVec 32 := BitVec.ofNat 32 (i 1).val
  let v127 : BitVec 32 := Scalar.muli c2_i32_52 arg1
  let c1_i32_53 : BitVec 32 := 1#32
  let v128 : BitVec 32 := Scalar.addi v127 c1_i32_53
  let c512_i32_54 : BitVec 32 := 512#32
  let v129 : BitVec 32 := Scalar.muli v128 c512_i32_54
  v129
def k0_mult22 (i : grid0.Coords) : BitVec 32 :=
  let c2_i32_64 : BitVec 32 := 2#32
  let arg1 : BitVec 32 := BitVec.ofNat 32 (i 1).val
  let v158 : BitVec 32 := Scalar.muli c2_i32_64 arg1
  let c1_i32_65 : BitVec 32 := 1#32
  let v159 : BitVec 32 := Scalar.addi v158 c1_i32_65
  let c512_i32_66 : BitVec 32 := 512#32
  let v160 : BitVec 32 := Scalar.muli v159 c512_i32_66
  v160
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "log2e" => some (((Real.log 2)⁻¹ : ℝ) : EReal)
  | "masked" => some ⊥
  | _ => none
-- ==== FwdRefIdeal.lean ====
abbrev S8192x8x192 : Shape := ⟨3, ![8192, 8, 192]⟩
abbrev S8192x8x128 : Shape := ⟨3, ![8192, 8, 128]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩
abbrev S8x1x8192 : Shape := ⟨3, ![8, 1, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192, .i32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S_, .f32⟩
  | .hbm, ⟨22, _⟩ => ⟨S8x8192, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8x128x8192, .f32⟩
  | .hbm, ⟨34, _⟩ => ⟨S8192x8x128, .f32⟩
  | .hbm, ⟨35, _⟩ => ⟨S8192x1024, .f32⟩
  | .hbm, ⟨36, _⟩ => ⟨S8192x1024, .bf16⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S_, .f32⟩
  | .hbm, ⟨48, _⟩ => ⟨S_, .f32⟩
  | .hbm, ⟨49, _⟩ => ⟨S8x8192, .f32⟩
  | .hbm, ⟨50, _⟩ => ⟨S8x8192, .f32⟩
  | .hbm, ⟨51, _⟩ => ⟨S8x1x8192, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Adamod.lean ====
abbrev S16x2048 : Shape := ⟨2, ![16, 2048]⟩
abbrev S2048x768 : Shape := ⟨2, ![2048, 768]⟩
abbrev S1x768 : Shape := ⟨2, ![1, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x2048, .f32⟩
  | .hbm, ⟨1, _⟩ => ⟨S2048x768, .f32⟩
  | .hbm, ⟨2, _⟩ => ⟨S1x768, .f32⟩
  | .hbm, ⟨3, _⟩ => ⟨S16x768, .f32⟩
  | .local _ .vmem, ⟨0, _⟩ => ⟨S16x2048, .f32⟩
  | .local _ .vmem, ⟨1, _⟩ => ⟨S2048x768, .f32⟩
  | .local _ .vmem, ⟨2, _⟩ => ⟨S1x768, .f32⟩
  | .local _ .vmem, ⟨3, _⟩ => ⟨S16x768, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdamodRefIdeal.lean ====
abbrev S16x2048 : Shape := ⟨2, ![16, 2048]⟩
abbrev S2048x768 : Shape := ⟨2, ![2048, 768]⟩
abbrev S1x768 : Shape := ⟨2, ![1, 768]⟩
abbrev S_ : Shape := ⟨0, ![]⟩
abbrev S16x768 : Shape := ⟨2, ![16, 768]⟩

abbrev nBuf : Space → Nat
  | .hbm => 15
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x768, .f32⟩
  | .hbm, ⟨2, _⟩ => ⟨S1x768, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x768, .f32⟩
  | .hbm, ⟨13, _⟩ => ⟨S16x768, .f32⟩
  | .hbm, ⟨14, _⟩ => ⟨S16x768, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.NormTrip.lean ====
module

public import proofs.«01_k».proof.Proof.Gen.NormIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormIdeal.Rows

open Cert.NormIdeal Cert.NormIdeal.Gen

/-- One row's scale `1 / √(mean x² + ε)`, as the program's constants spell it. -/
def rstd (x : Fin 2048 → EReal) : EReal :=
  Ideal.rsqrt (Ideal.div (∑ k, x k * x k) (Ideal.ofBits .f32 0x45000000#32) + Ideal.ofBits .f32 0x358637BD#32)

/-- One row of the gradient that reaches `x`. -/
def grad (x d v : Fin 2048 → EReal) (g : EReal) (l : Fin 2048) : EReal :=
  g + rstd x * (d l * v l - x l * rstd x * Ideal.div (∑ k, d k * v k * (x k * rstd x)) (Ideal.ofBits .f32 0x45000000#32))

variable (X : Vec Ideal S16x2048 .f32) (D : Vec Ideal S16x2048 .bf16) (G : Vec Ideal S16x2048 .f32) (v4 : FVec Ideal S1x2048 .f32)

/-- The gradient of one row of a group of sixteen. -/
def rowOf (y : S16x2048.Idx) : EReal :=
  grad (fun l => X (ix2 (y 0) l)) (fun l => D (ix2 (y 0) l)) (fun l => v4 (ix2 0 l)) (G y) (y 1)

theorem group0 (y : S16x2048.Idx) : k0_pay35 (k0_pay20 (k0_pay19 X)) (k0_pay24 X (k0_pay19 X)) (k0_pay28 v4 (k0_pay15 D)) (k0_pay32 v4 X (k0_pay15 D) (k0_pay19 X)) G y = rowOf X D G v4 y := by
  unfold rowOf grad rstd
  pointwise [k0_pay35, k0_pay20, k0_pay19, k0_pay24, k0_pay28, k0_pay32, k0_pay15]

theorem group1 (y : S16x2048.Idx) : k0_pay38 (k0_pay21 X) (k0_pay25 X) (k0_pay29 v4 (k0_pay16 D)) G y = rowOf X D G v4 y := by
  unfold rowOf grad rstd
  pointwise [k0_pay38, k0_pay21, k0_pay25, k0_pay29, k0_pay16]

theorem group2 (y : S16x2048.Idx) : k0_pay4 (k0_pay22 X) (k0_pay26 X) (k0_pay30 v4 (k0_pay17 D)) (k0_pay33 (k0_pay26 X) (k0_pay30 v4 (k0_pay17 D))) G y = rowOf X D G v4 y := by
  unfold rowOf grad rstd
  pointwise [k0_pay4, k0_pay22, k0_pay26, k0_pay30, k0_pay33, k0_pay17]

theorem group3 (y : S16x2048.Idx) : k0_pay5 (k0_pay23 X) (k0_pay27 X) (k0_pay31 v4 (k0_pay18 D)) (k0_pay34 (k0_pay27 X) (k0_pay31 v4 (k0_pay18 D))) G y = rowOf X D G v4 y := by
  unfold rowOf grad rstd
  pointwise [k0_pay5, k0_pay23, k0_pay27, k0_pay31, k0_pay34, k0_pay18]

/-- The offsets of trip `k`'s group `j`: sixteen rows from row `64 k + 16 j`. -/
theorem off_eq : ∀ (k : Fin k0_t1_loop.trips) (j : Fin 4), k0_off1 k (BitVec.ofNat 32 j.val) = ![64 * k.val + 16 * j.val, 0] := by
  decide +kernel

/-- A row of a block read through sixteen of its rows. -/
theorem ld_row {e : EltTy} (B : Vec Ideal S512x2048 e) (off : Fin 2 → ℕ) (inb : ∀ a, off a + S16x2048.size a ≤ S512x2048.size a) (n : ℕ)
    (hoff : off = ![n, 0]) (z : S16x2048.Idx) (r : Fin 512) (hr : (r : ℕ) = n + z 0) (l : Fin 2048) :
    View.ld B (Rect.unit (s := S512x2048) off S16x2048.size inb) (ix2 (z 0) l) = B (ix2 r l) := by
  subst hoff
  pointwise []
  blk_ext

theorem ld_at {e : EltTy} (B : Vec Ideal S512x2048 e) (off : Fin 2 → ℕ) (inb : ∀ a, off a + S16x2048.size a ≤ S512x2048.size a)
    (z : S16x2048.Idx) (y : S512x2048.Idx) (hy : ∀ a, (y a : ℕ) = off a + z a) :
    View.ld B (Rect.unit (s := S512x2048) off S16x2048.size inb) z = B y := by
  have h0 := hy 0
  have h1 := hy 1
  pointwise []
  blk_ext

theorem rowOf_ld (v4 : FVec Ideal S1x2048 .f32) (x : Vec Ideal S512x2048 .f32) (d : Vec Ideal S512x2048 .bf16) (g : Vec Ideal S512x2048 .f32)
    (off : Fin 2 → ℕ) (inb : ∀ a, off a + S16x2048.size a ≤ S512x2048.size a) (n : ℕ) (hoff : off = ![n, 0])
    (z : S16x2048.Idx) (y : S512x2048.Idx) (hy : ∀ a, (y a : ℕ) = off a + z a) :
    rowOf (View.ld x (Rect.unit (s := S512x2048) off S16x2048.size inb)) (View.ld d (Rect.unit (s := S512x2048) off S16x2048.size inb))
        (View.ld g (Rect.unit (s := S512x2048) off S16x2048.size inb)) v4 z
      = grad (fun l => x (ix2 (y 0) l)) (fun l => d (ix2 (y 0) l)) (fun l => v4 (ix2 0 l)) (g y) (y 1) := by
  have h0 : ((y 0 : Fin 512) : ℕ) = n + z 0 := by rw [hy 0, hoff]; rfl
  have h1 : (z 1 : Fin 2048) = y 1 := Fin.ext (by rw [hy 1, hoff]; show _ = 0 + _; omega)
  unfold rowOf
  rw [ld_at g off inb z y hy, h1]
  simp only [ld_row x off inb n hoff z (y 0) h0, ld_row d off inb n hoff z (y 0) h0]

variable (c : Dev nD) (i : grid0.Coords)
  (arg1 : Memref sig .tc .vmem S512x2048 .f32) (harg1 : arg1.IsWhole)
  (arg2 : Memref sig .tc .vmem S512x2048 .bf16) (harg2 : arg2.IsWhole)
  (arg3 : Memref sig .tc .vmem S512x2048 .f32) (harg3 : arg3.IsWhole)
  (arg4 : Memref sig .tc .vmem S1x2048 .f32) (harg4 : arg4.IsWhole)
  (arg5 : Memref sig .tc .vmem S1x6144 .f32) (harg5 : arg5.IsWhole)
  (arg6 : Memref sig .tc .vmem S512x2048 .f32) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x2048 .f32) (harg9 : arg9.IsWhole)
    (v0 v1 : Vec Ideal S1x2048 .f32) (x : Vec Ideal S512x2048 .f32) (d : Vec Ideal S512x2048 .bf16) (g : Vec Ideal S512x2048 .f32)

/-- Trip `k`'s pieces hold the gradient rows. -/
theorem trip_pieces
    (k : Fin k0_t1_loop.trips) (acc : FVec Ideal S8x2048 .f32 × FVec Ideal S8x2048 .f32) (y : S512x2048.Idx) :
    View.AllAt (tripL_k0_t1 (F := Ideal) Variants.none c none i arg1 harg1 arg2 harg2 arg3 harg3 arg4 harg4 arg5 harg5 arg6 harg6 arg7 harg7 arg8 harg8 arg9 harg9 v0 v1 (harg1.unread x) (harg2.unread d) (harg3.unread g) k acc) y
      (grad (fun l => x (ix2 (y 0) l)) (fun l => d (ix2 (y 0) l)) (fun l => k0_pay2 v0 v1 (ix2 0 l)) (g y) (y 1)) := by
  unfold tripL_k0_t1 trip_k0_t1
  dsimp only
  sl_unfold_run_names
  simp only [View.readAt_eq_ld, harg1.read_unread, harg2.read_unread, harg3.read_unread]
  refine View.allAt_cons_unit _ _ _ _ _ ?_ (View.allAt_cons_unit _ _ _ _ _ ?_ (View.allAt_cons_unit _ _ _ _ _ ?_ (View.allAt_cons_unit _ _ _ _ _ ?_ (View.allAt_nil _ _))))
  · exact fun z hz => (group3 _ _ _ _ z).trans (rowOf_ld _ x d g _ _ _ (off_eq k 3) z y hz)
  · exact fun z hz => (group2 _ _ _ _ z).trans (rowOf_ld _ x d g _ _ _ (off_eq k 2) z y hz)
  · exact fun z hz => (group1 _ _ _ _ z).trans (rowOf_ld _ x d g _ _ _ (off_eq k 1) z y hz)
  · exact fun z hz => (group0 _ _ _ _ z).trans (rowOf_ld _ x d g _ _ _ (off_eq k 0) z y hz)

/-- A block's column, as a function of the row number. -/
def col (T : S512x2048.Idx → EReal) (l : Fin 2048) (n : ℕ) : EReal := if h : n < 512 then T (ix2 ⟨n, h⟩ l) else 0

/-- `dh` times the normalised row. -/
def dxn (x : Vec Ideal S512x2048 .f32) (d : Vec Ideal S512x2048 .bf16) : S512x2048.Idx → EReal :=
  fun y => d y * (x y * rstd fun l => x (ix2 (y 0) l))

/-- The eight half groups of a trip, added one after the other. -/
def add8 (A : S8x2048.Idx → EReal) (R : Fin 4 → S16x2048.Idx → EReal) (y : S8x2048.Idx) : EReal :=
  A y + R 0 (ix2 (Fin.castLE (by decide) (y 0 : Fin 8)) (y 1)) + R 0 (ix2 (Fin.natAdd 8 (y 0 : Fin 8)) (y 1))
    + R 1 (ix2 (Fin.castLE (by decide) (y 0 : Fin 8)) (y 1)) + R 1 (ix2 (Fin.natAdd 8 (y 0 : Fin 8)) (y 1))
    + R 2 (ix2 (Fin.castLE (by decide) (y 0 : Fin 8)) (y 1)) + R 2 (ix2 (Fin.natAdd 8 (y 0 : Fin 8)) (y 1))
    + R 3 (ix2 (Fin.castLE (by decide) (y 0 : Fin 8)) (y 1)) + R 3 (ix2 (Fin.natAdd 8 (y 0 : Fin 8)) (y 1))

/-- The half groups of trip `k` are the rows `8 (8 k + i) + y₀`, `i < 8`. -/
theorem add8_eq (T : S512x2048.Idx → EReal) (A : S8x2048.Idx → EReal) (R : Fin 4 → S16x2048.Idx → EReal) (k : Fin k0_t1_loop.trips)
    (hR : ∀ (j : Fin 4) (z : S16x2048.Idx) (r : Fin 512), (r : ℕ) = 64 * k.val + 16 * j.val + z 0 → R j z = T (ix2 r (z 1))) (y : S8x2048.Idx) :
    add8 A R y = A y + ∑ i ∈ Finset.range 8, col T (y 1) (8 * (8 * k.val + i) + y 0) := by
  have hk : k.val < 8 := lt_of_lt_of_eq k.isLt (by decide)
  have h0 : ((y 0 : Fin 8) : ℕ) < 8 := (y 0 : Fin 8).isLt
  have lo : ∀ (j : Fin 4) (h : _), R j (ix2 (Fin.castLE h (y 0 : Fin 8)) (y 1)) = col T (y 1) (8 * (8 * k.val + 2 * j.val) + y 0) := fun j h => by
    have hj := j.isLt
    refine Eq.trans ?_ (dif_pos (by omega : 8 * (8 * k.val + 2 * j.val) + ((y 0 : Fin 8) : ℕ) < 512)).symm
    exact hR j _ _ (by show _ = 64 * k.val + 16 * j.val + ((y 0 : Fin 8) : ℕ); dsimp only; omega)
  have hi : ∀ (j : Fin 4), R j (ix2 (Fin.natAdd 8 (y 0 : Fin 8)) (y 1)) = col T (y 1) (8 * (8 * k.val + (2 * j.val + 1)) + y 0) := fun j => by
    have hj := j.isLt
    refine Eq.trans ?_ (dif_pos (by omega : 8 * (8 * k.val + (2 * j.val + 1)) + ((y 0 : Fin 8) : ℕ) < 512)).symm
    exact hR j _ _ (by show _ = 64 * k.val + 16 * j.val + (8 + ((y 0 : Fin 8) : ℕ)); dsimp only; omega)
  rw [add8, lo 0, hi 0, lo 1, hi 1, lo 2, hi 2, lo 3, hi 3]
  simp only [Finset.sum_range_succ, Finset.sum_range_zero, zero_add, ← add_assoc]
  rfl

theorem addD (D : Fin 4 → Vec Ideal S16x2048 .bf16) (A : FVec Ideal S8x2048 .f32) :
    k0_pay6 (k0_pay16 (D 1)) (k0_pay17 (D 2)) (k0_pay18 (D 3)) (k0_pay36 A (k0_pay15 (D 0))) = add8 A D := by
  funext y
  pointwise [k0_pay6, k0_pay16, k0_pay17, k0_pay18, k0_pay36, k0_pay15]
  rfl

theorem addX (X : Fin 4 → Vec Ideal S16x2048 .f32) (D : Fin 4 → Vec Ideal S16x2048 .bf16) (A : FVec Ideal S8x2048 .f32) :
    k0_pay7 (k0_pay16 (D 1)) (k0_pay17 (D 2)) (k0_pay18 (D 3)) (k0_pay25 (X 1)) (k0_pay26 (X 2)) (k0_pay27 (X 3))
        (k0_pay37 A (k0_pay15 (D 0)) (k0_pay24 (X 0) (k0_pay19 (X 0))))
      = add8 A fun j z => D j z * (X j z * rstd fun l => X j (ix2 (z 0) l)) := by
  funext y
  unfold add8 rstd
  pointwise [k0_pay7, k0_pay16, k0_pay17, k0_pay18, k0_pay25, k0_pay26, k0_pay27, k0_pay37, k0_pay15, k0_pay24, k0_pay19, k0_pay20, k0_pay21, k0_pay22, k0_pay23]
  rfl

/-- Trip `k` adds its eight half groups to both accumulators. -/
theorem trip_acc
    (k : Fin k0_t1_loop.trips) (acc : FVec Ideal S8x2048 .f32 × FVec Ideal S8x2048 .f32) :
    tripR_k0_t1 (F := Ideal) Variants.none c none i arg1 harg1 arg2 harg2 arg3 harg3 arg4 harg4 arg5 harg5 arg6 harg6 arg7 harg7 arg8 harg8 arg9 harg9 v0 v1 (harg1.unread x) (harg2.unread d) (harg3.unread g) k acc
      = (fun y => acc.1 y + ∑ i ∈ Finset.range 8, col d (y 1) (8 * (8 * k.val + i) + y 0),
         fun y => acc.2 y + ∑ i ∈ Finset.range 8, col (dxn x d) (y 1) (8 * (8 * k.val + i) + y 0)) := by
  unfold tripR_k0_t1 trip_k0_t1
  dsimp only
  sl_unfold_run_names
  simp only [View.readAt_eq_ld, harg1.read_unread, harg2.read_unread]
  have row : ∀ {e : EltTy} (B : Vec Ideal S512x2048 e) (j : Fin 4) (z : S16x2048.Idx) (r : Fin 512) (l : Fin 2048),
      (r : ℕ) = 64 * k.val + 16 * j.val + z 0 →
      View.ld B (Rect.unit (s := S512x2048) (k0_off1 k (BitVec.ofNat 32 j.val)) S16x2048.size (k0_off1_inb k j)) (ix2 (z 0) l) = B (ix2 r l) :=
    fun B j z r l hr => ld_row B _ _ _ (off_eq k j) z r hr l
  have hz : ∀ z : S16x2048.Idx, z = ix2 (z 0) (z 1) := fun z => by blk_ext
  refine Prod.ext ((addD (fun j => View.ld d (Rect.unit (s := S512x2048) (k0_off1 k (BitVec.ofNat 32 j.val)) S16x2048.size (k0_off1_inb k j))) _).trans
      (funext fun y => add8_eq d _ _ k (fun j z r hr => ?_) y))
    ((addX (fun j => View.ld x (Rect.unit (s := S512x2048) (k0_off1 k (BitVec.ofNat 32 j.val)) S16x2048.size (k0_off1_inb k j)))
        (fun j => View.ld d (Rect.unit (s := S512x2048) (k0_off1 k (BitVec.ofNat 32 j.val)) S16x2048.size (k0_off1_inb k j))) _).trans
      (funext fun y => add8_eq (dxn x d) _ _ k (fun j z r hr => ?_) y))
  · exact (congrArg _ (hz z)).trans (row d j z r (z 1) hr)
  · exact congrArg₂ (· * ·) ((congrArg _ (hz z)).trans (row d j z r (z 1) hr))
      (congrArg₂ (· * ·) ((congrArg _ (hz z)).trans (row x j z r (z 1) hr)) (congrArg rstd (funext fun l => row x j z r l hr)))

theorem sum_step (f : ℕ → EReal) (n : ℕ) :
    ∑ i ∈ Finset.range (8 * n), f i + ∑ i ∈ Finset.range 8, f (8 * n + i) = ∑ i ∈ Finset.range (8 * (n + 1)), f i := by
  rw [mul_add, mul_one, Finset.sum_range_add]

/-- The accumulators after `n` trips. -/
theorem st_acc
    (n : ℕ) (hn : n ≤ k0_t1_loop.trips) :
    (st_k0_t1 (F := Ideal) Variants.none c none i arg1 harg1 arg2 harg2 arg3 harg3 arg4 harg4 arg5 harg5 arg6 harg6 arg7 harg7 arg8 harg8 arg9 harg9 v0 v1 (harg1.unread x) (harg2.unread d) (harg3.unread g) (k0_pay3 (F := Ideal), k0_pay3 (F := Ideal)) n).1
      = (fun y => ∑ i ∈ Finset.range (8 * n), col d (y 1) (8 * i + y 0), fun y => ∑ i ∈ Finset.range (8 * n), col (dxn x d) (y 1) (8 * i + y 0)) := by
  have hz : k0_pay3 (F := Ideal) = fun _ => 0 := by funext y; pointwise [k0_pay3]
  induction n with
  | zero =>
    rw [st_k0_t1_zero, hz]
    rfl
  | succ n ih =>
    rw [show n + 1 = (⟨n, hn⟩ : Fin k0_t1_loop.trips).val + 1 from rfl, st_k0_t1_succ]
    dsimp only
    rw [trip_acc, ih (by omega)]
    refine Prod.ext (funext fun y => ?_) (funext fun y => ?_)
    · exact sum_step (fun i => col d (y 1) (8 * i + y 0)) n
    · exact sum_step (fun i => col (dxn x d) (y 1) (8 * i + y 0)) n

/-- Every piece of the loop holds the gradient rows. -/
theorem st_pieces
    (init : FVec Ideal S8x2048 .f32 × FVec Ideal S8x2048 .f32) (y : S512x2048.Idx) (n : ℕ) (hn : n ≤ k0_t1_loop.trips) :
    View.AllAt (st_k0_t1 (F := Ideal) Variants.none c none i arg1 harg1 arg2 harg2 arg3 harg3 arg4 harg4 arg5 harg5 arg6 harg6 arg7 harg7 arg8 harg8 arg9 harg9 v0 v1 (harg1.unread x) (harg2.unread d) (harg3.unread g) init n).2 y
      (grad (fun l => x (ix2 (y 0) l)) (fun l => d (ix2 (y 0) l)) (fun l => k0_pay2 v0 v1 (ix2 0 l)) (g y) (y 1)) := by
  induction n with
  | zero => exact View.allAt_nil _ _
  | succ n ih =>
    rw [show n + 1 = (⟨n, hn⟩ : Fin k0_t1_loop.trips).val + 1 from rfl, st_k0_t1_succ]
    intro p hp z hz
    rcases List.mem_append.mp hp with hp | hp
    · exact trip_pieces c i arg1 harg1 arg2 harg2 arg3 harg3 arg4 harg4 arg5 harg5 arg6 harg6 arg7 harg7 arg8 harg8 arg9 harg9 v0 v1 x d g ⟨n, hn⟩ _ y p hp z hz
    · exact ih (by omega) p hp z hz

end Cert.NormIdeal.Rows
-- ==== Proof.NormBlock.lean ====
module

public import proofs.«01_k».proof.Proof.NormTrip

@[expose] public section

set_option maxRecDepth 16384

noncomputable section

open Idealize.ShloMosaic Idealize.ShloMosaic.TcCoe Idealize.SL.Sem
open Idealize.ShloMosaic.Pipeline (Dat)

namespace Cert.NormIdeal.Rows

open Cert.NormIdeal Cert.NormIdeal.Gen

/-- The factor of `dh` in one column: the gain times one plus the scale (the middle third of the modulation row). -/
def fac (x3 : Vec Ideal S1x2048 .f32) (x4 : Vec Ideal S1x6144 .f32) (l : Fin 2048) : EReal :=
  x3 (ix2 0 l) * (Ideal.ofBits .f32 0x3F800000#32 + x4 (ix2 0 ⟨2048 + l.val, by have := l.isLt; omega⟩))

theorem hz : (![0, 0] : Fin 2 → ℕ) = fun _ => 0 := funext fun a => by fin_cases a <;> rfl

theorem fac_eq (x3 : Vec Ideal S1x2048 .f32) (x4 : Vec Ideal S1x6144 .f32) (l : Fin 2048)
    (inb : ∀ a, (![0, 2048] : Fin 2 → ℕ) a + S1x2048.size a ≤ S1x6144.size a) :
    k0_pay2 x3 (View.ld x4 (Rect.unit (s := S1x6144) ![0, 2048] S1x2048.size inb)) (ix2 0 l) = fac x3 x4 l := by
  unfold fac
  pointwise [k0_pay2, k0_pay1]

variable (c : Dev nD) (i : grid0.Coords)
  (arg1 : Memref sig .tc .vmem S512x2048 .f32) (harg1 : arg1.IsWhole)
  (arg2 : Memref sig .tc .vmem S512x2048 .bf16) (harg2 : arg2.IsWhole)
  (arg3 : Memref sig .tc .vmem S512x2048 .f32) (harg3 : arg3.IsWhole)
  (arg4 : Memref sig .tc .vmem S1x2048 .f32) (harg4 : arg4.IsWhole)
  (arg5 : Memref sig .tc .vmem S1x6144 .f32) (harg5 : arg5.IsWhole)
  (arg6 : Memref sig .tc .vmem S512x2048 .f32) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x2048 .f32) (harg9 : arg9.IsWhole)

variable (x0 : Vec Ideal S512x2048 .f32) (x1 : Vec Ideal S512x2048 .bf16) (x2 : Vec Ideal S512x2048 .f32) (x3 : Vec Ideal S1x2048 .f32) (x4 : Vec Ideal S1x6144 .f32) (xo6 xo7 xo8 : Vec Ideal S1x2048 .f32)

theorem out5_A (hc0 : cond0_0 i) (hc1 : ¬cond0_1 i) (y : S512x2048.Idx) :
    out0_A_5 c i arg1 harg1 arg2 harg2 arg3 harg3 arg4 harg4 arg5 harg5 arg6 harg6 arg7 harg7 arg8 harg8 arg9 harg9 hc0 hc1 x0 x1 x2 x3 x4 y
      = grad (fun l => x0 (ix2 (y 0) l)) (fun l => x1 (ix2 (y 0) l)) (fac x3 x4) (x2 y) (y 1) := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3 x4)]
  refine View.canon_eq_of_allAt _ _ _ (cover0_A_5 c i arg1 harg1 arg2 harg2 arg3 harg3 arg4 harg4 arg5 harg5 arg6 harg6 arg7 harg7 arg8 harg8 arg9 harg9 hc0 hc1 x0 x1 x2 x3 x4 y) ?_
  unfold kernelRun0_A
  dsimp only
  sl_unfold_run_names
  simp only [View.readAt_eq_ld, harg4.read_unread, harg5.read_unread, View.ld_unit_zero (S := S1x2048) hz]
  have hf : (fun l => k0_pay2 x3 (View.ld x4 (Rect.unit (s := S1x6144) ![0, 2048] ![1, 2048] inb_S1x6144_S1x2048_0_2048)) (ix2 0 l)) = fac x3 x4 :=
    funext fun l => fac_eq x3 x4 l _
  rw [← hf]
  exact st_pieces c i arg1 harg1 arg2 harg2 arg3 harg3 arg4 harg4 arg5 harg5 arg6 harg6 arg7 harg7 arg8 harg8 arg9 harg9 _ _ x0 x1 x2 _ y _ le_rfl

theorem out5_B (hc0 : ¬cond0_0 i) (hc1 : cond0_1 i) (y : S512x2048.Idx) :
    out0_B_5 c i arg1 harg1 arg2 harg2 arg3 harg3 arg4 harg4 arg5 harg5 arg6 harg6 arg7 harg7 arg8 harg8 arg9 harg9 hc0 hc1 x0 x1 x2 x3 x4 xo6 xo7 xo8 y
      = grad (fun l => x0 (ix2 (y 0) l)) (fun l => x1 (ix2 (y 0) l)) (fac x3 x4) (x2 y) (y 1) := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x0 x1 x2 x3 x4 xo6 xo7 xo8)]
  refine View.canon_eq_of_allAt _ _ _ (cover0_B_5 c i arg1 harg1 arg2 harg2 arg3 harg3 arg4 harg4 arg5 harg5 arg6 harg6 arg7 harg7 arg8 harg8 arg9 harg9 hc0 hc1 x0 x1 x2 x3 x4 xo6 xo7 xo8 y) ?_
  unfold kernelRun0_B
  dsimp only
  sl_unfold_run_names
  simp only [View.readAt_eq_ld, harg4.read_unread, harg5.read_unread, View.ld_unit_zero (S := S1x2048) hz]
  have hf : (fun l => k0_pay2 x3 (View.ld x4 (Rect.unit (s := S1x6144) ![0, 2048] ![1, 2048] inb_S1x6144_S1x2048_0_2048)) (ix2 0 l)) = fac x3 x4 :=
    funext fun l => fac_eq x3 x4 l _
  rw [← hf]
  exact st_pieces c i arg1 harg1 arg2 harg2 arg3 harg3 arg4 harg4 arg5 harg5 arg6 harg6 arg7 harg7 arg8 harg8 arg9 harg9 _ _ x0 x1 x2 _ y _ le_rfl

/-- The sum over the eight accumulator rows of a column's groups is the column's sum. -/
theorem colsum (T : S512x2048.Idx → EReal) (l : Fin 2048) :
    ∑ y0 : Fin 8, ∑ i ∈ Finset.range 64, col T l (8 * i + y0) = ∑ r : Fin 512, T (ix2 r l) := by
  have h : ∀ r : Fin 512, col T l r.val = T (ix2 r l) := fun r => dif_pos r.isLt
  rw [← Finset.sum_congr rfl fun r _ => h r, Fin.sum_univ_eq_sum_range (col T l) 512, Finset.sum_comm,
    Finset.sum_congr rfl fun i _ => Fin.sum_univ_eq_sum_range (fun y0 => col T l (8 * i + y0)) 8]
  exact (Finset.sum_range_range_mul_add 64 8 (col T l))

/-- The accumulators after the whole loop, `v` the row that only the stored rows read. -/
theorem st_end
    (v0 v1 : Vec Ideal S1x2048 .f32) :
    (st_k0_t1 (F := Ideal) Variants.none c none i arg1 harg1 arg2 harg2 arg3 harg3 arg4 harg4 arg5 harg5 arg6 harg6 arg7 harg7 arg8 harg8 arg9 harg9 v0 v1 (harg1.unread x0) (harg2.unread x1) (harg3.unread x2) (k0_pay3 (F := Ideal), k0_pay3 (F := Ideal))
        (Scf.trips (0#32) (Scalar.addi 0#32 8#32) 1#32)).1
      = (fun y => ∑ i ∈ Finset.range 64, col x1 (y 1) (8 * i + y 0), fun y => ∑ i ∈ Finset.range 64, col (dxn x0 x1) (y 1) (8 * i + y 0)) :=
  st_acc c i arg1 harg1 arg2 harg2 arg3 harg3 arg4 harg4 arg5 harg5 arg6 harg6 arg7 harg7 arg8 harg8 arg9 harg9 v0 v1 x0 x1 x2 8 (le_of_eq (by decide))

theorem sum8 (T : S512x2048.Idx → EReal) (y : S1x2048.Idx) (A : FVec Ideal S8x2048 .f32)
    (hA : A = fun y => ∑ i ∈ Finset.range 64, col T (y 1) (8 * i + y 0)) :
    k0_pay8 A y = ∑ r : Fin 512, T (ix2 r (y 1 : Fin 2048)) ∧ k0_pay9 A y = ∑ r : Fin 512, T (ix2 r (y 1 : Fin 2048)) := by
  subst hA
  constructor
  · refine Eq.trans ?_ (colsum T (y 1))
    pointwise [k0_pay8]
  · refine Eq.trans ?_ (colsum T (y 1))
    pointwise [k0_pay9]

/-- One plus the scale. -/
def sc1 (x4 : Vec Ideal S1x6144 .f32) (l : Fin 2048) : EReal :=
  Ideal.ofBits .f32 0x3F800000#32 + x4 (ix2 0 ⟨2048 + l.val, by have := l.isLt; omega⟩)

theorem sc1_eq (x4 : Vec Ideal S1x6144 .f32) (y : S1x2048.Idx) (inb : ∀ a, (![0, 2048] : Fin 2 → ℕ) a + S1x2048.size a ≤ S1x6144.size a) :
    k0_pay1 (View.ld x4 (Rect.unit (s := S1x6144) ![0, 2048] S1x2048.size inb)) y = sc1 x4 (y 1) := by
  unfold sc1
  pointwise [k0_pay1]

/-- A column's sum over the block's rows. -/
def tot (T : S512x2048.Idx → EReal) (l : Fin 2048) : EReal := ∑ r : Fin 512, T (ix2 r l)

section
variable (T : S512x2048.Idx → EReal) (y : S1x2048.Idx) (A : FVec Ideal S8x2048 .f32)
  (hA : A = fun y => ∑ i ∈ Finset.range 64, col T (y 1) (8 * i + y 0)) (x3 xo : Vec Ideal S1x2048 .f32) (x4 : Vec Ideal S1x6144 .f32)
  (inb : ∀ a, (![0, 2048] : Fin 2 → ℕ) a + S1x2048.size a ≤ S1x6144.size a)
include hA

theorem at10 : k0_pay10 x3 A y = tot T (y 1) * x3 y := (congrArg (· * x3 y) (sum8 T y A hA).2 : _)

theorem at11 : k0_pay11 (View.ld x4 (Rect.unit (s := S1x6144) ![0, 2048] S1x2048.size inb)) A y = tot T (y 1) * sc1 x4 (y 1) :=
  congrArg₂ (· * ·) (sum8 T y A hA).2 (sc1_eq x4 y inb)

theorem at12 : k0_pay12 A xo y = xo y + tot T (y 1) := by
  rw [show k0_pay12 A xo y = xo y + k0_pay8 A y by pointwise [k0_pay12], (sum8 T y A hA).1]
  rfl

theorem at13 : k0_pay13 x3 A xo y = xo y + tot T (y 1) * x3 y := by
  rw [show k0_pay13 x3 A xo y = xo y + k0_pay10 x3 A y by pointwise [k0_pay13], at10 T y A hA]

theorem at14 : k0_pay14 (View.ld x4 (Rect.unit (s := S1x6144) ![0, 2048] S1x2048.size inb)) A xo y = xo y + tot T (y 1) * sc1 x4 (y 1) := by
  rw [show ∀ v, k0_pay14 v A xo y = xo y + k0_pay11 v A y from fun v => by pointwise [k0_pay14], at11 T y A hA]

end

theorem out6_A (hc0 : cond0_0 i) (hc1 : ¬cond0_1 i) (y : S1x2048.Idx) :
    out0_A_6 c i arg1 harg1 arg2 harg2 arg3 harg3 arg4 harg4 arg5 harg5 arg6 harg6 arg7 harg7 arg8 harg8 arg9 harg9 hc0 hc1 x0 x1 x2 x3 x4 y = tot x1 (y 1) := by
  frame_out
  exact (sum8 _ y _ (congrArg Prod.fst (st_end c i arg1 harg1 arg2 harg2 arg3 harg3 arg4 harg4 arg5 harg5 arg6 harg6 arg7 harg7 arg8 harg8 arg9 harg9 x0 x1 x2 x3 _))).1

theorem out7_A (hc0 : cond0_0 i) (hc1 : ¬cond0_1 i) (y : S1x2048.Idx) :
    out0_A_7 c i arg1 harg1 arg2 harg2 arg3 harg3 arg4 harg4 arg5 harg5 arg6 harg6 arg7 harg7 arg8 harg8 arg9 harg9 hc0 hc1 x0 x1 x2 x3 x4 y = tot (dxn x0 x1) (y 1) * x3 y := by
  frame_out
  exact at10 _ y _ (congrArg Prod.snd (st_end c i arg1 harg1 arg2 harg2 arg3 harg3 arg4 harg4 arg5 harg5 arg6 harg6 arg7 harg7 arg8 harg8 arg9 harg9 x0 x1 x2 x3 _)) x3

theorem out8_A (hc0 : cond0_0 i) (hc1 : ¬cond0_1 i) (y : S1x2048.Idx) :
    out0_A_8 c i arg1 harg1 arg2 harg2 arg3 harg3 arg4 harg4 arg5 harg5 arg6 harg6 arg7 harg7 arg8 harg8 arg9 harg9 hc0 hc1 x0 x1 x2 x3 x4 y = tot (dxn x0 x1) (y 1) * sc1 x4 (y 1) := by
  frame_out
  exact at11 _ y _ (congrArg Prod.snd (st_end c i arg1 harg1 arg2 harg2 arg3 harg3 arg4 harg4 arg5 harg5 arg6 harg6 arg7 harg7 arg8 harg8 arg9 harg9 x0 x1 x2 x3 _)) x4 _

theorem out6_B (hc0 : ¬cond0_0 i) (hc1 : cond0_1 i) (y : S1x2048.Idx) :
    out0_B_6 c i arg1 harg1 arg2 harg2 arg3 harg3 arg4 harg4 arg5 harg5 arg6 harg6 arg7 harg7 arg8 harg8 arg9 harg9 hc0 hc1 x0 x1 x2 x3 x4 xo6 xo7 xo8 y = xo6 y + tot x1 (y 1) := by
  frame_out
  exact at12 _ y _ (congrArg Prod.fst (st_end c i arg1 harg1 arg2 harg2 arg3 harg3 arg4 harg4 arg5 harg5 arg6 harg6 arg7 harg7 arg8 harg8 arg9 harg9 x0 x1 x2 x3 _)) xo6

theorem out7_B (hc0 : ¬cond0_0 i) (hc1 : cond0_1 i) (y : S1x2048.Idx) :
    out0_B_7 c i arg1 harg1 arg2 harg2 arg3 harg3 arg4 harg4 arg5 harg5 arg6 harg6 arg7 harg7 arg8 harg8 arg9 harg9 hc0 hc1 x0 x1 x2 x3 x4 xo6 xo7 xo8 y = xo7 y + tot (dxn x0 x1) (y 1) * x3 y := by
  frame_out
  exact at13 _ y _ (congrArg Prod.snd (st_end c i arg1 harg1 arg2 harg2 arg3 harg3 arg4 harg4 arg5 harg5 arg6 harg6 arg7 harg7 arg8 harg8 arg9 harg9 x0 x1 x2 x3 _)) x3 xo7

theorem out8_B (hc0 : ¬cond0_0 i) (hc1 : cond0_1 i) (y : S1x2048.Idx) :
    out0_B_8 c i arg1 harg1 arg2 harg2 arg3 harg3 arg4 harg4 arg5 harg5 arg6 harg6 arg7 harg7 arg8 harg8 arg9 harg9 hc0 hc1 x0 x1 x2 x3 x4 xo6 xo7 xo8 y = xo8 y + tot (dxn x0 x1) (y 1) * sc1 x4 (y 1) := by
  frame_out
  exact at14 _ y _ (congrArg Prod.snd (st_end c i arg1 harg1 arg2 harg2 arg3 harg3 arg4 harg4 arg5 harg5 arg6 harg6 arg7 harg7 arg8 harg8 arg9 harg9 x0 x1 x2 x3 _)) xo8 x4 _

end Cert.NormIdeal.Rows
-- ==== Proof.NormArray.lean ====
module

public import proofs.«01_k».proof.Proof.NormBlock

@[expose] public section

set_option maxRecDepth 16384

noncomputable section

open Idealize.ShloMosaic Idealize.ShloMosaic.TcCoe Idealize.SL.Sem
open Idealize.ShloMosaic.Pipeline (Dat)

namespace Cert.NormIdeal.Rows

open Cert.NormIdeal Cert.NormIdeal.Gen

variable (m : (ℓ : Loc nD τ sig) → Buf (Elt Ideal) ℓ) (c : Dev nD)

/-- The arguments as launched, as arrays. -/
def aX : Vec Ideal S8192x2048 .f32 := m ((c : Thread nD τ).loc main_arg0)
def aD : Vec Ideal S8192x2048 .bf16 := m ((c : Thread nD τ).loc main_arg1)
def aG : Vec Ideal S8192x2048 .f32 := m ((c : Thread nD τ).loc main_arg2)
def aN : Vec Ideal S1x2048 .f32 := m ((c : Thread nD τ).loc main_arg3)
def aM : Vec Ideal S1x6144 .f32 := m ((c : Thread nD τ).loc main_arg4)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![0, 0] ∧ win0_8.index t = ![0, 0] :=
  (by decide +kernel : ∀ t : Fin grid0.N, _)

theorem row_lt (t : Fin cfg0.N) (r : Fin 512) : 512 * t.val + r.val < 8192 := by
  have := lt_of_lt_of_eq t.isLt N_0
  have := r.isLt
  omega

theorem blk0 (t : Fin cfg0.N) (r : Fin 512) (l : Fin 2048) :
    iblk m c 0 t (ix2 r l) = aX m c (ix2 ⟨512 * t.val + r.val, row_lt t r⟩ l) := by
  unfold aX
  blk_point [iblk, V, idx t]

theorem blk1 (t : Fin cfg0.N) (r : Fin 512) (l : Fin 2048) :
    iblk m c 1 t (ix2 r l) = aD m c (ix2 ⟨512 * t.val + r.val, row_lt t r⟩ l) := by
  unfold aD
  blk_point [iblk, V, idx t]

theorem blk2 (t : Fin cfg0.N) (r : Fin 512) (l : Fin 2048) :
    iblk m c 2 t (ix2 r l) = aG m c (ix2 ⟨512 * t.val + r.val, row_lt t r⟩ l) := by
  unfold aG
  blk_point [iblk, V, idx t]

theorem blk3 (t : Fin cfg0.N) : iblk m c 3 t = aN m c := by
  funext y
  unfold aN
  blk_point [iblk, V, idx t]

theorem blk4 (t : Fin cfg0.N) : iblk m c 4 t = aM m c := by
  funext y
  unfold aM
  blk_point [iblk, V, idx t]

/-- The gradient that reaches `x`, of the whole array. -/
def gx (i : S8192x2048.Idx) : EReal :=
  grad (fun l => aX m c (ix2 (i 0) l)) (fun l => aD m c (ix2 (i 0) l)) (fac (aN m c) (aM m c)) (aG m c i) (i 1)

theorem point5 (t : Fin cfg0.N) (y : S512x2048.Idx) :
    (outsAt0 m c t.val t.isLt).1 y
      = grad (fun l => iblk m c 0 t (ix2 (y 0) l)) (fun l => iblk m c 1 t (ix2 (y 0) l)) (fac (iblk m c 3 t) (iblk m c 4 t)) (iblk m c 2 t y) (y 1) := by
  by_cases h : t.val % 16 = 0
  · rw [outsAt0_A m c t h (by have := lt_of_lt_of_eq t.isLt N_0; omega)]
    exact out5_A ..
  · rw [outsAt0_B m c t h (by omega)]
    exact out5_B ..

theorem point5_at (t : Fin cfg0.N) (r : Fin 512) (l : Fin 2048) :
    (outsAt0 m c t.val t.isLt).1 (ix2 r l) = gx m c (ix2 ⟨512 * t.val + r.val, row_lt t r⟩ l) := by
  rw [point5, blk3, blk4, blk2]
  unfold gx
  have h0 : (fun l => iblk m c 0 t (ix2 r l)) = fun l => aX m c (ix2 ⟨512 * t.val + r.val, row_lt t r⟩ l) := funext fun l => blk0 m c t r l
  have h1 : (fun l => iblk m c 1 t (ix2 r l)) = fun l => aD m c (ix2 ⟨512 * t.val + r.val, row_lt t r⟩ l) := funext fun l => blk1 m c t r l
  exact congrArg₂ (fun u v => grad u v (fac (aN m c) (aM m c)) (aG m c (ix2 ⟨512 * t.val + r.val, row_lt t r⟩ l)) l) h0 h1

theorem final5 : (dats m 0 c).arrAt 5 (cfgs 0).N = gx m c := by
  refine (dats m 0 c).arrAt_eq_of_covers 5 _ (by decide +kernel) fun t _ y => ?_
  blk_simp
  rw [after0_5]
  have hy : y = (ix2 (y 0 : Fin 512) (y 1 : Fin 2048) : S512x2048.Idx) := by blk_ext
  have he : ((cfg0.win 5).blk t).view.emb y = (ix2 ⟨512 * t.val + (y 0 : Fin 512).val, row_lt t (y 0)⟩ (y 1) : S8192x2048.Idx) := by
    blk_ext [idx t]
  exact (congrArg (outsAt0 m c t.val t.isLt).1 hy).trans ((point5_at m c t (y 0) (y 1)).trans (congrArg (gx m c) he.symm))

/-- `dh` times the normalised row, of the whole array. -/
def aDX (R : Fin 8192) (l : Fin 2048) : EReal := aD m c (ix2 R l) * (aX m c (ix2 R l) * rstd fun l => aX m c (ix2 R l))

theorem tot1 (t : Fin cfg0.N) (l : Fin 2048) :
    tot (iblk m c 1 t) l = ∑ r : Fin 512, aD m c (ix2 ⟨512 * t.val + r.val, row_lt t r⟩ l) :=
  Finset.sum_congr rfl fun r _ => blk1 m c t r l

theorem tot2 (t : Fin cfg0.N) (l : Fin 2048) :
    tot (dxn (iblk m c 0 t) (iblk m c 1 t)) l = ∑ r : Fin 512, aDX m c ⟨512 * t.val + r.val, row_lt t r⟩ l :=
  Finset.sum_congr rfl fun r _ => congrArg₂ (· * ·) (blk1 m c t r l)
    (congrArg₂ (· * ·) (blk0 m c t r l) (congrArg rstd (funext fun l => blk0 m c t r l)))

theorem pred_lt (t : Fin cfg0.N) : t.val - 1 < cfg0.N := Nat.lt_of_le_of_lt (Nat.sub_le _ _) t.isLt

theorem reset6 (t : Fin cfg0.N) (h : t.val % 16 = 0) (j : S1x2048.Idx) :
    (outsAt0 m c t.val t.isLt).2.1 j = tot (iblk m c 1 t) (j 1) := by
  rw [outsAt0_A m c t h (by have := lt_of_lt_of_eq t.isLt N_0; omega)]
  dsimp only
  rw [out6_A]

theorem step6 (t : Fin cfg0.N) (h : ¬t.val % 16 = 0) (j : S1x2048.Idx) :
    (outsAt0 m c t.val t.isLt).2.1 j = (outsAt0 m c (t.val - 1) (pred_lt t)).2.1 j + tot (iblk m c 1 t) (j 1) := by
  rw [outsAt0_B m c t h (by omega)]
  dsimp only
  rw [out6_B]

theorem final6 : (dats m 0 c).arrAt 6 (cfgs 0).N
    = fun j : S1x2048.Idx => ∑ t : Fin cfg0.N, tot (iblk m c 1 t) (j 1) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) (fun t j => tot (iblk m c 1 t) (j 1))
    (fun t h j => (reset6 m c t h j).trans (zero_add _).symm) (step6 m c) (le_of_eq N_0) t0_15 rfl j, zero_add]

theorem reset7 (t : Fin cfg0.N) (h : t.val % 16 = 0) (j : S1x2048.Idx) :
    (outsAt0 m c t.val t.isLt).2.2.1 j = tot (dxn (iblk m c 0 t) (iblk m c 1 t)) (j 1) * iblk m c 3 t j := by
  rw [outsAt0_A m c t h (by have := lt_of_lt_of_eq t.isLt N_0; omega)]
  dsimp only
  rw [out7_A]

theorem step7 (t : Fin cfg0.N) (h : ¬t.val % 16 = 0) (j : S1x2048.Idx) :
    (outsAt0 m c t.val t.isLt).2.2.1 j = (outsAt0 m c (t.val - 1) (pred_lt t)).2.2.1 j + tot (dxn (iblk m c 0 t) (iblk m c 1 t)) (j 1) * iblk m c 3 t j := by
  rw [outsAt0_B m c t h (by omega)]
  dsimp only
  rw [out7_B]

theorem final7 : (dats m 0 c).arrAt 7 (cfgs 0).N
    = fun j : S1x2048.Idx => ∑ t : Fin cfg0.N, tot (dxn (iblk m c 0 t) (iblk m c 1 t)) (j 1) * iblk m c 3 t j := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) (fun t j => tot (dxn (iblk m c 0 t) (iblk m c 1 t)) (j 1) * iblk m c 3 t j)
    (fun t h j => (reset7 m c t h j).trans (zero_add _).symm) (step7 m c) (le_of_eq N_0) t0_15 rfl j, zero_add]

theorem reset8 (t : Fin cfg0.N) (h : t.val % 16 = 0) (j : S1x2048.Idx) :
    (outsAt0 m c t.val t.isLt).2.2.2 j = tot (dxn (iblk m c 0 t) (iblk m c 1 t)) (j 1) * sc1 (iblk m c 4 t) (j 1) := by
  rw [outsAt0_A m c t h (by have := lt_of_lt_of_eq t.isLt N_0; omega)]
  dsimp only
  rw [out8_A]

theorem step8 (t : Fin cfg0.N) (h : ¬t.val % 16 = 0) (j : S1x2048.Idx) :
    (outsAt0 m c t.val t.isLt).2.2.2 j = (outsAt0 m c (t.val - 1) (pred_lt t)).2.2.2 j + tot (dxn (iblk m c 0 t) (iblk m c 1 t)) (j 1) * sc1 (iblk m c 4 t) (j 1) := by
  rw [outsAt0_B m c t h (by omega)]
  dsimp only
  rw [out8_B]

theorem final8 : (dats m 0 c).arrAt 8 (cfgs 0).N
    = fun j : S1x2048.Idx => ∑ t : Fin cfg0.N, tot (dxn (iblk m c 0 t) (iblk m c 1 t)) (j 1) * sc1 (iblk m c 4 t) (j 1) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0) (fun t j => tot (dxn (iblk m c 0 t) (iblk m c 1 t)) (j 1) * sc1 (iblk m c 4 t) (j 1))
    (fun t h j => (reset8 m c t h j).trans (zero_add _).symm) (step8 m c) (le_of_eq N_0) t0_15 rfl j, zero_add]

end Cert.NormIdeal.Rows
-- ==== Proof.Finite.lean ====
/-
  Real numbers inside the extended reals: the constants the programs share, the operations on real arguments, and the
  reading of a precondition that asks every element of an array to be finite.
-/
module

public import Idealize.ShloMosaic.Lib.ReduceAll
public import Idealize.ShloMosaic.Lib.StableHlo
public import Idealize.ShloMosaic.Lib.IdealHost
public import Idealize.ShloMosaic.PureOps.Ideal.Laws

@[expose] public section

noncomputable section

namespace Cert.Finite

open Idealize.ShloMosaic

/-- The real behind the f32 pattern of `1e-6`. -/
def eps : ℝ := 8796093 / 2 ^ 43

theorem eps_pos : 0 < eps := by unfold eps; positivity

theorem ofBits_eps : Ideal.ofBits .f32 0x358637BD#32 = (eps : EReal) := by
  simp [Ideal.ofBits, Ideal.ieee, -EReal.coe_mul, eps]; norm_num

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

theorem ofBits_inv_4096 : Ideal.ofBits .f32 0x39800000#32 = ((1 / 4096 : ℝ) : EReal) := by
  simp [Ideal.ofBits, Ideal.ieee, -EReal.coe_mul]; norm_num

theorem ofBits_inf : Ideal.ofBits .f32 0x7F800000#32 = ⊤ := by simp [Ideal.ofBits, Ideal.ieee]

/-- A finite sum of reals is real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem div_coe (a b : ℝ) (hb : b ≠ 0) : Ideal.div (a : EReal) (b : EReal) = ((a / b : ℝ) : EReal) := by
  have h : ((b : ℝ) : EReal) ≠ 0 := by rw [← EReal.coe_zero]; exact fun e => hb (EReal.coe_eq_coe_iff.1 e)
  rw [Ideal.div, if_neg h, div_eq_mul_inv, EReal.coe_mul, EReal.coe_inv]

theorem rsqrt_coe_pos (a : ℝ) (ha : 0 < a) : Ideal.rsqrt (a : EReal) = (((√a)⁻¹ : ℝ) : EReal) := by
  rw [Ideal.rsqrt_coe, if_neg (not_lt.2 ha.le), if_neg ha.ne']

/-- An extended real of absolute value below the top is real. -/
theorem real_of_absf_lt (x : EReal) (h : max x (-x) < ⊤) : ∃ r : ℝ, x = (r : EReal) := by
  refine ⟨x.toReal, (EReal.coe_toReal (fun e => ?_) fun e => ?_).symm⟩
  · rw [e] at h; simp at h
  · rw [e] at h; simp at h

/-- The precondition that every element of an array is finite, read back: the array is an array of reals. -/
theorem reals {S : Shape} {axes : List (Fin S.rank)} (x : FVec Ideal S .f32) (hb : (⟨0, ![]⟩ : Shape).BroadcastsInDim S ![])
    (init : (⟨0, ![]⟩ : Shape).Idx → BitVec 1) (hr : S.ReducesTo axes (⟨0, ![]⟩ : Shape)) (hu : 0 < (⟨0, ![]⟩ : Shape).numel)
    (j : (⟨0, ![]⟩ : Shape).Idx)
    (e : Host.reduce IntOp.andi (cmpf .olt (Host.absf x) (broadcastInDim S ![] hb (constant (⟨0, ![]⟩ : Shape) .f32 0x7F800000#32))) init hr hu j = 1#1) :
    ∃ X : S.Idx → ℝ, x = fun i => ((X i : ℝ) : EReal) := by
  have hs : Subsingleton (⟨0, ![]⟩ : Shape).Idx := ⟨fun a b => funext fun k => k.elim0⟩
  have h : ∀ i, ∃ r : ℝ, x i = (r : EReal) := fun i => by
    have hi := Host.reduce_andi_all _ _ hr hu j e i
    have h2 : Ideal.cmp .olt (max (x i) (-(x i))) (Ideal.ofBits .f32 0x7F800000#32) = 1#1 := by
      exact hi
    rw [ofBits_inf] at h2
    refine real_of_absf_lt _ ?_
    by_contra hn
    simp [Ideal.cmp, hn] at h2
  exact ⟨fun i => (h i).choose, funext fun i => (h i).choose_spec⟩

end Cert.Finite
-- ==== Proof.NormRef.lean ====
/-
  What the reference of the norm computes, read at an index.
-/
module

public import proofs.«01_k».proof.Proof.Gen.NormRefIdeal.Read
public import proofs.«01_k».proof.Proof.NormArray
public import proofs.«01_k».proof.Proof.Finite

@[expose] public section

set_option maxRecDepth 16384

noncomputable section

open Idealize.ShloMosaic Idealize.ShloMosaic.TcCoe Idealize.SL.Sem

namespace Cert.NormRefIdeal.Rows

open Cert.NormRefIdeal Cert.NormRefIdeal.Gen Cert.NormRefIdeal.Read

variable (x0 : (⟨S8192x2048, .f32⟩ : BufTy).Contents (Elt Ideal)) (x1 : (⟨S8192x2048, .bf16⟩ : BufTy).Contents (Elt Ideal))
  (x2 : (⟨S8192x2048, .f32⟩ : BufTy).Contents (Elt Ideal)) (x3 : (⟨S1x2048, .f32⟩ : BufTy).Contents (Elt Ideal))
  (x4 : (⟨S1x6144, .f32⟩ : BufTy).Contents (Elt Ideal))

/-- A row's mean of squares plus the small constant. -/
def msq (x : Fin 2048 → EReal) : EReal :=
  Ideal.div (∑ k, x k * x k) (Ideal.ofBits .f32 0x45000000#32) + Ideal.ofBits .f32 0x358637BD#32

/-- The gradient that reaches `x` by way of the norm, as differentiation writes it. -/
def grad (x d g sc : Fin 2048 → EReal) (v : EReal) (l : Fin 2048) : EReal :=
  let q := Ideal.div ((∑ k, x k * (d k * (1 + sc k) * g k)) * (Ideal.ofBits .f32 0xBF000000#32 * Ideal.div (Ideal.rsqrt (msq x)) (msq x)))
    (Ideal.ofBits .f32 0x45000000#32)
  v + d l * (1 + sc l) * g l * Ideal.rsqrt (msq x) + x l * q + q * x l

theorem v54_at (R : Fin 8192) (l : Fin 2048) : val_main_v54 x0 x1 x2 x3 x4 (ix2 R l)
    = grad (fun l => x0 (ix2 R l)) (fun l => x1 (ix2 R l)) (fun l => x3 (ix2 0 l)) (fun l => x4 (ix2 0 ⟨2048 + l.val, by omega⟩)) (x2 (ix2 R l)) l := by
  unfold grad msq
  pointwise [val_main_v54, val_main_v52, val_main_v45, val_main_v44, val_main_v38, val_main_v33, val_main_v26, val_main_v32, val_main_v21, val_main_v20, val_main_cst_3, val_main_v1, val_main_v37, val_main_v17, val_main_v3, val_main_v43, val_main_v11, val_main_v10, val_main_v8, val_main_v6, val_main_v5, val_main_v4, val_main_cst, val_main_v7, val_main_cst_0, val_main_v9, val_main_cst_1, val_main_v51, val_main_v50, val_main_v49, val_main_v48, val_main_v46, val_main_v42, val_main_v41, val_main_v40, val_main_cst_8, val_main_v14, val_main_v13, val_main_cst_2, val_main_v12, val_main_v47, val_main_cst_9, val_main_cst_10, val_main_v53]
  simp

theorem v58_at (l : Fin 2048) : val_main_v58 x0 x1 x3 (ix2 0 l) = ∑ R : Fin 8192, x1 (ix2 R l) := by
  pointwise [val_main_v58, val_main_v57, val_main_v28, val_main_v27, val_main_v26, val_main_cst_4, val_main_v31, val_main_v30, val_main_v29, val_main_v19, val_main_v16, val_main_v15, val_main_v11, val_main_v10, val_main_v8, val_main_v6, val_main_v5, val_main_v4, val_main_cst, val_main_v7, val_main_cst_0, val_main_v9, val_main_cst_1, val_main_v18, val_main_v17, val_main_v3, val_main_cst_5, val_main_v56, val_main_cst_11]

theorem v59_at (l : Fin 2048) : val_main_v59 x0 x1 x3 (ix2 0 l)
    = ∑ R : Fin 8192, x0 (ix2 R l) * Ideal.rsqrt (msq fun l => x0 (ix2 R l)) * x3 (ix2 0 l) * x1 (ix2 R l) := by
  unfold msq
  pointwise [val_main_v59, val_main_v57, val_main_v28, val_main_v27, val_main_v26, val_main_cst_4, val_main_v31, val_main_v30, val_main_v29, val_main_v19, val_main_v16, val_main_v15, val_main_v11, val_main_v10, val_main_v8, val_main_v6, val_main_v5, val_main_v4, val_main_cst, val_main_v7, val_main_cst_0, val_main_v9, val_main_cst_1, val_main_v18, val_main_v17, val_main_v3, val_main_cst_5, val_main_v56, val_main_cst_11]

theorem v55_at (l : Fin 2048) : val_main_v55 x0 x1 x4 (ix2 0 l)
    = ∑ R : Fin 8192, x0 (ix2 R l) * Ideal.rsqrt (msq fun l => x0 (ix2 R l)) * (x1 (ix2 R l) * (1 + x4 (ix2 0 ⟨2048 + l.val, by omega⟩))) := by
  unfold msq
  pointwise [val_main_v55, val_main_v39, val_main_v36, val_main_v35, val_main_v34, val_main_v16, val_main_v15, val_main_v11, val_main_v10, val_main_v8, val_main_v6, val_main_v5, val_main_v4, val_main_cst, val_main_v7, val_main_cst_0, val_main_v9, val_main_cst_1, val_main_v33, val_main_v26, val_main_v32, val_main_v21, val_main_v20, val_main_cst_3, val_main_v1, val_main_cst_6, val_main_cst_7]
  simp

end Cert.NormRefIdeal.Rows
-- ==== Proof.NormEq.lean ====
/-
  The two ways of writing the norm's gradients agree on finite arguments: every quantity is a real number there, the
  mean of squares plus the small constant is positive, and the equation is one of the reals.
-/
module

public import proofs.«01_k».proof.Proof.NormRef

@[expose] public section

set_option maxRecDepth 16384

noncomputable section

open Idealize.ShloMosaic Idealize.ShloMosaic.TcCoe Idealize.SL.Sem

namespace Cert.NormEq

open Cert.Finite

/-- A row's mean of squares plus the small constant, over the reals, and the scale it gives. -/
def qq (X : Fin 2048 → ℝ) : ℝ := (∑ k, X k * X k) / 2048 + eps
def rr (X : Fin 2048 → ℝ) : ℝ := (√(qq X))⁻¹

theorem qq_pos (X : Fin 2048 → ℝ) : 0 < qq X :=
  add_pos_of_nonneg_of_pos (div_nonneg (Finset.sum_nonneg fun k _ => mul_self_nonneg _) (by norm_num)) eps_pos

theorem msq_coe (X : Fin 2048 → ℝ) : Cert.NormRefIdeal.Rows.msq (fun l => ((X l : ℝ) : EReal)) = ((qq X : ℝ) : EReal) := by
  unfold Cert.NormRefIdeal.Rows.msq qq
  simp only [← EReal.coe_mul]
  rw [coe_sum, ofBits_2048, ofBits_eps, div_coe _ _ (by norm_num), ← EReal.coe_add]

theorem rsqrt_msq (X : Fin 2048 → ℝ) :
    Ideal.rsqrt (Cert.NormRefIdeal.Rows.msq (fun l => ((X l : ℝ) : EReal))) = ((rr X : ℝ) : EReal) := by
  rw [msq_coe, rsqrt_coe_pos _ (qq_pos X), rr]

theorem rstd_coe (X : Fin 2048 → ℝ) : Cert.NormIdeal.Rows.rstd (fun l => ((X l : ℝ) : EReal)) = ((rr X : ℝ) : EReal) :=
  rsqrt_msq X

theorem rr_div (X : Fin 2048 → ℝ) : rr X / qq X = rr X * rr X * rr X := by
  have h := Real.mul_self_sqrt (qq_pos X).le
  have hp := Real.sqrt_pos.2 (qq_pos X)
  unfold rr
  rw [div_eq_mul_inv]
  nth_rw 2 [← h]
  rw [mul_inv]
  ring

theorem grad_eq (X D N M : Fin 2048 → ℝ) (v : EReal) (l : Fin 2048) :
    Cert.NormIdeal.Rows.grad (fun l => ((X l : ℝ) : EReal)) (fun l => ((D l : ℝ) : EReal)) (fun l => ((N l : ℝ) : EReal) * (Ideal.ofBits .f32 0x3F800000#32 + ((M l : ℝ) : EReal))) v l
      = Cert.NormRefIdeal.Rows.grad (fun l => ((X l : ℝ) : EReal)) (fun l => ((D l : ℝ) : EReal)) (fun l => ((N l : ℝ) : EReal)) (fun l => ((M l : ℝ) : EReal)) v l := by
  unfold Cert.NormIdeal.Rows.grad Cert.NormRefIdeal.Rows.grad
  dsimp only
  rw [rstd_coe, rsqrt_msq, msq_coe, ofBits_one, ofBits_2048, ofBits_neg_half, div_coe _ _ (qq_pos X).ne']
  have h1 : (1 : EReal) = ((1 : ℝ) : EReal) := EReal.coe_one.symm
  rw [h1]
  simp only [← EReal.coe_mul, ← EReal.coe_add]
  rw [coe_sum, coe_sum]
  simp only [← EReal.coe_mul, ← EReal.coe_sub, div_coe _ (2048 : ℝ) (by norm_num)]
  rw [add_assoc, add_assoc, ← EReal.coe_add, ← EReal.coe_add]
  congr 2
  rw [rr_div]
  have e : ∑ k, D k * (N k * (1 + M k)) * (X k * rr X) = (∑ k, X k * (D k * (1 + M k) * N k)) * rr X := by
    rw [Finset.sum_mul]
    exact Finset.sum_congr rfl fun k _ => by ring
  rw [e]
  ring

section Arrays

open Cert.NormIdeal Cert.NormIdeal.Gen Cert.NormIdeal.Rows Cert.NormRefIdeal.Read

variable (m : (ℓ : Loc nD τ sig) → Buf (Elt Ideal) ℓ) (c : Dev nD)
  (X : S8192x2048.Idx → ℝ) (D : S8192x2048.Idx → ℝ) (N : S1x2048.Idx → ℝ) (M : S1x6144.Idx → ℝ)
  (hX : aX m c = fun i => ((X i : ℝ) : EReal)) (hD : aD m c = fun i => ((D i : ℝ) : EReal))
  (hN : aN m c = fun i => ((N i : ℝ) : EReal)) (hM : aM m c = fun i => ((M i : ℝ) : EReal))

include hX hD hN hM in
theorem eq_x : gx m c = val_main_v54 (aX m c) (aD m c) (aG m c) (aN m c) (aM m c) := by
  funext i
  obtain ⟨R, l, rfl⟩ : ∃ (R : Fin 8192) (l : Fin 2048), i = ix2 R l := ⟨i 0, i 1, by blk_ext⟩
  refine Eq.trans ?_ (Cert.NormRefIdeal.Rows.v54_at (aX m c) (aD m c) (aG m c) (aN m c) (aM m c) R l).symm
  unfold gx fac
  rw [hX, hD, hN, hM]
  exact grad_eq (fun l => X (ix2 R l)) (fun l => D (ix2 R l)) (fun l => N (ix2 0 l)) (fun l => M (ix2 0 ⟨2048 + l.val, by omega⟩)) (aG m c (ix2 R l)) l

/-- The grid's points and a block's rows together are the array's rows. -/
theorem rows_sum (f : Fin 8192 → EReal) :
    ∑ t : Fin cfg0.N, ∑ r : Fin 512, f ⟨512 * t.val + r.val, row_lt t r⟩ = ∑ R : Fin 8192, f R :=
  Fin.sum_mul_add_congr (S := 16) (n := 512) (fun s k hl => congrArg f (Fin.ext (by simp [Nat.mul_comm])))

theorem eq_shift : (fun j : S1x2048.Idx => ∑ t : Fin cfg0.N, tot (iblk m c 1 t) (j 1)) = val_main_v58 (aX m c) (aD m c) (aN m c) := by
  funext j
  obtain ⟨l, rfl⟩ : ∃ l : Fin 2048, j = ix2 0 l := ⟨j 1, by blk_ext⟩
  refine Eq.trans ?_ (Cert.NormRefIdeal.Rows.v58_at (aX m c) (aD m c) (aN m c) l).symm
  exact (Finset.sum_congr rfl fun t _ => tot1 m c t l).trans (rows_sum fun R => aD m c (ix2 R l))

include hX hD in
/-- One block's column sum of `dh` times the normalised row is real. -/
theorem tot2_coe (t : Fin cfg0.N) (l : Fin 2048) : tot (dxn (iblk m c 0 t) (iblk m c 1 t)) l
    = ((∑ r : Fin 512, D (ix2 ⟨512 * t.val + r.val, row_lt t r⟩ l) * (X (ix2 ⟨512 * t.val + r.val, row_lt t r⟩ l) * rr fun l => X (ix2 ⟨512 * t.val + r.val, row_lt t r⟩ l)) : ℝ) : EReal) := by
  rw [tot2, ← coe_sum]
  refine Finset.sum_congr rfl fun r _ => ?_
  unfold aDX
  rw [hX, hD, rstd_coe (fun l => X (ix2 ⟨512 * t.val + r.val, row_lt t r⟩ l)), ← EReal.coe_mul, ← EReal.coe_mul]

theorem rows_sum_real (f : Fin 8192 → ℝ) :
    ∑ t : Fin cfg0.N, ∑ r : Fin 512, f ⟨512 * t.val + r.val, row_lt t r⟩ = ∑ R : Fin 8192, f R :=
  Fin.sum_mul_add_congr (S := 16) (n := 512) (fun s k hl => congrArg f (Fin.ext (by simp [Nat.mul_comm])))

include hX hD hN in
theorem eq_scale : (fun j : S1x2048.Idx => ∑ t : Fin cfg0.N, tot (dxn (iblk m c 0 t) (iblk m c 1 t)) (j 1) * iblk m c 3 t j)
    = val_main_v59 (aX m c) (aD m c) (aN m c) := by
  funext j
  obtain ⟨l, rfl⟩ : ∃ l : Fin 2048, j = ix2 0 l := ⟨j 1, by blk_ext⟩
  refine Eq.trans ?_ (Cert.NormRefIdeal.Rows.v59_at (aX m c) (aD m c) (aN m c) l).symm
  have h : ∀ t : Fin cfg0.N, tot (dxn (iblk m c 0 t) (iblk m c 1 t)) l * iblk m c 3 t (ix2 0 l)
      = (((∑ r : Fin 512, D (ix2 ⟨512 * t.val + r.val, row_lt t r⟩ l) * (X (ix2 ⟨512 * t.val + r.val, row_lt t r⟩ l) * rr fun l => X (ix2 ⟨512 * t.val + r.val, row_lt t r⟩ l))) * N (ix2 0 l) : ℝ) : EReal) := fun t => by
    rw [tot2_coe m c X D hX hD, blk3, hN, EReal.coe_mul]
  refine (Finset.sum_congr rfl fun t _ => h t).trans ?_
  rw [coe_sum, ← Finset.sum_mul, rows_sum_real (fun R => D (ix2 R l) * (X (ix2 R l) * rr fun l => X (ix2 R l)))]
  rw [hX, hD, hN, Finset.sum_mul, ← coe_sum]
  refine Finset.sum_congr rfl fun R _ => ?_
  rw [rsqrt_msq (fun l => X (ix2 R l))]
  simp only [← EReal.coe_mul]
  congr 1
  ring

include hX hD hM in
theorem eq_gain : (fun j : S1x2048.Idx => ∑ t : Fin cfg0.N, tot (dxn (iblk m c 0 t) (iblk m c 1 t)) (j 1) * sc1 (iblk m c 4 t) (j 1))
    = val_main_v55 (aX m c) (aD m c) (aM m c) := by
  funext j
  obtain ⟨l, rfl⟩ : ∃ l : Fin 2048, j = ix2 0 l := ⟨j 1, by blk_ext⟩
  refine Eq.trans ?_ (Cert.NormRefIdeal.Rows.v55_at (aX m c) (aD m c) (aM m c) l).symm
  have h : ∀ t : Fin cfg0.N, tot (dxn (iblk m c 0 t) (iblk m c 1 t)) l * sc1 (iblk m c 4 t) l
      = (((∑ r : Fin 512, D (ix2 ⟨512 * t.val + r.val, row_lt t r⟩ l) * (X (ix2 ⟨512 * t.val + r.val, row_lt t r⟩ l) * rr fun l => X (ix2 ⟨512 * t.val + r.val, row_lt t r⟩ l))) * (1 + M (ix2 0 ⟨2048 + l.val, by omega⟩)) : ℝ) : EReal) := fun t => by
    unfold sc1
    rw [tot2_coe m c X D hX hD, blk4, hM, ofBits_one, EReal.coe_mul, EReal.coe_add]
  refine (Finset.sum_congr rfl fun t _ => h t).trans ?_
  rw [coe_sum, ← Finset.sum_mul, rows_sum_real (fun R => D (ix2 R l) * (X (ix2 R l) * rr fun l => X (ix2 R l)))]
  rw [hX, hD, hM, Finset.sum_mul, ← coe_sum]
  refine Finset.sum_congr rfl fun R _ => ?_
  rw [rsqrt_msq (fun l => X (ix2 R l)), ← EReal.coe_one]
  simp only [← EReal.coe_mul, ← EReal.coe_add]
  congr 1
  ring

end Arrays

end Cert.NormEq
-- ==== Proof.NormClaim.lean ====
/-
  The claims about the norm's gradients: the reference's frame, and the equation of the results on finite arguments.
-/
module

public import proofs.«01_k».proof.Defs
public import proofs.«01_k».proof.Proof.NormEq
public import proofs.«01_k».proof.Proof.Gen.Pre_finite_norm
public import Idealize.ShloMosaic.Lib.Quiescent

@[expose] public section

set_option maxRecDepth 16384

noncomputable section

open Idealize.ShloMosaic Idealize.ShloMosaic.TcCoe Idealize.SL.Sem

namespace Cert.NormClaim

open Cert.NormIdeal Cert.NormIdeal.Gen Cert.NormIdeal.Rows

theorem frame_ref : Cert.quiescent_NormRefIdeal := fun m ρ _ =>
  (θ_run (Cert.NormRefIdeal.defs (F := Ideal)) _ _).mono
    (fun r h => ⟨fun c => (h c).2.2.2.2, sem_eq_zero_of_no_sems (by decide) r.2⟩)
    (Cert.NormRefIdeal.Value.run (F := Ideal) m ρ)

/-- The sums over the grid's points that the last three results hold. -/
def resShift (m : (ℓ : Loc nD τ sig) → Buf (Elt Ideal) ℓ) (c : Dev nD) (j : S1x2048.Idx) : EReal :=
  ∑ t : Fin cfg0.N, tot (iblk m c 1 t) (j 1)
def resScale (m : (ℓ : Loc nD τ sig) → Buf (Elt Ideal) ℓ) (c : Dev nD) (j : S1x2048.Idx) : EReal :=
  ∑ t : Fin cfg0.N, tot (dxn (iblk m c 0 t) (iblk m c 1 t)) (j 1) * iblk m c 3 t j
def resGain (m : (ℓ : Loc nD τ sig) → Buf (Elt Ideal) ℓ) (c : Dev nD) (j : S1x2048.Idx) : EReal :=
  ∑ t : Fin cfg0.N, tot (dxn (iblk m c 0 t) (iblk m c 1 t)) (j 1) * sc1 (iblk m c 4 t) (j 1)

/-- The precondition read back: the four arrays it names hold reals. -/
theorem reals (m : (ℓ : Loc nD τ sig) → Buf (Elt Ideal) ℓ) (h : Cert.Pre_NormIdeal_finite_norm m) (c : Dev nD) :
    (∃ X : S8192x2048.Idx → ℝ, aX m c = fun i => ((X i : ℝ) : EReal)) ∧ (∃ D : S8192x2048.Idx → ℝ, aD m c = fun i => ((D i : ℝ) : EReal))
    ∧ (∃ N : S1x2048.Idx → ℝ, aN m c = fun i => ((N i : ℝ) : EReal)) ∧ (∃ M : S1x6144.Idx → ℝ, aM m c = fun i => ((M i : ℝ) : EReal)) := by
  have e := congrFun (h c) ix0
  unfold Cert.Pre_finite_norm.fn Cert.Pre_finite_norm.fn_part1 at e
  dsimp only at e
  obtain ⟨e, e4⟩ := IntOp.andi_eq_one.1 e
  obtain ⟨e, e3⟩ := IntOp.andi_eq_one.1 e
  obtain ⟨e1, e2⟩ := IntOp.andi_eq_one.1 e
  exact ⟨Cert.Finite.reals _ _ _ _ _ _ e1, Cert.Finite.reals (S := S8192x2048) _ _ _ _ _ _ e2, Cert.Finite.reals _ _ _ _ _ _ e3, Cert.Finite.reals _ _ _ _ _ _ e4⟩

theorem algebraic : Cert.algebraic_NormIdeal_NormRefIdeal_pre_finite_norm := by
  intro m g m' g' hpre hag
  refine ⟨fun c => gx m c, fun c => resShift m c, fun c => resScale m c, fun c => resGain m c, ?_, ?_⟩
  · refine (θ_run defs _ _).mono (fun r h c => ?_) (Cert.NormIdeal.Value.run_blocks m g)
    obtain ⟨h5, h6, h7, h8, h⟩ := h c
    exact ⟨h5.trans (final5 m c), h6.trans (final6 m c), h7.trans (final7 m c), h8.trans (final8 m c), h⟩
  · refine (θ_run Cert.NormRefIdeal.defs _ _).mono (fun r h c => ?_) (Cert.NormRefIdeal.Value.run (F := Ideal) m' g')
    obtain ⟨h5, h6, h7, h8, h⟩ := h c
    obtain ⟨⟨X, hX⟩, ⟨D, hD⟩, ⟨N, hN⟩, M, hM⟩ := reals m hpre c
    obtain ⟨a0, a1, a2, a3, a4⟩ := hag c
    refine ⟨h5.trans ?_, h6.trans ?_, h7.trans ?_, h8.trans ?_, h⟩
    · rw [Cert.NormRefIdeal.Read.val_main_v54_eq, a0, a1, a2, a3, a4]
      exact (Cert.NormEq.eq_x m c X D N M hX hD hN hM).symm
    · rw [Cert.NormRefIdeal.Read.val_main_v58_eq, a0, a1, a3]
      exact (Cert.NormEq.eq_shift m c).symm
    · rw [Cert.NormRefIdeal.Read.val_main_v59_eq, a0, a1, a3]
      exact (Cert.NormEq.eq_scale m c X D N hX hD hN).symm
    · rw [Cert.NormRefIdeal.Read.val_main_v55_eq, a0, a1, a4]
      exact (Cert.NormEq.eq_gain m c X D M hX hD hM).symm

end Cert.NormClaim
-- ==== Proof.FlashRun.lean ====
/-
  One point of the attention backward kernel's grid, run on symbolic staging memrefs: at a head's first point (the
  accumulator is cleared before anything is added to it), at a middle point, and at a head's last point (the
  accumulator is written out as the head's query gradient). Each run finds what the body leaves in the accumulator and
  in the two key-side blocks, as functions of what it found.
-/
module

public import proofs.«01_k».proof.Proof.Gen.FlashIdeal.Frame
public import proofs.«01_k».proof.Proof.Gen.FlashIdeal.Skeleton
public import proofs.«01_k».proof.Proof.Gen.FlashIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FlashIdeal.Body

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The word compared with zero to find whether the point is its head's first. -/
abbrev first (i : grid0.Coords) : BitVec 32 :=
  Scalar.extui (Scalar.cmpi .eq (Scalar.subi 3#32 (BitVec.ofNat 32 (i 1).val)) 3#32)

section
variable (c : Dev nD) (i : grid0.Coords)
variable (a2 : Memref sig .tc .vmem S1x8192x256 .bf16) (h2 : a2.IsWhole) (a3 : Memref sig .tc .vmem S1x2048x256 .bf16) (h3 : a3.IsWhole)
variable (a4 : Memref sig .tc .vmem S1x2048x128 .bf16) (h4 : a4.IsWhole) (a5 : Memref sig .tc .vmem S8192x128 .bf16) (h5 : a5.IsWhole)
variable (a6 : Memref sig .tc .vmem S1x8x1024 .f32) (h6 : a6.IsWhole) (a7 : Memref sig .tc .vmem S1x8x1024 .f32) (h7 : a7.IsWhole)
variable (a8 : Memref sig .tc .vmem S1x8192x256 .bf16) (h8 : a8.IsWhole) (a9 : Memref sig .tc .vmem S1x2048x256 .bf16) (h9 : a9.IsWhole)
variable (a10 : Memref sig .tc .vmem S1x2048x128 .bf16) (h10 : a10.IsWhole) (a11 : Memref sig .tc .vmem S8192x256 .f32) (h11 : a11.IsWhole)
variable (f2 : BufTy.Contents (Elt F) a2.view.ty) (f3 : BufTy.Contents (Elt F) a3.view.ty) (f4 : BufTy.Contents (Elt F) a4.view.ty)
variable (f5 : BufTy.Contents (Elt F) a5.view.ty) (f6 : BufTy.Contents (Elt F) a6.view.ty) (f7 : BufTy.Contents (Elt F) a7.view.ty)
variable (f8 : BufTy.Contents (Elt F) a8.view.ty) (f9 : BufTy.Contents (Elt F) a9.view.ty) (f10 : BufTy.Contents (Elt F) a10.view.ty)
variable (f11 : BufTy.Contents (Elt F) a11.view.ty)

/-- The buffers the body holds at every point, each whole at its contents. -/
abbrev Held : sProp 𝕄 :=
  iprop((a2.view.loc (c : Thread nD τ) ↦[a2.view.set]{fullShare} f2) ∗ (a3.view.loc (c : Thread nD τ) ↦[a3.view.set]{fullShare} f3)
    ∗ (a4.view.loc (c : Thread nD τ) ↦[a4.view.set]{fullShare} f4) ∗ (a5.view.loc (c : Thread nD τ) ↦[a5.view.set]{fullShare} f5)
    ∗ (a6.view.loc (c : Thread nD τ) ↦[a6.view.set]{fullShare} f6) ∗ (a7.view.loc (c : Thread nD τ) ↦[a7.view.set]{fullShare} f7)
    ∗ (a9.view.loc (c : Thread nD τ) ↦[a9.view.set]{fullShare} f9) ∗ (a10.view.loc (c : Thread nD τ) ↦[a10.view.set]{fullShare} f10)
    ∗ (a11.view.loc (c : Thread nD τ) ↦[a11.view.set]{fullShare} f11))

/-- The body at the point, on the memrefs. -/
abbrev code : Prog (TpuEff nD τ sig (Elt F) Λ₀ .tc) PUnit :=
  cc0_flash_bwd i a2 h2 a3 h3 a4 h4 a5 h5 a6 h6 a7 h7 a8 h8 a9 h9 a10 h10 a11 h11

/-- A middle point of a head. -/
def runMid (hc1 : ¬ Scalar.cmpi .ne (first i) 0#32 = 1#1) (hc2 : ¬ k0_cond2 i = 1#1) :
    Σ' (L9 : List (View.Piece (Elt F) S1x2048x256 .bf16)) (L10 : List (View.Piece (Elt F) S1x2048x128 .bf16)),
      { L11 : List (View.Piece (Elt F) S8192x256 .f32) // ∀ (E : Set ℕ) (f9 : BufTy.Contents (Elt F) a9.view.ty)
        (f10 : BufTy.Contents (Elt F) a10.view.ty) (K : PUnit → sProp 𝕄),
      iprop(Held c a2 a3 a4 a5 a6 a7 a9 a10 a11 f2 f3 f4 f5 f6 f7 f9 f10 f11
          ∗ (Held c a2 a3 a4 a5 a6 a7 a9 a10 a11 f2 f3 f4 f5 f6 f7 (a9.view.writes (Elt F) f9 L9)
              (a10.view.writes (Elt F) f10 L10) (a11.view.writes (Elt F) f11 L11) -∗ K ⟨⟩))
      ⊢ wp frame (wpE (defs₀ (F := F)) Variants.none c none) E
          (code i a2 h2 a3 h3 a4 h4 a5 h5 a6 h6 a7 h7 a8 h8 a9 h9 a10 h10 a11 h11) K } := by
  refine ⟨?_, ?_, ?_, fun E f9 f10 K => ?run⟩
  case run =>
    unfold Held code
    simp only [cc0_flash_bwd_eq_skeleton]
    unfold cc0_flash_bwd_skel
    iintro ⟨⟨H2, H3, H4, H5, H6, H7, H9, H10, H11⟩, Hk⟩
    sl_exec_parts
    sl_step
    iapply Hk
    sl_close

/-- A head's last point, at which the accumulator is written out. -/
def runLast (hc1 : ¬ Scalar.cmpi .ne (first i) 0#32 = 1#1) (hc2 : k0_cond2 i = 1#1) :
    Σ' (L8 : List (View.Piece (Elt F) S1x8192x256 .bf16)) (L9 : List (View.Piece (Elt F) S1x2048x256 .bf16))
      (L10 : List (View.Piece (Elt F) S1x2048x128 .bf16)),
      { L11 : List (View.Piece (Elt F) S8192x256 .f32) // ∀ (E : Set ℕ) (f8 : BufTy.Contents (Elt F) a8.view.ty)
        (f9 : BufTy.Contents (Elt F) a9.view.ty) (f10 : BufTy.Contents (Elt F) a10.view.ty) (K : PUnit → sProp 𝕄),
      iprop((Held c a2 a3 a4 a5 a6 a7 a9 a10 a11 f2 f3 f4 f5 f6 f7 f9 f10 f11 ∗ (a8.view.loc (c : Thread nD τ) ↦[a8.view.set]{fullShare} f8))
          ∗ ((Held c a2 a3 a4 a5 a6 a7 a9 a10 a11 f2 f3 f4 f5 f6 f7 (a9.view.writes (Elt F) f9 L9)
              (a10.view.writes (Elt F) f10 L10) (a11.view.writes (Elt F) f11 L11)
              ∗ (a8.view.loc (c : Thread nD τ) ↦[a8.view.set]{fullShare} a8.view.writes (Elt F) f8 L8)) -∗ K ⟨⟩))
      ⊢ wp frame (wpE (defs₀ (F := F)) Variants.none c none) E
          (code i a2 h2 a3 h3 a4 h4 a5 h5 a6 h6 a7 h7 a8 h8 a9 h9 a10 h10 a11 h11) K } := by
  refine ⟨?_, ?_, ?_, ?_, fun E f8 f9 f10 K => ?run⟩
  case run =>
    unfold Held code
    simp only [cc0_flash_bwd_eq_skeleton]
    unfold cc0_flash_bwd_skel
    iintro ⟨⟨⟨H2, H3, H4, H5, H6, H7, H9, H10, H11⟩, H8⟩, Hk⟩
    sl_exec_parts
    sl_step
    iapply Hk
    sl_close

/-- A head's first point, which clears the accumulator first. -/
def runFirst (hc1 : Scalar.cmpi .ne (first i) 0#32 = 1#1) (hc2 : ¬ k0_cond2 i = 1#1) :
    Σ' (L9 : List (View.Piece (Elt F) S1x2048x256 .bf16)) (L10 : List (View.Piece (Elt F) S1x2048x128 .bf16)),
      { L11 : List (View.Piece (Elt F) S8192x256 .f32) // ∀ (E : Set ℕ) (f9 : BufTy.Contents (Elt F) a9.view.ty)
        (f10 : BufTy.Contents (Elt F) a10.view.ty) (f11 : BufTy.Contents (Elt F) a11.view.ty) (K : PUnit → sProp 𝕄),
      iprop(Held c a2 a3 a4 a5 a6 a7 a9 a10 a11 f2 f3 f4 f5 f6 f7 f9 f10 f11
          ∗ (Held c a2 a3 a4 a5 a6 a7 a9 a10 a11 f2 f3 f4 f5 f6 f7 (a9.view.writes (Elt F) f9 L9)
              (a10.view.writes (Elt F) f10 L10) (a11.view.writes (Elt F) a11.view.junk L11) -∗ K ⟨⟩))
      ⊢ wp frame (wpE (defs₀ (F := F)) Variants.none c none) E
          (code i a2 h2 a3 h3 a4 h4 a5 h5 a6 h6 a7 h7 a8 h8 a9 h9 a10 h10 a11 h11) K } := by
  refine ⟨?_, ?_, ?_, fun E f9 f10 f11 K => ?run⟩
  case run =>
    unfold Held code
    simp only [cc0_flash_bwd_eq_skeleton]
    unfold cc0_flash_bwd_skel
    iintro ⟨⟨H2, H3, H4, H5, H6, H7, H9, H10, H11⟩, Hk⟩
    sl_exec_parts
    sl_step
    iapply Hk
    sl_close

end
end Cert.FlashIdeal.Body
end
-- ==== Proof.FlashFrame.lean ====
/-
  The attention backward kernel runs to the end and leaves its arguments unchanged. The accumulator is carried from point
  to point of a head: cleared at the head's first point, added to at every point, written out at the last. Between points
  the invariant holds it at the contents the points before left, except before a head's first point, where any contents do.
-/
module

public import proofs.«01_k».proof.Proof.FlashRun
public import Idealize.ShloMosaic.Lib.Claim

@[expose] public section

set_option maxRecDepth 16384

noncomputable section

namespace Cert.FlashIdeal.Body

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Raw contents of a whole memref -/

section
variable (c : Dev nD) {sp : Space} {s : Shape} {e : EltTy} (a : Memref sig .tc sp s e)

/-- A whole memref owned at contents is its buffer held at the raw contents that read them. -/
theorem owns_open (h : a.IsWhole) (X : s.Idx → Elt F e) :
    (owns (c : Thread nD τ) a fullShare X : sProp 𝕄)
      ⊢ (a.view.loc (c : Thread nD τ) ↦[a.view.set]{fullShare} h.unread X) := by
  unfold owns
  iintro ⟨%f, %hf, H⟩
  obtain rfl := h.eq_unread hf
  iexact H

/-- A buffer held at some contents is the memref owned at what they read. -/
theorem owns_close (f : a.view.ty.Contents (Elt F)) (X : s.Idx → Elt F e) (hX : a.view.read (Elt F) f = X) :
    (a.view.loc (c : Thread nD τ) ↦[a.view.set]{fullShare} f : sProp 𝕄) ⊢ owns (c : Thread nD τ) a fullShare X := by
  unfold owns
  iintro H
  iexists _; isplitr
  swap; · iexact H
  ipureintro; exact hX

/-- A buffer held at the pieces a run wrote over it, which cover it, is the memref owned at what those pieces leave. -/
theorem owns_canon (f : a.view.ty.Contents (Elt F)) (L : List (View.Piece (Elt F) s e)) (hL : ∀ y, ∃ p ∈ L, y ∈ p.1.set) :
    (a.view.loc (c : Thread nD τ) ↦[a.view.set]{fullShare} a.view.writes (Elt F) f L : sProp 𝕄)
      ⊢ owns (c : Thread nD τ) a fullShare (View.canon L) :=
  owns_close c a _ _ (View.read_writes_eq_canon _ _ _ hL)

end

/-! ## The points of the grid -/

theorem first_iff : ∀ t : Fin cfg0.N, Scalar.cmpi .ne (first (grid0.coords t)) 0#32 = 1#1 ↔ t.val % 4 = 0 := by
  decide +kernel
theorem last_iff : ∀ t : Fin cfg0.N, k0_cond2 (grid0.coords t) = 1#1 ↔ t.val % 4 = 3 := by
  decide +kernel
theorem idle_iff : ∀ t : Fin cfg0.N, cfg0.idle 6 (cfg0.grid.coords t) = false ↔ t.val % 4 = 3 := by
  decide +kernel

abbrev hs0 (t : Fin cfg0.N) := hstage0_0 ((cfg0.slots t 0).cast nbuf0_0)
abbrev hs1 (t : Fin cfg0.N) := hstage0_1 ((cfg0.slots t 1).cast nbuf0_1)
abbrev hs2 (t : Fin cfg0.N) := hstage0_2 ((cfg0.slots t 2).cast nbuf0_2)
abbrev hs3 (t : Fin cfg0.N) := hstage0_3 ((cfg0.slots t 3).cast nbuf0_3)
abbrev hs4 (t : Fin cfg0.N) := hstage0_4 ((cfg0.slots t 4).cast nbuf0_4)
abbrev hs5 (t : Fin cfg0.N) := hstage0_5 ((cfg0.slots t 5).cast nbuf0_5)
abbrev hs6 (t : Fin cfg0.N) := hstage0_6 ((cfg0.slots t 6).cast nbuf0_6)
abbrev hs7 (t : Fin cfg0.N) := hstage0_7 ((cfg0.slots t 7).cast nbuf0_7)
abbrev hs8 (t : Fin cfg0.N) := hstage0_8 ((cfg0.slots t 8).cast nbuf0_8)
/-- The accumulator. -/
abbrev scM : Memref sig .tc .vmem S8192x256 .f32 := Memref.whole cc0_scratch0
abbrev hsc : scM.IsWhole := Memref.isWhole_whole _

/-! ## What a point leaves -/

section
variable (c : Dev nD) (t : Fin cfg0.N) (G : S8192x256.Idx → Elt F .f32)

/-- The three kinds of point, on the buffers and blocks of point `t`, the accumulator found at `G`. -/
abbrev atFirst (h0 : t.val % 4 = 0) :=
  runFirst c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) scM hsc
      ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t))
    ((first_iff t).2 h0) (fun h => absurd ((last_iff t).1 h) (by omega))
abbrev atMid (h0 : ¬ t.val % 4 = 0) (h3 : ¬ t.val % 4 = 3) :=
  runMid c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) scM hsc
      ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) (hsc.unread G)
    (fun h => h0 ((first_iff t).1 h)) (fun h => h3 ((last_iff t).1 h))
abbrev atLast (h0 : ¬ t.val % 4 = 0) (h3 : t.val % 4 = 3) :=
  runLast c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) scM hsc
      ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) (hsc.unread G)
    (fun h => h0 ((first_iff t).1 h)) ((last_iff t).2 h3)

/-- The query gradient's block a head's last point writes out (anything at the others). -/
def dqOut : S1x8192x256.Idx → Elt F .bf16 :=
  if h3 : t.val % 4 = 3 then View.canon (atLast m c t G (by omega) h3).1 else View.canon []
/-- The key gradient's block the point writes. -/
def dkOut : S1x2048x256.Idx → Elt F .bf16 :=
  if h0 : t.val % 4 = 0 then View.canon (atFirst m c t h0).1
  else if h3 : t.val % 4 = 3 then View.canon (atLast m c t G h0 h3).2.1 else View.canon (atMid m c t G h0 h3).1
/-- The value gradient's block the point writes. -/
def dvOut : S1x2048x128.Idx → Elt F .bf16 :=
  if h0 : t.val % 4 = 0 then View.canon (atFirst m c t h0).2.1
  else if h3 : t.val % 4 = 3 then View.canon (atLast m c t G h0 h3).2.2.1 else View.canon (atMid m c t G h0 h3).2.1
/-- The accumulator as the point leaves it. -/
def accOut : S8192x256.Idx → Elt F .f32 :=
  if h0 : t.val % 4 = 0 then scM.view.read (Elt F) (scM.view.writes (Elt F) scM.view.junk (atFirst m c t h0).2.2.1)
  else if h3 : t.val % 4 = 3 then
    scM.view.read (Elt F) (scM.view.writes (Elt F) (hsc.unread G) (atLast m c t G h0 h3).2.2.2.1)
  else scM.view.read (Elt F) (scM.view.writes (Elt F) (hsc.unread G) (atMid m c t G h0 h3).2.2.1)

/-! The pieces a point writes into an output block cover it. -/

theorem cover_first9 (h0 : t.val % 4 = 0) : ∀ y, ∃ p ∈ (atFirst m c t h0).1, y ∈ p.1.set :=
  View.cover_of_tiledL _ ![1, 1024, 256] (by sl_kernel_rfl)
theorem cover_first10 (h0 : t.val % 4 = 0) : ∀ y, ∃ p ∈ (atFirst m c t h0).2.1, y ∈ p.1.set :=
  View.cover_of_tiledL _ ![1, 1024, 128] (by sl_kernel_rfl)
theorem cover_mid9 (h0 : ¬ t.val % 4 = 0) (h3 : ¬ t.val % 4 = 3) : ∀ y, ∃ p ∈ (atMid m c t G h0 h3).1, y ∈ p.1.set :=
  View.cover_of_tiledL _ ![1, 1024, 256] (by sl_kernel_rfl)
theorem cover_mid10 (h0 : ¬ t.val % 4 = 0) (h3 : ¬ t.val % 4 = 3) : ∀ y, ∃ p ∈ (atMid m c t G h0 h3).2.1, y ∈ p.1.set :=
  View.cover_of_tiledL _ ![1, 1024, 128] (by sl_kernel_rfl)
theorem cover_last8 (h0 : ¬ t.val % 4 = 0) (h3 : t.val % 4 = 3) : ∀ y, ∃ p ∈ (atLast m c t G h0 h3).1, y ∈ p.1.set :=
  View.cover_of_tiledL _ ![1, 8192, 256] (by sl_kernel_rfl)
theorem cover_last9 (h0 : ¬ t.val % 4 = 0) (h3 : t.val % 4 = 3) : ∀ y, ∃ p ∈ (atLast m c t G h0 h3).2.1, y ∈ p.1.set :=
  View.cover_of_tiledL _ ![1, 1024, 256] (by sl_kernel_rfl)
theorem cover_last10 (h0 : ¬ t.val % 4 = 0) (h3 : t.val % 4 = 3) : ∀ y, ∃ p ∈ (atLast m c t G h0 h3).2.2.1, y ∈ p.1.set :=
  View.cover_of_tiledL _ ![1, 1024, 128] (by sl_kernel_rfl)

end

/-- The accumulator before point `n`. -/
def acc (c : Dev nD) : ℕ → S8192x256.Idx → Elt F .f32
  | 0 => View.canon []
  | n + 1 => if h : n < cfg0.N then accOut m c ⟨n, h⟩ (acc c n) else acc c n

theorem acc_succ (c : Dev nD) (t : Fin cfg0.N) : acc m c (t.val + 1) = accOut m c t (acc m c t.val) := by
  rw [acc, dif_pos t.isLt]

/-! ## The pipeline's proof data -/

/-- Before point `n`: the accumulator at what the points before left, unless a head begins; the generator somewhere. -/
def inv (c : Dev nD) (n : ℕ) : sProp 𝕄 :=
  iprop((∃ G, ⌜n % 4 ≠ 0 → G = acc m c n⌝ ∗ owns (c : Thread nD τ) scM fullShare G) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOut m c t (acc m c t.val)
    | ⟨7, _⟩ => dkOut m c t (acc m c t.val)
    | ⟨8, _⟩ => dvOut m c t (acc m c t.val)
    | ⟨_ + 9, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = dqOut m c t (acc m c t.val) := by dsimp only [dats]
theorem after7 : (dats m 0 c).after 7 t = dkOut m c t (acc m c t.val) := by dsimp only [dats]
theorem after8 : (dats m 0 c).after 8 t = dvOut m c t (acc m c t.val) := by dsimp only [dats]
theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem leaves0 : (dats m 0 c).leavesExact 0 t = owns (c : Thread nD τ) (st0_0 t) fullShare ((dats m 0 c).after 0 t) := by
  unfold Dat.leavesExact; rw [show cfg0.idle 0 (cfg0.grid.coords t) = false from rfl]
theorem leaves1 : (dats m 0 c).leavesExact 1 t = owns (c : Thread nD τ) (st0_1 t) fullShare ((dats m 0 c).after 1 t) := by
  unfold Dat.leavesExact; rw [show cfg0.idle 1 (cfg0.grid.coords t) = false from rfl]
theorem leaves2 : (dats m 0 c).leavesExact 2 t = owns (c : Thread nD τ) (st0_2 t) fullShare ((dats m 0 c).after 2 t) := by
  unfold Dat.leavesExact; rw [show cfg0.idle 2 (cfg0.grid.coords t) = false from rfl]
theorem leaves3 : (dats m 0 c).leavesExact 3 t = owns (c : Thread nD τ) (st0_3 t) fullShare ((dats m 0 c).after 3 t) := by
  unfold Dat.leavesExact; rw [show cfg0.idle 3 (cfg0.grid.coords t) = false from rfl]
theorem leaves4 : (dats m 0 c).leavesExact 4 t = owns (c : Thread nD τ) (st0_4 t) fullShare ((dats m 0 c).after 4 t) := by
  unfold Dat.leavesExact; rw [show cfg0.idle 4 (cfg0.grid.coords t) = false from rfl]
theorem leaves5 : (dats m 0 c).leavesExact 5 t = owns (c : Thread nD τ) (st0_5 t) fullShare ((dats m 0 c).after 5 t) := by
  unfold Dat.leavesExact; rw [show cfg0.idle 5 (cfg0.grid.coords t) = false from rfl]
theorem leaves7 : (dats m 0 c).leavesExact 7 t = owns (c : Thread nD τ) (st0_7 t) fullShare ((dats m 0 c).after 7 t) := by
  unfold Dat.leavesExact; rw [show cfg0.idle 7 (cfg0.grid.coords t) = false from rfl]
theorem leaves8 : (dats m 0 c).leavesExact 8 t = owns (c : Thread nD τ) (st0_8 t) fullShare ((dats m 0 c).after 8 t) := by
  unfold Dat.leavesExact; rw [show cfg0.idle 8 (cfg0.grid.coords t) = false from rfl]
theorem leaves6 (h : t.val % 4 = 3) :
    (dats m 0 c).leavesExact 6 t = owns (c : Thread nD τ) (st0_6 t) fullShare ((dats m 0 c).after 6 t) := by
  unfold Dat.leavesExact; rw [(idle_iff t).2 h]
theorem leaves6_idle (h : ¬ t.val % 4 = 3) :
    (dats m 0 c).leavesExact 6 t = iprop(∃ d, owns (c : Thread nD τ) (st0_6 t) fullShare ((dats m 0 c).before 6 t d)) :=
  Dat.leavesExact_idle (dats m 0 c) 6 t (Bool.eq_true_of_not_eq_false fun e => h ((idle_iff t).1 e))
    (Bool.eq_false_iff.2 fun e => h ((flush0_6 t).1 e))

/-! ## The body's triple -/

/-- What the body is called with -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- and what it returns. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1000000 in
theorem sound_first (h0 : t.val % 4 = 0) : bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.succ = inv m c (t.val + 1) from rfl, show (dats m 0 c).Φ t.castSucc = inv m c t.val from rfl,
    leaves0, leaves1, leaves2, leaves3, leaves4, leaves5, leaves6_idle m c t (by omega), leaves7, leaves8, after0, after1, after2, after3, after4, after5, after7, after8]
  unfold inv
  rw [acc_succ]
  unfold dkOut dvOut accOut
  simp only [dif_pos h0]
  iintro ⟨⟨⟨%G, %hG, HS⟩, Hg⟩, Ho, ⟨%d0, H0⟩, ⟨%d1, H1⟩, ⟨%d2, H2⟩, ⟨%d3, H3⟩, ⟨%d4, H4⟩, ⟨%d5, H5⟩, H6, ⟨%d7, H7⟩, ⟨%d8, H8⟩⟩
  ihave H0 := (owns_open c (st0_0 t) (hs0 t) _) $$ H0
  ihave H1 := (owns_open c (st0_1 t) (hs1 t) _) $$ H1
  ihave H2 := (owns_open c (st0_2 t) (hs2 t) _) $$ H2
  ihave H3 := (owns_open c (st0_3 t) (hs3 t) _) $$ H3
  ihave H4 := (owns_open c (st0_4 t) (hs4 t) _) $$ H4
  ihave H5 := (owns_open c (st0_5 t) (hs5 t) _) $$ H5
  ihave H7 := (owns_open c (st0_7 t) (hs7 t) _) $$ H7
  ihave H8 := (owns_open c (st0_8 t) (hs8 t) _) $$ H8
  ihave HS := (owns_open c scM hsc _) $$ HS
  iapply (atFirst m c t h0).2.2.2
  isplitl [H0 H1 H2 H3 H4 H5 H7 H8 HS]
  · unfold Held; iframe
  iintro HH
  unfold Held
  icases HH with ⟨H0, H1, H2, H3, H4, H5, H7, H8, HS⟩
  isplitl [HS Hg]
  · isplitl [HS]
    · iexists _; isplitr
      swap; · iapply (owns_close c scM _ _ rfl); iexact HS
      ipureintro; exact fun _ => rfl
    iexact Hg
  isplitl [Ho]; · iexact Ho
  isplitl [H0]; · iapply (owns_close c (st0_0 t) _ _ ((hs0 t).read_unread _)); iexact H0
  isplitl [H1]; · iapply (owns_close c (st0_1 t) _ _ ((hs1 t).read_unread _)); iexact H1
  isplitl [H2]; · iapply (owns_close c (st0_2 t) _ _ ((hs2 t).read_unread _)); iexact H2
  isplitl [H3]; · iapply (owns_close c (st0_3 t) _ _ ((hs3 t).read_unread _)); iexact H3
  isplitl [H4]; · iapply (owns_close c (st0_4 t) _ _ ((hs4 t).read_unread _)); iexact H4
  isplitl [H5]; · iapply (owns_close c (st0_5 t) _ _ ((hs5 t).read_unread _)); iexact H5
  isplitl [H6]; · iexact H6
  isplitl [H7]; · iapply (owns_canon c (st0_7 t) _ _ (cover_first9 m c t h0)); iexact H7
  iapply (owns_canon c (st0_8 t) _ _ (cover_first10 m c t h0)); iexact H8

set_option maxHeartbeats 1000000 in
theorem sound_mid (h0 : ¬ t.val % 4 = 0) (h3 : ¬ t.val % 4 = 3) : bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.succ = inv m c (t.val + 1) from rfl, show (dats m 0 c).Φ t.castSucc = inv m c t.val from rfl,
    leaves0, leaves1, leaves2, leaves3, leaves4, leaves5, leaves6_idle m c t h3, leaves7, leaves8, after0, after1, after2, after3, after4, after5, after7, after8]
  unfold inv
  rw [acc_succ]
  unfold dkOut dvOut accOut
  simp only [dif_neg h0, dif_neg h3]
  iintro ⟨⟨⟨%G, %hG, HS⟩, Hg⟩, Ho, ⟨%d0, H0⟩, ⟨%d1, H1⟩, ⟨%d2, H2⟩, ⟨%d3, H3⟩, ⟨%d4, H4⟩, ⟨%d5, H5⟩, H6, ⟨%d7, H7⟩, ⟨%d8, H8⟩⟩
  obtain rfl := hG h0
  ihave H0 := (owns_open c (st0_0 t) (hs0 t) _) $$ H0
  ihave H1 := (owns_open c (st0_1 t) (hs1 t) _) $$ H1
  ihave H2 := (owns_open c (st0_2 t) (hs2 t) _) $$ H2
  ihave H3 := (owns_open c (st0_3 t) (hs3 t) _) $$ H3
  ihave H4 := (owns_open c (st0_4 t) (hs4 t) _) $$ H4
  ihave H5 := (owns_open c (st0_5 t) (hs5 t) _) $$ H5
  ihave H7 := (owns_open c (st0_7 t) (hs7 t) _) $$ H7
  ihave H8 := (owns_open c (st0_8 t) (hs8 t) _) $$ H8
  ihave HS := (owns_open c scM hsc _) $$ HS
  iapply (atMid m c t (acc m c t.val) h0 h3).2.2.2
  isplitl [H0 H1 H2 H3 H4 H5 H7 H8 HS]
  · unfold Held; iframe
  iintro HH
  unfold Held
  icases HH with ⟨H0, H1, H2, H3, H4, H5, H7, H8, HS⟩
  isplitl [HS Hg]
  · isplitl [HS]
    · iexists _; isplitr
      swap; · iapply (owns_close c scM _ _ rfl); iexact HS
      ipureintro; exact fun _ => rfl
    iexact Hg
  isplitl [Ho]; · iexact Ho
  isplitl [H0]; · iapply (owns_close c (st0_0 t) _ _ ((hs0 t).read_unread _)); iexact H0
  isplitl [H1]; · iapply (owns_close c (st0_1 t) _ _ ((hs1 t).read_unread _)); iexact H1
  isplitl [H2]; · iapply (owns_close c (st0_2 t) _ _ ((hs2 t).read_unread _)); iexact H2
  isplitl [H3]; · iapply (owns_close c (st0_3 t) _ _ ((hs3 t).read_unread _)); iexact H3
  isplitl [H4]; · iapply (owns_close c (st0_4 t) _ _ ((hs4 t).read_unread _)); iexact H4
  isplitl [H5]; · iapply (owns_close c (st0_5 t) _ _ ((hs5 t).read_unread _)); iexact H5
  isplitl [H6]; · iexact H6
  isplitl [H7]; · iapply (owns_canon c (st0_7 t) _ _ (cover_mid9 m c t _ h0 h3)); iexact H7
  iapply (owns_canon c (st0_8 t) _ _ (cover_mid10 m c t _ h0 h3)); iexact H8

set_option maxHeartbeats 1000000 in
theorem sound_last (h0 : ¬ t.val % 4 = 0) (h3 : t.val % 4 = 3) : bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.succ = inv m c (t.val + 1) from rfl, show (dats m 0 c).Φ t.castSucc = inv m c t.val from rfl,
    leaves0, leaves1, leaves2, leaves3, leaves4, leaves5, leaves6 m c t h3, leaves7, leaves8, after0, after1, after2, after3, after4, after5, after6, after7, after8]
  unfold inv
  rw [acc_succ]
  unfold dkOut dvOut accOut dqOut
  simp only [dif_neg h0, dif_pos h3]
  iintro ⟨⟨⟨%G, %hG, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hG h0
  ihave H0 := (owns_open c (st0_0 t) (hs0 t) _) $$ H0
  ihave H1 := (owns_open c (st0_1 t) (hs1 t) _) $$ H1
  ihave H2 := (owns_open c (st0_2 t) (hs2 t) _) $$ H2
  ihave H3 := (owns_open c (st0_3 t) (hs3 t) _) $$ H3
  ihave H4 := (owns_open c (st0_4 t) (hs4 t) _) $$ H4
  ihave H5 := (owns_open c (st0_5 t) (hs5 t) _) $$ H5
  ihave H6 := (owns_open c (st0_6 t) (hs6 t) _) $$ H6
  ihave H7 := (owns_open c (st0_7 t) (hs7 t) _) $$ H7
  ihave H8 := (owns_open c (st0_8 t) (hs8 t) _) $$ H8
  ihave HS := (owns_open c scM hsc _) $$ HS
  iapply (atLast m c t (acc m c t.val) h0 h3).2.2.2.2
  isplitl [H0 H1 H2 H3 H4 H5 H7 H8 HS H6]
  · isplitr [H6]
    · unfold Held; iframe
    · iexact H6
  iintro ⟨HH, H6⟩
  unfold Held
  icases HH with ⟨H0, H1, H2, H3, H4, H5, H7, H8, HS⟩
  isplitl [HS Hg]
  · isplitl [HS]
    · iexists _; isplitr
      swap; · iapply (owns_close c scM _ _ rfl); iexact HS
      ipureintro; exact fun _ => rfl
    iexact Hg
  isplitl [Ho]; · iexact Ho
  isplitl [H0]; · iapply (owns_close c (st0_0 t) _ _ ((hs0 t).read_unread _)); iexact H0
  isplitl [H1]; · iapply (owns_close c (st0_1 t) _ _ ((hs1 t).read_unread _)); iexact H1
  isplitl [H2]; · iapply (owns_close c (st0_2 t) _ _ ((hs2 t).read_unread _)); iexact H2
  isplitl [H3]; · iapply (owns_close c (st0_3 t) _ _ ((hs3 t).read_unread _)); iexact H3
  isplitl [H4]; · iapply (owns_close c (st0_4 t) _ _ ((hs4 t).read_unread _)); iexact H4
  isplitl [H5]; · iapply (owns_close c (st0_5 t) _ _ ((hs5 t).read_unread _)); iexact H5
  isplitl [H6]; · iapply (owns_canon c (st0_6 t) _ _ (cover_last8 m c t _ h0 h3)); iexact H6
  isplitl [H7]; · iapply (owns_canon c (st0_7 t) _ _ (cover_last9 m c t _ h0 h3)); iexact H7
  iapply (owns_canon c (st0_8 t) _ _ (cover_last10 m c t _ h0 h3)); iexact H8

theorem sound_body : bodyPre m c t ⊢ wp frame (wpE (defs₀ (F := F)) Variants.none c none) Set.univ (bodyAt0 t) (fun _ => bodyPost m c t) := by
  by_cases h0 : t.val % 4 = 0
  · exact sound_first m c t h0
  by_cases h3 : t.val % 4 = 3
  · exact sound_last m c t h0 h3
  exact sound_mid m c t h0 h3

end

/-! ## The launch -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over: the accumulator at some contents, the generator somewhere. -/
theorem handed (c : Dev nD) :
    (Pipeline.ΦA spec0 c : sProp 𝕄) = iprop((∃ G, owns (c : Thread nD τ) scM fullShare G) ∗ ∃ r, prngReg c r) := by
  unfold Pipeline.ΦA; rw [scopedRest0_eq]; simp only [scM, owns_whole]; try rfl

theorem hin (c : Dev nD) : Pipeline.ΦA spec0 c ⊢ (dats m 0 c).Φ 0 := by
  rw [show (dats m 0 c).Φ 0 = inv m c 0 from rfl, handed]
  unfold inv
  iintro ⟨⟨%G, HS⟩, Hg⟩
  isplitl [HS]
  · iexists G; isplitr
    swap; · iexact HS
    ipureintro; exact fun h => absurd rfl h
  iexact Hg

theorem hout (c : Dev nD) : (dats m 0 c).Φ (Fin.last cfg0.N) ⊢ Pipeline.ΦA spec0 c := by
  rw [show (dats m 0 c).Φ (Fin.last cfg0.N) = inv m c cfg0.N from rfl, handed]
  unfold inv
  iintro ⟨⟨%G, %hG, HS⟩, Hg⟩
  isplitl [HS]
  · iexists G; iexact HS
  iexact Hg

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends with the argument arrays unchanged and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FlashIdeal.Body

end
-- ==== Proof.FlashBits.lean ====
/-
  The attention backward kernel's frame on the machine's own words. Its text differs from the idealized program's in the
  two places where the idealized one names a constant, so a reading of names as the words they stand for makes the two the
  same program, and the frame proved once serves both.
-/
module

public import proofs.«01_k».proof.Defs
public import proofs.«01_k».proof.Proof.FlashFrame
public import proofs.«01_k».proof.Proof.Gen.Flash

@[expose] public section

set_option maxRecDepth 16384

noncomputable section

open Idealize.ShloMosaic Idealize.ShloMosaic.TcCoe Idealize.ShloMosaic.Tactic Idealize.SL.Sem

namespace Cert.FlashBits

/-- A name read as the word it was printed from. -/
local instance wordsNamed : Named Bits where
  named _ _ {φ} b := FloatOps.ofBits φ b

theorem main_eq : Cert.Flash.main (F := Bits) = Cert.FlashIdeal.main (F := Bits) := by sl_kernel_rfl

theorem defs_eq : Cert.Flash.defs (F := Bits) = Cert.FlashIdeal.defs (F := Bits) := by sl_kernel_rfl

theorem frame : Cert.quiescent_Flash := fun m ρ _ => by
  have h := Cert.FlashIdeal.Body.run_frame (F := Bits) m ρ
  rw [← main_eq, ← defs_eq] at h
  exact h

end Cert.FlashBits
-- ==== Proof.FlashPay.lean ====
module

public import proofs.«01_k».proof.Proof.Gen.FlashIdeal.Skeleton
public import proofs.«01_k».proof.Proof.Finite
public import Idealize.ShloMosaic.Lib.Pipeline.Value
public import proofs.«01_k».proof.Proof.NormRef

@[expose] public section

set_option maxRecDepth 16384

noncomputable section

open Idealize.ShloMosaic Idealize.ShloMosaic.TcCoe Idealize.SL.Sem
open Idealize.ShloMosaic.Tactic

namespace Cert.FlashIdeal.Body

open Cert.FlashIdeal Cert.FlashIdeal.Gen

/-- The rows one block of keys meets: keys and values by their place in the block; queries, incoming gradients,
    log-sums and row sums by their place in the sequence. -/
structure Rows where
  k : ℕ → Fin 256 → EReal
  v : ℕ → Fin 128 → EReal
  q : ℕ → Fin 256 → EReal
  d : ℕ → Fin 128 → EReal
  l : ℕ → EReal
  e : ℕ → EReal

/-- The probability of key `a` at query `n`, without the mask. -/
def Rows.pw (R : Rows) (a n : ℕ) : EReal := FloatOps.exp2 (F := Ideal) (φ := .f32) (∑ x, R.k a x * R.q n x - R.l n)

/-- The gradient of the score of key `a` at query `n`, without the mask. -/
def Rows.ww (R : Rows) (a n : ℕ) : EReal := R.pw a n * (∑ x, R.v a x * R.d n x - R.e n)

/-- The probability, zero where the query stands before the key; the block's first key has place `J`. -/
def Rows.pm (R : Rows) (J a n : ℕ) : EReal := if J + a ≤ n then R.pw a n else 0

/-- The gradient of the score, zero where the query stands before the key. -/
def Rows.wm (R : Rows) (J a n : ℕ) : EReal := if J + a ≤ n then R.ww a n else 0

theorem sel (a b : ℕ) (ha : a < 512) (hb : b < 512) (x : EReal) :
    Scalar.select (IntOp.cmpi CmpIPredicate.sle (BitVec.ofNat 32 a) (BitVec.ofNat 32 b)) x 0 = if a ≤ b then x else 0 := by
  have h : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  by_cases hab : a ≤ b
  · simp [Scalar.select, IntOp.cmpi, h, hab]
  · simp [Scalar.select, IntOp.cmpi, h, hab]

/-- A sum over 1024 in two halves. -/
theorem halves (f : ℕ → EReal) : ∑ a : Fin 1024, f a = ∑ a : Fin 512, f a + ∑ a : Fin 512, f (512 + a) := by
  rw [← Finset.sum_range, ← Finset.sum_range, ← Finset.sum_range (fun a => f (512 + a)), ← Finset.sum_range_add]

variable (R : Rows) (J : ℕ)

theorem late_zero (a : ℕ) (ha : 512 ≤ a) (f : ℕ → EReal) : ∑ b : Fin 512, R.wm J a (J + b) * f (J + b) = 0 :=
  Finset.sum_eq_zero fun b _ => by rw [Rows.wm, if_neg (by omega), zero_mul]

theorem late_zero' (a : ℕ) (ha : 512 ≤ a) (f : ℕ → EReal) : ∑ b : Fin 512, R.pm J a (J + b) * f (J + b) = 0 :=
  Finset.sum_eq_zero fun b _ => by rw [Rows.pm, if_neg (by omega), zero_mul]

theorem late_iff (a : Fin 1024) (ha : ¬(a : ℕ) < 512) (b : Fin 512) : ((a : ℕ) - 512 ≤ b) = ((a : ℕ) ≤ 512 + b) := by
  apply propext; omega

section Upper

variable (v6 : Vec Ideal S1x1024x256 .bf16) (v8 : Vec Ideal S1x1024x128 .bf16) (v11 v14 : Vec Ideal S1x1x1024 .f32)
  (v22 v60 : Vec Ideal S1x512x256 .bf16) (v25 v63 : Vec Ideal S512x128 .bf16)
  (h6 : ∀ a d, v6 (ix3 0 a d) = R.k a d) (h8 : ∀ a d, v8 (ix3 0 a d) = R.v a d)
  (h11 : ∀ n, v11 (ix3 0 0 n) = R.l (J + n)) (h14 : ∀ n, v14 (ix3 0 0 n) = R.e (J + n))
  (h22 : ∀ b d, v22 (ix3 0 b d) = R.q (J + b) d) (h25 : ∀ b d, v25 (ix2 b d) = R.d (J + b) d)
  (h60 : ∀ b d, v60 (ix3 0 b d) = R.q (J + (512 + b)) d) (h63 : ∀ b d, v63 (ix2 b d) = R.d (J + (512 + b)) d)
  (v : Vec Ideal S512x256 .f32)

include h6 h8 h11 h14 h22 h25 in
theorem pay20_at (b : Fin 512) (d : Fin 256) :
    k0_pay20 (k0_pay9 v6) (k0_pay10 v8) (k0_pay12 v25) (k0_pay13 v14) (k0_pay14 v6 v11 v22) k0_pay15 v (ix2 b d)
      = v (ix2 b d) + ∑ a : Fin 512, R.wm J a (J + b) * R.k a d := by
  pointwise [k0_pay20, k0_pay9, k0_pay10, k0_pay11, k0_pay12, k0_pay13, k0_pay14, k0_pay15, k0_pay16, k0_pay18, k0_pay5, k0_pay6, k0_pay7, k0_pay8]
  simp only [h6, h8, h11, h14, h22, h25, sel _ _ (Fin.isLt _) (Fin.isLt _), Rows.wm, Rows.ww, Rows.pw, ite_mul, zero_mul, Nat.add_le_add_iff_left]

include h6 h8 h11 h14 h60 h63 in
theorem pay29_at (b : Fin 512) (d : Fin 256) :
    k0_pay29 (k0_pay27 (k0_pay5 v6) (k0_pay6 v8) (k0_pay7 v11) (k0_pay8 v14) v60 v63) v (ix2 b d)
      = v (ix2 b d) + ∑ a : Fin 512, R.wm J a (J + (512 + b)) * R.k a d := by
  pointwise [k0_pay29, k0_pay27, k0_pay26, k0_pay24, k0_pay23, k0_pay22, k0_pay21, k0_pay5, k0_pay6, k0_pay7, k0_pay8]
  have h : ∀ a : Fin 512, J + (a : ℕ) ≤ J + (512 + b) := fun a => by omega
  simp only [h6, h8, h11, h14, h60, h63, h, if_true, Rows.wm, Rows.ww, Rows.pw]

include h6 h8 h11 h14 h60 h63 in
theorem pay38_at (b : Fin 512) (d : Fin 256) :
    k0_pay38 (k0_pay37 (k0_pay5 v6) (k0_pay6 v8) (k0_pay7 v11) (k0_pay8 v14) v60 v63 v) (ix2 b d)
      = v (ix2 b d) + ∑ a : Fin 512, R.wm J (512 + a) (J + (512 + b)) * R.k (512 + a) d := by
  pointwise [k0_pay38, k0_pay37, k0_pay35, k0_pay33, k0_pay32, k0_pay31, k0_pay30, k0_pay5, k0_pay6, k0_pay7, k0_pay8]
  simp only [h6, h8, h11, h14, h60, h63, sel _ _ (Fin.isLt _) (Fin.isLt _), Rows.wm, Rows.ww, Rows.pw, ite_mul, zero_mul, Nat.add_le_add_iff_left]

include h6 h8 h11 h14 h22 h25 h60 h63 in
theorem pay39_at (a : Fin 1024) (d : Fin 256) :
    k0_pay39 (k0_pay19 (k0_pay10 v8) (k0_pay11 v22) (k0_pay12 v25) (k0_pay13 v14) (k0_pay14 v6 v11 v22) k0_pay15)
        (k0_pay28 (k0_pay22 v60) (k0_pay26 (k0_pay5 v6) (k0_pay6 v8) (k0_pay7 v11) (k0_pay8 v14) v60 v63))
        (k0_pay36 (k0_pay5 v6) (k0_pay6 v8) (k0_pay7 v11) (k0_pay8 v14) v60 v63) (ix2 a d)
      = ∑ b : Fin 1024, R.wm J a (J + b) * R.q (J + b) d := by
  rw [halves fun b => R.wm J a (J + b) * R.q (J + b) d]
  pointwise [k0_pay39, k0_pay19, k0_pay28, k0_pay36, k0_pay26, k0_pay24, k0_pay23, k0_pay22, k0_pay21, k0_pay35, k0_pay33, k0_pay32, k0_pay31, k0_pay30, k0_pay9, k0_pay10, k0_pay11, k0_pay12, k0_pay13, k0_pay14, k0_pay15, k0_pay16, k0_pay18, k0_pay5, k0_pay6, k0_pay7, k0_pay8]
  by_cases ha : (a : ℕ) < 512
  · rw [dif_pos ha]
    have h : ∀ b : Fin 512, J + (a : ℕ) ≤ J + (512 + b) := fun b => by omega
    simp only [h6, h8, h11, h14, h22, h25, h60, h63, sel _ _ ha (Fin.isLt _), h, if_true, Rows.wm, Rows.ww, Rows.pw, ite_mul, zero_mul, Nat.add_le_add_iff_left]
  · rw [dif_neg ha, late_zero R J a (by omega) fun n => R.q n d]
    refine Eq.trans ?_ (zero_add _).symm
    have e : 512 + ((a : ℕ) - 512) = a := by omega
    simp only [h6, h8, h11, h14, h22, h25, h60, h63, e, sel _ _ (show (a : ℕ) - 512 < 512 by omega) (Fin.isLt _), late_iff a ha, Rows.wm, Rows.ww, Rows.pw, ite_mul, zero_mul, Nat.add_le_add_iff_left]

include h6 h11 h22 h25 h60 h63 in
theorem pay40_at (a : Fin 1024) (d : Fin 128) :
    k0_pay40 (k0_pay17 (k0_pay12 v25) (k0_pay14 v6 v11 v22) k0_pay15)
        (k0_pay25 (k0_pay5 v6) (k0_pay7 v11) v60 v63) (k0_pay34 (k0_pay5 v6) (k0_pay7 v11) v60 v63) (ix2 a d)
      = ∑ b : Fin 1024, R.pm J a (J + b) * R.d (J + b) d := by
  rw [halves fun b => R.pm J a (J + b) * R.d (J + b) d]
  pointwise [k0_pay40, k0_pay17, k0_pay25, k0_pay34, k0_pay24, k0_pay23, k0_pay22, k0_pay21, k0_pay33, k0_pay32, k0_pay31, k0_pay30, k0_pay11, k0_pay12, k0_pay14, k0_pay15, k0_pay16, k0_pay9, k0_pay5, k0_pay7]
  by_cases ha : (a : ℕ) < 512
  · rw [dif_pos ha]
    have h : ∀ b : Fin 512, J + (a : ℕ) ≤ J + (512 + b) := fun b => by omega
    simp only [h6, h11, h22, h25, h60, h63, sel _ _ ha (Fin.isLt _), h, if_true, Rows.pm, Rows.pw, ite_mul, zero_mul, Nat.add_le_add_iff_left]
  · rw [dif_neg ha, late_zero' R J a (by omega) fun n => R.d n d]
    refine Eq.trans ?_ (zero_add _).symm
    have e : 512 + ((a : ℕ) - 512) = a := by omega
    simp only [h6, h11, h22, h25, h60, h63, e, sel _ _ (show (a : ℕ) - 512 < 512 by omega) (Fin.isLt _), late_iff a ha, Rows.pm, Rows.pw, ite_mul, zero_mul, Nat.add_le_add_iff_left]

end Upper

section Lower

variable (v6 : Vec Ideal S1x1024x256 .bf16) (v8 : Vec Ideal S1x1024x128 .bf16) (v11 v14 : Vec Ideal S1x1x1024 .f32)
  (v22 v60 : Vec Ideal S1x512x256 .bf16) (v25 v63 : Vec Ideal S512x128 .bf16)
  (h6 : ∀ a d, v6 (ix3 0 a d) = R.k a d) (h8 : ∀ a d, v8 (ix3 0 a d) = R.v a d)
  (h11 : ∀ n, v11 (ix3 0 0 n) = R.l (J + n)) (h14 : ∀ n, v14 (ix3 0 0 n) = R.e (J + n))
  (h22 : ∀ b d, v22 (ix3 0 b d) = R.q (J + b) d) (h25 : ∀ b d, v25 (ix2 b d) = R.d (J + b) d)
  (h60 : ∀ b d, v60 (ix3 0 b d) = R.q (J + (512 + b)) d) (h63 : ∀ b d, v63 (ix2 b d) = R.d (J + (512 + b)) d)
  (v : Vec Ideal S512x256 .f32)

include h6 h8 h11 h14 h22 h25 in
theorem pay68_at (b : Fin 512) (d : Fin 256) :
    k0_pay68 (k0_pay57 v6) (k0_pay58 v8) (k0_pay59 v11) v14 v22 v25 v (ix2 b d)
      = v (ix2 b d) + ∑ a : Fin 512, R.wm J a (J + b) * R.k a d := by
  pointwise [k0_pay68, k0_pay66, k0_pay64, k0_pay63, k0_pay62, k0_pay61, k0_pay60, k0_pay59, k0_pay58, k0_pay57]
  simp only [h6, h8, h11, h14, h22, h25, sel _ _ (Fin.isLt _) (Fin.isLt _), Rows.wm, Rows.ww, Rows.pw, ite_mul, zero_mul, Nat.add_le_add_iff_left]

include h6 h8 h11 h14 h60 h63 in
theorem pay76_at (b : Fin 512) (d : Fin 256) :
    k0_pay76 (k0_pay57 v6) (k0_pay58 v8) (k0_pay59 v11) (k0_pay60 v14) v60 v63 v (ix2 b d)
      = v (ix2 b d) + ∑ a : Fin 512, R.wm J a (J + (512 + b)) * R.k a d := by
  pointwise [k0_pay76, k0_pay74, k0_pay72, k0_pay71, k0_pay70, k0_pay69, k0_pay60, k0_pay59, k0_pay58, k0_pay57]
  have h : ∀ a : Fin 512, J + (a : ℕ) ≤ J + (512 + b) := fun a => by omega
  simp only [h6, h8, h11, h14, h60, h63, h, if_true, Rows.wm, Rows.ww, Rows.pw]

include h6 h8 h11 h14 h60 h63 in
theorem pay85_at (b : Fin 512) (d : Fin 256) :
    k0_pay85 (k0_pay77 (k0_pay57 v6)) (k0_pay78 (k0_pay58 v8)) (k0_pay79 v60) (k0_pay80 v63) (k0_pay81 (k0_pay59 v11)) (k0_pay82 (k0_pay60 v14)) v (ix2 b d)
      = v (ix2 b d) + ∑ a : Fin 512, R.wm J (512 + a) (J + (512 + b)) * R.k (512 + a) d := by
  pointwise [k0_pay85, k0_pay84, k0_pay83, k0_pay82, k0_pay81, k0_pay80, k0_pay79, k0_pay78, k0_pay77, k0_pay60, k0_pay59, k0_pay58, k0_pay57]
  simp only [h6, h8, h11, h14, h60, h63, sel _ _ (Fin.isLt _) (Fin.isLt _), Rows.wm, Rows.ww, Rows.pw, ite_mul, zero_mul, Nat.add_le_add_iff_left]

include h6 h8 h11 h14 h22 h25 h60 h63 in
theorem pay86_at (a : Fin 1024) (d : Fin 256) :
    k0_pay86 (k0_pay67 (k0_pay57 v6) (k0_pay58 v8) (k0_pay59 v11) v14 v22 v25)
        (k0_pay75 (k0_pay57 v6) (k0_pay58 v8) (k0_pay59 v11) (k0_pay60 v14) v60 v63)
        (k0_pay77 (k0_pay57 v6)) (k0_pay78 (k0_pay58 v8)) (k0_pay79 v60) (k0_pay80 v63) (k0_pay81 (k0_pay59 v11)) (k0_pay82 (k0_pay60 v14)) (ix2 a d)
      = ∑ b : Fin 1024, R.wm J a (J + b) * R.q (J + b) d := by
  rw [halves fun b => R.wm J a (J + b) * R.q (J + b) d]
  pointwise [k0_pay86, k0_pay84, k0_pay83, k0_pay82, k0_pay81, k0_pay80, k0_pay79, k0_pay78, k0_pay77, k0_pay75, k0_pay74, k0_pay72, k0_pay71, k0_pay70, k0_pay69, k0_pay67, k0_pay66, k0_pay64, k0_pay63, k0_pay62, k0_pay61, k0_pay60, k0_pay59, k0_pay58, k0_pay57]
  by_cases ha : (a : ℕ) < 512
  · rw [dif_pos ha]
    have h : ∀ b : Fin 512, J + (a : ℕ) ≤ J + (512 + b) := fun b => by omega
    simp only [h6, h8, h11, h14, h22, h25, h60, h63, sel _ _ ha (Fin.isLt _), h, if_true, Rows.wm, Rows.ww, Rows.pw, ite_mul, zero_mul, Nat.add_le_add_iff_left]
  · rw [dif_neg ha, late_zero R J a (by omega) fun n => R.q n d]
    refine Eq.trans ?_ (zero_add _).symm
    have e : 512 + ((a : ℕ) - 512) = a := by omega
    simp only [h6, h8, h11, h14, h22, h25, h60, h63, e, sel _ _ (show (a : ℕ) - 512 < 512 by omega) (Fin.isLt _), late_iff a ha, Rows.wm, Rows.ww, Rows.pw, ite_mul, zero_mul, Nat.add_le_add_iff_left]

include h6 h11 h22 h25 h60 h63 in
theorem pay87_at (a : Fin 1024) (d : Fin 128) :
    k0_pay87 (k0_pay65 (k0_pay57 v6) (k0_pay59 v11) v22 v25) (k0_pay73 (k0_pay57 v6) (k0_pay59 v11) v60 v63)
        (k0_pay77 (k0_pay57 v6)) (k0_pay79 v60) (k0_pay80 v63) (k0_pay81 (k0_pay59 v11)) (ix2 a d)
      = ∑ b : Fin 1024, R.pm J a (J + b) * R.d (J + b) d := by
  rw [halves fun b => R.pm J a (J + b) * R.d (J + b) d]
  pointwise [k0_pay87, k0_pay83, k0_pay81, k0_pay80, k0_pay79, k0_pay77, k0_pay73, k0_pay72, k0_pay71, k0_pay70, k0_pay69, k0_pay65, k0_pay64, k0_pay63, k0_pay62, k0_pay61, k0_pay59, k0_pay57]
  by_cases ha : (a : ℕ) < 512
  · rw [dif_pos ha]
    have h : ∀ b : Fin 512, J + (a : ℕ) ≤ J + (512 + b) := fun b => by omega
    simp only [h6, h11, h22, h25, h60, h63, sel _ _ ha (Fin.isLt _), h, if_true, Rows.pm, Rows.pw, ite_mul, zero_mul, Nat.add_le_add_iff_left]
  · rw [dif_neg ha, late_zero' R J a (by omega) fun n => R.d n d]
    refine Eq.trans ?_ (zero_add _).symm
    have e : 512 + ((a : ℕ) - 512) = a := by omega
    simp only [h6, h11, h22, h25, h60, h63, e, sel _ _ (show (a : ℕ) - 512 < 512 by omega) (Fin.isLt _), late_iff a ha, Rows.pm, Rows.pw, ite_mul, zero_mul, Nat.add_le_add_iff_left]

end Lower

section Trip

variable (v7 : FVec Ideal S1024x256 .bf16) (v9 : FVec Ideal S1024x128 .bf16)
  (v296 : Vec Ideal S1x1024x256 .bf16) (v299 : Vec Ideal S1024x128 .bf16) (v302 v305 : Vec Ideal S1x1x1024 .f32)
  (h7 : ∀ a d, v7 (ix2 a d) = R.k a d) (h9 : ∀ a d, v9 (ix2 a d) = R.v a d)
  (hq : ∀ b d, v296 (ix3 0 b d) = R.q (J + b) d) (hd : ∀ b d, v299 (ix2 b d) = R.d (J + b) d)
  (hl : ∀ n, v302 (ix3 0 0 n) = R.l (J + n)) (he : ∀ n, v305 (ix3 0 0 n) = R.e (J + n))
  (u : Vec Ideal S1024x256 .f32) (w : Vec Ideal S1024x128 .f32)

include h7 h9 hq hd hl he in
theorem trip_acc (b : Fin 1024) (d : Fin 256) :
    k0_pay45 v7 v9 v296 v299 v302 v305 u (ix2 b d) = u (ix2 b d) + ∑ a : Fin 1024, R.ww a (J + b) * R.k a d
    ∧ k0_pay92 v7 v9 v296 v299 v302 v305 u (ix2 b d) = u (ix2 b d) + ∑ a : Fin 1024, R.ww a (J + b) * R.k a d := by
  constructor
  · pointwise [k0_pay45, k0_pay44, k0_pay43, k0_pay42, k0_pay41]
    simp only [h7, h9, hq, hd, hl, he, Rows.ww, Rows.pw]
  · pointwise [k0_pay92, k0_pay91, k0_pay90, k0_pay89, k0_pay88]
    simp only [h7, h9, hq, hd, hl, he, Rows.ww, Rows.pw]

include h7 h9 hq hd hl he in
theorem trip_dk (a : Fin 1024) (d : Fin 256) :
    k0_pay46 v7 v9 u v296 v299 v302 v305 (ix2 a d) = u (ix2 a d) + ∑ b : Fin 1024, R.ww a (J + b) * R.q (J + b) d
    ∧ k0_pay93 v7 v9 u v296 v299 v302 v305 (ix2 a d) = u (ix2 a d) + ∑ b : Fin 1024, R.ww a (J + b) * R.q (J + b) d := by
  constructor
  · pointwise [k0_pay46, k0_pay44, k0_pay43, k0_pay42, k0_pay41]
    simp only [h7, h9, hq, hd, hl, he, Rows.ww, Rows.pw]
  · pointwise [k0_pay93, k0_pay91, k0_pay90, k0_pay89, k0_pay88]
    simp only [h7, h9, hq, hd, hl, he, Rows.ww, Rows.pw]

include h7 hq hd hl in
theorem trip_dv (a : Fin 1024) (d : Fin 128) :
    k0_pay47 v7 w v296 v299 v302 (ix2 a d) = w (ix2 a d) + ∑ b : Fin 1024, R.pw a (J + b) * R.d (J + b) d
    ∧ k0_pay94 v7 w v296 v299 v302 (ix2 a d) = w (ix2 a d) + ∑ b : Fin 1024, R.pw a (J + b) * R.d (J + b) d := by
  constructor
  · pointwise [k0_pay47, k0_pay43, k0_pay42, k0_pay41]
    simp only [h7, hq, hd, hl, Rows.pw]
  · pointwise [k0_pay94, k0_pay90, k0_pay89, k0_pay88]
    simp only [h7, hq, hd, hl, Rows.pw]

end Trip

end Cert.FlashIdeal.Body
-- ==== Proof.FlashStep.lean ====
/-
  The steps of one point of the attention backward kernel's grid, in numbers: where each load and store falls, what a
  row-block update does to the accumulator, and what a counted run of row blocks leaves in the accumulator and in the
  two carried gradients.
-/
module

public import proofs.«01_k».proof.Proof.FlashFrame
public import proofs.«01_k».proof.Proof.FlashPay

@[expose] public section

set_option maxRecDepth 16384

noncomputable section

open Idealize.ShloMosaic Idealize.ShloMosaic.TcCoe Idealize.SL.Sem
open Idealize.ShloMosaic.Tactic
open Idealize.ShloMosaic.Pipeline (Dat)

namespace Cert.FlashIdeal.Body

open Cert.FlashIdeal Cert.FlashIdeal.Gen

/-! ### Where the loads and stores fall -/

/-- The row block (of 1024) a point's sub-block of keys stands at. -/
def jj (t : Fin cfg0.N) (s : Fin 2) : ℕ := 6 - 2 * (t.val % 4) + s.val

theorem jj_lt (t : Fin cfg0.N) (s : Fin 2) : jj t s < 8 := by unfold jj; omega

theorem off1_eq : ∀ (t : Fin cfg0.N) (s : Fin 2), k0_off1 (grid0.coords t) (BitVec.ofNat 32 s.val) = ![0, jj t s, 0] := by
  decide +kernel
theorem off2_eq : ∀ (t : Fin cfg0.N) (s x : Fin 2),
    k0_off2 (grid0.coords t) (BitVec.ofNat 32 s.val) (BitVec.ofNat 32 (512 * x.val)) = ![0, 1024 * jj t s + 512 * x.val, 0] := by
  decide +kernel
theorem off3_eq : ∀ (t : Fin cfg0.N) (s x : Fin 2),
    k0_off3 (grid0.coords t) (BitVec.ofNat 32 s.val) (BitVec.ofNat 32 (512 * x.val)) = ![1024 * jj t s + 512 * x.val, 0] := by
  decide +kernel
theorem off4_eq : ∀ (t : Fin cfg0.N) (s x : Fin 2),
    k0_off4 (grid0.coords t) (BitVec.ofNat 32 s.val) (BitVec.ofNat 32 (512 * x.val)) = ![1024 * jj t s + 512 * x.val, 0] := by
  decide +kernel

theorem trips1 : ∀ t : Fin cfg0.N, (k0_t1_loop (grid0.coords t)).trips = 7 - jj t 1 := by decide +kernel
theorem trips2 : ∀ t : Fin cfg0.N, (k0_t2_loop (grid0.coords t)).trips = 0 := by decide +kernel
theorem trips3 : ∀ t : Fin cfg0.N, (k0_t3_loop (grid0.coords t)).trips = 7 - jj t 0 := by decide +kernel
theorem trips4 : ∀ t : Fin cfg0.N, (k0_t4_loop (grid0.coords t)).trips = 0 := by decide +kernel

theorem off5_eq : ∀ (t : Fin cfg0.N) (k : Fin (k0_t1_loop (grid0.coords t)).trips),
    k0_off5 (grid0.coords t) k = ![0, 1024 * jj t 1 + 1024 * (k.val + 1), 0] := by decide +kernel
theorem off6_eq : ∀ (t : Fin cfg0.N) (k : Fin (k0_t1_loop (grid0.coords t)).trips),
    k0_off6 (grid0.coords t) k = ![1024 * jj t 1 + 1024 * (k.val + 1), 0] := by decide +kernel
theorem off7_eq : ∀ (t : Fin cfg0.N) (k : Fin (k0_t1_loop (grid0.coords t)).trips),
    k0_off7 (grid0.coords t) k = ![0, jj t 1 + (k.val + 1), 0] := by decide +kernel
theorem off8_eq : ∀ (t : Fin cfg0.N) (k : Fin (k0_t1_loop (grid0.coords t)).trips),
    k0_off8 (grid0.coords t) k = ![1024 * jj t 1 + 1024 * (k.val + 1), 0] := by decide +kernel
theorem off13_eq : ∀ (t : Fin cfg0.N) (k : Fin (k0_t3_loop (grid0.coords t)).trips),
    k0_off13 (grid0.coords t) k = ![0, 1024 * jj t 0 + 1024 * (k.val + 1), 0] := by decide +kernel
theorem off14_eq : ∀ (t : Fin cfg0.N) (k : Fin (k0_t3_loop (grid0.coords t)).trips),
    k0_off14 (grid0.coords t) k = ![1024 * jj t 0 + 1024 * (k.val + 1), 0] := by decide +kernel
theorem off15_eq : ∀ (t : Fin cfg0.N) (k : Fin (k0_t3_loop (grid0.coords t)).trips),
    k0_off15 (grid0.coords t) k = ![0, jj t 0 + (k.val + 1), 0] := by decide +kernel
theorem off16_eq : ∀ (t : Fin cfg0.N) (k : Fin (k0_t3_loop (grid0.coords t)).trips),
    k0_off16 (grid0.coords t) k = ![1024 * jj t 0 + 1024 * (k.val + 1), 0] := by decide +kernel

/-! ### Rows of the blocks -/

/-- Row `n` of a block of `N` rows (zero past it). -/
def row3 {N D : ℕ} (X : (⟨3, ![1, N, D]⟩ : Shape).Idx → EReal) (n : ℕ) (d : Fin D) : EReal :=
  if h : n < N then X (ix3 0 ⟨n, h⟩ d) else 0

def row2 {N D : ℕ} (X : (⟨2, ![N, D]⟩ : Shape).Idx → EReal) (n : ℕ) (d : Fin D) : EReal :=
  if h : n < N then X (ix2 ⟨n, h⟩ d) else 0

/-- Entry `n` of a sequence laid out in rows of 1024. -/
def lane (X : S1x8x1024.Idx → EReal) (n : ℕ) : EReal := row3 X (n / 1024) ⟨n % 1024, Nat.mod_lt _ (by norm_num)⟩

theorem load3 {N D n lo : ℕ} (X : (⟨3, ![1, N, D]⟩ : Shape).Idx → EReal) (off : Fin 3 → ℕ)
    (inb : ∀ a, off a + (⟨3, ![1, n, D]⟩ : Shape).size a ≤ (⟨3, ![1, N, D]⟩ : Shape).size a) (ho : off = ![0, lo, 0]) (b : Fin n) (d : Fin D) :
    X ((Rect.unit (s := ⟨3, ![1, N, D]⟩) off (⟨3, ![1, n, D]⟩ : Shape).size inb).toLoadRect.idx (ix3 0 b d)) = row3 X (lo + b) d := by
  subst ho
  have h := inb 1
  have h' : lo + n ≤ N := h
  rw [row3, dif_pos (by omega)]
  refine congrArg X (funext fun a => Fin.ext ?_)
  fin_cases a <;> simp [LoadRect.idx, Rect.unit, ix3]

theorem load2 {N D n lo : ℕ} (X : (⟨2, ![N, D]⟩ : Shape).Idx → EReal) (off : Fin 2 → ℕ)
    (inb : ∀ a, off a + (⟨2, ![n, D]⟩ : Shape).size a ≤ (⟨2, ![N, D]⟩ : Shape).size a) (ho : off = ![lo, 0]) (b : Fin n) (d : Fin D) :
    X ((Rect.unit (s := ⟨2, ![N, D]⟩) off (⟨2, ![n, D]⟩ : Shape).size inb).toLoadRect.idx (ix2 b d)) = row2 X (lo + b) d := by
  subst ho
  have h := inb 0
  have h' : lo + n ≤ N := h
  rw [row2, dif_pos (by omega)]
  refine congrArg X (funext fun a => Fin.ext ?_)
  fin_cases a <;> simp [LoadRect.idx, Rect.unit, ix2]

theorem loadLane {lo : ℕ} (X : S1x8x1024.Idx → EReal) (off : Fin 3 → ℕ)
    (inb : ∀ a, off a + S1x1x1024.size a ≤ S1x8x1024.size a) (ho : off = ![0, lo, 0]) (n : Fin 1024) :
    X ((Rect.unit (s := S1x8x1024) off S1x1x1024.size inb).toLoadRect.idx (ix3 0 0 n)) = lane X (1024 * lo + n) := by
  refine (load3 (n := 1) X off inb ho 0 n).trans ?_
  have h1 : (1024 * lo + (n : ℕ)) / 1024 = lo := by omega
  have h2 : (1024 * lo + (n : ℕ)) % 1024 = n := by omega
  simp only [lane, h1, h2, Fin.val_zero, Nat.add_zero]

/-- The rows a point's sub-block `s` of keys meets, out of the point's blocks. -/
def rows (X2 : S1x8192x256.Idx → EReal) (X3 : S1x2048x256.Idx → EReal) (X4 : S1x2048x128.Idx → EReal)
    (X5 : S8192x128.Idx → EReal) (X6 X7 : S1x8x1024.Idx → EReal) (s : ℕ) : Rows where
  k a := row3 X3 (1024 * s + a)
  v a := row3 X4 (1024 * s + a)
  q := row3 X2
  d := row2 X5
  l := lane X6
  e := lane X7

/-! ### What a row-block update does to the accumulator -/

section Push

variable (v : View sig .tc .vmem S8192x256 .f32) (f : v.ty.Contents (Elt Ideal))

theorem read_push {n lo : ℕ} (off : Fin 2 → ℕ) (inb : ∀ a, off a + (⟨2, ![n, 256]⟩ : Shape).size a ≤ S8192x256.size a)
    (ho : off = ![lo, 0]) (w : (⟨2, ![n, 256]⟩ : Shape).Idx → EReal) (L : List (View.Piece (Elt Ideal) S8192x256 .f32)) (E : ℕ → Fin 256 → EReal)
    (hw : ∀ (b : Fin n) (d : Fin 256), w (ix2 b d)
      = v.readAt (Elt Ideal) (Rect.unit (s := S8192x256) off (⟨2, ![n, 256]⟩ : Shape).size inb).toLoadRect (v.writes (Elt Ideal) f L) (ix2 b d) + E (lo + b) d)
    (y : Fin 8192) (d : Fin 256) :
    v.read (Elt Ideal) (v.writes (Elt Ideal) f (⟨Rect.unit (s := S8192x256) off (⟨2, ![n, 256]⟩ : Shape).size inb, w⟩ :: L)) (ix2 y d)
      = v.read (Elt Ideal) (v.writes (Elt Ideal) f L) (ix2 y d) + if lo ≤ y.val ∧ y.val < lo + n then E y d else 0 := by
  subst ho
  by_cases h : lo ≤ y.val ∧ y.val < lo + n
  · have e : lo + (y.val - lo) = y.val := by omega
    have hc : ∀ a, ((ix2 y d : S8192x256.Idx) a).val = (Rect.unit (s := S8192x256) ![lo, 0] (⟨2, ![n, 256]⟩ : Shape).size inb).off a
        + (Rect.unit (s := S8192x256) ![lo, 0] (⟨2, ![n, 256]⟩ : Shape).size inb).stride a * ((ix2 (⟨y.val - lo, by omega⟩ : Fin n) d : (⟨2, ![n, 256]⟩ : Shape).Idx) a).val := by
      intro a; fin_cases a <;> simp [Rect.unit, ix2, e]
    refine (View.read_writes_cons_hit_of_coords v f (Rect.unit (s := S8192x256) ![lo, 0] (⟨2, ![n, 256]⟩ : Shape).size inb) w L
      (ix2 (⟨y.val - lo, by omega⟩ : Fin n) d) (ix2 y d) hc).trans ?_
    rw [hw, if_pos h]
    refine congrArg₂ (· + ·) ?_ (by simp only [e])
    rw [View.readAt_eq_ld, View.ld_apply]
    refine congrArg _ (funext fun a => Fin.ext ?_)
    exact (hc a).symm
  · rw [if_neg h, add_zero]
    exact View.read_writes_cons_miss_of_axis v f _ L (ix2 y d) 0 lo n rfl rfl rfl (by
      show y.val < lo ∨ lo + n ≤ y.val
      omega)

end Push

/-! ### A counted run of row blocks -/

section Fold

variable (v : View sig .tc .vmem S8192x256 .f32) (G : v.ty.Contents (Elt Ideal))
  (st : ℕ → (FVec Ideal S1024x256 .f32 × FVec Ideal S1024x128 .f32) × List (View.Piece (Elt Ideal) S8192x256 .f32))
  (T J : ℕ) (A : ℕ → Fin 256 → EReal) (B : ℕ → ℕ → Fin 256 → EReal) (C : ℕ → ℕ → Fin 128 → EReal)

/-- What one trip does: it adds to one block of 1024 rows of the accumulator and to both carried gradients. -/
structure TripDoes (k : ℕ) : Prop where
  acc : ∀ y d, v.read (Elt Ideal) (v.writes (Elt Ideal) G (st (k + 1)).2) (ix2 y d)
    = v.read (Elt Ideal) (v.writes (Elt Ideal) G (st k).2) (ix2 y d)
      + if J + 1024 * (k + 1) ≤ y.val ∧ y.val < J + 1024 * (k + 1) + 1024 then A y d else 0
  dk : ∀ (a : Fin 1024) d, (st (k + 1)).1.1 (ix2 a d) = (st k).1.1 (ix2 a d) + ∑ b : Fin 1024, B a (J + 1024 * (k + 1) + b) d
  dv : ∀ (a : Fin 1024) d, (st (k + 1)).1.2 (ix2 a d) = (st k).1.2 (ix2 a d) + ∑ b : Fin 1024, C a (J + 1024 * (k + 1) + b) d

theorem fold (h : ∀ k < T, TripDoes v G st J A B C k) : ∀ n ≤ T,
    (∀ y d, v.read (Elt Ideal) (v.writes (Elt Ideal) G (st n).2) (ix2 y d) = v.read (Elt Ideal) (v.writes (Elt Ideal) G (st 0).2) (ix2 y d)
      + if J + 1024 ≤ y.val ∧ y.val < J + 1024 * (n + 1) then A y d else 0)
    ∧ (∀ (a : Fin 1024) d, (st n).1.1 (ix2 a d) = (st 0).1.1 (ix2 a d) + ∑ x ∈ Finset.range (1024 * n), B a (J + 1024 + x) d)
    ∧ (∀ (a : Fin 1024) d, (st n).1.2 (ix2 a d) = (st 0).1.2 (ix2 a d) + ∑ x ∈ Finset.range (1024 * n), C a (J + 1024 + x) d)
  | 0, _ => by
    refine ⟨fun y d => ?_, fun a d => by simp, fun a d => by simp⟩
    rw [if_neg (by omega), add_zero]
  | n + 1, hn => by
    obtain ⟨h1, h2, h3⟩ := fold h n (by omega)
    have hk := h n (by omega)
    have e : ∀ (x : ℕ), J + 1024 + (1024 * n + x) = J + 1024 * (n + 1) + x := fun x => by ring
    have e0 : Finset.range (1024 * (n + 1)) = Finset.range (1024 * n + 1024) := rfl
    refine ⟨fun y d => ?_, fun a d => ?_, fun a d => ?_⟩
    · rw [hk.acc, h1, add_assoc]
      congr 1
      by_cases c1 : J + 1024 ≤ y.val ∧ y.val < J + 1024 * (n + 1)
      · rw [if_pos c1, if_neg (by omega), if_pos (by omega), add_zero]
      · by_cases c2 : J + 1024 * (n + 1) ≤ y.val ∧ y.val < J + 1024 * (n + 1) + 1024
        · rw [if_neg c1, if_pos c2, if_pos (by omega), zero_add]
        · rw [if_neg c1, if_neg c2, if_neg (by omega), add_zero]
    · rw [hk.dk, h2, add_assoc, e0, Finset.sum_range_add]
      simp only [e]
      rw [Finset.sum_range (n := 1024)]
    · rw [hk.dv, h3, add_assoc, e0, Finset.sum_range_add]
      simp only [e]
      rw [Finset.sum_range (n := 1024)]

end Fold

end Cert.FlashIdeal.Body
-- ==== Proof.FlashTrip.lean ====
/-
  The counted runs over whole row blocks: one trip adds the row block's part to the accumulator and to the key and
  value gradients carried, so a whole run adds the rows it passes.
-/
module

public import proofs.«01_k».proof.Proof.FlashStep
public import Idealize.ShloMosaic.Lib.WholeRead

@[expose] public section

set_option maxRecDepth 16384

noncomputable section

open Idealize.ShloMosaic Idealize.ShloMosaic.TcCoe Idealize.SL.Sem
open Idealize.ShloMosaic.Tactic
open Idealize.ShloMosaic.Pipeline (Dat)

namespace Cert.FlashIdeal.Body

open Cert.FlashIdeal Cert.FlashIdeal.Gen

variable (c : Dev nD) (t : Fin cfg0.N)
variable (a2 : Memref sig .tc .vmem S1x8192x256 .bf16) (h2 : a2.IsWhole) (a3 : Memref sig .tc .vmem S1x2048x256 .bf16) (h3 : a3.IsWhole)
variable (a4 : Memref sig .tc .vmem S1x2048x128 .bf16) (h4 : a4.IsWhole) (a5 : Memref sig .tc .vmem S8192x128 .bf16) (h5 : a5.IsWhole)
variable (a6 : Memref sig .tc .vmem S1x8x1024 .f32) (h6 : a6.IsWhole) (a7 : Memref sig .tc .vmem S1x8x1024 .f32) (h7 : a7.IsWhole)
variable (a8 : Memref sig .tc .vmem S1x8192x256 .bf16) (h8 : a8.IsWhole) (a9 : Memref sig .tc .vmem S1x2048x256 .bf16) (h9 : a9.IsWhole)
variable (a10 : Memref sig .tc .vmem S1x2048x128 .bf16) (h10 : a10.IsWhole) (a11 : Memref sig .tc .vmem S8192x256 .f32) (h11 : a11.IsWhole)
variable (f2 : BufTy.Contents (Elt Ideal) a2.view.ty) (f3 : BufTy.Contents (Elt Ideal) a3.view.ty) (f4 : BufTy.Contents (Elt Ideal) a4.view.ty)
variable (f5 : BufTy.Contents (Elt Ideal) a5.view.ty) (f6 : BufTy.Contents (Elt Ideal) a6.view.ty) (f7 : BufTy.Contents (Elt Ideal) a7.view.ty)
variable (X2 : S1x8192x256.Idx → EReal) (X3 : S1x2048x256.Idx → EReal) (X4 : S1x2048x128.Idx → EReal)
  (X5 : S8192x128.Idx → EReal) (X6 X7 : S1x8x1024.Idx → EReal)

/-! ### The loads, in rows -/

section Loads

theorem q512_at (s x : Fin 2) (b : Fin 512) (d : Fin 256) :
    a2.view.readAt (Elt Ideal) (Rect.unit (s := S1x8192x256) (k0_off2 (grid0.coords t) (BitVec.ofNat 32 s.val) (BitVec.ofNat 32 (512 * x.val))) S1x512x256.size (k0_off2_inb _ s x)).toLoadRect
      (h2.unread X2) (ix3 0 b d) = row3 X2 (1024 * jj t s + 512 * x.val + b) d :=
  (Memref.IsWhole.readAt_unread (Val := Elt Ideal) h2 X2 _ _).trans (load3 X2 _ _ (off2_eq t s x) b d)

theorem d512_at (s x : Fin 2) (b : Fin 512) (d : Fin 128) :
    a5.view.readAt (Elt Ideal) (Rect.unit (s := S8192x128) (k0_off3 (grid0.coords t) (BitVec.ofNat 32 s.val) (BitVec.ofNat 32 (512 * x.val))) S512x128.size (k0_off3_inb _ s x)).toLoadRect
      (h5.unread X5) (ix2 b d) = row2 X5 (1024 * jj t s + 512 * x.val + b) d :=
  (Memref.IsWhole.readAt_unread (Val := Elt Ideal) h5 X5 _ _).trans (load2 X5 _ _ (off3_eq t s x) b d)

theorem lane_at (s : Fin 2) (n : Fin 1024) :
    a6.view.readAt (Elt Ideal) (Rect.unit (s := S1x8x1024) (k0_off1 (grid0.coords t) (BitVec.ofNat 32 s.val)) S1x1x1024.size (k0_off1_inb _ s)).toLoadRect
      (h6.unread X6) (ix3 0 0 n) = lane X6 (1024 * jj t s + n) :=
  (Memref.IsWhole.readAt_unread (Val := Elt Ideal) h6 X6 _ _).trans (loadLane X6 _ _ (off1_eq t s) n)

end Loads

section Run

variable (G : BufTy.Contents (Elt Ideal) a11.view.ty) (init : FVec Ideal S1024x256 .f32 × FVec Ideal S1024x128 .f32)

/-- The state after a trip, out of the state before it and the row block's loads. -/
abbrev after (s : (FVec Ideal S1024x256 .f32 × FVec Ideal S1024x128 .f32) × List (View.Piece (Elt Ideal) S8192x256 .f32))
    (off : Fin 2 → ℕ) (inb : ∀ a, off a + S1024x256.size a ≤ S8192x256.size a)
    (q : Vec Ideal S1x1024x256 .bf16) (d : Vec Ideal S1024x128 .bf16) (l e : Vec Ideal S1x1x1024 .f32)
    (pa : Vec Ideal S1x1024x256 .bf16 → Vec Ideal S1024x128 .bf16 → Vec Ideal S1x1x1024 .f32 → Vec Ideal S1x1x1024 .f32 → Vec Ideal S1024x256 .f32 → FVec Ideal S1024x256 .f32)
    (pk : FVec Ideal S1024x256 .f32 → Vec Ideal S1x1024x256 .bf16 → Vec Ideal S1024x128 .bf16 → Vec Ideal S1x1x1024 .f32 → Vec Ideal S1x1x1024 .f32 → FVec Ideal S1024x256 .f32)
    (pv : FVec Ideal S1024x128 .f32 → Vec Ideal S1x1024x256 .bf16 → Vec Ideal S1024x128 .bf16 → Vec Ideal S1x1x1024 .f32 → FVec Ideal S1024x128 .f32) :
    (FVec Ideal S1024x256 .f32 × FVec Ideal S1024x128 .f32) × List (View.Piece (Elt Ideal) S8192x256 .f32) :=
  ((pk s.1.1 q d l e, pv s.1.2 q d l),
    ⟨Rect.unit (s := S8192x256) off S1024x256.size inb,
      pa q d l e (a11.view.readAt (Elt Ideal) (Rect.unit (s := S8192x256) off S1024x256.size inb).toLoadRect (a11.view.writes (Elt Ideal) G s.2))⟩ :: s.2)

section

variable (w0 w5 : BitVec 32) (v7 : FVec Ideal S1024x256 .bf16) (v9 : FVec Ideal S1024x128 .bf16) (v39 : FVec Ideal S512x128 .f32)
  (v46 : FVec Ideal S512x256 .f32) (v72 : FVec Ideal S512x128 .f32) (v79 : FVec Ideal S512x256 .f32) (v110 : FVec Ideal S512x128 .f32)
  (v117 : FVec Ideal S512x256 .f32) (v120 : FVec Ideal S512x256 .f32)

abbrev run1 (i : grid0.Coords) := st_k0_t1 (F := Ideal) Variants.none c none i a2 h2 a3 h3 a4 h4 a5 h5 a6 h6 a7 h7 a8 h8 a9 h9 a10 h10 a11 h11
  w0 w5 v7 v9 v39 v46 v72 v79 v110 v117 v120 f2 f5 f6 f7 G init

theorem run1_succ (i : grid0.Coords) (k : Fin (k0_t1_loop i).trips) (s : _)
    (hs : run1 c a2 h2 a3 h3 a4 h4 a5 h5 a6 h6 a7 h7 a8 h8 a9 h9 a10 h10 a11 h11 f2 f5 f6 f7 G init w0 w5 v7 v9 v39 v46 v72 v79 v110 v117 v120 i k.val = s) :
    run1 c a2 h2 a3 h3 a4 h4 a5 h5 a6 h6 a7 h7 a8 h8 a9 h9 a10 h10 a11 h11 f2 f5 f6 f7 G init w0 w5 v7 v9 v39 v46 v72 v79 v110 v117 v120 i (k.val + 1)
      = after a11 G s (k0_off8 i k) (k0_off8_inb i k)
          (a2.view.readAt (Elt Ideal) (Rect.unit (s := S1x8192x256) (k0_off5 i k) S1x1024x256.size (k0_off5_inb i k)).toLoadRect f2)
          (a5.view.readAt (Elt Ideal) (Rect.unit (s := S8192x128) (k0_off6 i k) S1024x128.size (k0_off6_inb i k)).toLoadRect f5)
          (a6.view.readAt (Elt Ideal) (Rect.unit (s := S1x8x1024) (k0_off7 i k) S1x1x1024.size (k0_off7_inb i k)).toLoadRect f6)
          (a7.view.readAt (Elt Ideal) (Rect.unit (s := S1x8x1024) (k0_off7 i k) S1x1x1024.size (k0_off7_inb i k)).toLoadRect f7)
          (k0_pay45 v7 v9) (k0_pay46 v7 v9) (k0_pay47 v7) := by
  subst hs
  refine (st_k0_t1_succ (F := Ideal) Variants.none c none i a2 h2 a3 h3 a4 h4 a5 h5 a6 h6 a7 h7 a8 h8 a9 h9 a10 h10 a11 h11
    w0 w5 v7 v9 v39 v46 v72 v79 v110 v117 v120 f2 f5 f6 f7 G init k).trans ?_
  unfold tripR_k0_t1 tripL_k0_t1 trip_k0_t1
  rfl

end

section

variable (w148 : BitVec 32) (v150 : FVec Ideal S1024x256 .bf16) (v152 : FVec Ideal S1024x128 .bf16) (v182 : FVec Ideal S512x128 .f32)
  (v189 : FVec Ideal S512x256 .f32) (v215 : FVec Ideal S512x128 .f32) (v222 : FVec Ideal S512x256 .f32) (w232 : BitVec 32)
  (v233 : FVec Ideal S512x256 .bf16) (v234 : FVec Ideal S512x128 .bf16) (v237 : FVec Ideal S512x256 .bf16) (v240 : FVec Ideal S512x128 .bf16)
  (v241 : FVec Ideal S1x512 .f32) (v242 : FVec Ideal S1x512 .f32)

abbrev run3 (i : grid0.Coords) := st_k0_t3 (F := Ideal) Variants.none c none i a2 h2 a3 h3 a4 h4 a5 h5 a6 h6 a7 h7 a8 h8 a9 h9 a10 h10 a11 h11
  w148 v150 v152 v182 v189 v215 v222 w232 v233 v234 v237 v240 v241 v242 f2 f5 f6 f7 G init

theorem run3_succ (i : grid0.Coords) (k : Fin (k0_t3_loop i).trips) (s : _)
    (hs : run3 c a2 h2 a3 h3 a4 h4 a5 h5 a6 h6 a7 h7 a8 h8 a9 h9 a10 h10 a11 h11 f2 f5 f6 f7 G init w148 v150 v152 v182 v189 v215 v222 w232 v233 v234 v237 v240 v241 v242 i k.val = s) :
    run3 c a2 h2 a3 h3 a4 h4 a5 h5 a6 h6 a7 h7 a8 h8 a9 h9 a10 h10 a11 h11 f2 f5 f6 f7 G init w148 v150 v152 v182 v189 v215 v222 w232 v233 v234 v237 v240 v241 v242 i (k.val + 1)
      = after a11 G s (k0_off16 i k) (k0_off16_inb i k)
          (a2.view.readAt (Elt Ideal) (Rect.unit (s := S1x8192x256) (k0_off13 i k) S1x1024x256.size (k0_off13_inb i k)).toLoadRect f2)
          (a5.view.readAt (Elt Ideal) (Rect.unit (s := S8192x128) (k0_off14 i k) S1024x128.size (k0_off14_inb i k)).toLoadRect f5)
          (a6.view.readAt (Elt Ideal) (Rect.unit (s := S1x8x1024) (k0_off15 i k) S1x1x1024.size (k0_off15_inb i k)).toLoadRect f6)
          (a7.view.readAt (Elt Ideal) (Rect.unit (s := S1x8x1024) (k0_off15 i k) S1x1x1024.size (k0_off15_inb i k)).toLoadRect f7)
          (k0_pay92 v150 v152) (k0_pay93 v150 v152) (k0_pay94 v150) := by
  subst hs
  refine (st_k0_t3_succ (F := Ideal) Variants.none c none i a2 h2 a3 h3 a4 h4 a5 h5 a6 h6 a7 h7 a8 h8 a9 h9 a10 h10 a11 h11
    w148 v150 v152 v182 v189 v215 v222 w232 v233 v234 v237 v240 v241 v242 f2 f5 f6 f7 G init k).trans ?_
  unfold tripR_k0_t3 tripL_k0_t3 trip_k0_t3
  rfl

end

/-- One trip, in rows. -/
theorem does_of_after (s : Fin 2) (v7 : FVec Ideal S1024x256 .bf16) (v9 : FVec Ideal S1024x128 .bf16)
    (H7 : ∀ a d, v7 (ix2 a d) = (rows X2 X3 X4 X5 X6 X7 s).k a d) (H9 : ∀ a d, v9 (ix2 a d) = (rows X2 X3 X4 X5 X6 X7 s).v a d)
    (st : ℕ → (FVec Ideal S1024x256 .f32 × FVec Ideal S1024x128 .f32) × List (View.Piece (Elt Ideal) S8192x256 .f32)) (k : ℕ)
    (o5 : Fin 3 → ℕ) (b5 : ∀ a, o5 a + S1x1024x256.size a ≤ S1x8192x256.size a) (e5 : o5 = ![0, 1024 * jj t s + 1024 * (k + 1), 0])
    (o6 : Fin 2 → ℕ) (b6 : ∀ a, o6 a + S1024x128.size a ≤ S8192x128.size a) (e6 : o6 = ![1024 * jj t s + 1024 * (k + 1), 0])
    (o7 : Fin 3 → ℕ) (b7 : ∀ a, o7 a + S1x1x1024.size a ≤ S1x8x1024.size a) (e7 : o7 = ![0, jj t s + (k + 1), 0])
    (o8 : Fin 2 → ℕ) (b8 : ∀ a, o8 a + S1024x256.size a ≤ S8192x256.size a) (e8 : o8 = ![1024 * jj t s + 1024 * (k + 1), 0])
    (low : Bool)
    (hst : st (k + 1) = after a11 G (st k) o8 b8
      (a2.view.readAt (Elt Ideal) (Rect.unit (s := S1x8192x256) o5 S1x1024x256.size b5).toLoadRect (h2.unread X2))
      (a5.view.readAt (Elt Ideal) (Rect.unit (s := S8192x128) o6 S1024x128.size b6).toLoadRect (h5.unread X5))
      (a6.view.readAt (Elt Ideal) (Rect.unit (s := S1x8x1024) o7 S1x1x1024.size b7).toLoadRect (h6.unread X6))
      (a7.view.readAt (Elt Ideal) (Rect.unit (s := S1x8x1024) o7 S1x1x1024.size b7).toLoadRect (h7.unread X7))
      (cond low (k0_pay92 v7 v9) (k0_pay45 v7 v9)) (cond low (k0_pay93 v7 v9) (k0_pay46 v7 v9)) (cond low (k0_pay94 v7) (k0_pay47 v7))) :
    TripDoes a11.view G st (1024 * jj t s) (fun n d => ∑ a : Fin 1024, (rows X2 X3 X4 X5 X6 X7 s).ww a n * (rows X2 X3 X4 X5 X6 X7 s).k a d)
      (fun a n d => (rows X2 X3 X4 X5 X6 X7 s).ww a n * (rows X2 X3 X4 X5 X6 X7 s).q n d)
      (fun a n d => (rows X2 X3 X4 X5 X6 X7 s).pw a n * (rows X2 X3 X4 X5 X6 X7 s).d n d) k := by
  have hq : ∀ (b : Fin 1024) d, _ = row3 X2 (1024 * jj t s + 1024 * (k + 1) + b) d := fun b d =>
    (Memref.IsWhole.readAt_unread (Val := Elt Ideal) h2 X2 (Rect.unit (s := S1x8192x256) o5 S1x1024x256.size b5).toLoadRect (ix3 0 b d)).trans (load3 X2 _ _ e5 b d)
  have hd : ∀ (b : Fin 1024) d, _ = row2 X5 (1024 * jj t s + 1024 * (k + 1) + b) d := fun b d =>
    (Memref.IsWhole.readAt_unread (Val := Elt Ideal) h5 X5 (Rect.unit (s := S8192x128) o6 S1024x128.size b6).toLoadRect (ix2 b d)).trans (load2 X5 _ _ e6 b d)
  have ej : 1024 * (jj t s + (k + 1)) = 1024 * jj t s + 1024 * (k + 1) := by ring
  have hl : ∀ n : Fin 1024, _ = lane X6 (1024 * jj t s + 1024 * (k + 1) + n) := fun n =>
    (Memref.IsWhole.readAt_unread (Val := Elt Ideal) h6 X6 (Rect.unit (s := S1x8x1024) o7 S1x1x1024.size b7).toLoadRect (ix3 0 0 n)).trans ((loadLane X6 _ _ e7 n).trans (by rw [ej]))
  have he : ∀ n : Fin 1024, _ = lane X7 (1024 * jj t s + 1024 * (k + 1) + n) := fun n =>
    (Memref.IsWhole.readAt_unread (Val := Elt Ideal) h7 X7 (Rect.unit (s := S1x8x1024) o7 S1x1x1024.size b7).toLoadRect (ix3 0 0 n)).trans ((loadLane X7 _ _ e7 n).trans (by rw [ej]))
  refine ⟨fun y d => ?_, fun a d => ?_, fun a d => ?_⟩
  · rw [hst]
    refine read_push a11.view G o8 b8 e8 _ (st k).2 (fun n d => ∑ a : Fin 1024, (rows X2 X3 X4 X5 X6 X7 s).ww a n * (rows X2 X3 X4 X5 X6 X7 s).k a d) (fun b d => ?_) y d
    cases low
    · exact (trip_acc (rows X2 X3 X4 X5 X6 X7 s) _ v7 v9 _ _ _ _ H7 H9 hq hd hl he _ b d).1
    · exact (trip_acc (rows X2 X3 X4 X5 X6 X7 s) _ v7 v9 _ _ _ _ H7 H9 hq hd hl he _ b d).2
  · rw [hst]
    cases low
    · exact (trip_dk (rows X2 X3 X4 X5 X6 X7 s) _ v7 v9 _ _ _ _ H7 H9 hq hd hl he _ a d).1
    · exact (trip_dk (rows X2 X3 X4 X5 X6 X7 s) _ v7 v9 _ _ _ _ H7 H9 hq hd hl he _ a d).2
  · rw [hst]
    cases low
    · exact (trip_dv (rows X2 X3 X4 X5 X6 X7 s) _ v7 _ _ _ H7 hq hd hl _ a d).1
    · exact (trip_dv (rows X2 X3 X4 X5 X6 X7 s) _ v7 _ _ _ H7 hq hd hl _ a d).2

end Run

end Cert.FlashIdeal.Body
-- ==== Proof.FlashStage.lean ====
/-
  What one point of the attention backward kernel's grid writes, stage by stage, from any base contents of the
  accumulator: the upper half of the key block, then the lower half, each with its three diagonal updates and its run
  over the row blocks after the diagonal. The three runs of the body are instances.
-/
module

public import proofs.«01_k».proof.Proof.FlashTrip

@[expose] public section

set_option maxRecDepth 16384

noncomputable section

open Idealize.ShloMosaic Idealize.ShloMosaic.TcCoe Idealize.SL.Sem
open Idealize.ShloMosaic.Tactic
open Idealize.ShloMosaic.Pipeline (Dat)

namespace Cert.FlashIdeal.Body

open Cert.FlashIdeal Cert.FlashIdeal.Gen

/-- The buffers a point works on, with the contents of those it reads. -/
structure Bufs where
  c : Dev nD
  i : grid0.Coords
  a2 : Memref sig .tc .vmem S1x8192x256 .bf16
  h2 : a2.IsWhole
  a3 : Memref sig .tc .vmem S1x2048x256 .bf16
  h3 : a3.IsWhole
  a4 : Memref sig .tc .vmem S1x2048x128 .bf16
  h4 : a4.IsWhole
  a5 : Memref sig .tc .vmem S8192x128 .bf16
  h5 : a5.IsWhole
  a6 : Memref sig .tc .vmem S1x8x1024 .f32
  h6 : a6.IsWhole
  a7 : Memref sig .tc .vmem S1x8x1024 .f32
  h7 : a7.IsWhole
  a8 : Memref sig .tc .vmem S1x8192x256 .bf16
  h8 : a8.IsWhole
  a9 : Memref sig .tc .vmem S1x2048x256 .bf16
  h9 : a9.IsWhole
  a10 : Memref sig .tc .vmem S1x2048x128 .bf16
  h10 : a10.IsWhole
  a11 : Memref sig .tc .vmem S8192x256 .f32
  h11 : a11.IsWhole
  f2 : BufTy.Contents (Elt Ideal) a2.view.ty
  f3 : BufTy.Contents (Elt Ideal) a3.view.ty
  f4 : BufTy.Contents (Elt Ideal) a4.view.ty
  f5 : BufTy.Contents (Elt Ideal) a5.view.ty
  f6 : BufTy.Contents (Elt Ideal) a6.view.ty
  f7 : BufTy.Contents (Elt Ideal) a7.view.ty

section Stages

variable (B : Bufs) (f : BufTy.Contents (Elt Ideal) B.a11.view.ty) (L : List (View.Piece (Elt Ideal) S8192x256 .f32))

/-! ### The upper half of the key block -/

abbrev Bufs.kU : Vec Ideal S1x1024x256 .bf16 :=
  B.a3.view.readAt (Elt Ideal) (Rect.unit (s := S1x2048x256) ![0, 1024, 0] S1x1024x256.size inb_S1x2048x256_S1x1024x256_0_1024_0).toLoadRect B.f3
abbrev Bufs.vU : Vec Ideal S1x1024x128 .bf16 :=
  B.a4.view.readAt (Elt Ideal) (Rect.unit (s := S1x2048x128) ![0, 1024, 0] S1x1024x128.size inb_S1x2048x128_S1x1024x128_0_1024_0).toLoadRect B.f4
abbrev Bufs.lU : Vec Ideal S1x1x1024 .f32 :=
  B.a6.view.readAt (Elt Ideal) (Rect.unit (s := S1x8x1024) (k0_off1 B.i 1#32) S1x1x1024.size (k0_off1_inb B.i 1)).toLoadRect B.f6
abbrev Bufs.eU : Vec Ideal S1x1x1024 .f32 :=
  B.a7.view.readAt (Elt Ideal) (Rect.unit (s := S1x8x1024) (k0_off1 B.i 1#32) S1x1x1024.size (k0_off1_inb B.i 1)).toLoadRect B.f7
abbrev Bufs.q0U : Vec Ideal S1x512x256 .bf16 :=
  B.a2.view.readAt (Elt Ideal) (Rect.unit (s := S1x8192x256) (k0_off2 B.i 1#32 0#32) S1x512x256.size (k0_off2_inb B.i 1 0)).toLoadRect B.f2
abbrev Bufs.q1U : Vec Ideal S1x512x256 .bf16 :=
  B.a2.view.readAt (Elt Ideal) (Rect.unit (s := S1x8192x256) (k0_off2 B.i 1#32 512#32) S1x512x256.size (k0_off2_inb B.i 1 1)).toLoadRect B.f2
abbrev Bufs.d0U : Vec Ideal S512x128 .bf16 :=
  B.a5.view.readAt (Elt Ideal) (Rect.unit (s := S8192x128) (k0_off3 B.i 1#32 0#32) S512x128.size (k0_off3_inb B.i 1 0)).toLoadRect B.f5
abbrev Bufs.d1U : Vec Ideal S512x128 .bf16 :=
  B.a5.view.readAt (Elt Ideal) (Rect.unit (s := S8192x128) (k0_off3 B.i 1#32 512#32) S512x128.size (k0_off3_inb B.i 1 1)).toLoadRect B.f5

def Bufs.oneU : List (View.Piece (Elt Ideal) S8192x256 .f32) :=
  ⟨Rect.unit (s := S8192x256) (k0_off4 B.i 1#32 0#32) S512x256.size (k0_off4_inb B.i 1 0), k0_pay20 (k0_pay9 B.kU) (k0_pay10 B.vU) (k0_pay12 B.d0U) (k0_pay13 B.eU) (k0_pay14 B.kU B.lU B.q0U) k0_pay15
    (B.a11.view.readAt (Elt Ideal) (Rect.unit (s := S8192x256) (k0_off4 B.i 1#32 0#32) S512x256.size (k0_off4_inb B.i 1 0)).toLoadRect (B.a11.view.writes (Elt Ideal) f L))⟩ :: L
def Bufs.twoU : List (View.Piece (Elt Ideal) S8192x256 .f32) :=
  ⟨Rect.unit (s := S8192x256) (k0_off4 B.i 1#32 512#32) S512x256.size (k0_off4_inb B.i 1 1), k0_pay29 (k0_pay27 (k0_pay5 B.kU) (k0_pay6 B.vU) (k0_pay7 B.lU) (k0_pay8 B.eU) B.q1U B.d1U)
    (B.a11.view.readAt (Elt Ideal) (Rect.unit (s := S8192x256) (k0_off4 B.i 1#32 512#32) S512x256.size (k0_off4_inb B.i 1 1)).toLoadRect (B.a11.view.writes (Elt Ideal) f (B.oneU f L)))⟩ :: B.oneU f L
abbrev Bufs.oldU : Vec Ideal S512x256 .f32 :=
  B.a11.view.readCov (B.twoU f L) (Rect.unit (s := S8192x256) (k0_off4 B.i 1#32 512#32) S512x256.size (k0_off4_inb B.i 1 1)).toLoadRect
def Bufs.threeU : List (View.Piece (Elt Ideal) S8192x256 .f32) :=
  ⟨Rect.unit (s := S8192x256) (k0_off4 B.i 1#32 512#32) S512x256.size (k0_off4_inb B.i 1 1), k0_pay38 (k0_pay37 (k0_pay5 B.kU) (k0_pay6 B.vU) (k0_pay7 B.lU) (k0_pay8 B.eU) B.q1U B.d1U (B.oldU f L))⟩ :: B.twoU f L
def Bufs.initU : FVec Ideal S1024x256 .f32 × FVec Ideal S1024x128 .f32 :=
  (k0_pay39 (k0_pay19 (k0_pay10 B.vU) (k0_pay11 B.q0U) (k0_pay12 B.d0U) (k0_pay13 B.eU) (k0_pay14 B.kU B.lU B.q0U) k0_pay15) (k0_pay28 (k0_pay22 B.q1U) (k0_pay26 (k0_pay5 B.kU) (k0_pay6 B.vU) (k0_pay7 B.lU) (k0_pay8 B.eU) B.q1U B.d1U)) (k0_pay36 (k0_pay5 B.kU) (k0_pay6 B.vU) (k0_pay7 B.lU) (k0_pay8 B.eU) B.q1U B.d1U),
    k0_pay40 (k0_pay17 (k0_pay12 B.d0U) (k0_pay14 B.kU B.lU B.q0U) k0_pay15) (k0_pay25 (k0_pay5 B.kU) (k0_pay7 B.lU) B.q1U B.d1U) (k0_pay34 (k0_pay5 B.kU) (k0_pay7 B.lU) B.q1U B.d1U))
def Bufs.runU : ℕ → (FVec Ideal S1024x256 .f32 × FVec Ideal S1024x128 .f32) × List (View.Piece (Elt Ideal) S8192x256 .f32) :=
  st_k0_t1 (F := Ideal) Variants.none B.c none B.i B.a2 B.h2 B.a3 B.h3 B.a4 B.h4 B.a5 B.h5 B.a6 B.h6 B.a7 B.h7 B.a8 B.h8 B.a9 B.h9 B.a10 B.h10 B.a11 B.h11
    (Scalar.subi 3#32 (BitVec.ofNat 32 (B.i 1).val)) (Scalar.addi (Scalar.muli (Scalar.subi 3#32 (BitVec.ofNat 32 (B.i 1).val)) 2#32) 1#32) (k0_pay5 B.kU) (k0_pay6 B.vU)
    (k0_pay17 (k0_pay12 B.d0U) (k0_pay14 B.kU B.lU B.q0U) k0_pay15) (k0_pay19 (k0_pay10 B.vU) (k0_pay11 B.q0U) (k0_pay12 B.d0U) (k0_pay13 B.eU) (k0_pay14 B.kU B.lU B.q0U) k0_pay15) (k0_pay25 (k0_pay5 B.kU) (k0_pay7 B.lU) B.q1U B.d1U)
    (k0_pay28 (k0_pay22 B.q1U) (k0_pay26 (k0_pay5 B.kU) (k0_pay6 B.vU) (k0_pay7 B.lU) (k0_pay8 B.eU) B.q1U B.d1U)) (k0_pay34 (k0_pay5 B.kU) (k0_pay7 B.lU) B.q1U B.d1U) (k0_pay36 (k0_pay5 B.kU) (k0_pay6 B.vU) (k0_pay7 B.lU) (k0_pay8 B.eU) B.q1U B.d1U)
    (k0_pay37 (k0_pay5 B.kU) (k0_pay6 B.vU) (k0_pay7 B.lU) (k0_pay8 B.eU) B.q1U B.d1U (B.oldU f L)) B.f2 B.f5 B.f6 B.f7
    (B.a11.view.writes (Elt Ideal) f (B.threeU f L)) (B.initU)
abbrev Bufs.endU := B.runU f L (Scf.trips (k0_t1_loop B.i).lb (k0_t1_loop B.i).ub (k0_t1_loop B.i).st)
def Bufs.restU : ℕ → (FVec Ideal S1024x256 .f32 × FVec Ideal S1024x128 .f32) × List (View.Piece (Elt Ideal) S8192x256 .f32) :=
  st_k0_t2 (F := Ideal) Variants.none B.c none B.i B.a2 B.h2 B.a3 B.h3 B.a4 B.h4 B.a5 B.h5 B.a6 B.h6 B.a7 B.h7 B.a8 B.h8 B.a9 B.h9 B.a10 B.h10 B.a11 B.h11
    (Scalar.subi 3#32 (BitVec.ofNat 32 (B.i 1).val)) (Scalar.addi (Scalar.muli (Scalar.subi 3#32 (BitVec.ofNat 32 (B.i 1).val)) 2#32) 1#32) (k0_pay5 B.kU) (k0_pay6 B.vU)
    (k0_pay17 (k0_pay12 B.d0U) (k0_pay14 B.kU B.lU B.q0U) k0_pay15) (k0_pay19 (k0_pay10 B.vU) (k0_pay11 B.q0U) (k0_pay12 B.d0U) (k0_pay13 B.eU) (k0_pay14 B.kU B.lU B.q0U) k0_pay15) (k0_pay25 (k0_pay5 B.kU) (k0_pay7 B.lU) B.q1U B.d1U)
    (k0_pay28 (k0_pay22 B.q1U) (k0_pay26 (k0_pay5 B.kU) (k0_pay6 B.vU) (k0_pay7 B.lU) (k0_pay8 B.eU) B.q1U B.d1U)) (k0_pay34 (k0_pay5 B.kU) (k0_pay7 B.lU) B.q1U B.d1U) (k0_pay36 (k0_pay5 B.kU) (k0_pay6 B.vU) (k0_pay7 B.lU) (k0_pay8 B.eU) B.q1U B.d1U)
    (k0_pay37 (k0_pay5 B.kU) (k0_pay6 B.vU) (k0_pay7 B.lU) (k0_pay8 B.eU) B.q1U B.d1U (B.oldU f L)) B.f2 B.f5 B.f6 B.f7
    (B.a11.view.writes (Elt Ideal) f ((B.endU f L).2 ++ B.threeU f L)) ((B.endU f L).1.1, (B.endU f L).1.2)
abbrev Bufs.doneU := B.restU f L (Scf.trips (k0_t2_loop B.i).lb (k0_t2_loop B.i).ub (k0_t2_loop B.i).st)
def Bufs.allU : List (View.Piece (Elt Ideal) S8192x256 .f32) :=
  (B.doneU f L).2 ++ ((B.endU f L).2 ++ B.threeU f L)

/-! ### The lower half of the key block -/

abbrev Bufs.kL : Vec Ideal S1x1024x256 .bf16 :=
  B.a3.view.readAt (Elt Ideal) (Rect.unit (s := S1x2048x256) ![0, 0, 0] S1x1024x256.size inb_S1x2048x256_S1x1024x256_0_0_0).toLoadRect B.f3
abbrev Bufs.vL : Vec Ideal S1x1024x128 .bf16 :=
  B.a4.view.readAt (Elt Ideal) (Rect.unit (s := S1x2048x128) ![0, 0, 0] S1x1024x128.size inb_S1x2048x128_S1x1024x128_0_0_0).toLoadRect B.f4
abbrev Bufs.lL : Vec Ideal S1x1x1024 .f32 :=
  B.a6.view.readAt (Elt Ideal) (Rect.unit (s := S1x8x1024) (k0_off1 B.i 0#32) S1x1x1024.size (k0_off1_inb B.i 0)).toLoadRect B.f6
abbrev Bufs.eL : Vec Ideal S1x1x1024 .f32 :=
  B.a7.view.readAt (Elt Ideal) (Rect.unit (s := S1x8x1024) (k0_off1 B.i 0#32) S1x1x1024.size (k0_off1_inb B.i 0)).toLoadRect B.f7
abbrev Bufs.q0L : Vec Ideal S1x512x256 .bf16 :=
  B.a2.view.readAt (Elt Ideal) (Rect.unit (s := S1x8192x256) (k0_off2 B.i 0#32 0#32) S1x512x256.size (k0_off2_inb B.i 0 0)).toLoadRect B.f2
abbrev Bufs.q1L : Vec Ideal S1x512x256 .bf16 :=
  B.a2.view.readAt (Elt Ideal) (Rect.unit (s := S1x8192x256) (k0_off2 B.i 0#32 512#32) S1x512x256.size (k0_off2_inb B.i 0 1)).toLoadRect B.f2
abbrev Bufs.d0L : Vec Ideal S512x128 .bf16 :=
  B.a5.view.readAt (Elt Ideal) (Rect.unit (s := S8192x128) (k0_off3 B.i 0#32 0#32) S512x128.size (k0_off3_inb B.i 0 0)).toLoadRect B.f5
abbrev Bufs.d1L : Vec Ideal S512x128 .bf16 :=
  B.a5.view.readAt (Elt Ideal) (Rect.unit (s := S8192x128) (k0_off3 B.i 0#32 512#32) S512x128.size (k0_off3_inb B.i 0 1)).toLoadRect B.f5

def Bufs.oneL : List (View.Piece (Elt Ideal) S8192x256 .f32) :=
  ⟨Rect.unit (s := S8192x256) (k0_off4 B.i 0#32 0#32) S512x256.size (k0_off4_inb B.i 0 0), k0_pay68 (k0_pay57 B.kL) (k0_pay58 B.vL) (k0_pay59 B.lL) B.eL B.q0L B.d0L
    (B.a11.view.readAt (Elt Ideal) (Rect.unit (s := S8192x256) (k0_off4 B.i 0#32 0#32) S512x256.size (k0_off4_inb B.i 0 0)).toLoadRect (B.a11.view.writes (Elt Ideal) f L))⟩ :: L
def Bufs.twoL : List (View.Piece (Elt Ideal) S8192x256 .f32) :=
  ⟨Rect.unit (s := S8192x256) (k0_off4 B.i 0#32 512#32) S512x256.size (k0_off4_inb B.i 0 1), k0_pay76 (k0_pay57 B.kL) (k0_pay58 B.vL) (k0_pay59 B.lL) (k0_pay60 B.eL) B.q1L B.d1L
    (B.a11.view.readAt (Elt Ideal) (Rect.unit (s := S8192x256) (k0_off4 B.i 0#32 512#32) S512x256.size (k0_off4_inb B.i 0 1)).toLoadRect (B.a11.view.writes (Elt Ideal) f (B.oneL f L)))⟩ :: B.oneL f L
abbrev Bufs.oldL : Vec Ideal S512x256 .f32 :=
  B.a11.view.readCov (B.twoL f L) (Rect.unit (s := S8192x256) (k0_off4 B.i 0#32 512#32) S512x256.size (k0_off4_inb B.i 0 1)).toLoadRect
def Bufs.threeL : List (View.Piece (Elt Ideal) S8192x256 .f32) :=
  ⟨Rect.unit (s := S8192x256) (k0_off4 B.i 0#32 512#32) S512x256.size (k0_off4_inb B.i 0 1), k0_pay85 (k0_pay77 (k0_pay57 B.kL)) (k0_pay78 (k0_pay58 B.vL)) (k0_pay79 B.q1L) (k0_pay80 B.d1L) (k0_pay81 (k0_pay59 B.lL)) (k0_pay82 (k0_pay60 B.eL)) (B.oldL f L)⟩ :: B.twoL f L
def Bufs.initL : FVec Ideal S1024x256 .f32 × FVec Ideal S1024x128 .f32 :=
  (k0_pay86 (k0_pay67 (k0_pay57 B.kL) (k0_pay58 B.vL) (k0_pay59 B.lL) B.eL B.q0L B.d0L) (k0_pay75 (k0_pay57 B.kL) (k0_pay58 B.vL) (k0_pay59 B.lL) (k0_pay60 B.eL) B.q1L B.d1L) (k0_pay77 (k0_pay57 B.kL)) (k0_pay78 (k0_pay58 B.vL)) (k0_pay79 B.q1L) (k0_pay80 B.d1L) (k0_pay81 (k0_pay59 B.lL)) (k0_pay82 (k0_pay60 B.eL)),
    k0_pay87 (k0_pay65 (k0_pay57 B.kL) (k0_pay59 B.lL) B.q0L B.d0L) (k0_pay73 (k0_pay57 B.kL) (k0_pay59 B.lL) B.q1L B.d1L) (k0_pay77 (k0_pay57 B.kL)) (k0_pay79 B.q1L) (k0_pay80 B.d1L) (k0_pay81 (k0_pay59 B.lL)))
def Bufs.runL : ℕ → (FVec Ideal S1024x256 .f32 × FVec Ideal S1024x128 .f32) × List (View.Piece (Elt Ideal) S8192x256 .f32) :=
  st_k0_t3 (F := Ideal) Variants.none B.c none B.i B.a2 B.h2 B.a3 B.h3 B.a4 B.h4 B.a5 B.h5 B.a6 B.h6 B.a7 B.h7 B.a8 B.h8 B.a9 B.h9 B.a10 B.h10 B.a11 B.h11
    (runMid.sl.v148 B.i) (k0_pay57 B.kL) (k0_pay58 B.vL) (k0_pay65 (k0_pay57 B.kL) (k0_pay59 B.lL) B.q0L B.d0L)
    (k0_pay67 (k0_pay57 B.kL) (k0_pay58 B.vL) (k0_pay59 B.lL) B.eL B.q0L B.d0L) (k0_pay73 (k0_pay57 B.kL) (k0_pay59 B.lL) B.q1L B.d1L)
    (k0_pay75 (k0_pay57 B.kL) (k0_pay58 B.vL) (k0_pay59 B.lL) (k0_pay60 B.eL) B.q1L B.d1L) (runMid.sl.v198 B.i)
    (k0_pay77 (k0_pay57 B.kL)) (k0_pay78 (k0_pay58 B.vL)) (k0_pay79 B.q1L) (k0_pay80 B.d1L) (k0_pay81 (k0_pay59 B.lL)) (k0_pay82 (k0_pay60 B.eL)) B.f2 B.f5 B.f6 B.f7
    (B.a11.view.writes (Elt Ideal) f (B.threeL f L)) (B.initL)
abbrev Bufs.endL := B.runL f L (Scf.trips (k0_t3_loop B.i).lb (k0_t3_loop B.i).ub (k0_t3_loop B.i).st)
def Bufs.restL : ℕ → (FVec Ideal S1024x256 .f32 × FVec Ideal S1024x128 .f32) × List (View.Piece (Elt Ideal) S8192x256 .f32) :=
  st_k0_t4 (F := Ideal) Variants.none B.c none B.i B.a2 B.h2 B.a3 B.h3 B.a4 B.h4 B.a5 B.h5 B.a6 B.h6 B.a7 B.h7 B.a8 B.h8 B.a9 B.h9 B.a10 B.h10 B.a11 B.h11
    (runMid.sl.v148 B.i) (k0_pay57 B.kL) (k0_pay58 B.vL) (k0_pay65 (k0_pay57 B.kL) (k0_pay59 B.lL) B.q0L B.d0L)
    (k0_pay67 (k0_pay57 B.kL) (k0_pay58 B.vL) (k0_pay59 B.lL) B.eL B.q0L B.d0L) (k0_pay73 (k0_pay57 B.kL) (k0_pay59 B.lL) B.q1L B.d1L)
    (k0_pay75 (k0_pay57 B.kL) (k0_pay58 B.vL) (k0_pay59 B.lL) (k0_pay60 B.eL) B.q1L B.d1L) (runMid.sl.v198 B.i)
    (k0_pay77 (k0_pay57 B.kL)) (k0_pay78 (k0_pay58 B.vL)) (k0_pay79 B.q1L) (k0_pay80 B.d1L) (k0_pay81 (k0_pay59 B.lL)) (k0_pay82 (k0_pay60 B.eL)) B.f2 B.f5 B.f6 B.f7
    (B.a11.view.writes (Elt Ideal) f ((B.endL f L).2 ++ B.threeL f L)) ((B.endL f L).1.1, (B.endL f L).1.2)
abbrev Bufs.doneL := B.restL f L (Scf.trips (k0_t4_loop B.i).lb (k0_t4_loop B.i).ub (k0_t4_loop B.i).st)
def Bufs.allL : List (View.Piece (Elt Ideal) S8192x256 .f32) :=
  (B.doneL f L).2 ++ ((B.endL f L).2 ++ B.threeL f L)

/-- Everything written to the accumulator from `f`, on top of the writes `L`. -/
def Bufs.all : List (View.Piece (Elt Ideal) S8192x256 .f32) := B.allL f (B.allU f L)

/-- The two writes of the key gradient's block, and of the value gradient's. -/
def Bufs.dk : List (View.Piece (Elt Ideal) S1x2048x256 .bf16) :=
  [⟨Rect.unit (s := S1x2048x256) ![0, 0, 0] S1x1024x256.size inb_S1x2048x256_S1x1024x256_0_0_0, k0_pay1 (k0_pay102 (B.doneL f (B.allU f L)).1.1)⟩,
    ⟨Rect.unit (s := S1x2048x256) ![0, 1024, 0] S1x1024x256.size inb_S1x2048x256_S1x1024x256_0_1024_0, k0_pay55 (B.doneU f L).1.1⟩]
def Bufs.dv : List (View.Piece (Elt Ideal) S1x2048x128 .bf16) :=
  [⟨Rect.unit (s := S1x2048x128) ![0, 0, 0] S1x1024x128.size inb_S1x2048x128_S1x1024x128_0_0_0, k0_pay2 (B.doneL f (B.allU f L)).1.2⟩,
    ⟨Rect.unit (s := S1x2048x128) ![0, 1024, 0] S1x1024x128.size inb_S1x2048x128_S1x1024x128_0_1024_0, k0_pay56 (B.doneU f L).1.2⟩]

/-- The accumulator cleared. -/
def clear : List (View.Piece (Elt Ideal) S8192x256 .f32) :=
  [⟨Rect.unit (s := S8192x256) ![0, 0] S8192x256.size inb_S8192x256_S8192x256_0_0, k0_pay4 (F := Ideal)⟩]

end Stages

section Instances

attribute [local irreducible] st_k0_t1 st_k0_t2 st_k0_t3 st_k0_t4

variable (B : Bufs)

theorem runMid_dk (hc1 : ¬ Scalar.cmpi .ne (first B.i) 0#32 = 1#1) (hc2 : ¬ k0_cond2 B.i = 1#1) (f11 : BufTy.Contents (Elt Ideal) B.a11.view.ty) :
    (runMid (F := Ideal) B.c B.i B.a2 B.h2 B.a3 B.h3 B.a4 B.h4 B.a5 B.h5 B.a6 B.h6 B.a7 B.h7 B.a8 B.h8 B.a9 B.h9 B.a10 B.h10 B.a11 B.h11 B.f2 B.f3 B.f4 B.f5 B.f6 B.f7 f11 hc1 hc2).1 = B.dk f11 [] := rfl
theorem runMid_dv (hc1 : ¬ Scalar.cmpi .ne (first B.i) 0#32 = 1#1) (hc2 : ¬ k0_cond2 B.i = 1#1) (f11 : BufTy.Contents (Elt Ideal) B.a11.view.ty) :
    (runMid (F := Ideal) B.c B.i B.a2 B.h2 B.a3 B.h3 B.a4 B.h4 B.a5 B.h5 B.a6 B.h6 B.a7 B.h7 B.a8 B.h8 B.a9 B.h9 B.a10 B.h10 B.a11 B.h11 B.f2 B.f3 B.f4 B.f5 B.f6 B.f7 f11 hc1 hc2).2.1 = B.dv f11 [] := rfl
theorem runMid_all (hc1 : ¬ Scalar.cmpi .ne (first B.i) 0#32 = 1#1) (hc2 : ¬ k0_cond2 B.i = 1#1) (f11 : BufTy.Contents (Elt Ideal) B.a11.view.ty) :
    (runMid (F := Ideal) B.c B.i B.a2 B.h2 B.a3 B.h3 B.a4 B.h4 B.a5 B.h5 B.a6 B.h6 B.a7 B.h7 B.a8 B.h8 B.a9 B.h9 B.a10 B.h10 B.a11 B.h11 B.f2 B.f3 B.f4 B.f5 B.f6 B.f7 f11 hc1 hc2).2.2.1 = B.all f11 [] := rfl
theorem runLast_dk (hc1 : ¬ Scalar.cmpi .ne (first B.i) 0#32 = 1#1) (hc2 : k0_cond2 B.i = 1#1) (f11 : BufTy.Contents (Elt Ideal) B.a11.view.ty) :
    (runLast (F := Ideal) B.c B.i B.a2 B.h2 B.a3 B.h3 B.a4 B.h4 B.a5 B.h5 B.a6 B.h6 B.a7 B.h7 B.a8 B.h8 B.a9 B.h9 B.a10 B.h10 B.a11 B.h11 B.f2 B.f3 B.f4 B.f5 B.f6 B.f7 f11 hc1 hc2).2.1 = B.dk f11 [] := rfl
theorem runLast_dv (hc1 : ¬ Scalar.cmpi .ne (first B.i) 0#32 = 1#1) (hc2 : k0_cond2 B.i = 1#1) (f11 : BufTy.Contents (Elt Ideal) B.a11.view.ty) :
    (runLast (F := Ideal) B.c B.i B.a2 B.h2 B.a3 B.h3 B.a4 B.h4 B.a5 B.h5 B.a6 B.h6 B.a7 B.h7 B.a8 B.h8 B.a9 B.h9 B.a10 B.h10 B.a11 B.h11 B.f2 B.f3 B.f4 B.f5 B.f6 B.f7 f11 hc1 hc2).2.2.1 = B.dv f11 [] := rfl
theorem runLast_all (hc1 : ¬ Scalar.cmpi .ne (first B.i) 0#32 = 1#1) (hc2 : k0_cond2 B.i = 1#1) (f11 : BufTy.Contents (Elt Ideal) B.a11.view.ty) :
    (runLast (F := Ideal) B.c B.i B.a2 B.h2 B.a3 B.h3 B.a4 B.h4 B.a5 B.h5 B.a6 B.h6 B.a7 B.h7 B.a8 B.h8 B.a9 B.h9 B.a10 B.h10 B.a11 B.h11 B.f2 B.f3 B.f4 B.f5 B.f6 B.f7 f11 hc1 hc2).2.2.2.1 = B.all f11 [] := rfl
theorem runFirst_dk (hc1 : Scalar.cmpi .ne (first B.i) 0#32 = 1#1) (hc2 : ¬ k0_cond2 B.i = 1#1) :
    (runFirst (F := Ideal) B.c B.i B.a2 B.h2 B.a3 B.h3 B.a4 B.h4 B.a5 B.h5 B.a6 B.h6 B.a7 B.h7 B.a8 B.h8 B.a9 B.h9 B.a10 B.h10 B.a11 B.h11 B.f2 B.f3 B.f4 B.f5 B.f6 B.f7 hc1 hc2).1 = B.dk B.a11.view.junk clear := rfl
theorem runFirst_dv (hc1 : Scalar.cmpi .ne (first B.i) 0#32 = 1#1) (hc2 : ¬ k0_cond2 B.i = 1#1) :
    (runFirst (F := Ideal) B.c B.i B.a2 B.h2 B.a3 B.h3 B.a4 B.h4 B.a5 B.h5 B.a6 B.h6 B.a7 B.h7 B.a8 B.h8 B.a9 B.h9 B.a10 B.h10 B.a11 B.h11 B.f2 B.f3 B.f4 B.f5 B.f6 B.f7 hc1 hc2).2.1 = B.dv B.a11.view.junk clear := rfl
theorem runFirst_all (hc1 : Scalar.cmpi .ne (first B.i) 0#32 = 1#1) (hc2 : ¬ k0_cond2 B.i = 1#1) :
    (runFirst (F := Ideal) B.c B.i B.a2 B.h2 B.a3 B.h3 B.a4 B.h4 B.a5 B.h5 B.a6 B.h6 B.a7 B.h7 B.a8 B.h8 B.a9 B.h9 B.a10 B.h10 B.a11 B.h11 B.f2 B.f3 B.f4 B.f5 B.f6 B.f7 hc1 hc2).2.2.1 = B.all B.a11.view.junk clear := rfl
theorem runLast_dq (hc1 : ¬ Scalar.cmpi .ne (first B.i) 0#32 = 1#1) (hc2 : k0_cond2 B.i = 1#1) (f11 : BufTy.Contents (Elt Ideal) B.a11.view.ty) :
    (runLast (F := Ideal) B.c B.i B.a2 B.h2 B.a3 B.h3 B.a4 B.h4 B.a5 B.h5 B.a6 B.h6 B.a7 B.h7 B.a8 B.h8 B.a9 B.h9 B.a10 B.h10 B.a11 B.h11 B.f2 B.f3 B.f4 B.f5 B.f6 B.f7 f11 hc1 hc2).1
      = [⟨Rect.unit (s := S1x8192x256) ![0, 0, 0] S1x8192x256.size inb_S1x8192x256_S1x8192x256_0_0_0,
          k0_pay3 (B.a11.view.readAt (Elt Ideal) (Rect.unit (s := S8192x256) ![0, 0] S8192x256.size inb_S8192x256_S8192x256_0_0).toLoadRect (B.a11.view.writes (Elt Ideal) f11 (B.all f11 [])))⟩] := rfl

end Instances

end Cert.FlashIdeal.Body
-- ==== Proof.FlashSum.lean ====
/-
  What one point of the attention backward kernel's grid adds up: each half of the key block adds, at every row of the
  accumulator, its keys weighted by the gradients of the scores; its key gradient is the sum over all the queries, its
  value gradient likewise. The mask makes the sums over all rows the sums over the rows visited.
-/
module

public import proofs.«01_k».proof.Proof.FlashStage

@[expose] public section

set_option maxRecDepth 16384

noncomputable section

open Idealize.ShloMosaic Idealize.ShloMosaic.TcCoe Idealize.SL.Sem
open Idealize.ShloMosaic.Tactic
open Idealize.ShloMosaic.Pipeline (Dat)

namespace Cert.FlashIdeal.Body

open Cert.FlashIdeal Cert.FlashIdeal.Gen

/-! ### The sums joined -/

section Join

variable (R : Rows) (J T : ℕ) (hJ : J + 1024 * (T + 1) = 8192)

/-- The keys weighted by the gradients of the scores at row `n`. -/
def Rows.add (n : ℕ) (d : Fin 256) : EReal := ∑ a : Fin 1024, R.wm J a n * R.k a d

include hJ in
theorem join_acc (x : EReal) (y : Fin 8192) (d : Fin 256) :
    x + (if J + 512 * 0 ≤ y.val ∧ y.val < J + 512 * 0 + 512 then ∑ a : Fin 512, R.wm J a y * R.k a d else 0)
      + (if J + 512 * 1 ≤ y.val ∧ y.val < J + 512 * 1 + 512 then ∑ a : Fin 512, R.wm J a y * R.k a d else 0)
      + (if J + 512 * 1 ≤ y.val ∧ y.val < J + 512 * 1 + 512 then ∑ a : Fin 512, R.wm J (512 + a) y * R.k (512 + a) d else 0)
      + (if J + 1024 ≤ y.val ∧ y.val < J + 1024 * (T + 1) then ∑ a : Fin 1024, R.ww a y * R.k a d else 0)
      = x + R.add J y d := by
  have hy := y.isLt
  have hh : R.add J y d = ∑ a : Fin 512, R.wm J a y * R.k a d + ∑ a : Fin 512, R.wm J (512 + a) y * R.k (512 + a) d :=
    halves fun a => R.wm J a y * R.k a d
  rcases lt_or_ge y.val J with h | h
  · have e : R.add J y d = 0 := Finset.sum_eq_zero fun a _ => by rw [Rows.wm, if_neg (by omega), zero_mul]
    rw [if_neg (by omega), if_neg (by omega), if_neg (by omega), if_neg (by omega), e]
    simp
  rcases lt_or_ge y.val (J + 512) with h1 | h1
  · have e : ∑ a : Fin 512, R.wm J (512 + a) y * R.k (512 + a) d = 0 :=
      Finset.sum_eq_zero fun a _ => by rw [Rows.wm, if_neg (by omega), zero_mul]
    rw [if_pos (by omega), if_neg (by omega), if_neg (by omega), if_neg (by omega), hh, e]
    simp
  rcases lt_or_ge y.val (J + 1024) with h2 | h2
  · rw [if_neg (by omega), if_pos (by omega), if_pos (by omega), if_neg (by omega), hh, add_zero, add_zero, add_assoc]
  · have e : R.add J y d = ∑ a : Fin 1024, R.ww a y * R.k a d :=
      Finset.sum_congr rfl fun a _ => by rw [Rows.wm, if_pos (by omega)]
    rw [if_neg (by omega), if_neg (by omega), if_neg (by omega), if_pos (by omega), e]
    simp

theorem join_range (hJ : J + 1024 * (T + 1) = 8192) (w : ℕ → EReal) (m : ℕ → EReal) (hw : ∀ n, m n = if J ≤ n then m n else 0)
    (hm : ∀ n, J + 1024 ≤ n → m n = w n) :
    ∑ b : Fin 1024, m (J + b) + ∑ x ∈ Finset.range (1024 * T), w (J + 1024 + x) = ∑ n : Fin 8192, m n := by
  have e : Finset.range 8192 = Finset.range (J + (1024 + 1024 * T)) := by congr 1; omega
  rw [← Finset.sum_range m, e, Finset.sum_range_add, Finset.sum_range_add,
    Finset.sum_eq_zero (s := Finset.range J) (fun n hn => by rw [hw, if_neg (by have := Finset.mem_range.1 hn; omega)]), zero_add,
    Finset.sum_range (n := 1024) (fun x => m (J + x))]
  refine congrArg _ (Finset.sum_congr rfl fun x _ => ?_)
  rw [← hm (J + 1024 + x) (by omega), add_assoc]

theorem join_dk (hJ : J + 1024 * (T + 1) = 8192) (a : Fin 1024) (d : Fin 256) :
    ∑ b : Fin 1024, R.wm J a (J + b) * R.q (J + b) d + ∑ x ∈ Finset.range (1024 * T), R.ww a (J + 1024 + x) * R.q (J + 1024 + x) d
      = ∑ n : Fin 8192, R.wm J a n * R.q n d :=
  join_range J T hJ (fun n => R.ww a n * R.q n d) (fun n => R.wm J a n * R.q n d)
    (fun n => by
      by_cases h : J ≤ n
      · rw [if_pos h]
      · rw [if_neg h, Rows.wm, if_neg (by omega), zero_mul])
    (fun n h => by
      show R.wm J a n * _ = _
      rw [Rows.wm, if_pos (by omega)])

theorem join_dv (hJ : J + 1024 * (T + 1) = 8192) (a : Fin 1024) (d : Fin 128) :
    ∑ b : Fin 1024, R.pm J a (J + b) * R.d (J + b) d + ∑ x ∈ Finset.range (1024 * T), R.pw a (J + 1024 + x) * R.d (J + 1024 + x) d
      = ∑ n : Fin 8192, R.pm J a n * R.d n d :=
  join_range J T hJ (fun n => R.pw a n * R.d n d) (fun n => R.pm J a n * R.d n d)
    (fun n => by
      by_cases h : J ≤ n
      · rw [if_pos h]
      · rw [if_neg h, Rows.pm, if_neg (by omega), zero_mul])
    (fun n h => by
      show R.pm J a n * _ = _
      rw [Rows.pm, if_pos (by omega)])

end Join

section Gather

variable (v : View sig .tc .vmem S8192x256 .f32) (f : v.ty.Contents (Elt Ideal)) (R : Rows) (J T : ℕ)
  (L L1 L2 L3 : List (View.Piece (Elt Ideal) S8192x256 .f32))
  (st : ℕ → (FVec Ideal S1024x256 .f32 × FVec Ideal S1024x128 .f32) × List (View.Piece (Elt Ideal) S8192x256 .f32))

/-- What a half leaves: the writes `L'` add the weighted keys to the accumulator, `s` carries its two gradients. -/
structure Leaves (L' : List (View.Piece (Elt Ideal) S8192x256 .f32)) (s : FVec Ideal S1024x256 .f32 × FVec Ideal S1024x128 .f32) : Prop where
  acc : ∀ y d, v.read (Elt Ideal) (v.writes (Elt Ideal) f L') (ix2 y d) = v.read (Elt Ideal) (v.writes (Elt Ideal) f L) (ix2 y d) + R.add J y.val d
  dk : ∀ a d, s.1 (ix2 a d) = ∑ n : Fin 8192, R.wm J a n * R.q n d
  dv : ∀ a d, s.2 (ix2 a d) = ∑ n : Fin 8192, R.pm J a n * R.d n d

/-- The diagonal's three updates, then the later row blocks. -/
theorem gather (hJ : J + 1024 * (T + 1) = 8192)
    (h1 : ∀ y d, v.read (Elt Ideal) (v.writes (Elt Ideal) f L1) (ix2 y d) = v.read (Elt Ideal) (v.writes (Elt Ideal) f L) (ix2 y d)
      + if J + 512 * 0 ≤ y.val ∧ y.val < J + 512 * 0 + 512 then ∑ a : Fin 512, R.wm J a y.val * R.k a d else 0)
    (h2 : ∀ y d, v.read (Elt Ideal) (v.writes (Elt Ideal) f L2) (ix2 y d) = v.read (Elt Ideal) (v.writes (Elt Ideal) f L1) (ix2 y d)
      + if J + 512 * 1 ≤ y.val ∧ y.val < J + 512 * 1 + 512 then ∑ a : Fin 512, R.wm J a y.val * R.k a d else 0)
    (h3 : ∀ y d, v.read (Elt Ideal) (v.writes (Elt Ideal) f L3) (ix2 y d) = v.read (Elt Ideal) (v.writes (Elt Ideal) f L2) (ix2 y d)
      + if J + 512 * 1 ≤ y.val ∧ y.val < J + 512 * 1 + 512 then ∑ a : Fin 512, R.wm J (512 + a) y.val * R.k (512 + a) d else 0)
    (hz : (st 0).2 = []) (hk : ∀ a d, (st 0).1.1 (ix2 a d) = ∑ b : Fin 1024, R.wm J a (J + b) * R.q (J + b) d)
    (hv : ∀ a d, (st 0).1.2 (ix2 a d) = ∑ b : Fin 1024, R.pm J a (J + b) * R.d (J + b) d)
    (hd : ∀ k < T, TripDoes v (v.writes (Elt Ideal) f L3) st J (fun n d => ∑ a : Fin 1024, R.ww a n * R.k a d)
      (fun a n d => R.ww a n * R.q n d) (fun a n d => R.pw a n * R.d n d) k) :
    Leaves v f R J L ((st T).2 ++ L3) (st T).1 := by
  obtain ⟨f1, f2, f3⟩ := fold v _ st T J _ _ _ hd T le_rfl
  refine ⟨fun y d => ?_, fun a d => ?_, fun a d => ?_⟩
  · rw [View.writes_append, f1, hz, View.writes_nil, h3, h2, h1]
    exact join_acc R J T hJ _ y d
  · rw [f2, hk]
    exact join_dk R J T hJ a d
  · rw [f3, hv]
    exact join_dv R J T hJ a d

end Gather

/-! ### A loop of no trips -/

theorem restU_zero (B : Bufs) (f : BufTy.Contents (Elt Ideal) B.a11.view.ty) (L : List (View.Piece (Elt Ideal) S8192x256 .f32)) :
    B.restU f L 0 = ((B.endU f L).1, []) := by
  unfold Bufs.restU
  rw [st_k0_t2.eq_1, Prod.mk.eta]
theorem restL_zero (B : Bufs) (f : BufTy.Contents (Elt Ideal) B.a11.view.ty) (L : List (View.Piece (Elt Ideal) S8192x256 .f32)) :
    B.restL f L 0 = ((B.endL f L).1, []) := by
  unfold Bufs.restL
  rw [st_k0_t4.eq_1, Prod.mk.eta]

/-! ### A point's buffers -/

section Point

variable (m : (ℓ : Loc nD τ sig) → Buf (Elt Ideal) ℓ) (c : Dev nD) (t : Fin cfg0.N)

/-- The point's buffers, each input at its block. -/
abbrev pt : Bufs := ⟨c, grid0.coords t, st0_0 t, hs0 t, st0_1 t, hs1 t, st0_2 t, hs2 t, st0_3 t, hs3 t, st0_4 t, hs4 t, st0_5 t, hs5 t,
  st0_6 t, hs6 t, st0_7 t, hs7 t, st0_8 t, hs8 t, scM, hsc,
  (hs0 t).unread (iblk m c 0 t), (hs1 t).unread (iblk m c 1 t), (hs2 t).unread (iblk m c 2 t), (hs3 t).unread (iblk m c 3 t),
  (hs4 t).unread (iblk m c 4 t), (hs5 t).unread (iblk m c 5 t)⟩

/-- The rows that half `s` of its keys meets. -/
abbrev half (s : ℕ) : Rows := rows (iblk m c 0 t) (iblk m c 1 t) (iblk m c 2 t) (iblk m c 3 t) (iblk m c 4 t) (iblk m c 5 t) s

/-! ### The upper half -/

section Upper

theorem kU_at (a : Fin 1024) (d : Fin 256) : (pt m c t).kU (ix3 0 a d) = (half m c t 1).k a d :=
  (Memref.IsWhole.readAt_unread (Val := Elt Ideal) (hs1 t) (iblk m c 1 t) _ _).trans (load3 (iblk m c 1 t) _ _ rfl a d)
theorem vU_at (a : Fin 1024) (d : Fin 128) : (pt m c t).vU (ix3 0 a d) = (half m c t 1).v a d :=
  (Memref.IsWhole.readAt_unread (Val := Elt Ideal) (hs2 t) (iblk m c 2 t) _ _).trans (load3 (iblk m c 2 t) _ _ rfl a d)
theorem lU_at (n : Fin 1024) : (pt m c t).lU (ix3 0 0 n) = (half m c t 1).l (1024 * jj t 1 + n) :=
  lane_at t (st0_4 t) (hs4 t) (iblk m c 4 t) 1 n
theorem eU_at (n : Fin 1024) : (pt m c t).eU (ix3 0 0 n) = (half m c t 1).e (1024 * jj t 1 + n) :=
  lane_at t (st0_5 t) (hs5 t) (iblk m c 5 t) 1 n
theorem q0U_at (b : Fin 512) (d : Fin 256) : (pt m c t).q0U (ix3 0 b d) = (half m c t 1).q (1024 * jj t 1 + b) d :=
  q512_at t (st0_0 t) (hs0 t) (iblk m c 0 t) 1 0 b d
theorem q1U_at (b : Fin 512) (d : Fin 256) : (pt m c t).q1U (ix3 0 b d) = (half m c t 1).q (1024 * jj t 1 + (512 + b)) d :=
  (q512_at t (st0_0 t) (hs0 t) (iblk m c 0 t) 1 1 b d).trans (by rw [← Nat.add_assoc]; rfl)
theorem d0U_at (b : Fin 512) (d : Fin 128) : (pt m c t).d0U (ix2 b d) = (half m c t 1).d (1024 * jj t 1 + b) d :=
  d512_at t (st0_3 t) (hs3 t) (iblk m c 3 t) 1 0 b d
theorem d1U_at (b : Fin 512) (d : Fin 128) : (pt m c t).d1U (ix2 b d) = (half m c t 1).d (1024 * jj t 1 + (512 + b)) d :=
  (d512_at t (st0_3 t) (hs3 t) (iblk m c 3 t) 1 1 b d).trans (by rw [← Nat.add_assoc]; rfl)

variable (f : BufTy.Contents (Elt Ideal) scM.view.ty) (L : List (View.Piece (Elt Ideal) S8192x256 .f32))

theorem oneU_at (y : Fin 8192) (d : Fin 256) :
    scM.view.read (Elt Ideal) (scM.view.writes (Elt Ideal) f ((pt m c t).oneU f L)) (ix2 y d) = scM.view.read (Elt Ideal) (scM.view.writes (Elt Ideal) f L) (ix2 y d)
      + if 1024 * jj t 1 + 512 * 0 ≤ y.val ∧ y.val < 1024 * jj t 1 + 512 * 0 + 512 then ∑ a : Fin 512, (half m c t 1).wm (1024 * jj t 1) a y.val * (half m c t 1).k a d else 0 :=
  read_push scM.view f _ _ (off4_eq t 1 0) _ L (fun n d => ∑ a : Fin 512, (half m c t 1).wm (1024 * jj t 1) a n * (half m c t 1).k a d)
    (fun b d => pay20_at (half m c t 1) (1024 * jj t 1) _ _ _ _ _ _ (kU_at m c t) (vU_at m c t) (lU_at m c t) (eU_at m c t) (q0U_at m c t) (d0U_at m c t) _ b d) y d

theorem twoU_at (y : Fin 8192) (d : Fin 256) :
    scM.view.read (Elt Ideal) (scM.view.writes (Elt Ideal) f ((pt m c t).twoU f L)) (ix2 y d) = scM.view.read (Elt Ideal) (scM.view.writes (Elt Ideal) f ((pt m c t).oneU f L)) (ix2 y d)
      + if 1024 * jj t 1 + 512 * 1 ≤ y.val ∧ y.val < 1024 * jj t 1 + 512 * 1 + 512 then ∑ a : Fin 512, (half m c t 1).wm (1024 * jj t 1) a y.val * (half m c t 1).k a d else 0 :=
  read_push scM.view f _ _ (off4_eq t 1 1) _ _ (fun n d => ∑ a : Fin 512, (half m c t 1).wm (1024 * jj t 1) a n * (half m c t 1).k a d)
    (fun b d => (pay29_at (half m c t 1) (1024 * jj t 1) _ _ _ _ _ _ (kU_at m c t) (vU_at m c t) (lU_at m c t) (eU_at m c t) (q1U_at m c t) (d1U_at m c t) _ b d).trans
      (by rw [← Nat.add_assoc]; rfl)) y d

theorem threeU_at (y : Fin 8192) (d : Fin 256) :
    scM.view.read (Elt Ideal) (scM.view.writes (Elt Ideal) f ((pt m c t).threeU f L)) (ix2 y d) = scM.view.read (Elt Ideal) (scM.view.writes (Elt Ideal) f ((pt m c t).twoU f L)) (ix2 y d)
      + if 1024 * jj t 1 + 512 * 1 ≤ y.val ∧ y.val < 1024 * jj t 1 + 512 * 1 + 512 then ∑ a : Fin 512, (half m c t 1).wm (1024 * jj t 1) (512 + a) y.val * (half m c t 1).k (512 + a) d else 0 :=
  read_push scM.view f _ _ (off4_eq t 1 1) _ _ (fun n d => ∑ a : Fin 512, (half m c t 1).wm (1024 * jj t 1) (512 + a) n * (half m c t 1).k (512 + a) d)
    (fun b d => (pay38_at (half m c t 1) (1024 * jj t 1) _ _ _ _ _ _ (kU_at m c t) (vU_at m c t) (lU_at m c t) (eU_at m c t) (q1U_at m c t) (d1U_at m c t) _ b d).trans
      (congrArg₂ (· + ·) (congrFun (View.readAt_writes_of_cover scM.view f _ _ fun j => ⟨_, List.mem_cons_self, LoadRect.idx_mem _ j⟩).symm _)
        (by rw [← Nat.add_assoc]; rfl))) y d

theorem hkU (a : Fin 1024) (d : Fin 256) : k0_pay5 (F := Ideal) (pt m c t).kU (ix2 a d) = (half m c t 1).k a d := by
  refine Eq.trans ?_ (kU_at m c t a d)
  pointwise [k0_pay5]
theorem hvU (a : Fin 1024) (d : Fin 128) : k0_pay6 (F := Ideal) (pt m c t).vU (ix2 a d) = (half m c t 1).v a d := by
  refine Eq.trans ?_ (vU_at m c t a d)
  pointwise [k0_pay6]

theorem upper : Leaves scM.view f (half m c t 1) (1024 * jj t 1) L ((pt m c t).allU f L) ((pt m c t).doneU f L).1 := by
  have hr : (pt m c t).doneU f L = (((pt m c t).endU f L).1, []) :=
    (congrArg ((pt m c t).restU f L) (show Scf.trips (k0_t2_loop (grid0.coords t)).lb (k0_t2_loop (grid0.coords t)).ub (k0_t2_loop (grid0.coords t)).st = 0 from trips2 t)).trans
      (restU_zero (pt m c t) f L)
  have he : (pt m c t).endU f L = (pt m c t).runU f L (7 - jj t 1) :=
    congrArg ((pt m c t).runU f L) (show Scf.trips (k0_t1_loop (grid0.coords t)).lb (k0_t1_loop (grid0.coords t)).ub (k0_t1_loop (grid0.coords t)).st = _ from trips1 t)
  unfold Bufs.allU
  rw [hr, List.nil_append, he]
  refine gather scM.view f (half m c t 1) (1024 * jj t 1) (7 - jj t 1) L _ _ _ ((pt m c t).runU f L) ?_
    (oneU_at m c t f L) (twoU_at m c t f L) (threeU_at m c t f L) rfl ?_ ?_ ?_
  · have := jj_lt t 1; omega
  · exact fun a d => pay39_at (half m c t 1) (1024 * jj t 1) _ _ _ _ _ _ _ _ (kU_at m c t) (vU_at m c t) (lU_at m c t) (eU_at m c t) (q0U_at m c t) (d0U_at m c t) (q1U_at m c t) (d1U_at m c t) a d
  · exact fun a d => pay40_at (half m c t 1) (1024 * jj t 1) _ _ _ _ _ _ (kU_at m c t) (lU_at m c t) (q0U_at m c t) (d0U_at m c t) (q1U_at m c t) (d1U_at m c t) a d
  · intro k hk
    have hk' : k < (k0_t1_loop (grid0.coords t)).trips := (trips1 t).symm ▸ hk
    exact does_of_after t (st0_0 t) (hs0 t) (st0_3 t) (hs3 t) (st0_4 t) (hs4 t) (st0_5 t) (hs5 t) scM
      (iblk m c 0 t) (iblk m c 1 t) (iblk m c 2 t) (iblk m c 3 t) (iblk m c 4 t) (iblk m c 5 t) _ 1 _ _ (hkU m c t) (hvU m c t) _ k
      _ _ (off5_eq t ⟨k, hk'⟩) _ _ (off6_eq t ⟨k, hk'⟩) _ _ (off7_eq t ⟨k, hk'⟩) _ _ (off8_eq t ⟨k, hk'⟩) false
      (run1_succ _ _ _ _ _ _ _ _ _ _ _ _ _ _ _ _ _ _ _ _ _ _ _ _ _ _ _ _ _ _ _ _ _ _ _ _ _ _ _ ⟨k, hk'⟩ _ rfl)

end Upper

/-! ### The lower half -/

section Lower

theorem kL_at (a : Fin 1024) (d : Fin 256) : (pt m c t).kL (ix3 0 a d) = (half m c t 0).k a d :=
  (Memref.IsWhole.readAt_unread (Val := Elt Ideal) (hs1 t) (iblk m c 1 t) _ _).trans (load3 (iblk m c 1 t) _ _ rfl a d)
theorem vL_at (a : Fin 1024) (d : Fin 128) : (pt m c t).vL (ix3 0 a d) = (half m c t 0).v a d :=
  (Memref.IsWhole.readAt_unread (Val := Elt Ideal) (hs2 t) (iblk m c 2 t) _ _).trans (load3 (iblk m c 2 t) _ _ rfl a d)
theorem lL_at (n : Fin 1024) : (pt m c t).lL (ix3 0 0 n) = (half m c t 0).l (1024 * jj t 0 + n) :=
  lane_at t (st0_4 t) (hs4 t) (iblk m c 4 t) 0 n
theorem eL_at (n : Fin 1024) : (pt m c t).eL (ix3 0 0 n) = (half m c t 0).e (1024 * jj t 0 + n) :=
  lane_at t (st0_5 t) (hs5 t) (iblk m c 5 t) 0 n
theorem q0L_at (b : Fin 512) (d : Fin 256) : (pt m c t).q0L (ix3 0 b d) = (half m c t 0).q (1024 * jj t 0 + b) d :=
  q512_at t (st0_0 t) (hs0 t) (iblk m c 0 t) 0 0 b d
theorem q1L_at (b : Fin 512) (d : Fin 256) : (pt m c t).q1L (ix3 0 b d) = (half m c t 0).q (1024 * jj t 0 + (512 + b)) d :=
  (q512_at t (st0_0 t) (hs0 t) (iblk m c 0 t) 0 1 b d).trans (by rw [← Nat.add_assoc]; rfl)
theorem d0L_at (b : Fin 512) (d : Fin 128) : (pt m c t).d0L (ix2 b d) = (half m c t 0).d (1024 * jj t 0 + b) d :=
  d512_at t (st0_3 t) (hs3 t) (iblk m c 3 t) 0 0 b d
theorem d1L_at (b : Fin 512) (d : Fin 128) : (pt m c t).d1L (ix2 b d) = (half m c t 0).d (1024 * jj t 0 + (512 + b)) d :=
  (d512_at t (st0_3 t) (hs3 t) (iblk m c 3 t) 0 1 b d).trans (by rw [← Nat.add_assoc]; rfl)

variable (f : BufTy.Contents (Elt Ideal) scM.view.ty) (L : List (View.Piece (Elt Ideal) S8192x256 .f32))

theorem oneL_at (y : Fin 8192) (d : Fin 256) :
    scM.view.read (Elt Ideal) (scM.view.writes (Elt Ideal) f ((pt m c t).oneL f L)) (ix2 y d) = scM.view.read (Elt Ideal) (scM.view.writes (Elt Ideal) f L) (ix2 y d)
      + if 1024 * jj t 0 + 512 * 0 ≤ y.val ∧ y.val < 1024 * jj t 0 + 512 * 0 + 512 then ∑ a : Fin 512, (half m c t 0).wm (1024 * jj t 0) a y.val * (half m c t 0).k a d else 0 :=
  read_push scM.view f _ _ (off4_eq t 0 0) _ L (fun n d => ∑ a : Fin 512, (half m c t 0).wm (1024 * jj t 0) a n * (half m c t 0).k a d)
    (fun b d => pay68_at (half m c t 0) (1024 * jj t 0) _ _ _ _ _ _ (kL_at m c t) (vL_at m c t) (lL_at m c t) (eL_at m c t) (q0L_at m c t) (d0L_at m c t) _ b d) y d

theorem twoL_at (y : Fin 8192) (d : Fin 256) :
    scM.view.read (Elt Ideal) (scM.view.writes (Elt Ideal) f ((pt m c t).twoL f L)) (ix2 y d) = scM.view.read (Elt Ideal) (scM.view.writes (Elt Ideal) f ((pt m c t).oneL f L)) (ix2 y d)
      + if 1024 * jj t 0 + 512 * 1 ≤ y.val ∧ y.val < 1024 * jj t 0 + 512 * 1 + 512 then ∑ a : Fin 512, (half m c t 0).wm (1024 * jj t 0) a y.val * (half m c t 0).k a d else 0 :=
  read_push scM.view f _ _ (off4_eq t 0 1) _ _ (fun n d => ∑ a : Fin 512, (half m c t 0).wm (1024 * jj t 0) a n * (half m c t 0).k a d)
    (fun b d => (pay76_at (half m c t 0) (1024 * jj t 0) _ _ _ _ _ _ (kL_at m c t) (vL_at m c t) (lL_at m c t) (eL_at m c t) (q1L_at m c t) (d1L_at m c t) _ b d).trans
      (by rw [← Nat.add_assoc]; rfl)) y d

theorem threeL_at (y : Fin 8192) (d : Fin 256) :
    scM.view.read (Elt Ideal) (scM.view.writes (Elt Ideal) f ((pt m c t).threeL f L)) (ix2 y d) = scM.view.read (Elt Ideal) (scM.view.writes (Elt Ideal) f ((pt m c t).twoL f L)) (ix2 y d)
      + if 1024 * jj t 0 + 512 * 1 ≤ y.val ∧ y.val < 1024 * jj t 0 + 512 * 1 + 512 then ∑ a : Fin 512, (half m c t 0).wm (1024 * jj t 0) (512 + a) y.val * (half m c t 0).k (512 + a) d else 0 :=
  read_push scM.view f _ _ (off4_eq t 0 1) _ _ (fun n d => ∑ a : Fin 512, (half m c t 0).wm (1024 * jj t 0) (512 + a) n * (half m c t 0).k (512 + a) d)
    (fun b d => (pay85_at (half m c t 0) (1024 * jj t 0) _ _ _ _ _ _ (kL_at m c t) (vL_at m c t) (lL_at m c t) (eL_at m c t) (q1L_at m c t) (d1L_at m c t) _ b d).trans
      (congrArg₂ (· + ·) (congrFun (View.readAt_writes_of_cover scM.view f _ _ fun j => ⟨_, List.mem_cons_self, LoadRect.idx_mem _ j⟩).symm _)
        (by rw [← Nat.add_assoc]; rfl))) y d

theorem hkL (a : Fin 1024) (d : Fin 256) : k0_pay57 (F := Ideal) (pt m c t).kL (ix2 a d) = (half m c t 0).k a d := by
  refine Eq.trans ?_ (kL_at m c t a d)
  pointwise [k0_pay57]
theorem hvL (a : Fin 1024) (d : Fin 128) : k0_pay58 (F := Ideal) (pt m c t).vL (ix2 a d) = (half m c t 0).v a d := by
  refine Eq.trans ?_ (vL_at m c t a d)
  pointwise [k0_pay58]

theorem lower : Leaves scM.view f (half m c t 0) (1024 * jj t 0) L ((pt m c t).allL f L) ((pt m c t).doneL f L).1 := by
  have hr : (pt m c t).doneL f L = (((pt m c t).endL f L).1, []) :=
    (congrArg ((pt m c t).restL f L) (show Scf.trips (k0_t4_loop (grid0.coords t)).lb (k0_t4_loop (grid0.coords t)).ub (k0_t4_loop (grid0.coords t)).st = 0 from trips4 t)).trans
      (restL_zero (pt m c t) f L)
  have he : (pt m c t).endL f L = (pt m c t).runL f L (7 - jj t 0) :=
    congrArg ((pt m c t).runL f L) (show Scf.trips (k0_t3_loop (grid0.coords t)).lb (k0_t3_loop (grid0.coords t)).ub (k0_t3_loop (grid0.coords t)).st = _ from trips3 t)
  unfold Bufs.allL
  rw [hr, List.nil_append, he]
  refine gather scM.view f (half m c t 0) (1024 * jj t 0) (7 - jj t 0) L _ _ _ ((pt m c t).runL f L) ?_
    (oneL_at m c t f L) (twoL_at m c t f L) (threeL_at m c t f L) rfl ?_ ?_ ?_
  · have := jj_lt t 0; omega
  · exact fun a d => pay86_at (half m c t 0) (1024 * jj t 0) _ _ _ _ _ _ _ _ (kL_at m c t) (vL_at m c t) (lL_at m c t) (eL_at m c t) (q0L_at m c t) (d0L_at m c t) (q1L_at m c t) (d1L_at m c t) a d
  · exact fun a d => pay87_at (half m c t 0) (1024 * jj t 0) _ _ _ _ _ _ (kL_at m c t) (lL_at m c t) (q0L_at m c t) (d0L_at m c t) (q1L_at m c t) (d1L_at m c t) a d
  · intro k hk
    have hk' : k < (k0_t3_loop (grid0.coords t)).trips := (trips3 t).symm ▸ hk
    exact does_of_after t (st0_0 t) (hs0 t) (st0_3 t) (hs3 t) (st0_4 t) (hs4 t) (st0_5 t) (hs5 t) scM
      (iblk m c 0 t) (iblk m c 1 t) (iblk m c 2 t) (iblk m c 3 t) (iblk m c 4 t) (iblk m c 5 t) _ 0 _ _ (hkL m c t) (hvL m c t) _ k
      _ _ (off13_eq t ⟨k, hk'⟩) _ _ (off14_eq t ⟨k, hk'⟩) _ _ (off15_eq t ⟨k, hk'⟩) _ _ (off16_eq t ⟨k, hk'⟩) true
      (run3_succ _ _ _ _ _ _ _ _ _ _ _ _ _ _ _ _ _ _ _ _ _ _ _ _ _ _ _ _ _ _ _ _ _ _ _ _ _ _ _ _ _ _ ⟨k, hk'⟩ _ rfl)

end Lower

end Point

end Cert.FlashIdeal.Body
-- ==== Proof.FlashPoint.lean ====
/-
  One point of the attention backward kernel's grid, in the rows of its blocks: the accumulator gains, at every row, the
  block's keys weighted by the gradients of the scores; the block's key and value gradients are sums over all the queries.
-/
module

public import proofs.«01_k».proof.Proof.FlashSum

@[expose] public section

set_option maxRecDepth 16384

noncomputable section

open Idealize.ShloMosaic Idealize.ShloMosaic.TcCoe Idealize.SL.Sem
open Idealize.ShloMosaic.Tactic
open Idealize.ShloMosaic.Pipeline (Dat)

namespace Cert.FlashIdeal.Body

open Cert.FlashIdeal Cert.FlashIdeal.Gen

/-! ### The values written out -/

theorem ln2 : Named.named (F := Ideal) κ "ln2" (φ := .f32) 0x3F317218#32 = ((Real.log 2 : ℝ) : EReal) :=
  IdealRules.named_const.ideal_named_scalar _ _ _ _ rfl

theorem pay1_at (x : FVec Ideal S1024x256 .f32) (a : Fin 1024) (d : Fin 256) : k0_pay1 (k0_pay102 x) (ix3 0 a d) = x (ix2 a d) * (Real.log 2 : ℝ) := by
  pointwise [k0_pay1, k0_pay102]
  rw [ln2]
theorem pay55_at (x : FVec Ideal S1024x256 .f32) (a : Fin 1024) (d : Fin 256) : k0_pay55 x (ix3 0 a d) = x (ix2 a d) * (Real.log 2 : ℝ) := by
  pointwise [k0_pay55]
  rw [ln2]
theorem pay2_at (x : FVec Ideal S1024x128 .f32) (a : Fin 1024) (d : Fin 128) : k0_pay2 x (ix3 0 a d) = x (ix2 a d) := by
  pointwise [k0_pay2]
theorem pay56_at (x : FVec Ideal S1024x128 .f32) (a : Fin 1024) (d : Fin 128) : k0_pay56 x (ix3 0 a d) = x (ix2 a d) := by
  pointwise [k0_pay56]
theorem pay3_at (x : Vec Ideal S8192x256 .f32) (a : Fin 8192) (d : Fin 256) : k0_pay3 x (ix3 0 a d) = x (ix2 a d) := by
  pointwise [k0_pay3]
theorem pay4_at (y : S8192x256.Idx) : k0_pay4 (F := Ideal) y = 0 := by
  pointwise [k0_pay4]

variable (m : (ℓ : Loc nD τ sig) → Buf (Elt Ideal) ℓ) (c : Dev nD) (t : Fin cfg0.N)

/-! ### The two halves as one block -/

/-- The place of the block's first key. -/
abbrev base : ℕ := 1024 * jj t 0

theorem upper_base : 1024 * jj t 1 = base t + 1024 := by
  have h1 : ((1 : Fin 2) : ℕ) = 1 := rfl
  have h0 : ((0 : Fin 2) : ℕ) = 0 := rfl
  unfold base jj
  omega

theorem upper_k (a : ℕ) : (half m c t 1).k a = (half m c t 0).k (1024 + a) :=
  funext fun d => congrArg (fun n => row3 (iblk m c 1 t) n d) (by omega)
theorem upper_v (a : ℕ) : (half m c t 1).v a = (half m c t 0).v (1024 + a) :=
  funext fun d => congrArg (fun n => row3 (iblk m c 2 t) n d) (by omega)
theorem upper_pw (a n : ℕ) : (half m c t 1).pw a n = (half m c t 0).pw (1024 + a) n := by
  unfold Rows.pw
  rw [upper_k]
  rfl
theorem upper_ww (a n : ℕ) : (half m c t 1).ww a n = (half m c t 0).ww (1024 + a) n := by
  unfold Rows.ww
  rw [upper_v, upper_pw]
  rfl
theorem upper_pm (a n : ℕ) : (half m c t 1).pm (1024 * jj t 1) a n = (half m c t 0).pm (base t) (1024 + a) n := by
  unfold Rows.pm
  rw [upper_pw, upper_base, Nat.add_assoc]
theorem upper_wm (a n : ℕ) : (half m c t 1).wm (1024 * jj t 1) a n = (half m c t 0).wm (base t) (1024 + a) n := by
  unfold Rows.wm
  rw [upper_ww, upper_base, Nat.add_assoc]

/-- A sum over 2048 in two halves. -/
theorem halves2 (f : ℕ → EReal) : ∑ a : Fin 2048, f a = ∑ a : Fin 1024, f a + ∑ a : Fin 1024, f (1024 + a) := by
  rw [← Finset.sum_range, ← Finset.sum_range, ← Finset.sum_range (fun a => f (1024 + a)), ← Finset.sum_range_add]

section Totals

variable (f : BufTy.Contents (Elt Ideal) scM.view.ty) (L : List (View.Piece (Elt Ideal) S8192x256 .f32))

/-- What the point adds to the accumulator. -/
def gain (y : ℕ) (d : Fin 256) : EReal := ∑ a : Fin 2048, (half m c t 0).wm (base t) a y * (half m c t 0).k a d
/-- The block's key gradient, -/
def keyGrad (a : ℕ) (d : Fin 256) : EReal := (∑ n : Fin 8192, (half m c t 0).wm (base t) a n * (half m c t 0).q n d) * (Real.log 2 : ℝ)
/-- and its value gradient. -/
def valGrad (a : ℕ) (d : Fin 128) : EReal := ∑ n : Fin 8192, (half m c t 0).pm (base t) a n * (half m c t 0).d n d

theorem all_at (y : Fin 8192) (d : Fin 256) :
    scM.view.read (Elt Ideal) (scM.view.writes (Elt Ideal) f ((pt m c t).all f L)) (ix2 y d)
      = scM.view.read (Elt Ideal) (scM.view.writes (Elt Ideal) f L) (ix2 y d) + gain m c t y d := by
  refine ((lower m c t f _).acc y d).trans ?_
  rw [(upper m c t f L).acc y d, add_assoc, gain, halves2 fun a => (half m c t 0).wm (base t) a y * (half m c t 0).k a d, add_comm (Rows.add _ _ _ _)]
  refine congrArg _ (congrArg _ (Finset.sum_congr rfl fun a _ => ?_))
  rw [upper_wm, upper_k]

theorem low_dk (L' : List (View.Piece (Elt Ideal) S8192x256 .f32)) (a : Fin 1024) (d : Fin 256) :
    ((pt m c t).doneL f L').1.1 (ix2 a d) * (Real.log 2 : ℝ) = keyGrad m c t a d := by
  rw [(lower m c t f L').dk]
  rfl
theorem up_dk (a : Fin 1024) (d : Fin 256) : ((pt m c t).doneU f L).1.1 (ix2 a d) * (Real.log 2 : ℝ) = keyGrad m c t (1024 + a) d := by
  rw [(upper m c t f L).dk]
  refine congrArg (· * _) (Finset.sum_congr rfl fun n _ => ?_)
  rw [upper_wm]
  rfl
theorem low_dv (L' : List (View.Piece (Elt Ideal) S8192x256 .f32)) (a : Fin 1024) (d : Fin 128) :
    ((pt m c t).doneL f L').1.2 (ix2 a d) = valGrad m c t a d := by
  rw [(lower m c t f L').dv]
  rfl
theorem up_dv (a : Fin 1024) (d : Fin 128) : ((pt m c t).doneU f L).1.2 (ix2 a d) = valGrad m c t (1024 + a) d := by
  rw [(upper m c t f L).dv]
  refine Finset.sum_congr rfl fun n _ => ?_
  rw [upper_pm]
  rfl

theorem dk_at (a : Fin 2048) (d : Fin 256) : View.canon ((pt m c t).dk f L) (ix3 0 a d) = keyGrad m c t a d := by
  refine View.canon_eq_of_allAt _ _ _ (View.cover_of_tiledL _ ![1, 1024, 256] (by sl_kernel_rfl) _) ?_
  unfold Bufs.dk
  refine View.allAt_cons_unit _ _ _ _ _ (fun x hx => ?_) (View.allAt_cons_unit _ _ _ _ _ (fun x hx => ?_) (View.allAt_nil _ _))
  · have hv : (a : ℕ) = (x 1 : Fin 1024).val := (hx 1).trans (Nat.zero_add _)
    have hd : d = (x 2 : Fin 256) := Fin.ext ((hx 2).trans (Nat.zero_add _))
    have e : x = ix3 (0 : Fin 1) (x 1 : Fin 1024) (x 2 : Fin 256) := by blk_ext
    rw [hd, hv]
    refine (congrArg _ e).trans ((pay1_at _ _ _).trans (low_dk m c t f _ _ _))
  · have hv : (a : ℕ) = 1024 + (x 1 : Fin 1024).val := hx 1
    have hd : d = (x 2 : Fin 256) := Fin.ext ((hx 2).trans (Nat.zero_add _))
    have e : x = ix3 (0 : Fin 1) (x 1 : Fin 1024) (x 2 : Fin 256) := by blk_ext
    rw [hd, hv]
    refine (congrArg _ e).trans ((pay55_at _ _ _).trans (up_dk m c t f L _ _))

theorem dv_at (a : Fin 2048) (d : Fin 128) : View.canon ((pt m c t).dv f L) (ix3 0 a d) = valGrad m c t a d := by
  refine View.canon_eq_of_allAt _ _ _ (View.cover_of_tiledL _ ![1, 1024, 128] (by sl_kernel_rfl) _) ?_
  unfold Bufs.dv
  refine View.allAt_cons_unit _ _ _ _ _ (fun x hx => ?_) (View.allAt_cons_unit _ _ _ _ _ (fun x hx => ?_) (View.allAt_nil _ _))
  · have hv : (a : ℕ) = (x 1 : Fin 1024).val := (hx 1).trans (Nat.zero_add _)
    have hd : d = (x 2 : Fin 128) := Fin.ext ((hx 2).trans (Nat.zero_add _))
    have e : x = ix3 (0 : Fin 1) (x 1 : Fin 1024) (x 2 : Fin 128) := by blk_ext
    rw [hd, hv]
    refine (congrArg _ e).trans ((pay2_at _ _ _).trans (low_dv m c t f _ _ _))
  · have hv : (a : ℕ) = 1024 + (x 1 : Fin 1024).val := hx 1
    have hd : d = (x 2 : Fin 128) := Fin.ext ((hx 2).trans (Nat.zero_add _))
    have e : x = ix3 (0 : Fin 1) (x 1 : Fin 1024) (x 2 : Fin 128) := by blk_ext
    rw [hd, hv]
    refine (congrArg _ e).trans ((pay56_at _ _ _).trans (up_dv m c t f L _ _))

end Totals

/-! ### What a point leaves -/

section Leave

variable (G : S8192x256.Idx → EReal)

theorem clear_at (y : S8192x256.Idx) : scM.view.read (Elt Ideal) (scM.view.writes (Elt Ideal) scM.view.junk clear) y = 0 := by
  rw [View.read_writes_eq_canon _ _ _ (View.cover_of_tiledL _ ![8192, 256] (by sl_kernel_rfl))]
  refine View.canon_eq_of_allAt _ _ _ (View.cover_of_tiledL _ ![8192, 256] (by sl_kernel_rfl) _) ?_
  exact View.allAt_cons_unit _ _ _ _ _ (fun x hx => pay4_at x) (View.allAt_nil _ _)

theorem acc_at (y : Fin 8192) (d : Fin 256) : accOut m c t G (ix2 y d) = (if t.val % 4 = 0 then 0 else G (ix2 y d)) + gain m c t y d := by
  unfold accOut
  by_cases h0 : t.val % 4 = 0
  · rw [dif_pos h0, if_pos h0, runFirst_all (pt m c t), all_at m c t]
    exact congrArg (· + _) (clear_at _)
  rw [dif_neg h0, if_neg h0]
  have hG : scM.view.read (Elt Ideal) (scM.view.writes (Elt Ideal) (hsc.unread (Val := Elt Ideal) G) []) (ix2 y d) = G (ix2 y d) :=
    congrFun (Memref.IsWhole.read_unread (Val := Elt Ideal) hsc G) _
  by_cases h3 : t.val % 4 = 3
  · rw [dif_pos h3, runLast_all (pt m c t), all_at m c t]
    exact congrArg (· + _) hG
  · rw [dif_neg h3, runMid_all (pt m c t), all_at m c t]
    exact congrArg (· + _) hG

theorem dkOut_at (a : Fin 2048) (d : Fin 256) : dkOut m c t G (ix3 0 a d) = keyGrad m c t a d := by
  unfold dkOut
  by_cases h0 : t.val % 4 = 0
  · rw [dif_pos h0, runFirst_dk (pt m c t), dk_at]
  rw [dif_neg h0]
  by_cases h3 : t.val % 4 = 3
  · rw [dif_pos h3, runLast_dk (pt m c t), dk_at]
  · rw [dif_neg h3, runMid_dk (pt m c t), dk_at]

theorem dvOut_at (a : Fin 2048) (d : Fin 128) : dvOut m c t G (ix3 0 a d) = valGrad m c t a d := by
  unfold dvOut
  by_cases h0 : t.val % 4 = 0
  · rw [dif_pos h0, runFirst_dv (pt m c t), dv_at]
  rw [dif_neg h0]
  by_cases h3 : t.val % 4 = 3
  · rw [dif_pos h3, runLast_dv (pt m c t), dv_at]
  · rw [dif_neg h3, runMid_dv (pt m c t), dv_at]

/-- The accumulator copied out is the accumulator. -/
theorem copy_at (g : BufTy.Contents (Elt Ideal) scM.view.ty) (y : Fin 8192) (d : Fin 256) :
    View.canon ([⟨Rect.unit (s := S1x8192x256) ![0, 0, 0] S1x8192x256.size inb_S1x8192x256_S1x8192x256_0_0_0,
          k0_pay3 (F := Ideal) (scM.view.readAt (Elt Ideal) (Rect.unit (s := S8192x256) ![0, 0] S8192x256.size inb_S8192x256_S8192x256_0_0).toLoadRect g)⟩] :
        List (View.Piece (Elt Ideal) S1x8192x256 .bf16)) (ix3 0 y d)
      = scM.view.read (Elt Ideal) g (ix2 y d) := by
  refine View.canon_eq_of_allAt _ _ _ (View.cover_of_tiledL _ ![1, 8192, 256] (by sl_kernel_rfl) _) ?_
  refine View.allAt_cons_unit _ _ _ _ _ (fun x hx => ?_) (View.allAt_nil _ _)
  have hy : y = (x 1 : Fin 8192) := Fin.ext ((hx 1).trans (Nat.zero_add _))
  have hd : d = (x 2 : Fin 256) := Fin.ext ((hx 2).trans (Nat.zero_add _))
  have e : x = ix3 (0 : Fin 1) y d := by rw [hy, hd]; blk_ext
  refine (congrArg _ e).trans ((pay3_at _ _ _).trans ?_)
  refine congrArg (scM.view.read (Elt Ideal) g) (funext fun a => Fin.ext ?_)
  fin_cases a
  · exact (Nat.zero_add _).trans (Nat.one_mul _)
  · exact (Nat.zero_add _).trans (Nat.one_mul _)

theorem dqOut_at (h3 : t.val % 4 = 3) (y : Fin 8192) (d : Fin 256) : dqOut m c t G (ix3 0 y d) = accOut m c t G (ix2 y d) := by
  unfold dqOut accOut
  have h0 : ¬ t.val % 4 = 0 := by omega
  rw [dif_pos h3, dif_neg h0, dif_pos h3, runLast_all (pt m c t)]
  exact (congrArg (fun P => View.canon P _) (runLast_dq (pt m c t) _ _ _)).trans (copy_at _ y d)

end Leave

end Cert.FlashIdeal.Body
-- ==== Proof.FlashArray.lean ====
/-
  The attention backward kernel's result arrays, in the arrays it is called with: the gradient of the query rows is a
  head's keys weighted by the gradients of the scores, the gradients of the keys and the values are sums over its queries.
-/
module

public import proofs.«01_k».proof.Proof.FlashPoint

@[expose] public section

set_option maxRecDepth 16384

noncomputable section

open Idealize.ShloMosaic Idealize.ShloMosaic.TcCoe Idealize.SL.Sem
open Idealize.ShloMosaic.Tactic
open Idealize.ShloMosaic.Pipeline (Dat)

namespace Cert.FlashIdeal.Body

open Cert.FlashIdeal Cert.FlashIdeal.Gen

variable (m : (ℓ : Loc nD τ sig) → Buf (Elt Ideal) ℓ) (c : Dev nD)

/-! ### The arrays the call is given -/

/-- The queries, scaled, -/
def aQ : Vec Ideal S8x8192x256 .bf16 := V m c main_v40
/-- the keys, -/
def aK : Vec Ideal S8x8192x256 .bf16 := V m c main_v41
/-- the values, -/
def aV : Vec Ideal S8x8192x128 .bf16 := V m c main_v42
/-- the gradient of the output, -/
def aD : Vec Ideal S8192x1024 .bf16 := V m c main_v43
/-- the rows' log-sums, -/
def aL : Vec Ideal S8x8x1024 .f32 := V m c main_v44
/-- the rows' sums of gradient times output. -/
def aE : Vec Ideal S8x8x1024 .f32 := V m c main_v45

/-- Column `d` of head `h` among all heads' columns. -/
abbrev col (h : Fin 8) (d : Fin 128) : Fin 1024 := ⟨128 * h.val + d.val, by omega⟩
/-- Entry `n` of head `h` of a sequence laid out in rows of 1024. -/
abbrev at1024 (X : Vec Ideal S8x8x1024 .f32) (h : Fin 8) (n : Fin 8192) : EReal :=
  X (ix3 h (⟨n.val / 1024, by omega⟩ : Fin 8) (⟨n.val % 1024, by omega⟩ : Fin 1024))

/-- The probability of key `a` at query `n` of head `h`, without the mask, -/
def prob (h : Fin 8) (a n : Fin 8192) : EReal :=
  FloatOps.exp2 (F := Ideal) (φ := .f32) (∑ x : Fin 256, aK m c (ix3 h a x) * aQ m c (ix3 h n x) - at1024 (aL m c) h n)
/-- with it, -/
def probM (h : Fin 8) (a n : Fin 8192) : EReal := if a ≤ n then prob m c h a n else 0
/-- and the gradient of the score. -/
def gradM (h : Fin 8) (a n : Fin 8192) : EReal :=
  if a ≤ n then prob m c h a n * (∑ x : Fin 128, aV m c (ix3 h a x) * aD m c (ix2 n (col h x)) - at1024 (aE m c) h n) else 0

/-- The three gradients. -/
def outQ (i : S8x8192x256.Idx) : EReal := ∑ a : Fin 8192, gradM m c (i 0) a (i 1) * aK m c (ix3 (i 0) a (i 2))
def outK (i : S8x8192x256.Idx) : EReal := (∑ n : Fin 8192, gradM m c (i 0) (i 1) n * aQ m c (ix3 (i 0) n (i 2))) * (Real.log 2 : ℝ)
def outV (i : S8x8192x128.Idx) : EReal := ∑ n : Fin 8192, probM m c (i 0) (i 1) n * aD m c (ix2 n (col (i 0) (i 2)))

/-! ### The blocks -/

theorem idx : ∀ t : Fin cfg0.N, win0_0.index t = ![t.val / 4, 0, 0] ∧ win0_1.index t = ![t.val / 4, 3 - t.val % 4, 0]
    ∧ win0_2.index t = ![t.val / 4, 3 - t.val % 4, 0] ∧ win0_3.index t = ![0, t.val / 4] ∧ win0_4.index t = ![t.val / 4, 0, 0]
    ∧ win0_5.index t = ![t.val / 4, 0, 0] ∧ win0_6.index t = ![t.val / 4, 0, 0] ∧ win0_7.index t = ![t.val / 4, 3 - t.val % 4, 0]
    ∧ win0_8.index t = ![t.val / 4, 3 - t.val % 4, 0] :=
  (by decide +kernel : ∀ t : Fin grid0.N, _)

section Blocks
variable (t : Fin cfg0.N)

/-- The head of a point. -/
abbrev head : Fin 8 := ⟨t.val / 4, by have := lt_of_lt_of_eq t.isLt N_0; omega⟩
/-- Row `a` of the point's key block among all keys. -/
abbrev key (a : Fin 2048) : Fin 8192 := ⟨2048 * (3 - t.val % 4) + a.val, by omega⟩

theorem blkQ (n : Fin 8192) (d : Fin 256) : iblk m c 0 t (ix3 (0 : Fin 1) n d) = aQ m c (ix3 (head t) n d) := by
  unfold aQ
  blk_point [iblk, idx t]
theorem blkK (a : Fin 2048) (d : Fin 256) : iblk m c 1 t (ix3 (0 : Fin 1) a d) = aK m c (ix3 (head t) (key t a) d) := by
  unfold aK
  blk_point [iblk, idx t]
theorem blkV (a : Fin 2048) (d : Fin 128) : iblk m c 2 t (ix3 (0 : Fin 1) a d) = aV m c (ix3 (head t) (key t a) d) := by
  unfold aV
  blk_point [iblk, idx t]
theorem blkD (n : Fin 8192) (d : Fin 128) : iblk m c 3 t (ix2 n d) = aD m c (ix2 n (col (head t) d)) := by
  unfold aD
  blk_point [iblk, idx t]
theorem readL (A : Vec Ideal S8x8x1024 .f32) (r : Fin 8) (l : Fin 1024) :
    ((cfg0.win 4).blk t).view.read (Elt Ideal) A (ix3 (0 : Fin 1) r l) = A (ix3 (head t) r l) := by
  blk_point [idx t]
theorem blkL (r : Fin 8) (l : Fin 1024) : iblk m c 4 t (ix3 (0 : Fin 1) r l) = aL m c (ix3 (head t) r l) := by
  unfold aL iblk
  exact readL t (V m c main_v44) r l
theorem blkE (r : Fin 8) (l : Fin 1024) : iblk m c 5 t (ix3 (0 : Fin 1) r l) = aE m c (ix3 (head t) r l) := by
  unfold aE
  blk_point [iblk, idx t]

/-! ### The rows of a point -/

theorem half_q (n : Fin 8192) (d : Fin 256) : (half m c t 0).q n d = aQ m c (ix3 (head t) n d) :=
  (dif_pos n.isLt).trans (blkQ m c t n d)
theorem half_k (a : Fin 2048) (d : Fin 256) : (half m c t 0).k a d = aK m c (ix3 (head t) (key t a) d) :=
  (congrArg (fun n => row3 (iblk m c 1 t) n d) (Nat.zero_add a.val)).trans ((dif_pos a.isLt).trans (blkK m c t a d))
theorem half_v (a : Fin 2048) (d : Fin 128) : (half m c t 0).v a d = aV m c (ix3 (head t) (key t a) d) :=
  (congrArg (fun n => row3 (iblk m c 2 t) n d) (Nat.zero_add a.val)).trans ((dif_pos a.isLt).trans (blkV m c t a d))
theorem half_d (n : Fin 8192) (d : Fin 128) : (half m c t 0).d n d = aD m c (ix2 n (col (head t) d)) :=
  (dif_pos n.isLt).trans (blkD m c t n d)
theorem half_l (n : Fin 8192) : (half m c t 0).l n = at1024 (aL m c) (head t) n :=
  (dif_pos (by omega)).trans (blkL m c t _ _)
theorem half_e (n : Fin 8192) : (half m c t 0).e n = at1024 (aE m c) (head t) n :=
  (dif_pos (by omega)).trans (blkE m c t _ _)

theorem half_pw (a : Fin 2048) (n : Fin 8192) : (half m c t 0).pw a n = prob m c (head t) (key t a) n := by
  unfold Rows.pw prob
  rw [half_l]
  refine congrArg (fun s => FloatOps.exp2 (F := Ideal) (φ := .f32) (s - _)) (Finset.sum_congr rfl fun x _ => ?_)
  rw [half_k, half_q]

theorem place (a : Fin 2048) (n : Fin 8192) : base t + a ≤ n.val ↔ key t a ≤ n := by
  have h0 : ((0 : Fin 2) : ℕ) = 0 := rfl
  rw [Fin.le_def]
  unfold base jj
  dsimp only [key]
  omega

theorem half_pm (a : Fin 2048) (n : Fin 8192) : (half m c t 0).pm (base t) a n = probM m c (head t) (key t a) n := by
  unfold Rows.pm probM
  rw [half_pw]
  exact if_congr (place t a n) rfl rfl

theorem half_wm (a : Fin 2048) (n : Fin 8192) : (half m c t 0).wm (base t) a n = gradM m c (head t) (key t a) n := by
  unfold Rows.wm gradM Rows.ww
  rw [half_pw, half_e]
  refine if_congr (place t a n) (congrArg (fun s => _ * (s - _)) (Finset.sum_congr rfl fun x _ => ?_)) rfl
  rw [half_v, half_d]

theorem gain_eq (y : Fin 8192) (d : Fin 256) :
    gain m c t y d = ∑ a : Fin 2048, gradM m c (head t) (key t a) y * aK m c (ix3 (head t) (key t a) d) :=
  Finset.sum_congr rfl fun a _ => congrArg₂ (· * ·) (half_wm m c t a y) (half_k m c t a d)
theorem keyGrad_eq (a : Fin 2048) (d : Fin 256) : keyGrad m c t a d = outK m c (ix3 (head t) (key t a) d) :=
  congrArg (· * ((Real.log 2 : ℝ) : EReal)) (Finset.sum_congr rfl fun n _ => congrArg₂ (· * ·) (half_wm m c t a n) (half_q m c t n d))
theorem valGrad_eq (a : Fin 2048) (d : Fin 128) : valGrad m c t a d = outV m c (ix3 (head t) (key t a) d) :=
  Finset.sum_congr rfl fun n _ => congrArg₂ (· * ·) (half_pm m c t a n) (half_d m c t n d)

/-! ### The accumulator over a head -/

theorem acc_step (y : Fin 8192) (d : Fin 256) :
    acc m c (t.val + 1) (ix2 y d) = (if t.val % 4 = 0 then 0 else acc m c t.val (ix2 y d)) + gain m c t y d :=
  (congrFun (acc_succ m c t) _).trans (acc_at m c t _ y d)

end Blocks

/-- Point `i` of head `h`. -/
abbrev point (h : Fin 8) (i : Fin 4) : Fin cfg0.N := ⟨4 * h.val + i.val, lt_of_lt_of_eq (by omega) N_0.symm⟩

theorem sum4 (f : Fin 8192 → EReal) : ∑ a : Fin 8192, f a
    = ∑ a : Fin 2048, f ⟨2048 * 3 + a.val, by omega⟩ + ∑ a : Fin 2048, f ⟨2048 * 2 + a.val, by omega⟩
      + ∑ a : Fin 2048, f ⟨2048 * 1 + a.val, by omega⟩ + ∑ a : Fin 2048, f ⟨2048 * 0 + a.val, by omega⟩ := by
  rw [← Fin.sum_mul_add_congr (S := 4) (n := 2048) (f := f) (F := fun s k => f ⟨2048 * s.val + k.val, by omega⟩)
    fun s k hl => congrArg f (Fin.ext (congrArg (· + k.val) (Nat.mul_comm _ _)))]
  rw [Fin.sum_univ_four]
  have h : ∀ a b c d : EReal, a + b + c + d = d + c + b + a := fun a b c d => by abel
  exact h _ _ _ _

theorem acc_head (h : Fin 8) (y : Fin 8192) (d : Fin 256) :
    acc m c (4 * h.val + 4) (ix2 y d) = outQ m c (ix3 h y d) := by
  have s (i : Fin 4) : gain m c (point h i) y d
      = ∑ a : Fin 2048, (fun a => gradM m c h a y * aK m c (ix3 h a d)) ⟨2048 * (3 - i.val) + a.val, by omega⟩ := by
    refine (gain_eq m c _ y d).trans (Finset.sum_congr rfl fun a _ => ?_)
    have hh : head (point h i) = h := Fin.ext (by show (4 * h.val + i.val) / 4 = h.val; omega)
    have hk : key (point h i) a = ⟨2048 * (3 - i.val) + a.val, by omega⟩ :=
      Fin.ext (by show 2048 * (3 - (4 * h.val + i.val) % 4) + a.val = _; dsimp only; omega)
    rw [hh, hk]
  have e3 := acc_step m c (point h 3) y d
  have e2 := acc_step m c (point h 2) y d
  have e1 := acc_step m c (point h 1) y d
  have e0 := acc_step m c (point h 0) y d
  rw [if_neg (by show ¬ (4 * h.val + 3) % 4 = 0; omega)] at e3
  rw [if_neg (by show ¬ (4 * h.val + 2) % 4 = 0; omega)] at e2
  rw [if_neg (by show ¬ (4 * h.val + 1) % 4 = 0; omega)] at e1
  rw [if_pos (by show (4 * h.val + 0) % 4 = 0; omega), zero_add] at e0
  rw [s 3] at e3
  rw [s 2] at e2
  rw [s 1] at e1
  rw [s 0] at e0
  refine e3.trans ((congrArg (· + _) (e2.trans (congrArg (· + _) (e1.trans (congrArg (· + _) e0))))).trans ?_)
  exact (sum4 fun a => gradM m c h a y * aK m c (ix3 h a d)).symm

/-! ### The arrays after the run -/

theorem finalK : (dats m 0 c).arrAt 7 (cfgs 0).N = outK m c := by
  refine (dats m 0 c).arrAt_eq_of_covers 7 _ (by decide +kernel) fun t _ y => ?_
  blk_simp
  rw [after7]
  have hy : y = (ix3 (0 : Fin 1) (y 1 : Fin 2048) (y 2 : Fin 256) : S1x2048x256.Idx) := by blk_ext
  have he : ((cfg0.win 7).blk t).view.emb y = (ix3 (head t) (key t (y 1)) (y 2) : S8x8192x256.Idx) := by
    blk_ext [idx t]
  exact (congrArg (dkOut m c t _) hy).trans ((dkOut_at m c t _ (y 1) (y 2)).trans ((keyGrad_eq m c t _ _).trans (congrArg (outK m c) he.symm)))

theorem finalV : (dats m 0 c).arrAt 8 (cfgs 0).N = outV m c := by
  refine (dats m 0 c).arrAt_eq_of_covers 8 _ (by decide +kernel) fun t _ y => ?_
  blk_simp
  rw [after8]
  have hy : y = (ix3 (0 : Fin 1) (y 1 : Fin 2048) (y 2 : Fin 128) : S1x2048x128.Idx) := by blk_ext
  have he : ((cfg0.win 8).blk t).view.emb y = (ix3 (head t) (key t (y 1)) (y 2) : S8x8192x128.Idx) := by
    blk_ext [idx t]
  exact (congrArg (dvOut m c t _) hy).trans ((dvOut_at m c t _ (y 1) (y 2)).trans ((valGrad_eq m c t _ _).trans (congrArg (outV m c) he.symm)))

theorem finalQ : (dats m 0 c).arrAt 6 (cfgs 0).N = outQ m c := by
  refine (dats m 0 c).arrAt_eq_of_covers 6 _ (by decide +kernel) fun t hf y => ?_
  have h3 : t.val % 4 = 3 := (flush0_6 t).1 hf
  blk_simp
  rw [after6]
  have hy : y = (ix3 (0 : Fin 1) (y 1 : Fin 8192) (y 2 : Fin 256) : S1x8192x256.Idx) := by blk_ext
  have he : ((cfg0.win 6).blk t).view.emb y = (ix3 (head t) (y 1) (y 2) : S8x8192x256.Idx) := by
    blk_ext [idx t]
  refine (congrArg (dqOut m c t _) hy).trans ((dqOut_at m c t _ h3 (y 1) (y 2)).trans ?_)
  refine ((congrFun (acc_succ m c t) _).symm.trans ?_).trans (congrArg (outQ m c) he.symm)
  have e : t.val + 1 = 4 * (head t).val + 4 := by show t.val + 1 = 4 * (t.val / 4) + 4; omega
  rw [e]
  exact acc_head m c (head t) (y 1) (y 2)

end Cert.FlashIdeal.Body
-- ==== Proof.FlashHost.lean ====
/-
  What the host computes for the attention backward call: the scaled queries, keys and values with their heads in front,
  and from the same forward lines each row's log-sum and its sum of gradient times output.
-/
module

public import Idealize.ShloMosaic.Lib.StableHlo.RunRead
public import proofs.«01_k».proof.Proof.FlashArray

@[expose] public section

set_option maxRecDepth 16384

noncomputable section

open Idealize.ShloMosaic Idealize.ShloMosaic.TcCoe Idealize.SL.Sem
open Idealize.ShloMosaic.Tactic

namespace Cert.FlashIdeal.Host

open Cert.FlashIdeal Cert.FlashIdeal.Gen

/-! ### The host's lines, as functions of arrays -/

/-- Columns of zeros behind a head's columns, -/
def padded (x : FVec Ideal S8x8192x192 .f32) : FVec Ideal S8x8192x256 .f32 :=
  pad S8x8192x256 ![0, 0, 0] ![0, 0, 64] ![0, 0, 0] x (sitofp (F := Ideal) .f32 (constantI S_ 32 0#32)) pads_S8x8192x192_S8x8192x256_000_000_0640 h_S_
/-- the logarithm of 2, -/
def logTwo : FVec Ideal S_ .f32 := Host.log (F := Ideal) (constant (F := Ideal) S_ FTy.f32 1073741824#32)
/-- the queries scaled, in units of the logarithm of 2, -/
def hQ (x : FVec Ideal S8192x8x192 .f32) : FVec Ideal S8x8192x256 .f32 :=
  padded (transpose S8x8192x192 [1, 0, 2] (Host.divf (F := Ideal) (mulf x (broadcastInDim S8192x8x192 ![] bcast_S_S8192x8x192 (constant (F := Ideal) S_ FTy.f32 1033096506#32)))
    (broadcastInDim S8192x8x192 ![] bcast_S_S8192x8x192 logTwo)) transposes_S8192x8x192_S8x8192x192_1_0_2)
/-- the keys, -/
def hK (x : FVec Ideal S8192x8x192 .f32) : FVec Ideal S8x8192x256 .f32 :=
  padded (transpose S8x8192x192 [1, 0, 2] x transposes_S8192x8x192_S8x8192x192_1_0_2)
/-- a value array with its heads in front, -/
def hV (x : FVec Ideal S8192x8x128 .f32) : FVec Ideal S8x8192x128 .f32 :=
  transpose S8x8192x128 [1, 0, 2] x transposes_S8192x8x128_S8x8192x128_1_0_2
/-- the scores, -∞ where the key stands after the query, -/
def hS (Q K : FVec Ideal S8x8192x256 .f32) : FVec Ideal S8x8192x8192 .f32 :=
  select (broadcastInDim S8x8192x8192 ![0, 1, 2] bcast_S1x8192x8192_S8x8192x8192_0_1_2 (broadcastInDim S1x8192x8192 ![1, 2] bcast_S8192x8192_S1x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0))))))
    (Host.dotGeneral (F := Ideal) dot_S8x8192x256_S8x8192x256_S8x8192x8192_2_2_1_1_0_0 none Q K)
    (broadcastInDim S8x8192x8192 ![] bcast_S_S8x8192x8192 (constant (F := Ideal) S_ .f32 0xFF800000#32))
/-- their maximum over the keys, -/
def hM (s : FVec Ideal S8x8192x8192 .f32) : FVec Ideal S8x8192x1 .f32 :=
  broadcastInDim S8x8192x1 ![0, 1] bcast_S8x8192_S8x8192x1_0_1
    (Host.reduce (FloatOps.maximumf (F := Ideal) (φ := .f32)) s (constant (F := Ideal) S_ .f32 0xFF800000#32) reducesTo_S8x8192x8192_S8x8192_d2 h_S_)
/-- the exponentials over the maximum, -/
def hP (s : FVec Ideal S8x8192x8192 .f32) (x : FVec Ideal S8x8192x1 .f32) : FVec Ideal S8x8192x8192 .f32 :=
  Host.exp (F := Ideal) (mulf (subf s (broadcastInDim S8x8192x8192 ![0, 1, 2] bcast_S8x8192x1_S8x8192x8192_0_1_2 x)) (broadcastInDim S8x8192x8192 ![] bcast_S_S8x8192x8192 logTwo))
/-- their sums over the keys, -/
def hN (p : FVec Ideal S8x8192x8192 .f32) : FVec Ideal S8x8192x1 .f32 :=
  broadcastInDim S8x8192x1 ![0, 1] bcast_S8x8192_S8x8192x1_0_1
    (Host.reduceAdd (F := Ideal) p (constant (F := Ideal) S_ .f32 0x00000000#32) reducesTo_S8x8192x8192_S8x8192_d2 h_S_)
/-- the row's log-sum to base 2, -/
def hL (x l : FVec Ideal S8x8192x1 .f32) : FVec Ideal S8x8192x1 .f32 :=
  addf x (Host.divf (F := Ideal) (Host.log (F := Ideal) l) (broadcastInDim S8x8192x1 ![] bcast_S_S8x8192x1 logTwo))
/-- the output, -/
def hO (p : FVec Ideal S8x8192x8192 .f32) (l : FVec Ideal S8x8192x1 .f32) (v : FVec Ideal S8x8192x128 .f32) : FVec Ideal S8x8192x128 .f32 :=
  Host.divf (F := Ideal) (Host.dotGeneral (F := Ideal) dot_S8x8192x8192_S8x8192x128_S8x8192x128_2_1_1_2_0_0 none p v)
    (broadcastInDim S8x8192x128 ![0, 1, 2] bcast_S8x8192x1_S8x8192x128_0_1_2 l)
/-- the row's sum of gradient times output. -/
def hE (d : FVec Ideal S8192x1024 .f32) (o : FVec Ideal S8x8192x128 .f32) : FVec Ideal S8x8192 .f32 :=
  Host.reduceAdd (F := Ideal) (mulf (hV (shapeCast S8192x8x128 d shapeCasts_S8192x1024_S8192x8x128)) o) (constant (F := Ideal) S_ .f32 0x00000000#32)
    reducesTo_S8x8192x128_S8x8192_d2 h_S_

section Entry

variable (m : (ℓ : Loc nD τ sig) → Buf (Elt Ideal) ℓ) (c : Dev nD)

/-- The arguments as launched. -/
abbrev a0 : FVec Ideal S8192x8x192 .f32 := m ((c : Thread nD τ).loc main_arg0)
abbrev a1 : FVec Ideal S8192x8x192 .f32 := m ((c : Thread nD τ).loc main_arg1)
abbrev a2 : FVec Ideal S8192x8x128 .f32 := m ((c : Thread nD τ).loc main_arg2)
abbrev a3 : FVec Ideal S8192x1024 .f32 := m ((c : Thread nD τ).loc main_arg3)
/-- The scores and their exponentials, of the arguments. -/
abbrev scores := hS (hQ (a0 m c)) (hK (a1 m c))
abbrev tops := hM (scores m c)
abbrev exps := hP (scores m c) (tops m c)
abbrev sums := hN (exps m c)

theorem aQ_eq : Body.aQ m c = truncf .bf16 (hQ (a0 m c)) bitsLt_bf16_f32 := by
  unfold Body.aQ
  after_reads_simp
  rfl
theorem aK_eq : Body.aK m c = truncf .bf16 (hK (a1 m c)) bitsLt_bf16_f32 := by
  unfold Body.aK
  after_reads_simp
  rfl
theorem aV_eq : Body.aV m c = truncf .bf16 (hV (a2 m c)) bitsLt_bf16_f32 := by
  unfold Body.aV
  after_reads_simp
  rfl
theorem aD_eq : Body.aD m c = truncf .bf16 (a3 m c) bitsLt_bf16_f32 := by
  unfold Body.aD
  after_reads_simp
theorem aL_eq : Body.aL m c = shapeCast S8x8x1024 (hL (tops m c) (sums m c)) shapeCasts_S8x8192x1_S8x8x1024 := by
  unfold Body.aL
  after_reads_simp
  rfl
theorem aE_eq : Body.aE m c = shapeCast S8x8x1024 (hE (a3 m c) (hO (exps m c) (sums m c) (hV (a2 m c)))) shapeCasts_S8x8192_S8x8x1024 := by
  unfold Body.aE
  after_reads_simp
  rfl

end Entry

end Cert.FlashIdeal.Host
-- ==== Proof.FlashMath.lean ====
/-
  Causal attention of real numbers: the probabilities, whatever shift their exponentials are taken over, and the three
  gradients. The extended reals' exponentials, maxima and masked sums of such numbers.
-/
module

public import proofs.«01_k».proof.Proof.Finite
public import Idealize.ShloMosaic.Lib.Pointwise

@[expose] public section

noncomputable section

namespace Cert.FlashMath

open Idealize.ShloMosaic Cert.Finite

/-! ### Constants -/

/-- The factor of the scores. -/
def scale : ℝ := 9686330 / 2 ^ 27

theorem scale_ne : scale ≠ 0 := by unfold scale; norm_num
theorem ofBits_scale : Ideal.ofBits .f32 0x3D93CD3A#32 = (scale : EReal) := by
  simp [Ideal.ofBits, Ideal.ieee, -EReal.coe_mul, scale]; norm_num
theorem ofBits_two : Ideal.ofBits .f32 0x40000000#32 = ((2 : ℝ) : EReal) := by
  simp [Ideal.ofBits, Ideal.ieee, -EReal.coe_mul]; norm_num
theorem ofBits_zero : Ideal.ofBits .f32 0x00000000#32 = 0 := by
  simp [Ideal.ofBits, Ideal.ieee]
theorem ofBits_ninf : Ideal.ofBits .f32 0xFF800000#32 = ⊥ := by simp [Ideal.ofBits, Ideal.ieee]
theorem log_pos (r : ℝ) (h : 0 < r) : Ideal.log (r : EReal) = ((Real.log r : ℝ) : EReal) := by
  rw [Ideal.log_coe, if_neg (not_le.2 h)]
theorem log_two : Ideal.log (Ideal.ofBits .f32 0x40000000#32) = ((Real.log 2 : ℝ) : EReal) := by
  rw [ofBits_two, log_pos 2 (by norm_num)]
theorem ln2_pos : 0 < Real.log 2 := Real.log_pos (by norm_num)

/-! ### A masked row -/

/-- The comparison of two places below 2³¹, read back. -/
theorem sle_ofNat (a b : ℕ) (ha : a < 8192) (hb : b < 8192) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  by_cases hab : a ≤ b
  · simp [IntOp.cmpi, h, hab]
  · simp [IntOp.cmpi, h, hab]

theorem select_le (a b : Fin 8192) (x y : EReal) :
    Scalar.select (IntOp.cmpi CmpIPredicate.sle (BitVec.ofNat 32 a.val) (BitVec.ofNat 32 b.val)) x y = if a ≤ b then x else y := by
  rw [sle_ofNat _ _ a.isLt b.isLt]
  by_cases hab : a.val ≤ b.val
  · rw [if_pos hab, if_pos (Fin.le_def.2 hab)]; rfl
  · rw [if_neg hab, if_neg fun h => hab (Fin.le_def.1 h)]; rfl

/-- The maximum of finitely many numbers below the top, one of them above the bottom, is real. -/
theorem fold_max_real {ι : Type} (s : Finset ι) (f : ι → EReal) (hf : ∀ i ∈ s, f i < ⊤) (i : ι) (hi : i ∈ s) (h : ⊥ < f i) :
    ∃ M : ℝ, s.fold max ⊥ f = (M : EReal) := by
  have h1 : s.fold max ⊥ f < ⊤ := (Finset.fold_max_lt (b := ⊥) (f := f) (s := s) (⊤ : EReal)).2 ⟨bot_lt_top, hf⟩
  have h2 : f i ≤ s.fold max ⊥ f := (Finset.le_fold_max (b := ⊥) (f := f) (s := s) (f i)).2 (Or.inr ⟨i, hi, le_rfl⟩)
  exact ⟨_, (EReal.coe_toReal h1.ne (h.trans_le h2).ne').symm⟩

theorem ite_coe (p : Prop) [Decidable p] (a b : ℝ) : (if p then (a : EReal) else (b : EReal)) = ((if p then a else b : ℝ) : EReal) := by
  split_ifs <;> rfl
theorem ite_coe_zero (p : Prop) [Decidable p] (a : ℝ) : (if p then (a : EReal) else 0) = ((if p then a else 0 : ℝ) : EReal) := by
  split_ifs <;> rfl

/-- A sum whose last 64 terms vanish. -/
theorem sum_padded (f : Fin 192 → ℝ) : ∑ x : Fin 256, (if h : x.val < 192 then ((f ⟨x.val, h⟩ : ℝ) : EReal) else 0) = ((∑ d, f d : ℝ) : EReal) := by
  rw [← coe_sum, Fin.sum_univ_add (a := 192) (b := 64)]
  have h2 : ∀ x : Fin 64, (if h : (Fin.natAdd 192 x).val < 192 then ((f ⟨(Fin.natAdd 192 x).val, h⟩ : ℝ) : EReal) else 0) = 0 := fun x =>
    dif_neg (by simp)
  rw [Finset.sum_congr rfl fun x _ => h2 x, Finset.sum_const_zero, add_zero]
  exact Finset.sum_congr rfl fun x _ => dif_pos x.isLt

/-! ### Attention -/

/-- Rows of heads. -/
abbrev Heads (D : ℕ) := Fin 8192 → Fin 8 → Fin D → ℝ

section
variable (q k : Heads 192) (v o : Heads 128) (h : Fin 8) (n a : Fin 8192)

/-- The score of key `a` at query `n`, -/
def score : ℝ := (∑ d, q n h d * k a h d) * scale
/-- its exponential over a shift, zero where the key stands after the query, -/
def shifted (M : ℝ) : ℝ := if a ≤ n then Real.exp (score q k h n a - M) else 0
/-- their sum over the keys, -/
def mass (M : ℝ) : ℝ := ∑ a, shifted q k h n a M
/-- the probability, -/
def prob : ℝ := shifted q k h n a 0 / mass q k h n 0
/-- the gradient that reaches it, -/
def dprob : ℝ := ∑ d, o n h d * v a h d
/-- the row's sum of the probabilities' gradients, -/
def delta : ℝ := ∑ a, prob q k h n a * dprob v o h n a
/-- the gradient of the score, -/
def dscore : ℝ := prob q k h n a * (dprob v o h n a - delta q k v o h n)
/-- the gradient of the scaled queries, -/
def gq (d : Fin 192) : ℝ := ∑ a, dscore q k v o h n a * k a h d
/-- of the keys -/
def gk (d : Fin 192) : ℝ := ∑ n, dscore q k v o h n a * (scale * q n h d)
/-- and of the values. -/
def gv (d : Fin 128) : ℝ := ∑ n, prob q k h n a * o n h d

theorem shifted_eq (M : ℝ) : shifted q k h n a M = shifted q k h n a 0 * Real.exp (-M) := by
  unfold shifted
  split_ifs
  · rw [← Real.exp_add, sub_zero, sub_eq_add_neg]
  · rw [zero_mul]

theorem mass_eq (M : ℝ) : mass q k h n M = mass q k h n 0 * Real.exp (-M) := by
  unfold mass
  rw [Finset.sum_mul]
  exact Finset.sum_congr rfl fun a _ => shifted_eq q k h n a M

theorem mass_pos (M : ℝ) : 0 < mass q k h n M := by
  unfold mass
  refine Finset.sum_pos' (fun a _ => ?_) ⟨n, Finset.mem_univ _, ?_⟩
  · unfold shifted; split_ifs
    · exact (Real.exp_pos _).le
    · exact le_rfl
  · rw [shifted, if_pos le_rfl]; exact Real.exp_pos _

/-- The shift does not matter. -/
theorem prob_shift (M : ℝ) : shifted q k h n a M / mass q k h n M = prob q k h n a := by
  rw [shifted_eq, mass_eq, prob, mul_div_mul_right _ _ (Real.exp_pos _).ne']

theorem prob_masked (ha : ¬ a ≤ n) : prob q k h n a = 0 := by
  rw [prob, shifted, if_neg ha, zero_div]

/-- The probability from the row's log-sum to base 2. -/
theorem prob_exp2 (M : ℝ) (ha : a ≤ n) :
    Real.rpow 2 (score q k h n a / Real.log 2 - (M + Real.log (mass q k h n (M * Real.log 2)) / Real.log 2)) = prob q k h n a := by
  have hl := ln2_pos.ne'
  have hm := mass_pos q k h n (M * Real.log 2)
  rw [← prob_shift q k h n a (M * Real.log 2), shifted, if_pos ha]
  refine (Real.rpow_def_of_pos (by norm_num) _).trans ?_
  have e : Real.log 2 * (score q k h n a / Real.log 2 - (M + Real.log (mass q k h n (M * Real.log 2)) / Real.log 2))
      = (score q k h n a - M * Real.log 2) - Real.log (mass q k h n (M * Real.log 2)) := by
    field_simp
    ring
  rw [e, Real.exp_sub, Real.exp_log hm]

/-- The row's sum from the output. -/
theorem delta_out (M : ℝ) :
    ∑ d, o n h d * ((∑ a, shifted q k h n a M * v a h d) / mass q k h n M) = delta q k v o h n := by
  unfold delta dprob
  have e : ∀ d, o n h d * ((∑ a, shifted q k h n a M * v a h d) / mass q k h n M) = ∑ a, prob q k h n a * (o n h d * v a h d) := fun d => by
    rw [Finset.sum_div, Finset.mul_sum]
    refine Finset.sum_congr rfl fun a _ => ?_
    rw [← prob_shift q k h n a M]
    ring
  rw [Finset.sum_congr rfl fun d _ => e d, Finset.sum_comm]
  exact Finset.sum_congr rfl fun a _ => (Finset.mul_sum _ _ _).symm

/-- The gradient of the score as differentiation of the quotient writes it. -/
theorem dscore_quot (M : ℝ) :
    (dprob v o h n a / mass q k h n M + -∑ a, dprob v o h n a * (1 / (mass q k h n M * mass q k h n M)) * shifted q k h n a M) * shifted q k h n a M
      = dscore q k v o h n a := by
  have hm := (mass_pos q k h n M).ne'
  unfold dscore delta
  rw [← prob_shift q k h n a M]
  have e : ∑ a, dprob v o h n a * (1 / (mass q k h n M * mass q k h n M)) * shifted q k h n a M
      = (∑ a, prob q k h n a * dprob v o h n a) / mass q k h n M := by
    rw [Finset.sum_div]
    refine Finset.sum_congr rfl fun a _ => ?_
    rw [← prob_shift q k h n a M]
    field_simp
  rw [e]
  field_simp
  ring

/-- The exponential of a masked score over a shift. -/
theorem exp_masked (M : ℝ) : Ideal.exp ((if a ≤ n then ((score q k h n a : ℝ) : EReal) else ⊥) - (M : EReal)) = ((shifted q k h n a M : ℝ) : EReal) := by
  unfold shifted
  split_ifs
  · rw [← EReal.coe_sub, Ideal.exp_coe]
  · rw [EReal.bot_sub, Ideal.exp_bot]; rfl

/-- The same with the score and the shift in units of the logarithm of 2. -/
theorem exp_masked2 (M : ℝ) :
    Ideal.exp (((if a ≤ n then ((score q k h n a / Real.log 2 : ℝ) : EReal) else ⊥) - (M : EReal)) * ((Real.log 2 : ℝ) : EReal))
      = ((shifted q k h n a (M * Real.log 2) : ℝ) : EReal) := by
  unfold shifted
  have hl := ln2_pos
  split_ifs
  · rw [← EReal.coe_sub, ← EReal.coe_mul, Ideal.exp_coe, sub_mul, div_mul_cancel₀ _ hl.ne']
  · rw [EReal.bot_sub, EReal.bot_mul_coe_of_pos hl, Ideal.exp_bot]; rfl

/-- A masked row of scores has a real maximum. -/
theorem max_masked (f : Fin 8192 → ℝ) : ∃ M : ℝ, Finset.univ.fold max ⊥ (fun a => if a ≤ n then ((f a : ℝ) : EReal) else ⊥) = (M : EReal) := by
  refine fold_max_real _ _ (fun a _ => ?_) n (Finset.mem_univ _) ?_
  · split_ifs
    · exact EReal.coe_lt_top _
    · exact bot_lt_top
  · rw [if_pos le_rfl]; exact EReal.bot_lt_coe _

end

end Cert.FlashMath
-- ==== Proof.FlashSaved.lean ====
/-
  The arrays the attention backward call is given and the gradients it leaves, for arguments that are real numbers.
-/
module

public import proofs.«01_k».proof.Proof.FlashHost
public import proofs.«01_k».proof.Proof.FlashMath

@[expose] public section

set_option maxRecDepth 16384

noncomputable section

open Idealize.ShloMosaic Idealize.ShloMosaic.TcCoe Idealize.SL.Sem
open Idealize.ShloMosaic.Tactic

namespace Cert.FlashIdeal.Host

open Cert.FlashIdeal Cert.FlashIdeal.Gen Cert.FlashMath Cert.Finite

/-! ### The host's lines at an index -/

section Lines

variable (q k : Heads 192) (v o : Heads 128) (h : Fin 8) (n a : Fin 8192)

theorem sitofp_zero : FloatOps.sitofp (F := Ideal) FTy.f32 (0#32 : BitVec 32) = (0 : EReal) := by
  show (((0#32 : BitVec 32).toInt : ℝ) : EReal) = 0
  simp

section
variable {x : FVec Ideal S8192x8x192 .f32}

theorem hQ_at (hx : ∀ n h d, x (ix3 n h d) = ((q n h d : ℝ) : EReal)) (d : Fin 256) :
    hQ x (ix3 h n d) = if hd : d.val < 192 then ((q n h ⟨d.val, hd⟩ * scale / Real.log 2 : ℝ) : EReal) else 0 := by
  pointwise [hQ, padded, logTwo]
  rw [sitofp_zero, log_two, ofBits_scale]
  split_ifs
  · rw [hx, ← EReal.coe_mul, div_coe _ _ ln2_pos.ne']
  · rfl

theorem hK_at (hx : ∀ n h d, x (ix3 n h d) = ((k n h d : ℝ) : EReal)) (d : Fin 256) :
    hK x (ix3 h n d) = if hd : d.val < 192 then ((k n h ⟨d.val, hd⟩ : ℝ) : EReal) else 0 := by
  pointwise [hK, padded]
  rw [sitofp_zero]
  split_ifs
  · rw [hx]
  · rfl
end

/-- A product of padded rows. -/
theorem dot_padded (f g : Fin 192 → ℝ) : ∑ x : Fin 256, (if hd : x.val < 192 then ((f ⟨x.val, hd⟩ : ℝ) : EReal) else 0)
      * (if hd : x.val < 192 then ((g ⟨x.val, hd⟩ : ℝ) : EReal) else 0) = ((∑ d, f d * g d : ℝ) : EReal) := by
  rw [← sum_padded]
  refine Finset.sum_congr rfl fun x _ => ?_
  split_ifs
  · rw [← EReal.coe_mul]
  · rw [zero_mul]

theorem score_units : ∑ d, k a h d * (q n h d * scale / Real.log 2) = score q k h n a / Real.log 2 := by
  unfold score
  rw [Finset.sum_mul, Finset.sum_div]
  exact Finset.sum_congr rfl fun d _ => by ring

section
variable {Q K : FVec Ideal S8x8192x256 .f32}
  (hQ : ∀ h n d, Q (ix3 h n d) = if hd : d.val < 192 then ((q n h ⟨d.val, hd⟩ * scale / Real.log 2 : ℝ) : EReal) else 0)
  (hK : ∀ h n d, K (ix3 h n d) = if hd : d.val < 192 then ((k n h ⟨d.val, hd⟩ : ℝ) : EReal) else 0)
include hQ hK

theorem dot_at : ∑ x : Fin 256, K (ix3 h a x) * Q (ix3 h n x) = ((score q k h n a / Real.log 2 : ℝ) : EReal) := by
  rw [← score_units, ← dot_padded]
  exact Finset.sum_congr rfl fun x _ => by rw [hQ, hK]

theorem hS_at : hS Q K (ix3 h n a) = if a ≤ n then ((score q k h n a / Real.log 2 : ℝ) : EReal) else ⊥ := by
  pointwise [hS]
  rw [select_le, ofBits_ninf, ← dot_at q k h n a hQ hK]
  exact if_congr Iff.rfl (Finset.sum_congr rfl fun x _ => mul_comm _ _) rfl
end

section
variable {s : FVec Ideal S8x8192x8192 .f32} {t l : FVec Ideal S8x8192x1 .f32} {M : Fin 8 → Fin 8192 → ℝ}
  {p : FVec Ideal S8x8192x8192 .f32} {V O : FVec Ideal S8x8192x128 .f32}

theorem hM_at (hs : ∀ h n a, s (ix3 h n a) = if a ≤ n then ((score q k h n a / Real.log 2 : ℝ) : EReal) else ⊥) :
    ∃ M : ℝ, hM s (ix3 h n 0) = (M : EReal) := by
  obtain ⟨M, e⟩ := max_masked n fun a => score q k h n a / Real.log 2
  refine ⟨M, ?_⟩
  pointwise [hM]
  rw [ofBits_ninf, ← e]
  exact congrArg (fun f => Finset.univ.fold max ⊥ f) (funext fun a => hs h n a)

theorem hP_at (hs : ∀ h n a, s (ix3 h n a) = if a ≤ n then ((score q k h n a / Real.log 2 : ℝ) : EReal) else ⊥)
    (ht : ∀ h n, t (ix3 h n 0) = ((M h n : ℝ) : EReal)) : hP s t (ix3 h n a) = ((shifted q k h n a (M h n * Real.log 2) : ℝ) : EReal) := by
  pointwise [hP, logTwo]
  rw [log_two, hs, ht, exp_masked2]

theorem hN_at (hp : ∀ h n a, p (ix3 h n a) = ((shifted q k h n a (M h n * Real.log 2) : ℝ) : EReal)) :
    hN p (ix3 h n 0) = ((mass q k h n (M h n * Real.log 2) : ℝ) : EReal) := by
  pointwise [hN]
  rw [mass, ← coe_sum]
  exact Finset.sum_congr rfl fun a _ => hp h n a

variable (ht : ∀ h n, t (ix3 h n 0) = ((M h n : ℝ) : EReal)) (hl : ∀ h n, l (ix3 h n 0) = ((mass q k h n (M h n * Real.log 2) : ℝ) : EReal))
  (hp : ∀ h n a, p (ix3 h n a) = ((shifted q k h n a (M h n * Real.log 2) : ℝ) : EReal))
include hl

include ht in
theorem hL_at : hL t l (ix3 h n 0) = ((M h n + Real.log (mass q k h n (M h n * Real.log 2)) / Real.log 2 : ℝ) : EReal) := by
  pointwise [hL, logTwo]
  rw [log_two, ht, hl, log_pos _ (mass_pos ..), div_coe _ _ ln2_pos.ne', ← EReal.coe_add]

include hp in
theorem hO_at (hV : ∀ h n d, V (ix3 h n d) = ((v n h d : ℝ) : EReal)) (d : Fin 128) : hO p l V (ix3 h n d)
    = (((∑ a, shifted q k h n a (M h n * Real.log 2) * v a h d) / mass q k h n (M h n * Real.log 2) : ℝ) : EReal) := by
  pointwise [hO]
  rw [hl, ← div_coe _ _ (mass_pos ..).ne', ← coe_sum]
  refine congrArg (fun s => Ideal.div s _) (Finset.sum_congr rfl fun a _ => ?_)
  rw [hp, hV, ← EReal.coe_mul]

omit hl in
theorem hE_at {x : FVec Ideal S8192x1024 .f32} (hx : ∀ n h d, x (ix2 n (Body.col h d)) = ((o n h d : ℝ) : EReal))
    (hO : ∀ h n d, O (ix3 h n d) = (((∑ a, shifted q k h n a (M h n * Real.log 2) * v a h d) / mass q k h n (M h n * Real.log 2) : ℝ) : EReal)) :
    hE x O (ix2 h n) = ((delta q k v o h n : ℝ) : EReal) := by
  pointwise [hE, hV]
  rw [← delta_out q k v o h n (M h n * Real.log 2), ← coe_sum]
  refine Finset.sum_congr rfl fun d _ => ?_
  have e : x (ix2 n (Body.col h d)) = x (ix2 n ⟨h.val * 128 + d.val, by omega⟩) :=
    congrArg (fun j => x (ix2 n j)) (Fin.ext (by show 128 * h.val + d.val = _; dsimp only; omega))
  rw [EReal.coe_mul, ← hO, ← hx]
  exact congrArg (· * _) e.symm
end

end Lines

/-! ### The kernel's results -/

section Results

variable (m : (ℓ : Loc nD τ sig) → Buf (Elt Ideal) ℓ) (c : Dev nD) (q k : Heads 192) (v o : Heads 128)
  (h0 : ∀ n h d, a0 m c (ix3 n h d) = ((q n h d : ℝ) : EReal)) (h1 : ∀ n h d, a1 m c (ix3 n h d) = ((k n h d : ℝ) : EReal))
  (h2 : ∀ n h d, a2 m c (ix3 n h d) = ((v n h d : ℝ) : EReal))
  (h3 : ∀ n h d, a3 m c (ix2 n (Body.col h d)) = ((o n h d : ℝ) : EReal))

include h0 in
theorem aQ_at (h : Fin 8) (n : Fin 8192) (d : Fin 256) :
    Body.aQ m c (ix3 h n d) = if hd : d.val < 192 then ((q n h ⟨d.val, hd⟩ * scale / Real.log 2 : ℝ) : EReal) else 0 :=
  (congrFun (aQ_eq m c) _).trans (hQ_at q h n h0 d)
include h1 in
theorem aK_at (h : Fin 8) (n : Fin 8192) (d : Fin 256) :
    Body.aK m c (ix3 h n d) = if hd : d.val < 192 then ((k n h ⟨d.val, hd⟩ : ℝ) : EReal) else 0 :=
  (congrFun (aK_eq m c) _).trans (hK_at k h n h1 d)
include h2 in
theorem hV_at (h : Fin 8) (n : Fin 8192) (d : Fin 128) : hV (a2 m c) (ix3 h n d) = ((v n h d : ℝ) : EReal) := by
  pointwise [hV]
  exact h2 n h d
include h2 in
theorem aV_at (h : Fin 8) (n : Fin 8192) (d : Fin 128) : Body.aV m c (ix3 h n d) = ((v n h d : ℝ) : EReal) :=
  (congrFun (aV_eq m c) _).trans (hV_at m c v h2 h n d)
include h3 in
theorem aD_at (h : Fin 8) (n : Fin 8192) (d : Fin 128) : Body.aD m c (ix2 n (Body.col h d)) = ((o n h d : ℝ) : EReal) :=
  (congrFun (aD_eq m c) _).trans (h3 n h d)

theorem aL_row (h : Fin 8) (n : Fin 8192) : Body.at1024 (Body.aL m c) h n = hL (tops m c) (sums m c) (ix3 h n 0) := by
  unfold Body.at1024
  rw [aL_eq]
  pointwise []
theorem aE_row (h : Fin 8) (n : Fin 8192) :
    Body.at1024 (Body.aE m c) h n = hE (a3 m c) (hO (exps m c) (sums m c) (hV (a2 m c))) (ix2 h n) := by
  unfold Body.at1024
  rw [aE_eq]
  pointwise []

include h0 h1

theorem scores_at (h : Fin 8) (n a : Fin 8192) :
    scores m c (ix3 h n a) = if a ≤ n then ((score q k h n a / Real.log 2 : ℝ) : EReal) else ⊥ :=
  hS_at q k h n a (fun h n d => hQ_at q h n h0 d) fun h n d => hK_at k h n h1 d

/-- The rows' maxima are real. -/
theorem tops_real : ∃ M : Fin 8 → Fin 8192 → ℝ, ∀ h n, tops m c (ix3 h n 0) = ((M h n : ℝ) : EReal) := by
  have e : ∀ h n, ∃ M : ℝ, tops m c (ix3 h n 0) = (M : EReal) := fun h n => hM_at q k h n (scores_at m c q k h0 h1)
  exact ⟨fun h n => (e h n).choose, fun h n => (e h n).choose_spec⟩

theorem prob_at (h : Fin 8) (n a : Fin 8192) (ha : a ≤ n) : Body.prob m c h a n = ((FlashMath.prob q k h n a : ℝ) : EReal) := by
  obtain ⟨M, hM⟩ := tops_real m c q k h0 h1
  have hp := fun h n a => hP_at q k h n a (scores_at m c q k h0 h1) hM
  have hl := fun h n => hN_at q k h n (M := M) hp
  unfold Body.prob
  rw [aL_row, hL_at q k h n hM hl, dot_at q k h n a (aQ_at m c q h0) (aK_at m c k h1), ← EReal.coe_sub, ← prob_exp2 q k h n a (M h n) ha]
  rfl

include h2 h3

theorem delta_at (h : Fin 8) (n : Fin 8192) : Body.at1024 (Body.aE m c) h n = ((delta q k v o h n : ℝ) : EReal) := by
  obtain ⟨M, hM⟩ := tops_real m c q k h0 h1
  have hp := fun h n a => hP_at q k h n a (scores_at m c q k h0 h1) hM
  have hl := fun h n => hN_at q k h n (M := M) hp
  exact (aE_row m c h n).trans (hE_at q k v o h n (M := M) h3 fun h n d => hO_at q k v h n hl hp (hV_at m c v h2) d)

omit h0 h1 in
theorem dprob_at (h : Fin 8) (n a : Fin 8192) :
    ∑ x : Fin 128, Body.aV m c (ix3 h a x) * Body.aD m c (ix2 n (Body.col h x)) = ((dprob v o h n a : ℝ) : EReal) := by
  rw [dprob, ← coe_sum]
  refine Finset.sum_congr rfl fun d _ => ?_
  rw [aV_at m c v h2, aD_at m c o h3, ← EReal.coe_mul, mul_comm]

theorem gradM_at (h : Fin 8) (n a : Fin 8192) : Body.gradM m c h a n = ((dscore q k v o h n a : ℝ) : EReal) := by
  unfold Body.gradM
  by_cases ha : a ≤ n
  · rw [if_pos ha, prob_at m c q k h0 h1 h n a ha, dprob_at m c v o h2 h3, delta_at m c q k v o h0 h1 h2 h3, dscore, EReal.coe_mul, EReal.coe_sub]
  · rw [if_neg ha, dscore, prob_masked _ _ _ _ _ ha, zero_mul, EReal.coe_zero]

omit h2 h3 in
theorem probM_at (h : Fin 8) (n a : Fin 8192) : Body.probM m c h a n = ((FlashMath.prob q k h n a : ℝ) : EReal) := by
  unfold Body.probM
  by_cases ha : a ≤ n
  · rw [if_pos ha, prob_at m c q k h0 h1 h n a ha]
  · rw [if_neg ha, prob_masked _ _ _ _ _ ha, EReal.coe_zero]

theorem outQ_at (h : Fin 8) (n : Fin 8192) (d : Fin 256) :
    Body.outQ m c (ix3 h n d) = if hd : d.val < 192 then ((gq q k v o h n ⟨d.val, hd⟩ : ℝ) : EReal) else 0 := by
  refine (Finset.sum_congr rfl fun a _ => congrArg₂ (· * ·) (gradM_at m c q k v o h0 h1 h2 h3 h n a) (aK_at m c k h1 h a d)).trans ?_
  split_ifs
  · rw [gq, ← coe_sum]
    exact Finset.sum_congr rfl fun a _ => (EReal.coe_mul _ _).symm
  · exact Finset.sum_eq_zero fun a _ => mul_zero _

theorem outK_at (h : Fin 8) (a : Fin 8192) (d : Fin 256) :
    Body.outK m c (ix3 h a d) = if hd : d.val < 192 then ((gk q k v o h a ⟨d.val, hd⟩ : ℝ) : EReal) else 0 := by
  refine (congrArg (· * ((Real.log 2 : ℝ) : EReal)) (Finset.sum_congr rfl fun n _ =>
    congrArg₂ (· * ·) (gradM_at m c q k v o h0 h1 h2 h3 h n a) (aQ_at m c q h0 h n d))).trans ?_
  split_ifs with hd
  · have e : gk q k v o h a ⟨d.val, hd⟩ = (∑ n, dscore q k v o h n a * (q n h ⟨d.val, hd⟩ * scale / Real.log 2)) * Real.log 2 := by
      rw [gk, Finset.sum_mul]
      refine Finset.sum_congr rfl fun n _ => ?_
      have := ln2_pos.ne'
      field_simp
    have e' : ∀ n, ((dscore q k v o h n a : ℝ) : EReal) * ((q n h ⟨d.val, hd⟩ * scale / Real.log 2 : ℝ) : EReal)
        = ((dscore q k v o h n a * (q n h ⟨d.val, hd⟩ * scale / Real.log 2) : ℝ) : EReal) := fun n => (EReal.coe_mul _ _).symm
    rw [e, EReal.coe_mul, Finset.sum_congr rfl fun n _ => e' n, coe_sum]
  · rw [Finset.sum_eq_zero fun a _ => mul_zero _, zero_mul]

theorem outV_at (h : Fin 8) (a : Fin 8192) (d : Fin 128) : Body.outV m c (ix3 h a d) = ((gv q k o h a d : ℝ) : EReal) := by
  refine (Finset.sum_congr rfl fun n _ => congrArg₂ (· * ·) (probM_at m c q k h0 h1 h n a) (aD_at m c o h3 h n d)).trans ?_
  rw [gv, ← coe_sum]
  exact Finset.sum_congr rfl fun n _ => (EReal.coe_mul _ _).symm

end Results

end Cert.FlashIdeal.Host
-- ==== Proof.FlashRef.lean ====
/-
  The attention reference's gradients at an index, for arguments that are real numbers.
-/
module

public import proofs.«01_k».proof.Proof.Gen.FlashRefIdeal.Read
public import proofs.«01_k».proof.Proof.FlashMath

@[expose] public section

set_option maxRecDepth 16384

noncomputable section

open Idealize.ShloMosaic Idealize.ShloMosaic.TcCoe Idealize.SL.Sem
open Idealize.ShloMosaic.Tactic

namespace Cert.FlashRefIdeal.Rows

open Cert.FlashRefIdeal Cert.FlashRefIdeal.Gen Cert.FlashRefIdeal.Read Cert.FlashMath Cert.Finite

/-- Column `d` of head `h` among all heads' columns. -/
abbrev col (h : Fin 8) (d : Fin 128) : Fin 1024 := ⟨h.val * 128 + d.val, by omega⟩

/-- The exponential over the larger of -∞ and a row's maximum, at an index. -/
theorem exp_over (s : FVec Ideal S8x8192x8192 .f32) (t : FVec Ideal S8x8192 .f32) (h : Fin 8) (n a : Fin 8192) :
    Host.exp (F := Ideal) (subf s (broadcastInDim S8x8192x8192 ![0, 1, 2] bcast_S8x8192x1_S8x8192x8192_0_1_2
      (broadcastInDim S8x8192x1 ![0, 1] bcast_S8x8192_S8x8192x1_0_1
        (maximumf (broadcastInDim S8x8192 ![] bcast_S_S8x8192 (constant (F := Ideal) S_ .f32 0xFF800000#32)) t)))) (ix3 h n a)
      = Ideal.exp (s (ix3 h n a) - t (ix2 h n)) := by
  pointwise []
  rw [ofBits_ninf, max_bot_left]

variable (x0 x1 : (⟨S8192x8x192, .f32⟩ : BufTy).Contents (Elt Ideal)) (x2 : (⟨S8192x8x128, .f32⟩ : BufTy).Contents (Elt Ideal))
  (x3 : (⟨S8192x1024, .f32⟩ : BufTy).Contents (Elt Ideal)) (q k : Heads 192) (v o : Heads 128)
  (h0 : ∀ n h d, x0 (ix3 n h d) = ((q n h d : ℝ) : EReal)) (h1 : ∀ n h d, x1 (ix3 n h d) = ((k n h d : ℝ) : EReal))
  (h2 : ∀ n h d, x2 (ix3 n h d) = ((v n h d : ℝ) : EReal)) (h3 : ∀ n h d, x3 (ix2 n (col h d)) = ((o n h d : ℝ) : EReal))

theorem zero_bf16 : FloatOps.sitofp (F := Ideal) FTy.bf16 (0#32 : BitVec 32) = (0 : EReal) := by
  show (((0#32 : BitVec 32).toInt : ℝ) : EReal) = 0
  simp

section
include h0 h1

/-- The masked scores, -/
theorem v10_at (h : Fin 8) (n a : Fin 8192) :
    val_main_v10_0 x0 x1 (ix3 h n a) = if a ≤ n then ((score q k h n a : ℝ) : EReal) else ⊥ := by
  pointwise [val_main_v10_0, val_main_v9, val_main_v8, val_main_v6, val_main_v4, val_main_v0, val_main_v7, val_main_v5, val_main_v3, val_main_v1,
    val_main_v2, val_main_cst, val_main_call0_v2, val_main_call0_v0, val_main_cst_0, val_main_v10_1]
  rw [select_le, ofBits_scale, score, EReal.coe_mul, ← coe_sum]
  refine if_congr Iff.rfl (congrArg (· * _) (Finset.sum_congr rfl fun d _ => ?_)) ofBits_ninf
  rw [h0, h1, ← EReal.coe_mul]

/-- a row's maximum, -/
theorem v11_real : ∃ M : Fin 8 → Fin 8192 → ℝ, ∀ h n, val_main_v11 x0 x1 (ix2 h n) = ((M h n : ℝ) : EReal) := by
  have e : ∀ h n, ∃ M : ℝ, val_main_v11 x0 x1 (ix2 h n) = (M : EReal) := fun h n => by
    obtain ⟨M, e⟩ := max_masked n fun a => score q k h n a
    refine ⟨M, ?_⟩
    pointwise [val_main_v11, val_main_cst_1]
    rw [ofBits_ninf, ← e]
    exact congrArg (fun f => Finset.univ.fold max ⊥ f) (funext fun a => v10_at x0 x1 q k h0 h1 h n a)
  exact ⟨fun h n => (e h n).choose, fun h n => (e h n).choose_spec⟩

variable {M : Fin 8 → Fin 8192 → ℝ} (hM : ∀ h n, val_main_v11 x0 x1 (ix2 h n) = ((M h n : ℝ) : EReal))
include hM

/-- the exponentials, -/
theorem v31_at (h : Fin 8) (n a : Fin 8192) : val_main_v31 x0 x1 (ix3 h n a) = ((shifted q k h n a (M h n) : ℝ) : EReal) := by
  refine (exp_over (val_main_v10_0 x0 x1) (val_main_v11 x0 x1) h n a).trans ?_
  rw [v10_at x0 x1 q k h0 h1, hM, exp_masked]

/-- their sums, -/
theorem v33_at (h : Fin 8) (n : Fin 8192) : val_main_v33 x0 x1 (ix3 h n 0) = ((mass q k h n (M h n) : ℝ) : EReal) := by
  pointwise [val_main_v33, val_main_v32, val_main_cst_9]
  rw [mass, ← coe_sum]
  exact Finset.sum_congr rfl fun a _ => v31_at x0 x1 q k h0 h1 hM h n a

/-- the probabilities. -/
theorem v35_at (h : Fin 8) (n a : Fin 8192) : val_main_v35 x0 x1 (ix3 h n a) = ((FlashMath.prob q k h n a : ℝ) : EReal) := by
  pointwise [val_main_v35, val_main_v34]
  rw [v31_at x0 x1 q k h0 h1 hM, v33_at x0 x1 q k h0 h1 hM, div_coe _ _ (mass_pos ..).ne', prob_shift]
end

section
include h2 h3
/-- The gradient that reaches the probabilities, -/
theorem v44_at (h : Fin 8) (n a : Fin 8192) : val_main_v44 x2 x3 (ix3 h n a) = ((dprob v o h n a : ℝ) : EReal) := by
  pointwise [val_main_v44, val_main_v43, val_main_v42]
  rw [dprob, ← coe_sum]
  refine Finset.sum_congr rfl fun d _ => ?_
  rw [EReal.coe_mul, ← h3, ← h2]
end

include h0 h1 h2 h3

section
variable {M : Fin 8 → Fin 8192 → ℝ} (hM : ∀ h n, val_main_v11 x0 x1 (ix2 h n) = ((M h n : ℝ) : EReal))
include hM

/-- the row's sum, -/
theorem v51_at (h : Fin 8) (n : Fin 8192) : val_main_v51 x0 x1 x2 x3 (ix3 h n 0)
    = ((∑ a, dprob v o h n a * (1 / (mass q k h n (M h n) * mass q k h n (M h n))) * shifted q k h n a (M h n) : ℝ) : EReal) := by
  pointwise [val_main_v51, val_main_v50, val_main_v49, val_main_v48, val_main_v47, val_main_v38, val_main_v37, val_main_cst_10, val_main_v36, val_main_cst_11]
  rw [← coe_sum]
  refine Finset.sum_congr rfl fun a _ => ?_
  have hm := (mass_pos q k h n (M h n)).ne'
  rw [v44_at x2 x3 v o h2 h3, v33_at x0 x1 q k h0 h1 hM, v31_at x0 x1 q k h0 h1 hM, ← EReal.coe_one, ← EReal.coe_mul, div_coe _ _ (mul_ne_zero hm hm),
    ← EReal.coe_mul, ← EReal.coe_mul]
end

/-- and the gradient of the products of queries and keys. -/
theorem v61_at (h : Fin 8) (n a : Fin 8192) : val_main_v61 x0 x1 x2 x3 (ix3 h n a) = ((dscore q k v o h n a * scale : ℝ) : EReal) := by
  obtain ⟨M, hM⟩ := v11_real x0 x1 q k h0 h1
  pointwise [val_main_v61, val_main_v59, val_main_v60, val_main_v58, val_main_v57, val_main_v54, val_main_v53, val_main_v56, val_main_v55,
    val_main_v52, val_main_cst_12, val_main_cst_13, val_main_call1_v0, val_main_call1_cst, val_main_v10_1, val_main_v9, val_main_v8, val_main_v6,
    val_main_v4, val_main_v0, val_main_v7, val_main_v5]
  rw [select_le, ofBits_scale]
  by_cases ha : a ≤ n
  · rw [if_pos ha, Fin.sum_univ_one, v44_at x2 x3 v o h2 h3, v33_at x0 x1 q k h0 h1 hM, v31_at x0 x1 q k h0 h1 hM,
      v51_at x0 x1 x2 x3 q k v o h0 h1 h2 h3 hM, div_coe _ _ (mass_pos ..).ne', ← EReal.coe_neg, ← EReal.coe_add, ← EReal.coe_mul, ← EReal.coe_mul,
      dscore_quot]
  · rw [if_neg ha, dscore, prob_masked _ _ _ _ _ ha, zero_mul, zero_mul, EReal.coe_zero]

/-- The three results. -/
theorem v70_at (h : Fin 8) (n : Fin 8192) (d : Fin 256) :
    val_main_v70 x0 x1 x2 x3 (ix3 h n d) = if hd : d.val < 192 then ((gq q k v o h n ⟨d.val, hd⟩ : ℝ) : EReal) else 0 := by
  pointwise [val_main_v70, val_main_v69, val_main_v68, val_main_v67, val_main_v65, val_main_v64, val_main_v66, val_main_cst_14, val_main_call2_v0, val_main_c]
  rw [zero_bf16, ofBits_scale]
  split_ifs with hd
  · have e : gq q k v o h n ⟨d.val, hd⟩ = (∑ a, dscore q k v o h n a * scale * k a h ⟨d.val, hd⟩) / scale := by
      rw [gq, Finset.sum_div]
      refine Finset.sum_congr rfl fun a _ => ?_
      have := scale_ne
      field_simp
    rw [e, ← div_coe _ _ scale_ne, ← coe_sum]
    refine congrArg (fun s => Ideal.div s _) (Finset.sum_congr rfl fun a _ => ?_)
    rw [v61_at x0 x1 x2 x3 q k v o h0 h1 h2 h3, h1, ← EReal.coe_mul]
  · rfl

theorem v73_at (h : Fin 8) (a : Fin 8192) (d : Fin 256) :
    val_main_v73 x0 x1 x2 x3 (ix3 h a d) = if hd : d.val < 192 then ((gk q k v o h a ⟨d.val, hd⟩ : ℝ) : EReal) else 0 := by
  pointwise [val_main_v73, val_main_v72, val_main_v71, val_main_v63, val_main_v62, val_main_call3_v0, val_main_c_15]
  rw [zero_bf16]
  split_ifs with hd
  · rw [gk, ← coe_sum]
    refine Finset.sum_congr rfl fun n _ => ?_
    rw [v61_at x0 x1 x2 x3 q k v o h0 h1 h2 h3, h0, ← EReal.coe_mul, mul_assoc]
  · rfl

omit h2 in
theorem v75_at (h : Fin 8) (a : Fin 8192) (d : Fin 128) : val_main_v75 x0 x1 x3 (ix3 h a d) = ((gv q k o h a d : ℝ) : EReal) := by
  obtain ⟨M, hM⟩ := v11_real x0 x1 q k h0 h1
  pointwise [val_main_v75, val_main_v74, val_main_v46, val_main_v45, val_main_v43, val_main_v42]
  rw [gv, ← coe_sum]
  refine Finset.sum_congr rfl fun n _ => ?_
  rw [v35_at x0 x1 q k h0 h1 hM, EReal.coe_mul, ← h3, mul_comm]

end Cert.FlashRefIdeal.Rows
-- ==== Proof.FlashClaim.lean ====
/-
  The claims about the attention's gradients: the frames, the named constant, and the equation of the results on finite
  arguments.
-/
module

public import proofs.«01_k».proof.Defs
public import proofs.«01_k».proof.Proof.FlashBits
public import proofs.«01_k».proof.Proof.FlashSaved
public import proofs.«01_k».proof.Proof.FlashRef
public import proofs.«01_k».proof.Proof.Gen.FlashRefIdeal.Run
public import proofs.«01_k».proof.Proof.Gen.Pre_finite_flash
public import Idealize.ShloMosaic.Lib.Quiescent

@[expose] public section

set_option maxRecDepth 16384

noncomputable section

open Idealize.ShloMosaic Idealize.ShloMosaic.TcCoe Idealize.SL.Sem

namespace Cert.FlashClaim

theorem frame_bits : Cert.quiescent_Flash := Cert.FlashBits.frame

theorem frame_ideal : Cert.quiescent_FlashIdeal := fun m ρ _ => Cert.FlashIdeal.Body.run_frame m ρ

theorem frame_ref : Cert.quiescent_FlashRefIdeal := fun m ρ _ =>
  (θ_run (Cert.FlashRefIdeal.defs (F := Ideal)) _ _).mono
    (fun r h => ⟨fun c => (h c).2.2.2, sem_eq_zero_of_no_sems (by decide) r.2⟩)
    (Cert.FlashRefIdeal.Value.run (F := Ideal) m ρ)

theorem preserves : Cert.preserves_Flash_FlashIdeal :=
  IdealRules.named_const.statement Cert.FlashIdeal.κ "ln2" .f32 0x3F317218#32 ((Real.log 2 : ℝ) : EReal) rfl

open Cert.FlashIdeal Cert.FlashIdeal.Body Cert.FlashIdeal.Host Cert.FlashMath

/-- The precondition read back: the four arguments hold reals. -/
theorem reals (m : (ℓ : Loc nD τ sig) → Buf (Elt Ideal) ℓ) (h : Cert.Pre_FlashIdeal_finite_flash m) (c : Dev nD) :
    (∃ q k : Heads 192, (∀ n h d, a0 m c (ix3 n h d) = ((q n h d : ℝ) : EReal)) ∧ ∀ n h d, a1 m c (ix3 n h d) = ((k n h d : ℝ) : EReal))
    ∧ ∃ v o : Heads 128, (∀ n h d, a2 m c (ix3 n h d) = ((v n h d : ℝ) : EReal)) ∧ ∀ n h d, a3 m c (ix2 n (col h d)) = ((o n h d : ℝ) : EReal) := by
  have e := congrFun (h c) ix0
  unfold Cert.Pre_finite_flash.fn Cert.Pre_finite_flash.fn_part1 at e
  dsimp only at e
  obtain ⟨e, e4⟩ := IntOp.andi_eq_one.1 e
  obtain ⟨e, e3⟩ := IntOp.andi_eq_one.1 e
  obtain ⟨e1, e2⟩ := IntOp.andi_eq_one.1 e
  obtain ⟨Q, hQ⟩ := Cert.Finite.reals (S := S8192x8x192) _ _ _ _ _ _ e1
  obtain ⟨K, hK⟩ := Cert.Finite.reals (S := S8192x8x192) _ _ _ _ _ _ e2
  obtain ⟨W, hW⟩ := Cert.Finite.reals (S := S8192x8x128) _ _ _ _ _ _ e3
  obtain ⟨O, hO⟩ := Cert.Finite.reals (S := S8192x1024) _ _ _ _ _ _ e4
  exact ⟨⟨fun n h d => Q (ix3 n h d), fun n h d => K (ix3 n h d), fun n h d => congrFun hQ _, fun n h d => congrFun hK _⟩,
    fun n h d => W (ix3 n h d), fun n h d => O (ix2 n (col h d)), fun n h d => congrFun hW _, fun n h d => congrFun hO _⟩

/-- The run with the result arrays named. -/
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v46_0) = outQ m c ∧ r.2.mem ((c.tc : Thread nD τ).loc main_v46_1) = outK m c
      ∧ r.2.mem ((c.tc : Thread nD τ).loc main_v46_2) = outV m c) :=
  (θ_run (defs (F := Ideal)) _ _).mono
    (fun r h c => ⟨(h.out_eq c 6).trans (finalQ m c), (h.out_eq c 7).trans (finalK m c), (h.out_eq c 8).trans (finalV m c)⟩)
    (run_main (F := Ideal) m g)

theorem algebraic : Cert.algebraic_FlashIdeal_FlashRefIdeal_pre_finite_flash := by
  intro m g m' g' hpre hag
  refine ⟨fun c => outQ m c, fun c => outK m c, fun c => outV m c, ?_, ?_⟩
  · refine (θ_run (defs (F := Ideal)) _ _).mono (fun r h c => ?_) (θ_run_and (run_results m g) (run_frame m g))
    obtain ⟨h6, h7, h8⟩ := h.1 c
    exact ⟨h6, h7, h8, h.2.1 c⟩
  · refine (θ_run Cert.FlashRefIdeal.defs _ _).mono (fun r h c => ?_) (Cert.FlashRefIdeal.Value.run (F := Ideal) m' g')
    obtain ⟨h0, h1, h2, h⟩ := h c
    obtain ⟨⟨q, k, hq, hk⟩, v, o, hv, ho⟩ := reals m hpre c
    have ho' : ∀ n h d, a3 m c (ix2 n (Cert.FlashRefIdeal.Rows.col h d)) = ((o n h d : ℝ) : EReal) := fun n h d =>
      (congrArg (fun j => a3 m c (ix2 n j)) (Fin.ext (congrArg (· + d.val) (Nat.mul_comm h.val 128)))).trans (ho n h d)
    obtain ⟨e0, e1, e2, e3⟩ := hag c
    refine ⟨h0.trans ?_, h1.trans ?_, h2.trans ?_, h⟩
    · rw [Cert.FlashRefIdeal.Read.val_main_v70_eq, e0, e1, e2, e3]
      funext i
      rw [eq_ix3 i]
      exact (Cert.FlashRefIdeal.Rows.v70_at _ _ _ _ q k v o hq hk hv ho' _ _ _).trans (outQ_at m c q k v o hq hk hv ho _ _ _).symm
    · rw [Cert.FlashRefIdeal.Read.val_main_v73_eq, e0, e1, e2, e3]
      funext i
      rw [eq_ix3 i]
      exact (Cert.FlashRefIdeal.Rows.v73_at _ _ _ _ q k v o hq hk hv ho' _ _ _).trans (outK_at m c q k v o hq hk hv ho _ _ _).symm
    · rw [Cert.FlashRefIdeal.Read.val_main_v75_eq, e0, e1, e3]
      funext i
      rw [eq_ix3 i]
      exact (Cert.FlashRefIdeal.Rows.v75_at _ _ _ q k o hq hk ho' _ _ _).trans (outV_at m c q k v o hq hk hv ho _ _ _).symm

end Cert.FlashClaim

end
-- ==== Proof.ConvMath.lean ====
/-
  The gated short convolution's gradients as real functions of a row number and a column.

  A row number is any natural number; the cotangent is zero past the last row, and so is all that is made of it.
-/
module

public import proofs.«01_k».proof.Proof.Finite
public import Idealize.ShloMosaic.Lib.Pipeline.ValueKit

@[expose] public section

noncomputable section

open Idealize.ShloMosaic

namespace Cert.ConvMath

/-- A row and a column of real numbers. -/
abbrev Rows := ℕ → Fin 1024 → ℝ

/-- The logistic function, -/
def sgm (z : ℝ) : ℝ := 1 / (1 + Real.exp (-z))

/-- and as either program spells it. -/
theorem sgm_eq (z : ℝ) : Ideal.div 1 (1 + Ideal.exp (-(z : EReal))) = ((sgm z : ℝ) : EReal) := by
  rw [← EReal.coe_neg, Ideal.exp_coe, ← EReal.coe_one, ← EReal.coe_add, Finite.div_coe _ _ (by positivity), sgm]

theorem sgm_eq' (z : ℝ) : Ideal.div 1 (1 + Ideal.exp (0 - (z : EReal))) = ((sgm z : ℝ) : EReal) := by
  rw [zero_sub, sgm_eq]

variable (x b c z d : Rows) (w : Fin 3 → Fin 1024 → ℝ) (n : ℕ) (l : Fin 1024)

/-- The convolution's input. -/
def inp (n : ℕ) : ℝ := c n l * x n l

/-- The input `k` rows before, zero before the first row. -/
def back (k : ℕ) : ℝ := if n < k then 0 else inp x c l (n - k)

/-- The convolution. -/
def conv : ℝ := w 0 l * back x c n l 2 + w 1 l * back x c n l 1 + w 2 l * back x c n l 0

/-- The gradient that reaches the convolution. -/
def dconv (n : ℕ) : ℝ := d n l * b n l * (z n l * sgm (z n l))

/-- The gradient that reaches the convolution's input. -/
def dinp : ℝ := w 2 l * dconv b z d l n + w 1 l * dconv b z d l (n + 1) + w 0 l * dconv b z d l (n + 2)

/-- The four gradients of a row, -/
def gx : ℝ := dinp b z d w n l * c n l
def gb : ℝ := d n l * conv x c w n l * (z n l * sgm (z n l))
def gc : ℝ := dinp b z d w n l * x n l
def gz : ℝ := d n l * b n l * conv x c w n l * (sgm (z n l) * (1 + z n l * (1 - sgm (z n l))))

/-- side by side in four groups of columns, -/
def gu (j : ℕ) : ℝ :=
  if h : j < 1024 then gx b c z d w n ⟨j, h⟩
  else if h : j - 1024 < 1024 then gb x c z d w n ⟨j - 1024, h⟩
  else if h : j - 1024 - 1024 < 1024 then gc x b z d w n ⟨j - 1024 - 1024, h⟩
  else gz x b c z d w n ⟨(j - 1024 - 1024 - 1024) % 1024, Nat.mod_lt _ (by norm_num)⟩

/-- and the gradient of tap `k`: the input two rows before meets the first tap. -/
def gw (k : ℕ) : ℝ := ∑ R : Fin 8192, dconv b z d l R.val * back x c R.val l (2 - k)

/-- The sum over the rows, block by block. -/
theorem gw_blocks (k : ℕ) : gw x b c z d l k
    = ∑ t : Fin 16, ∑ r : Fin 512, dconv b z d l (512 * t.val + r.val) * back x c (512 * t.val + r.val) l (2 - k) := by
  rw [gw, Fin.sum_univ_eq_sum_range (fun R => dconv b z d l R * back x c R l (2 - k)) 8192,
    Fin.sum_univ_eq_sum_range (fun t => ∑ r : Fin 512, dconv b z d l (512 * t + r.val) * back x c (512 * t + r.val) l (2 - k)) 16,
    ← Finset.sum_range_range_mul_add 16 512 (fun R => dconv b z d l R * back x c R l (2 - k))]
  refine Finset.sum_congr rfl fun t _ => ?_
  rw [Nat.mul_comm t 512]
  exact (Fin.sum_univ_eq_sum_range (fun r => dconv b z d l (512 * t + r) * back x c (512 * t + r) l (2 - k)) 512).symm

end Cert.ConvMath

end
-- ==== Proof.ConvPay.lean ====
/-
  The convolution kernel's payloads at a row and a column of one block, for blocks of real numbers.
-/
module

public import proofs.«01_k».proof.Proof.Gen.ConvIdeal.Value
public import proofs.«01_k».proof.Proof.ConvMath

@[expose] public section

set_option maxRecDepth 16384

noncomputable section

open Idealize.ShloMosaic Idealize.ShloMosaic.TcCoe Idealize.SL.Sem
open Idealize.ShloMosaic.Tactic

namespace Cert.ConvIdeal.Rows

open Cert.ConvIdeal Cert.ConvIdeal.Gen Cert.ConvMath Cert.Finite

/-- A choice by whether the point is a given one. -/
theorem select_point (t u : Fin 16) (a b : EReal) :
    Scalar.select (Scalar.cmpi .eq (BitVec.ofNat 32 t.val) (BitVec.ofNat 32 u.val)) a b = if t = u then a else b := by
  have h : ∀ t u : Fin 16, Scalar.cmpi .eq (BitVec.ofNat 32 t.val) (BitVec.ofNat 32 u.val) = if t = u then 1#1 else 0#1 := by decide
  rw [h]
  split_ifs <;> rfl

variable (i : grid0.Coords) (t : Fin 16) (ht : (i 0).val = t.val)
  (x b c z d : Rows) (w : Fin 3 → Fin 1024 → ℝ)
  (x0 x1 x2 x3 : Vec Ideal S512x1024 .bf16) (x4 x5 x6 x7 : Vec Ideal S16x1024 .bf16) (x8 : Vec Ideal S512x1024 .bf16) (x9 : Vec Ideal S16x1024 .bf16) (x10 : Vec Ideal S3x1024 .f32)
  (h0 : ∀ (r : Fin 512) (l : Fin 1024), x0 (ix2 r l) = ((x (512 * t.val + r.val) l : ℝ) : EReal))
  (h1 : ∀ (r : Fin 512) (l : Fin 1024), x1 (ix2 r l) = ((b (512 * t.val + r.val) l : ℝ) : EReal))
  (h2 : ∀ (r : Fin 512) (l : Fin 1024), x2 (ix2 r l) = ((c (512 * t.val + r.val) l : ℝ) : EReal))
  (h3 : ∀ (r : Fin 512) (l : Fin 1024), x3 (ix2 r l) = ((z (512 * t.val + r.val) l : ℝ) : EReal))
  (h4 : t.val ≠ 0 → ∀ (r : Fin 16) (l : Fin 1024), x4 (ix2 r l) = ((x (512 * t.val + r.val - 16) l : ℝ) : EReal))
  (h5 : t.val ≠ 0 → ∀ (r : Fin 16) (l : Fin 1024), x5 (ix2 r l) = ((c (512 * t.val + r.val - 16) l : ℝ) : EReal))
  (h6 : t.val ≠ 15 → ∀ (r : Fin 16) (l : Fin 1024), x6 (ix2 r l) = ((b (512 * t.val + 512 + r.val) l : ℝ) : EReal))
  (h7 : t.val ≠ 15 → ∀ (r : Fin 16) (l : Fin 1024), x7 (ix2 r l) = ((z (512 * t.val + 512 + r.val) l : ℝ) : EReal))
  (h8 : ∀ (r : Fin 512) (l : Fin 1024), x8 (ix2 r l) = ((d (512 * t.val + r.val) l : ℝ) : EReal))
  (h9 : t.val ≠ 15 → ∀ (r : Fin 16) (l : Fin 1024), x9 (ix2 r l) = ((d (512 * t.val + 512 + r.val) l : ℝ) : EReal))
  (h10 : ∀ k l, x10 (ix2 k l) = ((w k l : ℝ) : EReal))
  (hd0 : ∀ n l, 8192 ≤ n → d n l = 0)

/-- A row of the sixteen rows and the block after them is a row before. -/
theorem shift_eq (n r q k : ℕ) (l : Fin 1024) (hk : k ≤ 16) (e : q + k = 16 + r) :
    (if 512 * n + q < 16 then 0 else inp x c l (512 * n + q - 16)) = back x c (512 * n + r) l k := by
  rw [back]
  by_cases h : 512 * n + r < k
  · rw [if_pos h, if_pos (by omega)]
  · rw [if_neg h, if_neg (by omega)]
    exact congrArg (inp x c l) (by omega)

section
include ht h0 h2 h4 h5
/-- The convolution's input from sixteen rows before the block to its end. -/
theorem pay9_at (q : Fin 528) (l : Fin 1024) :
    k0_pay9 i x0 x2 x5 x4 (ix2 q l) = ((if 512 * t.val + q.val < 16 then 0 else inp x c l (512 * t.val + q.val - 16) : ℝ) : EReal) := by
  pointwise [k0_pay9, k0_pay8, k0_pay5, k0_pay4]
  by_cases h : q.val < 16
  · refine (dif_pos h).trans ?_
    rw [ht]
    refine (select_point t 0 _ _).trans ?_
    by_cases e : t = 0
    · subst e
      rw [if_pos rfl, if_pos (by simpa using h)]
      rfl
    · have e' : t.val ≠ 0 := fun h => e (Fin.ext h)
      rw [if_neg e, if_neg (by omega), h4 e', h5 e', inp, EReal.coe_mul]
  · refine (dif_neg h).trans ?_
    refine (congrArg₂ (· * ·) (h2 ⟨q.val - 16, by have := q.isLt; omega⟩ l) (h0 ⟨q.val - 16, by have := q.isLt; omega⟩ l)).trans ?_
    have hn : ¬512 * t.val + q.val < 16 := by omega
    rw [if_neg hn, inp, EReal.coe_mul]
    have e : 512 * t.val + (q.val - 16) = 512 * t.val + q.val - 16 := by omega
    exact congrArg (fun n => ((c n l : ℝ) : EReal) * ((x n l : ℝ) : EReal)) e

theorem pay10_at (r : Fin 512) (l : Fin 1024) :
    k0_pay10 i x0 x2 x5 x4 (ix2 r l) = ((back x c (512 * t.val + r.val) l 1 : ℝ) : EReal) := by
  pointwise [k0_pay10]
  exact (pay9_at i t ht x c x0 x2 x4 x5 h0 h2 h4 h5 ⟨(16 + r.val + 528 - 1) % 528, Nat.mod_lt _ (by norm_num)⟩ l).trans
    (congrArg _ (shift_eq x c t.val r.val _ 1 l (by norm_num) (by have := r.isLt; dsimp only; omega)))

theorem pay11_at (r : Fin 512) (l : Fin 1024) :
    k0_pay11 i x0 x2 x5 x4 (ix2 r l) = ((back x c (512 * t.val + r.val) l 2 : ℝ) : EReal) := by
  pointwise [k0_pay11]
  exact (pay9_at i t ht x c x0 x2 x4 x5 h0 h2 h4 h5 ⟨(16 + r.val + 528 - 2) % 528, Nat.mod_lt _ (by norm_num)⟩ l).trans
    (congrArg _ (shift_eq x c t.val r.val _ 2 l (by norm_num) (by have := r.isLt; dsimp only; omega)))
end

section
include h0 h2
theorem pay8_at (r : Fin 512) (l : Fin 1024) :
    k0_pay8 x0 x2 (ix2 r l) = ((back x c (512 * t.val + r.val) l 0 : ℝ) : EReal) := by
  pointwise [k0_pay8, k0_pay5, k0_pay4]
  rw [h0, h2, back, if_neg (by omega), inp, EReal.coe_mul, Nat.sub_zero]
end

section
include ht h0 h2 h4 h5 h10
theorem pay12_at (r : Fin 512) (l : Fin 1024) :
    k0_pay12 i x0 x2 x5 x4 x10 (ix2 r l) = ((conv x c w (512 * t.val + r.val) l : ℝ) : EReal) := by
  pointwise [k0_pay12]
  rw [pay10_at i t ht x c x0 x2 x4 x5 h0 h2 h4 h5, pay11_at i t ht x c x0 x2 x4 x5 h0 h2 h4 h5, pay8_at t x c x0 x2 h0 h2, h10, h10, h10, conv]
  simp only [EReal.coe_add, EReal.coe_mul]
end

section
include h3
theorem pay14_at (r : Fin 512) (l : Fin 1024) :
    k0_pay14 (k0_pay13 x3) (ix2 r l) = ((sgm (z (512 * t.val + r.val) l) : ℝ) : EReal) := by
  pointwise [k0_pay14, k0_pay13, k0_pay7]
  rw [h3, sgm_eq']

include h1 h8
theorem pay17_at (r : Fin 512) (l : Fin 1024) :
    k0_pay17 (k0_pay6 x1) (k0_pay7 x3) (k0_pay13 x3) x8 (ix2 r l) = ((dconv b z d l (512 * t.val + r.val) : ℝ) : EReal) := by
  pointwise [k0_pay17, k0_pay15, k0_pay6, k0_pay7, k0_pay16]
  rw [pay14_at t z x3 h3, h1, h3, h8, dconv]
  simp only [EReal.coe_mul]

include ht h6 h7 h9 hd0
/-- The gradient that reaches the convolution `k` rows on, the next block's first rows past the end. -/
theorem next_at (k : ℕ) (r : Fin 512) (l : Fin 1024) (hk : k = 1 ∨ k = 2) (h : (r.val + 528 - (528 - k)) % 528 < 512 ∨ True) :
    (if h : (r.val + 528 - (528 - k)) % 528 < 512 then
        k0_pay17 (k0_pay6 x1) (k0_pay7 x3) (k0_pay13 x3) x8 (ix2 ⟨(r.val + 528 - (528 - k)) % 528, h⟩ l)
      else Scalar.select (Scalar.cmpi .eq (BitVec.ofNat 32 (i 0).val) 15#32) 0
        (x9 (ix2 ⟨(r.val + 528 - (528 - k)) % 528 - 512, by omega⟩ l) * x6 (ix2 ⟨(r.val + 528 - (528 - k)) % 528 - 512, by omega⟩ l)
          * (x7 (ix2 ⟨(r.val + 528 - (528 - k)) % 528 - 512, by omega⟩ l)
            * Ideal.div 1 (1 + Ideal.exp (0 - x7 (ix2 ⟨(r.val + 528 - (528 - k)) % 528 - 512, by omega⟩ l))))))
      = ((dconv b z d l (512 * t.val + r.val + k) : ℝ) : EReal) := by
  have e : (r.val + 528 - (528 - k)) % 528 = r.val + k := by omega
  by_cases hr : r.val + k < 512
  · rw [dif_pos (by omega), pay17_at t b z d x1 x3 x8 h1 h3 h8]
    exact congrArg (fun n => ((dconv b z d l n : ℝ) : EReal)) (by simp only; omega)
  · rw [dif_neg (by omega), ht]
    refine (select_point t 15 _ _).trans ?_
    by_cases h15 : t = 15
    · rw [if_pos h15, dconv, hd0 _ _ (by have : t.val = 15 := congrArg Fin.val h15; omega)]
      simp
    · have h15' : t.val ≠ 15 := fun h => h15 (Fin.ext h)
      rw [if_neg h15, h6 h15', h7 h15', h9 h15', sgm_eq', ← EReal.coe_mul, ← EReal.coe_mul, ← EReal.coe_mul]
      exact congrArg (fun n => ((dconv b z d l n : ℝ) : EReal)) (show 512 * t.val + 512 + ((r.val + 528 - (528 - k)) % 528 - 512) = _ by omega)

include h10
theorem pay18_at (r : Fin 512) (l : Fin 1024) :
    k0_pay18 (BitVec.ofNat 32 (i 0).val) (k0_pay6 x1) (k0_pay7 x3) x10 (k0_pay13 x3) x8 x7 x9 x6 (ix2 r l)
      = ((dinp b z d w (512 * t.val + r.val) l : ℝ) : EReal) := by
  pointwise [k0_pay18]
  rw [dinp, h10, h10, h10, pay17_at t b z d x1 x3 x8 h1 h3 h8]
  simp only [EReal.coe_add, EReal.coe_mul]
  exact congrArg₂ (· + ·) (congrArg₂ (· + ·) rfl
    (congrArg₂ (· * ·) rfl (next_at i t ht b z d x1 x3 x6 x7 x8 x9 h1 h3 h6 h7 h8 h9 hd0 1 r l (.inl rfl) (.inr trivial))))
    (congrArg₂ (· * ·) rfl (next_at i t ht b z d x1 x3 x6 x7 x8 x9 h1 h3 h6 h7 h8 h9 hd0 2 r l (.inr rfl) (.inr trivial)))
end

/-- The row of the result that holds the four gradients. -/
theorem pay1_at (v1 v3 v7 v33 v40 v41 v43 v80 v82 : FVec Ideal S512x1024 .f32) (r : Fin 512) (l : Fin 4096) :
    k0_pay1 v1 v3 v7 v33 v40 v41 v43 v80 v82 (ix2 r l)
      = if h : l.val < 1024 then v80 (ix2 r ⟨l.val, h⟩) * v3 (ix2 r ⟨l.val, h⟩)
        else if h : l.val - 1024 < 1024 then v43 (ix2 r ⟨l.val - 1024, h⟩) * v33 (ix2 r ⟨l.val - 1024, h⟩) * v41 (ix2 r ⟨l.val - 1024, h⟩)
        else if h : l.val - 1024 - 1024 < 1024 then v80 (ix2 r ⟨l.val - 1024 - 1024, h⟩) * v1 (ix2 r ⟨l.val - 1024 - 1024, h⟩)
        else v82 (ix2 r ⟨(l.val - 1024 - 1024 - 1024) % 1024, Nat.mod_lt _ (by norm_num)⟩)
          * (v40 (ix2 r ⟨(l.val - 1024 - 1024 - 1024) % 1024, Nat.mod_lt _ (by norm_num)⟩)
            * (1 + v7 (ix2 r ⟨(l.val - 1024 - 1024 - 1024) % 1024, Nat.mod_lt _ (by norm_num)⟩)
              * (1 - v40 (ix2 r ⟨(l.val - 1024 - 1024 - 1024) % 1024, Nat.mod_lt _ (by norm_num)⟩)))) := by
  have e : (l.val - 1024 - 1024 - 1024) % 1024 = l.val - 1024 - 1024 - 1024 := by omega
  simp only [e]
  pointwise [k0_pay1]

section
include ht h0 h1 h2 h3 h4 h5 h6 h7 h8 h9 h10 hd0
theorem row_at (r : Fin 512) (l : Fin 4096) :
    k0_pay1 (k0_pay4 x0) (k0_pay5 x2) (k0_pay7 x3) (k0_pay12 i x0 x2 x5 x4 x10) (k0_pay14 (k0_pay13 x3)) (k0_pay15 (k0_pay7 x3) (k0_pay13 x3)) (k0_pay16 x8)
        (k0_pay18 (BitVec.ofNat 32 (i 0).val) (k0_pay6 x1) (k0_pay7 x3) x10 (k0_pay13 x3) x8 x7 x9 x6)
        (k0_pay19 (k0_pay6 x1) (k0_pay12 i x0 x2 x5 x4 x10) x8) (ix2 r l)
      = ((gu x b c z d w (512 * t.val + r.val) l.val : ℝ) : EReal) := by
  have e18 := pay18_at i t ht b z d w x1 x3 x6 x7 x8 x9 x10 h1 h3 h6 h7 h8 h9 h10 hd0
  have e12 := pay12_at i t ht x c w x0 x2 x4 x5 x10 h0 h2 h4 h5 h10
  have e14 := pay14_at t z x3 h3
  have e3 : ∀ r l, k0_pay5 x2 (ix2 r l) = ((c (512 * t.val + r.val) l : ℝ) : EReal) := fun r l => by
    pointwise [k0_pay5]; exact h2 r l
  have e1 : ∀ r l, k0_pay4 x0 (ix2 r l) = ((x (512 * t.val + r.val) l : ℝ) : EReal) := fun r l => by
    pointwise [k0_pay4]; exact h0 r l
  have e7 : ∀ r l, k0_pay7 x3 (ix2 r l) = ((z (512 * t.val + r.val) l : ℝ) : EReal) := fun r l => by
    pointwise [k0_pay7]; exact h3 r l
  have e43 : ∀ r l, k0_pay16 x8 (ix2 r l) = ((d (512 * t.val + r.val) l : ℝ) : EReal) := fun r l => by
    pointwise [k0_pay16]; exact h8 r l
  have e15 : ∀ r l, k0_pay15 (k0_pay7 x3) (k0_pay13 x3) (ix2 r l)
      = ((z (512 * t.val + r.val) l * sgm (z (512 * t.val + r.val) l) : ℝ) : EReal) := fun r l => by
    pointwise [k0_pay15]; rw [e7, e14, EReal.coe_mul]
  have e19 : ∀ r l, k0_pay19 (k0_pay6 x1) (k0_pay12 i x0 x2 x5 x4 x10) x8 (ix2 r l)
      = ((d (512 * t.val + r.val) l * b (512 * t.val + r.val) l * conv x c w (512 * t.val + r.val) l : ℝ) : EReal) := fun r l => by
    pointwise [k0_pay19, k0_pay16, k0_pay6]; rw [h8, h1, e12, EReal.coe_mul, EReal.coe_mul]
  rw [pay1_at]
  simp only [e18, e12, e14, e3, e1, e7, e43, e15, e19, ← EReal.coe_one, ← EReal.coe_mul, ← EReal.coe_sub, ← EReal.coe_add]
  unfold gu
  split_ifs <;> rfl
end

/-- A block's part of the taps' gradient. -/
def part (n k : ℕ) (l : Fin 1024) : ℝ := ∑ r : Fin 512, dconv b z d l (512 * n + r.val) * back x c (512 * n + r.val) l (2 - k)

section
include ht h0 h1 h2 h3 h4 h5 h8
theorem taps_at (k : Fin 8) (l : Fin 1024) :
    k0_pay2 (k0_pay8 x0 x2) (k0_pay10 i x0 x2 x5 x4) (k0_pay11 i x0 x2 x5 x4) (k0_pay17 (k0_pay6 x1) (k0_pay7 x3) (k0_pay13 x3) x8) (ix2 k l)
      = if k.val < 3 then ((part x b c z d t.val k.val l : ℝ) : EReal) else 0 := by
  pointwise [k0_pay2]
  simp only [pay10_at i t ht x c x0 x2 x4 x5 h0 h2 h4 h5, pay11_at i t ht x c x0 x2 x4 x5 h0 h2 h4 h5, pay8_at t x c x0 x2 h0 h2,
    pay17_at t b z d x1 x3 x8 h1 h3 h8, ← EReal.coe_mul, coe_sum]
  have h : k.val = 0 ∨ k.val = 1 ∨ k.val = 2 ∨ 3 ≤ k.val := by omega
  rcases h with h | h | h | h
  · rw [if_pos (by omega), h]
    exact dif_pos (by omega)
  · rw [if_pos (by omega), h]
    exact (dif_neg (by omega)).trans (dif_pos (by omega))
  · rw [if_pos (by omega), h]
    exact (dif_neg (by omega)).trans ((dif_neg (by omega)).trans (dif_pos (by omega)))
  · rw [if_neg (by omega)]
    exact (dif_neg (by omega)).trans ((dif_neg (by omega)).trans (dif_neg (by omega)))
end

end Cert.ConvIdeal.Rows
-- ==== Proof.ConvArray.lean ====
/-
  The convolution kernel's two result arrays after the whole grid, for arguments that are real numbers.
-/
module

public import proofs.«01_k».proof.Proof.ConvPay

@[expose] public section

set_option maxRecDepth 16384

noncomputable section

open Idealize.ShloMosaic Idealize.ShloMosaic.TcCoe Idealize.SL.Sem
open Idealize.ShloMosaic.Tactic
open Idealize.ShloMosaic.Pipeline (Dat)

namespace Cert.ConvIdeal.Rows

open Cert.ConvIdeal Cert.ConvIdeal.Gen Cert.ConvMath Cert.Finite

/-- A group of columns of the wide argument, and the cotangent, at any row number. -/
def group (U : S8192x6144.Idx → ℝ) (o : Fin 4) : Rows := fun n l =>
  if h : n < 8192 then U (ix2 ⟨n, h⟩ ⟨1024 * o.val + l.val, by have := o.isLt; have := l.isLt; omega⟩) else 0
def cot (D : S8192x1024.Idx → ℝ) : Rows := fun n l => if h : n < 8192 then D (ix2 ⟨n, h⟩ l) else 0
def taps (W : S3x1024.Idx → ℝ) : Fin 3 → Fin 1024 → ℝ := fun k l => W (ix2 k l)

theorem group_at (U : S8192x6144.Idx → ℝ) (o : Fin 4) (n : Fin 8192) (l : Fin 1024) (j : Fin 6144) (hj : j.val = 1024 * o.val + l.val) :
    U (ix2 n j) = group U o n.val l := by
  rw [group, dif_pos n.isLt]
  exact congrArg (fun j => U (ix2 n j)) (Fin.ext hj)

theorem cot_at (D : S8192x1024.Idx → ℝ) (n : Fin 8192) (l : Fin 1024) : D (ix2 n l) = cot D n.val l := by
  rw [cot, dif_pos n.isLt]

theorem cot_end (D : S8192x1024.Idx → ℝ) (n : ℕ) (l : Fin 1024) (h : 8192 ≤ n) : cot D n l = 0 := dif_neg (by omega)

variable (m : (ℓ : Loc nD τ sig) → Buf (Elt Ideal) ℓ) (c : Dev nD)

/-- The arguments as launched, as arrays. -/
def aU : Vec Ideal S8192x6144 .bf16 := m ((c : Thread nD τ).loc main_arg0)
def aD : Vec Ideal S8192x1024 .bf16 := m ((c : Thread nD τ).loc main_arg1)
def aW : Vec Ideal S3x1024 .f32 := m ((c : Thread nD τ).loc main_arg2)

theorem idx : ∀ t : Fin cfg0.N, win0_0.index t = ![t.val, 0] ∧ win0_1.index t = ![t.val, 1] ∧ win0_2.index t = ![t.val, 2]
    ∧ win0_3.index t = ![t.val, 3] ∧ win0_4.index t = ![32 * t.val - 1, 0] ∧ win0_5.index t = ![32 * t.val - 1, 2]
    ∧ win0_6.index t = ![min (32 * (t.val + 1)) 511, 1] ∧ win0_7.index t = ![min (32 * (t.val + 1)) 511, 3]
    ∧ win0_8.index t = ![t.val, 0] ∧ win0_9.index t = ![min (32 * (t.val + 1)) 511, 0]
    ∧ win0_10.index t = ![0, 0] ∧ win0_11.index t = ![t.val, 0] ∧ win0_12.index t = ![0, 0] :=
  (by decide +kernel : ∀ t : Fin grid0.N, _)

theorem lt16 (t : Fin cfg0.N) : t.val < 16 := lt_of_lt_of_eq t.isLt N_0

/-- The point, by its number. -/
def pt (t : Fin cfg0.N) : Fin 16 := ⟨t.val, lt16 t⟩

theorem coord : ∀ t : Fin cfg0.N, (grid0.coords t 0).val = (pt t).val := (by decide +kernel : ∀ t : Fin grid0.N, _)

theorem row_lt (t : Fin cfg0.N) (r : Fin 512) : 512 * t.val + r.val < 8192 := by
  have := lt16 t
  have := r.isLt
  omega

section
variable (t : Fin cfg0.N) (r : Fin 512) (q : Fin 16) (l : Fin 1024)

theorem blk0 : iblk m c 0 t (ix2 r l) = aU m c (ix2 ⟨512 * t.val + r.val, row_lt t r⟩ ⟨l.val, by have := l.isLt; omega⟩) := by
  unfold aU
  blk_point [iblk, V, idx t]

theorem blk1 : iblk m c 1 t (ix2 r l) = aU m c (ix2 ⟨512 * t.val + r.val, row_lt t r⟩ ⟨1024 + l.val, by have := l.isLt; omega⟩) := by
  unfold aU
  blk_point [iblk, V, idx t]

theorem blk2 : iblk m c 2 t (ix2 r l) = aU m c (ix2 ⟨512 * t.val + r.val, row_lt t r⟩ ⟨2048 + l.val, by have := l.isLt; omega⟩) := by
  unfold aU
  blk_point [iblk, V, idx t]

theorem blk3 : iblk m c 3 t (ix2 r l) = aU m c (ix2 ⟨512 * t.val + r.val, row_lt t r⟩ ⟨3072 + l.val, by have := l.isLt; omega⟩) := by
  unfold aU
  blk_point [iblk, V, idx t]

theorem blk8 : iblk m c 8 t (ix2 r l) = aD m c (ix2 ⟨512 * t.val + r.val, row_lt t r⟩ l) := by
  unfold aD
  blk_point [iblk, V, idx t]

theorem blk10 (k : Fin 3) : iblk m c 10 t (ix2 k l) = aW m c (ix2 k l) := by
  unfold aW
  blk_point [iblk, V, idx t]

theorem prev_lt : 16 * (32 * t.val - 1) + q.val < 8192 := by
  have := lt16 t
  have := q.isLt
  omega

theorem next_lt : 16 * min (32 * (t.val + 1)) 511 + q.val < 8192 := by
  have := lt16 t
  have := q.isLt
  omega

theorem prev_row (h : (pt t).val ≠ 0) : 16 * (32 * t.val - 1) + q.val = 512 * (pt t).val + q.val - 16 := by
  have h : t.val ≠ 0 := h
  show _ = 512 * t.val + q.val - 16
  omega

theorem next_row (h : (pt t).val ≠ 15) : 16 * min (32 * (t.val + 1)) 511 + q.val = 512 * (pt t).val + 512 + q.val := by
  have h : t.val ≠ 15 := h
  have := lt16 t
  show _ = 512 * t.val + 512 + q.val
  omega

theorem blk4 : iblk m c 4 t (ix2 q l) = aU m c (ix2 ⟨16 * (32 * t.val - 1) + q.val, prev_lt t q⟩ ⟨l.val, by have := l.isLt; omega⟩) := by
  unfold aU
  blk_point [iblk, V, idx t]

theorem blk5 : iblk m c 5 t (ix2 q l) = aU m c (ix2 ⟨16 * (32 * t.val - 1) + q.val, prev_lt t q⟩ ⟨2048 + l.val, by have := l.isLt; omega⟩) := by
  unfold aU
  blk_point [iblk, V, idx t]

theorem blk6 : iblk m c 6 t (ix2 q l) = aU m c (ix2 ⟨16 * min (32 * (t.val + 1)) 511 + q.val, next_lt t q⟩ ⟨1024 + l.val, by have := l.isLt; omega⟩) := by
  unfold aU
  blk_point [iblk, V, idx t]

theorem blk7 : iblk m c 7 t (ix2 q l) = aU m c (ix2 ⟨16 * min (32 * (t.val + 1)) 511 + q.val, next_lt t q⟩ ⟨3072 + l.val, by have := l.isLt; omega⟩) := by
  unfold aU
  blk_point [iblk, V, idx t]

theorem blk9 : iblk m c 9 t (ix2 q l) = aD m c (ix2 ⟨16 * min (32 * (t.val + 1)) 511 + q.val, next_lt t q⟩ l) := by
  unfold aD
  blk_point [iblk, V, idx t]
end

variable (U : S8192x6144.Idx → ℝ) (D : S8192x1024.Idx → ℝ) (W : S3x1024.Idx → ℝ)
  (hU : aU m c = fun i => ((U i : ℝ) : EReal)) (hD : aD m c = fun i => ((D i : ℝ) : EReal)) (hW : aW m c = fun i => ((W i : ℝ) : EReal))

section
include hU
theorem u_at (o : Fin 4) (n : Fin 8192) (k : ℕ) (hn : n.val = k) (l : Fin 1024) (j : Fin 6144) (hj : j.val = 1024 * o.val + l.val) :
    aU m c (ix2 n j) = ((group U o k l : ℝ) : EReal) := by
  rw [hU, ← hn]
  exact congrArg _ (group_at U o n l j hj)
end

section
include hD
theorem d_at (n : Fin 8192) (k : ℕ) (hn : n.val = k) (l : Fin 1024) : aD m c (ix2 n l) = ((cot D k l : ℝ) : EReal) := by
  rw [hD, ← hn]
  exact congrArg _ (cot_at D n l)
end

/-- The row of gradients that a point leaves, before it is known to be real. -/
def rowOf (t : Fin cfg0.N) : FVec Ideal S512x4096 .bf16 :=
  k0_pay1 (k0_pay4 (iblk m c 0 t)) (k0_pay5 (iblk m c 2 t)) (k0_pay7 (iblk m c 3 t))
    (k0_pay12 (grid0.coords t) (iblk m c 0 t) (iblk m c 2 t) (iblk m c 5 t) (iblk m c 4 t) (iblk m c 10 t)) (k0_pay14 (k0_pay13 (iblk m c 3 t)))
    (k0_pay15 (k0_pay7 (iblk m c 3 t)) (k0_pay13 (iblk m c 3 t))) (k0_pay16 (iblk m c 8 t))
    (k0_pay18 (BitVec.ofNat 32 (grid0.coords t 0).val) (k0_pay6 (iblk m c 1 t)) (k0_pay7 (iblk m c 3 t)) (iblk m c 10 t) (k0_pay13 (iblk m c 3 t))
      (iblk m c 8 t) (iblk m c 7 t) (iblk m c 9 t) (iblk m c 6 t))
    (k0_pay19 (k0_pay6 (iblk m c 1 t)) (k0_pay12 (grid0.coords t) (iblk m c 0 t) (iblk m c 2 t) (iblk m c 5 t) (iblk m c 4 t) (iblk m c 10 t)) (iblk m c 8 t))

/-- A point's part of the taps' gradient, likewise. -/
def tapsOf (t : Fin cfg0.N) : FVec Ideal S8x1024 .f32 :=
  k0_pay2 (k0_pay8 (iblk m c 0 t) (iblk m c 2 t)) (k0_pay10 (grid0.coords t) (iblk m c 0 t) (iblk m c 2 t) (iblk m c 5 t) (iblk m c 4 t))
    (k0_pay11 (grid0.coords t) (iblk m c 0 t) (iblk m c 2 t) (iblk m c 5 t) (iblk m c 4 t))
    (k0_pay17 (k0_pay6 (iblk m c 1 t)) (k0_pay7 (iblk m c 3 t)) (k0_pay13 (iblk m c 3 t)) (iblk m c 8 t))

theorem point11 (t : Fin cfg0.N) : (outsAt0 m c t.val t.isLt).1 = rowOf m c t := by
  unfold rowOf
  by_cases h : t.val % 16 = 0
  · rw [outsAt0_A m c t h (by have := lt16 t; omega)]
    frame_out
  · rw [outsAt0_B m c t h (by omega)]
    frame_out

theorem pred_lt (t : Fin cfg0.N) : t.val - 1 < cfg0.N := Nat.lt_of_le_of_lt (Nat.sub_le _ _) t.isLt

theorem reset12 (t : Fin cfg0.N) (h : t.val % 16 = 0) (j : S8x1024.Idx) : (outsAt0 m c t.val t.isLt).2 j = tapsOf m c t j := by
  unfold tapsOf
  rw [outsAt0_A m c t h (by have := lt16 t; omega)]
  frame_out

theorem add_prev (v8 v19 v21 v45 : FVec Ideal S512x1024 .f32) (a : Vec Ideal S8x1024 .f32) (j : S8x1024.Idx) :
    k0_pay3 v8 v19 v21 v45 a j = a j + k0_pay2 v8 v19 v21 v45 j := by
  pointwise [k0_pay3]

theorem step12 (t : Fin cfg0.N) (h : ¬t.val % 16 = 0) (j : S8x1024.Idx) :
    (outsAt0 m c t.val t.isLt).2 j = (outsAt0 m c (t.val - 1) (pred_lt t)).2 j + tapsOf m c t j := by
  unfold tapsOf
  rw [outsAt0_B m c t h (by omega), ← add_prev]
  frame_out

section
include hU hD hW
theorem rowOf_at (t : Fin cfg0.N) (r : Fin 512) (l : Fin 4096) :
    rowOf m c t (ix2 r l) = ((gu (group U 0) (group U 1) (group U 2) (group U 3) (cot D) (taps W) (512 * t.val + r.val) l.val : ℝ) : EReal) :=
  row_at (grid0.coords t) (pt t) (coord t) (group U 0) (group U 1) (group U 2) (group U 3) (cot D) (taps W) _ _ _ _ _ _ _ _ _ _ _
    (fun r l => (blk0 m c t r l).trans (u_at m c U hU 0 _ _ rfl l _ (by simp)))
    (fun r l => (blk1 m c t r l).trans (u_at m c U hU 1 _ _ rfl l _ rfl))
    (fun r l => (blk2 m c t r l).trans (u_at m c U hU 2 _ _ rfl l _ rfl))
    (fun r l => (blk3 m c t r l).trans (u_at m c U hU 3 _ _ rfl l _ rfl))
    (fun h r l => (blk4 m c t r l).trans (u_at m c U hU 0 _ _ (prev_row t r h) l _ (by simp)))
    (fun h r l => (blk5 m c t r l).trans (u_at m c U hU 2 _ _ (prev_row t r h) l _ rfl))
    (fun h r l => (blk6 m c t r l).trans (u_at m c U hU 1 _ _ (next_row t r h) l _ rfl))
    (fun h r l => (blk7 m c t r l).trans (u_at m c U hU 3 _ _ (next_row t r h) l _ rfl))
    (fun r l => (blk8 m c t r l).trans (d_at m c D hD _ _ rfl l))
    (fun h r l => (blk9 m c t r l).trans (d_at m c D hD _ _ (next_row t r h) l))
    (fun k l => (blk10 m c t l k).trans (by rw [hW]; rfl))
    (fun n l h => cot_end D n l h) r l

theorem tapsOf_at (t : Fin cfg0.N) (k : Fin 8) (l : Fin 1024) :
    tapsOf m c t (ix2 k l)
      = if k.val < 3 then ((part (group U 0) (group U 1) (group U 2) (group U 3) (cot D) t.val k.val l : ℝ) : EReal) else 0 :=
  taps_at (grid0.coords t) (pt t) (coord t) (group U 0) (group U 1) (group U 2) (group U 3) (cot D) _ _ _ _ _ _ _
    (fun r l => (blk0 m c t r l).trans (u_at m c U hU 0 _ _ rfl l _ (by simp)))
    (fun r l => (blk1 m c t r l).trans (u_at m c U hU 1 _ _ rfl l _ rfl))
    (fun r l => (blk2 m c t r l).trans (u_at m c U hU 2 _ _ rfl l _ rfl))
    (fun r l => (blk3 m c t r l).trans (u_at m c U hU 3 _ _ rfl l _ rfl))
    (fun h r l => (blk4 m c t r l).trans (u_at m c U hU 0 _ _ (prev_row t r h) l _ (by simp)))
    (fun h r l => (blk5 m c t r l).trans (u_at m c U hU 2 _ _ (prev_row t r h) l _ rfl))
    (fun r l => (blk8 m c t r l).trans (d_at m c D hD _ _ rfl l)) k l

omit hU hD hW
theorem emb0 (t : Fin cfg0.N) (y : ((cfg0.win 11).xblock (cfg0.grid.coords t)).Idx) :
    ((((cfg0.win 11).blk t).view.emb y : S8192x6144.Idx) 0).val = 512 * t.val + (y 0).val := by
  blk_simp [idx t]
  omega

theorem emb1 (t : Fin cfg0.N) (y : ((cfg0.win 11).xblock (cfg0.grid.coords t)).Idx) :
    ((((cfg0.win 11).blk t).view.emb y : S8192x6144.Idx) 1).val = (y 1).val :=
  Pipeline.Window.rect_emb_val_of_index_zero (cfg0.win 11) t 1 (by rw [show (cfg0.win 11).index t = ![t.val, 0] from (idx t).2.2.2.2.2.2.2.2.2.2.2.1]; rfl) y

include hU hD hW
/-- The gradients' array, its last two groups of columns as they were. -/
theorem final11 : (dats m 0 c).arrAt 11 (cfgs 0).N
    = fun i : S8192x6144.Idx => if (i 1 : ℕ) / 4096 = 0 then
        ((gu (group U 0) (group U 1) (group U 2) (group U 3) (cot D) (taps W) (i 0 : ℕ) (i 1 : ℕ) : ℝ) : EReal)
      else (dats m 0 c).A 11 i := by
  refine (dats m 0 c).arrAt_eq_of_coversWhere 11 (fun i : S8192x6144.Idx =>
      ((gu (group U 0) (group U 1) (group U 2) (group U 3) (cot D) (taps W) (i 0 : ℕ) (i 1 : ℕ) : ℝ) : EReal))
    (fun β => β (1 : Fin 2) = 0) (by decide +kernel) (fun t _ y => ?_) (fun j => Iff.rfl)
  rw [after0_11, point11]
  obtain ⟨Y, hY⟩ : ∃ Y : S512x4096.Idx, Y = (cfg0.win 11).xinj (cfg0.grid.coords t) y := ⟨_, rfl⟩
  have h0 : (Y 0).val = (y 0).val := by rw [hY]
  have h1 : (Y 1).val = (y 1).val := by rw [hY]
  have e0 : ((((cfg0.win 11).blk t).view.emb y : S8192x6144.Idx) 0).val = 512 * t.val + (Y 0).val := by
    rw [h0, emb0]
  have e1 : ((((cfg0.win 11).blk t).view.emb y : S8192x6144.Idx) 1).val = (Y 1).val := by
    rw [h1, emb1]
  have hr := rowOf_at m c U D W hU hD hW t (Y 0) (Y 1)
  rw [← eq_ix2 Y] at hr
  dsimp only
  rw [← hY, e0, e1]
  exact hr
end

/-- The taps' array is the sum of the points' parts. -/
theorem final12 : (dats m 0 c).arrAt 12 (cfgs 0).N = fun j : S8x1024.Idx => ∑ t : Fin cfg0.N, tapsOf m c t j := by
  refine (dats m 0 c).arrAt_eq_of_after_last 12 t0_15 (by decide +kernel) _ fun j => ?_
  blk_simp
  rw [after0_12, Pipeline.eq_sum_fin_of_reset_step_apply_last (fun n h => (outsAt0 m c n h).2) 16 (fun _ => 0) (fun t j => tapsOf m c t j)
    (fun t h j => (reset12 m c t h j).trans (zero_add _).symm) (step12 m c) (le_of_eq N_0) t0_15 rfl j, zero_add]

end Cert.ConvIdeal.Rows
-- ==== Proof.ConvRef.lean ====
/-
  The convolution reference's gradients at an index, for arguments that are real numbers.
-/
module

public import proofs.«01_k».proof.Proof.Gen.ConvRefIdeal.Read
public import proofs.«01_k».proof.Proof.ConvMath

@[expose] public section

set_option maxRecDepth 16384

noncomputable section

open Idealize.ShloMosaic Idealize.ShloMosaic.TcCoe Idealize.SL.Sem
open Idealize.ShloMosaic.Tactic

namespace Cert.ConvRefIdeal.Rows

open Cert.ConvRefIdeal Cert.ConvRefIdeal.Gen Cert.ConvRefIdeal.Read Cert.ConvMath Cert.Finite

variable (x0 : (⟨S8192x6144, .bf16⟩ : BufTy).Contents (Elt Ideal)) (x1 : (⟨S8192x1024, .bf16⟩ : BufTy).Contents (Elt Ideal)) (x2 : (⟨S3x1024, .f32⟩ : BufTy).Contents (Elt Ideal))
  (x b c z d : Rows) (w : Fin 3 → Fin 1024 → ℝ)
  (hx : ∀ (n : Fin 8192) (l : Fin 1024), x0 (ix2 n ⟨l.val, Nat.lt_of_lt_of_le l.isLt (Nat.le_of_ble_eq_true rfl)⟩) = ((x n.val l : ℝ) : EReal))
  (hb : ∀ (n : Fin 8192) (l : Fin 1024), x0 (ix2 n ⟨1024 + l.val, Nat.lt_of_lt_of_le (Nat.add_lt_add_left l.isLt _) (Nat.le_of_ble_eq_true rfl)⟩) = ((b n.val l : ℝ) : EReal))
  (hc : ∀ (n : Fin 8192) (l : Fin 1024), x0 (ix2 n ⟨2048 + l.val, Nat.lt_of_lt_of_le (Nat.add_lt_add_left l.isLt _) (Nat.le_of_ble_eq_true rfl)⟩) = ((c n.val l : ℝ) : EReal))
  (hz : ∀ (n : Fin 8192) (l : Fin 1024), x0 (ix2 n ⟨3072 + l.val, Nat.lt_of_lt_of_le (Nat.add_lt_add_left l.isLt _) (Nat.le_of_ble_eq_true rfl)⟩) = ((z n.val l : ℝ) : EReal))
  (hd : ∀ (n : Fin 8192) (l : Fin 1024), x1 (ix2 n l) = ((d n.val l : ℝ) : EReal))
  (hd0 : ∀ n l, 8192 ≤ n → d n l = 0)
  (hw : ∀ k l, x2 (ix2 k l) = ((w k l : ℝ) : EReal))

/-- A sum over two axes of length one has one term. -/
theorem sum_unit (v : S1x1x1024.Idx → EReal) (l : Fin 1024) :
    Ideal.hostReduceAdd reducesTo_S1x1x1024_S1024_d0_1 v 0 (ix1 l) = v (ix3 0 0 l) := by
  unfold Ideal.hostReduceAdd
  rw [zero_add]
  refine Finset.sum_eq_single _ (fun i hi hne => absurd ?_ hne) fun h => absurd ?_ h
  · have e : i 2 = l := congrFun (Finset.mem_filter.1 hi).2 0
    rw [eq_ix3 i, e]
    have e0 : i 0 = (0 : Fin 1) := Subsingleton.elim (α := Fin 1) _ _
    have e1 : i 1 = (0 : Fin 1) := Subsingleton.elim (α := Fin 1) _ _
    rw [e0, e1]
  · refine Finset.mem_filter.2 ⟨Finset.mem_univ _, ?_⟩
    funext a
    match a with
    | ⟨0, _⟩ => rfl

/-- Four arrays of columns side by side. -/
theorem side (A B C D : FVec Ideal S8192x1024 .f32) (n : Fin 8192) (l : Fin 4096) :
    concatenate S8192x4096 1 [⟨S8192x1024, A⟩, ⟨S8192x1024, B⟩, ⟨S8192x1024, C⟩, ⟨S8192x1024, D⟩] concatenates_S8192x1024_S8192x1024_S8192x1024_S8192x1024_S8192x4096_d1 (ix2 n l)
      = if h : l.val < 1024 then A (ix2 n ⟨l.val, h⟩)
        else if h : l.val - 1024 < 1024 then B (ix2 n ⟨l.val - 1024, h⟩)
        else if h : l.val - 1024 - 1024 < 1024 then C (ix2 n ⟨l.val - 1024 - 1024, h⟩)
        else D (ix2 n ⟨l.val - 1024 - 1024 - 1024, by have := l.isLt; omega⟩) := by
  pointwise []

section
include hx hc
theorem v10_at (n : Fin 8192) (l : Fin 1024) : val_main_v10 x0 (ix3 0 n l) = ((inp x c l n.val : ℝ) : EReal) := by
  pointwise [val_main_v10, val_main_v8, val_main_v6, val_main_v4, val_main_v2, val_main_v1, val_main_v0]
  rw [hx, hc, ← EReal.coe_mul, inp]

theorem v13_at (n : Fin 8194) (l : Fin 1024) :
    val_main_v13 x0 (ix3 0 n l) = if n.val < 2 then 0 else ((inp x c l (n.val - 2) : ℝ) : EReal) := by
  pointwise [val_main_v13, val_main_v12, val_main_cst]
  by_cases h : n.val < 2
  · rw [if_pos h]
    exact dif_pos h
  · rw [if_neg h]
    exact (dif_neg h).trans (v10_at x0 x c hx hc _ l)

theorem v17_at (n : Fin 8192) (l : Fin 1024) : val_main_v17 x0 (ix3 0 n l) = ((back x c n.val l 2 : ℝ) : EReal) := by
  pointwise [val_main_v17]
  rw [v13_at x0 x c hx hc, back]
  split_ifs <;> rfl

theorem v25_at (n : Fin 8192) (l : Fin 1024) : val_main_v25 x0 (ix3 0 n l) = ((back x c n.val l 1 : ℝ) : EReal) := by
  pointwise [val_main_v25]
  rw [v13_at x0 x c hx hc, back]
  by_cases h : n.val < 1
  · rw [if_pos h, if_pos (by simp only; omega)]
    rfl
  · rw [if_neg h, if_neg (by simp only; omega)]
    exact congrArg (fun n => ((inp x c l n : ℝ) : EReal)) (by simp only; omega)

theorem v32_at (n : Fin 8192) (l : Fin 1024) : val_main_v32 x0 (ix3 0 n l) = ((back x c n.val l 0 : ℝ) : EReal) := by
  pointwise [val_main_v32]
  rw [v13_at x0 x c hx hc, back, if_neg (by simp only; omega), if_neg (by omega)]
  exact congrArg (fun n => ((inp x c l n : ℝ) : EReal)) (by simp only; omega)

include hw
theorem v36_at (n : Fin 8192) (l : Fin 1024) : val_main_v36 x0 x2 (ix3 0 n l) = ((conv x c w n.val l : ℝ) : EReal) := by
  pointwise [val_main_v36, val_main_v35, val_main_v34, val_main_v33, val_main_v31, val_main_v30, val_main_v29, val_main_v28, val_main_v27,
    val_main_v26, val_main_v24, val_main_v23, val_main_v22, val_main_v21, val_main_cst_1, val_main_v20, val_main_v19, val_main_v18, val_main_v16,
    val_main_v15]
  rw [v17_at x0 x c hx hc, v25_at x0 x c hx hc, v32_at x0 x c hx hc, hw, hw, hw, conv]
  simp only [EReal.coe_add, EReal.coe_mul]
end

section
include hz
theorem v38_2_at (n : Fin 8192) (l : Fin 1024) : val_main_v38_2 x0 (ix3 0 n l) = ((sgm (z n.val l) : ℝ) : EReal) := by
  pointwise [val_main_v38_2, val_main_call0_v4, val_main_call0_cst_0, val_main_call0_v3, val_main_call0_v2, val_main_call0_cst,
    val_main_call0_v1, val_main_call0_v0, val_main_v9, val_main_v5, val_main_v1, val_main_v0]
  rw [hz, sgm_eq]

theorem v38_0_at (n : Fin 8192) (l : Fin 1024) : val_main_v38_0 x0 (ix3 0 n l) = ((z n.val l * sgm (z n.val l) : ℝ) : EReal) := by
  pointwise [val_main_v38_0, val_main_v9, val_main_v5, val_main_v1, val_main_v0]
  rw [v38_2_at x0 z hz, hz, ← EReal.coe_mul]

theorem v38_1_at (n : Fin 8192) (l : Fin 1024) : val_main_v38_1 x0 (ix3 0 n l) = ((sgm (z n.val l) * (1 - sgm (z n.val l)) : ℝ) : EReal) := by
  pointwise [val_main_v38_1, val_main_call0_v7, val_main_call0_v6, val_main_call0_cst_1]
  rw [v38_2_at x0 z hz, ← EReal.coe_one, ← EReal.coe_sub, ← EReal.coe_mul]

include hb hd
theorem v46_at (n : Fin 8192) (l : Fin 1024) : val_main_v46 x0 x1 (ix3 0 n l) = ((dconv b z d l n.val : ℝ) : EReal) := by
  pointwise [val_main_v46, val_main_v44, val_main_v7, val_main_v3, val_main_v1, val_main_v0, val_main_v42, val_main_v41]
  rw [v38_0_at x0 z hz, hb, hd, ← EReal.coe_mul, ← EReal.coe_mul, dconv]
  exact congrArg _ (by ring)

include hd0 hw
theorem v80_at (n : Fin 8192) (l : Fin 1024) : val_main_v80 x0 x1 x2 (ix3 0 n l) = ((dinp b z d w n.val l : ℝ) : EReal) := by
  have hd1 : ∀ n, 8192 ≤ n → dconv b z d l n = 0 := fun n h => by rw [dconv, hd0 n l h, zero_mul, zero_mul]
  pointwise [val_main_v80, val_main_v75, val_main_v74, val_main_cst_12, val_main_v69, val_main_v68, val_main_v18, val_main_v16, val_main_v15,
    val_main_v64, val_main_v63, val_main_cst_8, val_main_v58, val_main_v57, val_main_v26, val_main_v24, val_main_v23, val_main_v54,
    val_main_cst_4, val_main_v49, val_main_v48, val_main_v33, val_main_v31, val_main_v30]
  rw [dinp]
  simp only [hw, v46_at x0 x1 b z d hb hz hd, ← EReal.coe_mul]
  have e1 : (if h : 1 ≤ 2 + n.val ∧ 2 + n.val - 1 < 8192 then ((w 1 l * dconv b z d l (2 + n.val - 1) : ℝ) : EReal) else 0)
      = ((w 1 l * dconv b z d l (n.val + 1) : ℝ) : EReal) := by
    have hn : 2 + n.val - 1 = n.val + 1 := by omega
    rw [hn]
    split_ifs with h
    · rfl
    · rw [hd1 _ (by omega), mul_zero, EReal.coe_zero]
  have e2 : (if h : 2 + n.val < 8192 then ((w 0 l * dconv b z d l (2 + n.val) : ℝ) : EReal) else 0)
      = ((w 0 l * dconv b z d l (n.val + 2) : ℝ) : EReal) := by
    rw [Nat.add_comm 2]
    split_ifs with h
    · rfl
    · rw [hd1 _ (by omega), mul_zero, EReal.coe_zero]
  rw [EReal.coe_add, EReal.coe_add]
  exact congrArg₂ (· + ·) (congrArg₂ (· + ·) rfl e1) e2

include hx hc
theorem v45_at (n : Fin 8192) (l : Fin 1024) : val_main_v45 x0 x1 x2 (ix3 0 n l) = ((gz x b c z d w n.val l : ℝ) : EReal) := by
  pointwise [val_main_v45, val_main_call1_v2, val_main_call1_v1, val_main_call1_v0, val_main_v43, val_main_v37, val_main_v7, val_main_v3,
    val_main_v1, val_main_v0, val_main_v42, val_main_v41, val_main_v9, val_main_v5]
  rw [v38_2_at x0 z hz, v38_1_at x0 z hz, hb, hd, hz, v36_at x0 x2 x c w hx hc hw, gz]
  simp only [← EReal.coe_mul, ← EReal.coe_add]
  exact congrArg _ (by ring)

theorem v86_at (n : Fin 8192) (l : Fin 1024) : val_main_v86 x0 x1 x2 (ix2 n l) = ((gx b c z d w n.val l : ℝ) : EReal) := by
  pointwise [val_main_v86, val_main_cst_17, val_main_v81, val_main_v8, val_main_v4, val_main_v1, val_main_v0]
  rw [Fin.sum_univ_one, v80_at x0 x1 x2 b z d w hb hz hd hd0 hw, hc, ← EReal.coe_mul, gx, mul_comm]

theorem v85_at (n : Fin 8192) (l : Fin 1024) : val_main_v85 x0 x1 x2 (ix2 n l) = ((gb x c z d w n.val l : ℝ) : EReal) := by
  pointwise [val_main_v85, val_main_cst_16, val_main_v47, val_main_v44, val_main_v42, val_main_v41]
  rw [Fin.sum_univ_one, v38_0_at x0 z hz, hd, v36_at x0 x2 x c w hx hc hw, gb, ← EReal.coe_mul, ← EReal.coe_mul]
  exact congrArg _ (by ring)

theorem v84_at (n : Fin 8192) (l : Fin 1024) : val_main_v84 x0 x1 x2 (ix2 n l) = ((gc x b z d w n.val l : ℝ) : EReal) := by
  pointwise [val_main_v84, val_main_cst_15, val_main_v82, val_main_v6, val_main_v2, val_main_v1, val_main_v0]
  rw [Fin.sum_univ_one, v80_at x0 x1 x2 b z d w hb hz hd hd0 hw, hx, ← EReal.coe_mul, gc]

theorem v83_at (n : Fin 8192) (l : Fin 1024) : val_main_v83 x0 x1 x2 (ix2 n l) = ((gz x b c z d w n.val l : ℝ) : EReal) := by
  pointwise [val_main_v83, val_main_cst_14]
  rw [Fin.sum_univ_one, v45_at x0 x1 x2 x b c z d w hx hb hc hz hd hd0 hw]

/-- The gradient of the four groups of columns. -/
theorem v89_at (n : Fin 8192) (l : Fin 6144) (hl : l.val < 4096) :
    val_main_v89 x0 x1 x2 (ix2 n l) = ((gu x b c z d w n.val l.val : ℝ) : EReal) := by
  have e : val_main_v89 x0 x1 x2 (ix2 n l) = val_main_v87 x0 x1 x2 (ix2 n ⟨l.val, hl⟩) := by
    pointwise [val_main_v89, val_main_v88, val_main_cst_18]
    exact dif_pos hl
  rw [e]
  unfold val_main_v87 gu
  refine (side _ _ _ _ n ⟨l.val, hl⟩).trans ?_
  by_cases h : l.val < 1024
  · rw [dif_pos h, dif_pos h, v86_at x0 x1 x2 x b c z d w hx hb hc hz hd hd0 hw]
  rw [dif_neg h, dif_neg h]
  by_cases h1 : l.val - 1024 < 1024
  · rw [dif_pos h1, dif_pos h1, v85_at x0 x1 x2 x b c z d w hx hb hc hz hd hd0 hw]
  rw [dif_neg h1, dif_neg h1]
  by_cases h2 : l.val - 1024 - 1024 < 1024
  · rw [dif_pos h2, dif_pos h2, v84_at x0 x1 x2 x b c z d w hx hb hc hz hd hd0 hw]
  rw [dif_neg h2, dif_neg h2, v83_at x0 x1 x2 x b c z d w hx hb hc hz hd hd0 hw]
  refine congrArg (fun l => ((gz x b c z d w n.val l : ℝ) : EReal)) (Fin.ext ?_)
  show l.val - 1024 - 1024 - 1024 = (l.val - 1024 - 1024 - 1024) % 1024
  omega

omit hd0 hw
/-- The gradient of the taps. -/
theorem v90_at (k : Fin 8) (l : Fin 1024) : val_main_v90 x0 x1 (ix2 k l)
    = if k.val < 3 then ((gw x b c z d l k.val : ℝ) : EReal) else 0 := by
  have e2 : val_main_v53 x0 x1 (ix1 l) = ((gw x b c z d l 2 : ℝ) : EReal) := by
    pointwise [val_main_v53, val_main_cst_3]
    rw [sum_unit]
    pointwise [val_main_v52, val_main_v51, val_main_cst_2, val_main_v50]
    rw [gw, ← coe_sum]
    refine Finset.sum_congr rfl fun n _ => ?_
    rw [v46_at x0 x1 b z d hb hz hd, v32_at x0 x c hx hc, ← EReal.coe_mul]
  have e1 : val_main_v62 x0 x1 (ix1 l) = ((gw x b c z d l 1 : ℝ) : EReal) := by
    pointwise [val_main_v62, val_main_cst_7]
    rw [sum_unit]
    pointwise [val_main_v61, val_main_v60, val_main_cst_6, val_main_v59]
    rw [gw, ← coe_sum]
    refine Finset.sum_congr rfl fun n _ => ?_
    rw [v46_at x0 x1 b z d hb hz hd, v25_at x0 x c hx hc, ← EReal.coe_mul]
  have e0 : val_main_v73 x0 x1 (ix1 l) = ((gw x b c z d l 0 : ℝ) : EReal) := by
    pointwise [val_main_v73, val_main_cst_11]
    rw [sum_unit]
    pointwise [val_main_v72, val_main_v71, val_main_cst_10, val_main_v70]
    rw [gw, ← coe_sum]
    refine Finset.sum_congr rfl fun n _ => ?_
    rw [v46_at x0 x1 b z d hb hz hd, v17_at x0 x c hx hc, ← EReal.coe_mul]
  pointwise [val_main_v90, val_main_c, val_main_call2_v0, val_main_v78, val_main_v77, val_main_cst_13, val_main_v76, val_main_v67, val_main_v66,
    val_main_cst_9, val_main_v65, val_main_v56, val_main_cst_5, val_main_v55]
  by_cases hk : k.val < 3
  · rw [if_pos hk]
    refine (dif_pos hk).trans ?_
    rw [e0, e1, e2]
    have h3 : k.val = 0 ∨ k.val = 1 ∨ k.val = 2 := by omega
    rcases h3 with h | h | h <;> simp [h]
  · rw [if_neg hk]
    refine (dif_neg hk).trans ?_
    show (((0#32 : BitVec 32).toInt : ℝ) : EReal) = 0
    simp
end

end Cert.ConvRefIdeal.Rows
-- ==== Proof.ConvClaim.lean ====
/-
  The claims about the convolution's gradients: the reference's frame, and the equation of the results on finite arguments.
-/
module

public import proofs.«01_k».proof.Defs
public import proofs.«01_k».proof.Proof.ConvArray
public import proofs.«01_k».proof.Proof.ConvRef
public import proofs.«01_k».proof.Proof.Gen.ConvRefIdeal.Run
public import proofs.«01_k».proof.Proof.Gen.Pre_finite_conv
public import proofs.«01_k».proof.Proof.Gen.On_conv_columns
public import Idealize.ShloMosaic.Lib.Quiescent
public import Idealize.ShloMosaic.Lib.WordCmp

@[expose] public section

set_option maxRecDepth 16384

noncomputable section

open Idealize.ShloMosaic Idealize.ShloMosaic.TcCoe Idealize.SL.Sem
open Idealize.ShloMosaic.Tactic

namespace Cert.ConvClaim

open Cert.ConvIdeal Cert.ConvIdeal.Gen Cert.ConvIdeal.Rows Cert.ConvMath

theorem frame_ref : Cert.quiescent_ConvRefIdeal := fun m ρ _ =>
  (θ_run (Cert.ConvRefIdeal.defs (F := Ideal)) _ _).mono
    (fun r h => ⟨fun c => (h c).2.2, sem_eq_zero_of_no_sems (by decide) r.2⟩)
    (Cert.ConvRefIdeal.Value.run (F := Ideal) m ρ)

/-- The precondition read back: the three arrays hold reals. -/
theorem reals (m : (ℓ : Loc nD τ sig) → Buf (Elt Ideal) ℓ) (h : Cert.Pre_ConvIdeal_finite_conv m) (c : Dev nD) :
    (∃ U : S8192x6144.Idx → ℝ, aU m c = fun i => ((U i : ℝ) : EReal)) ∧ (∃ D : S8192x1024.Idx → ℝ, aD m c = fun i => ((D i : ℝ) : EReal))
    ∧ (∃ W : S3x1024.Idx → ℝ, aW m c = fun i => ((W i : ℝ) : EReal)) := by
  have e := congrFun (h c) ix0
  unfold Cert.Pre_finite_conv.fn at e
  dsimp only at e
  obtain ⟨e, e3⟩ := IntOp.andi_eq_one.1 e
  obtain ⟨e1, e2⟩ := IntOp.andi_eq_one.1 e
  exact ⟨Cert.Finite.reals (S := S8192x6144) _ _ _ _ _ _ e1, Cert.Finite.reals (S := S8192x1024) _ _ _ _ _ _ e2, Cert.Finite.reals _ _ _ _ _ _ e3⟩

/-- The columns that the claim is about are the first 4096. -/
theorem columns (u : FVec Ideal S8192x6144 .bf16) (d : FVec Ideal S8192x1024 .bf16) (w : FVec Ideal S3x1024 .f32) (i : S8192x6144.Idx)
    (h : (Cert.On_conv_columns.fn (F := Ideal) u d w).1 i = 1#1) : (i 1).val < 4096 := by
  have hl : (i 1).val < 6144 := (i 1).isLt
  have e : IntOp.cmpi .slt (BitVec.ofNat 32 (i 1).val) (BitVec.ofNat 32 4096) = 1#1 := h
  rw [WordCmp.cmpi_slt_ofNat (by omega) (by norm_num)] at e
  by_contra hn
  rw [decide_eq_false hn] at e
  exact absurd e (by decide)

/-- A row of the taps' gradient is the sum of the points' parts. -/
theorem tap_sum (m : (ℓ : Loc nD τ sig) → Buf (Elt Ideal) ℓ) (c : Dev nD) (U : S8192x6144.Idx → ℝ) (D : S8192x1024.Idx → ℝ) (W : S3x1024.Idx → ℝ)
    (hU : aU m c = fun i => ((U i : ℝ) : EReal)) (hD : aD m c = fun i => ((D i : ℝ) : EReal))
    (hW : aW m c = fun i => ((W i : ℝ) : EReal)) (k : Fin 8) (l : Fin 1024) :
    ∑ t : Fin cfg0.N, tapsOf m c t (ix2 k l)
      = if k.val < 3 then ((gw (group U 0) (group U 1) (group U 2) (group U 3) (cot D) l k.val : ℝ) : EReal) else 0 := by
  rw [Finset.sum_congr rfl fun t _ => tapsOf_at m c U D W hU hD hW t k l]
  by_cases h : k.val < 3
  · simp only [if_pos h]
    rw [Fin.sum_univ_eq_sum_range (fun t => ((part (group U 0) (group U 1) (group U 2) (group U 3) (cot D) t k.val l : ℝ) : EReal)) cfg0.N,
      show cfg0.N = 16 from N_0, ← Fin.sum_univ_eq_sum_range (fun t => ((part (group U 0) (group U 1) (group U 2) (group U 3) (cot D) t k.val l : ℝ) : EReal)) 16,
      Cert.Finite.coe_sum, gw_blocks]
    rfl
  · simp only [if_neg h, Finset.sum_const_zero]

theorem algebraic : Cert.algebraic_ConvIdeal_ConvRefIdeal_on_conv_columns_pre_finite_conv := by
  intro m g m' g' hpre hag
  refine ⟨fun c => (dats m 0 c).arrAt 11 cfg0.N, fun c => (dats m 0 c).arrAt 12 cfg0.N, ?_, ?_⟩
  · refine (θ_run defs _ _).mono (fun r h c => ?_) (Cert.ConvIdeal.Value.run_blocks m g)
    obtain ⟨h11, h12, h⟩ := h c
    exact ⟨fun i _ => congrFun h11 i, fun i _ => congrFun h12 i, h⟩
  · refine (θ_run Cert.ConvRefIdeal.defs _ _).mono (fun r h c => ?_) (Cert.ConvRefIdeal.Value.run (F := Ideal) m' g')
    obtain ⟨h11, h12, h⟩ := h c
    obtain ⟨⟨U, hU⟩, ⟨D, hD⟩, W, hW⟩ := reals m hpre c
    obtain ⟨a0, a1, a2⟩ := hag c
    have u0 := fun n l => u_at m c U hU 0 n _ rfl l ⟨l.val, by have := l.isLt; omega⟩ (by simp)
    have u1 := fun n l => u_at m c U hU 1 n _ rfl l ⟨1024 + l.val, by have := l.isLt; omega⟩ rfl
    have u2 := fun n l => u_at m c U hU 2 n _ rfl l ⟨2048 + l.val, by have := l.isLt; omega⟩ rfl
    have u3 := fun n l => u_at m c U hU 3 n _ rfl l ⟨3072 + l.val, by have := l.isLt; omega⟩ rfl
    have ud := fun n l => d_at m c D hD n _ rfl l
    refine ⟨fun i hi => (congrFun h11 i).trans ?_, fun i _ => (congrFun h12 i).trans ?_, h⟩
    · have hl := columns _ _ _ i hi
      rw [Cert.ConvRefIdeal.Read.val_main_v89_eq, a0, a1, a2]
      refine Eq.trans ?_ (congrFun (final11 m c U D W hU hD hW) i).symm
      have hl0 : (i 1 : ℕ) / 4096 = 0 := Nat.div_eq_of_lt hl
      refine Eq.trans ?_ (if_pos hl0).symm
      rw [eq_ix2 i]
      exact Cert.ConvRefIdeal.Rows.v89_at (aU m c) (aD m c) (aW m c) (group U 0) (group U 1) (group U 2) (group U 3) (cot D) (taps W)
        u0 u1 u2 u3 ud (fun n l h => cot_end D n l h) (fun k l => congrFun hW _) (i 0) (i 1) hl
    · rw [Cert.ConvRefIdeal.Read.val_main_v90_eq, a0, a1]
      refine Eq.trans ?_ (congrFun (final12 m c) i).symm
      rw [eq_ix2 i]
      refine Eq.trans ?_ (tap_sum m c U D W hU hD hW (i 0) (i 1)).symm
      exact Cert.ConvRefIdeal.Rows.v90_at (aU m c) (aD m c) (group U 0) (group U 1) (group U 2) (group U 3) (cot D)
        u0 u1 u2 u3 ud (i 0) (i 1)

end Cert.ConvClaim
-- ==== Proof.TailMath.lean ====
/-
  The step's tail as real functions of a row number and a column: the two gated branches side by side, the projection, the
  squared error, and the gradients of the mean of its squares.
-/
module

public import proofs.«01_k».proof.Proof.ConvMath

@[expose] public section

noncomputable section

open Idealize.ShloMosaic

namespace Cert.TailMath

open Cert.ConvMath

/-- What the tail reads: the convolution branch's four groups of columns and its taps, the attention's output and its gate's
argument, the projection, the row it is added to, the target and the residual gate. -/
structure Inputs where
  x : Rows
  b : Rows
  c : Rows
  z : Rows
  o : Rows
  a : Rows
  w : Fin 3 → Fin 1024 → ℝ
  P : Fin 2048 → Fin 2048 → ℝ
  X : ℕ → Fin 2048 → ℝ
  T : ℕ → Fin 2048 → ℝ
  g : Fin 2048 → ℝ

/-- The columns of the two branches. -/
def lo (l : Fin 1024) : Fin 2048 := ⟨l.val, Nat.lt_of_lt_of_le l.isLt (Nat.le_of_ble_eq_true rfl)⟩
def hi (l : Fin 1024) : Fin 2048 := ⟨1024 + l.val, Nat.lt_of_lt_of_le (Nat.add_lt_add_left l.isLt _) (Nat.le_of_ble_eq_true rfl)⟩

variable (I : Inputs) (n : ℕ)

/-- The two branches, -/
def yc (l : Fin 1024) : ℝ := I.b n l * conv I.x I.c I.w n l * (I.z n l * sgm (I.z n l))
def ya (l : Fin 1024) : ℝ := I.o n l * (I.a n l * sgm (I.a n l))

/-- side by side, -/
def ycat (i : Fin 2048) : ℝ :=
  if h : i.val < 1024 then yc I n ⟨i.val, h⟩ else ya I n ⟨i.val - 1024, by have := i.isLt; omega⟩

theorem ycat_lo (l : Fin 1024) : ycat I n (lo l) = yc I n l := dif_pos l.isLt

theorem ycat_hi (l : Fin 1024) : ycat I n (hi l) = ya I n l :=
  (dif_neg (show ¬1024 + l.val < 1024 by omega)).trans
    (congrArg (ya I n) (Fin.ext (show 1024 + l.val - 1024 = l.val by omega)))

/-- and projected. -/
def proj (j : Fin 2048) : ℝ := ∑ i : Fin 2048, ycat I n i * I.P i j

/-- A sum over the columns, branch by branch. -/
theorem sum_halves (f : Fin 2048 → ℝ) : ∑ i : Fin 2048, f i = ∑ l : Fin 1024, f (lo l) + ∑ l : Fin 1024, f (hi l) :=
  Fin.sum_univ_add (a := 1024) (b := 1024) f

theorem proj_halves (j : Fin 2048) :
    proj I n j = ∑ l : Fin 1024, ya I n l * I.P (hi l) j + ∑ l : Fin 1024, yc I n l * I.P (lo l) j := by
  rw [proj, sum_halves, add_comm]
  simp only [ycat_lo, ycat_hi]

/-- The error, the gradient that reaches the row, and the gradient that reaches the projection. -/
def err (j : Fin 2048) : ℝ := I.X n j + I.g j * proj I n j - I.T n j
def dout (j : Fin 2048) : ℝ := err I n j * (1 / 2048)
def dproj (j : Fin 2048) : ℝ := dout I n j * I.g j

/-- The gradient that reaches the branches, -/
def dcat (i : Fin 2048) : ℝ := ∑ j : Fin 2048, dproj I n j * I.P i j

/-- the attention's output, its gate's argument, -/
def dov (l : Fin 1024) : ℝ := dcat I n (hi l) * (I.a n l * sgm (I.a n l))
def dza (l : Fin 1024) : ℝ :=
  dcat I n (hi l) * I.o n l * (sgm (I.a n l) * (1 + I.a n l * (1 - sgm (I.a n l))))

/-- and a head's row sum of the output's gradient against the output. -/
def rowdot (h : Fin 8) : ℝ :=
  ∑ r : Fin 128, dov I n ⟨h.val * 128 + r.val, by have := h.isLt; have := r.isLt; omega⟩
    * I.o n ⟨h.val * 128 + r.val, by have := h.isLt; have := r.isLt; omega⟩

/-- The residual gate's gradient and the loss, summed over the rows. -/
def dgate (j : Fin 2048) : ℝ := ∑ R : Fin 8192, dout I R.val j * proj I R.val j
def sq (n : ℕ) : ℝ := ∑ j : Fin 2048, err I n j * err I n j
def loss : ℝ := (∑ R : Fin 8192, sq I R.val) * (1 / 4096)

/-- A sum over the rows, block by block. -/
theorem sum_blocks (f : ℕ → ℝ) : ∑ R : Fin 8192, f R.val = ∑ t : Fin 32, ∑ r : Fin 256, f (256 * t.val + r.val) := by
  rw [Fin.sum_univ_eq_sum_range f 8192, Fin.sum_univ_eq_sum_range (fun t => ∑ r : Fin 256, f (256 * t + r.val)) 32,
    ← Finset.sum_range_range_mul_add 32 256 f]
  refine Finset.sum_congr rfl fun t _ => ?_
  rw [Nat.mul_comm t 256]
  exact (Fin.sum_univ_eq_sum_range (fun r => f (256 * t + r)) 256).symm

end Cert.TailMath

end
-- ==== Proof.TailPay.lean ====
/-
  The tail kernel's payloads at a row and a column of one block, for blocks of real numbers.
-/
module

public import proofs.«01_k».proof.Proof.Gen.TailIdeal.Value
public import proofs.«01_k».proof.Proof.TailMath

@[expose] public section

set_option maxRecDepth 16384

noncomputable section

open Idealize.ShloMosaic Idealize.ShloMosaic.TcCoe Idealize.SL.Sem
open Idealize.ShloMosaic.Tactic

namespace Cert.TailIdeal.Rows

open Cert.TailIdeal Cert.TailIdeal.Gen Cert.ConvMath Cert.TailMath Cert.Finite

/-- A choice by whether the point is the first. -/
theorem select_first (t : Fin 32) (a b : EReal) :
    Scalar.select (Scalar.cmpi .eq (BitVec.ofNat 32 t.val) 0#32) a b = if t.val = 0 then a else b := by
  have h : ∀ t : Fin 32, Scalar.cmpi .eq (BitVec.ofNat 32 t.val) 0#32 = if t.val = 0 then 1#1 else 0#1 := by decide
  rw [h]
  split_ifs <;> rfl

variable (i : grid0.Coords) (t : Fin 32) (ht : (i 0).val = t.val) (I : Inputs)

section
variable (v0 : Vec Ideal S256x1152 .bf16) (v4 : Vec Ideal S256x1024 .bf16) (v16 : Vec Ideal S1024x2048 .bf16)
  (h0 : ∀ (r : Fin 256) (l : Fin 1024) (k : Fin 1152), k.val = 64 + l.val → v0 (ix2 r k) = ((I.a (256 * t.val + r.val) l : ℝ) : EReal))
  (h4 : ∀ (r : Fin 256) (l : Fin 1024), v4 (ix2 r l) = ((I.o (256 * t.val + r.val) l : ℝ) : EReal))
  (h16 : ∀ (l : Fin 1024) (j : Fin 2048), v16 (ix2 l j) = ((I.P (hi l) j : ℝ) : EReal))
  (r : Fin 256) (l : Fin 1024) (j : Fin 2048)

include h0
theorem pay7_at : k0_pay7 v0 (ix2 r l) = ((I.a (256 * t.val + r.val) l : ℝ) : EReal) := by
  pointwise [k0_pay7]
  exact h0 r l _ (by have := l.isLt; dsimp only; omega)

theorem pay9_at : k0_pay9 v0 (ix2 r l) = ((sgm (I.a (256 * t.val + r.val) l) : ℝ) : EReal) := by
  pointwise [k0_pay9]
  rw [pay7_at t I v0 h0, sgm_eq']

theorem pay10_at : k0_pay10 v0 (ix2 r l)
    = ((I.a (256 * t.val + r.val) l * sgm (I.a (256 * t.val + r.val) l) : ℝ) : EReal) := by
  pointwise [k0_pay10]
  rw [pay7_at t I v0 h0, pay9_at t I v0 h0, EReal.coe_mul]

include h4
theorem pay11_at : k0_pay11 v0 v4 (ix2 r l) = ((ya I (256 * t.val + r.val) l : ℝ) : EReal) := by
  pointwise [k0_pay11, k0_pay8]
  rw [h4, pay10_at t I v0 h0, ← EReal.coe_mul, ya]

include h16
theorem pay12_at : k0_pay12 v0 v4 v16 (ix2 r j)
    = ((∑ l : Fin 1024, ya I (256 * t.val + r.val) l * I.P (hi l) j : ℝ) : EReal) := by
  pointwise [k0_pay12]
  rw [← coe_sum]
  exact Finset.sum_congr rfl fun l _ => by rw [pay11_at t I v0 v4 h0 h4, h16, EReal.coe_mul]
end

section
variable (v19 v21 : Vec Ideal S256x1024 .bf16) (v24 v26 : Vec Ideal S16x1024 .bf16)
  (h19 : ∀ (r : Fin 256) (l : Fin 1024), v19 (ix2 r l) = ((I.c (256 * t.val + r.val) l : ℝ) : EReal))
  (h21 : ∀ (r : Fin 256) (l : Fin 1024), v21 (ix2 r l) = ((I.x (256 * t.val + r.val) l : ℝ) : EReal))
  (h24 : t.val ≠ 0 → ∀ (r : Fin 16) (l : Fin 1024), v24 (ix2 r l) = ((I.c (256 * t.val + r.val - 16) l : ℝ) : EReal))
  (h26 : t.val ≠ 0 → ∀ (r : Fin 16) (l : Fin 1024), v26 (ix2 r l) = ((I.x (256 * t.val + r.val - 16) l : ℝ) : EReal))
  (r : Fin 256) (l : Fin 1024)

include h19 h21
theorem pay13_at : k0_pay13 v19 v21 (ix2 r l) = ((back I.x I.c (256 * t.val + r.val) l 0 : ℝ) : EReal) := by
  pointwise [k0_pay13]
  rw [h19, h21, back, if_neg (by omega), inp, EReal.coe_mul, Nat.sub_zero]

include ht h24 h26
/-- The convolution's input from sixteen rows before the block to its end. -/
theorem pay14_at (q : Fin 272) : k0_pay14 i v19 v21 v24 v26 (ix2 q l)
    = ((if 256 * t.val + q.val < 16 then 0 else inp I.x I.c l (256 * t.val + q.val - 16) : ℝ) : EReal) := by
  pointwise [k0_pay14]
  by_cases h : q.val < 16
  · refine (dif_pos h).trans ?_
    rw [ht]
    refine (select_first t _ _).trans ?_
    by_cases e : t.val = 0
    · rw [if_pos e, if_pos (by omega)]
      rfl
    · rw [if_neg e, if_neg (by omega), h24 e, h26 e, inp, EReal.coe_mul]
  · refine (dif_neg h).trans ?_
    have hn : ¬256 * t.val + q.val < 16 := by omega
    refine (pay13_at t I v19 v21 h19 h21 ⟨q.val - 16, by have := q.isLt; omega⟩ l).trans ?_
    rw [if_neg hn, back, if_neg (by omega)]
    exact congrArg (fun n => ((inp I.x I.c l n : ℝ) : EReal)) (by dsimp only; omega)

/-- A row of these is a row before. -/
theorem shifted (k : ℕ) (hk : k ≤ 16) (q : Fin 272) (e : q.val + k = 16 + r.val) :
    k0_pay14 i v19 v21 v24 v26 (ix2 q l) = ((back I.x I.c (256 * t.val + r.val) l k : ℝ) : EReal) := by
  rw [pay14_at i t ht I v19 v21 v24 v26 h19 h21 h24 h26, back]
  by_cases h : 256 * t.val + r.val < k
  · rw [if_pos h, if_pos (by omega)]
  · rw [if_neg h, if_neg (by omega)]
    exact congrArg (fun n => ((inp I.x I.c l n : ℝ) : EReal)) (by omega)

theorem pay15_at : k0_pay15 i v19 v21 v24 v26 (ix2 r l) = ((back I.x I.c (256 * t.val + r.val) l 1 : ℝ) : EReal) := by
  pointwise [k0_pay15]
  exact shifted i t ht I v19 v21 v24 v26 h19 h21 h24 h26 r l 1 (by norm_num) ⟨(16 + r.val + 272 - 1) % 272, Nat.mod_lt _ (by norm_num)⟩
    (by have := r.isLt; dsimp only; omega)

theorem pay16_at : k0_pay16 i v19 v21 v24 v26 (ix2 r l) = ((back I.x I.c (256 * t.val + r.val) l 2 : ℝ) : EReal) := by
  pointwise [k0_pay16]
  exact shifted i t ht I v19 v21 v24 v26 h19 h21 h24 h26 r l 2 (by norm_num) ⟨(16 + r.val + 272 - 2) % 272, Nat.mod_lt _ (by norm_num)⟩
    (by have := r.isLt; dsimp only; omega)
end

section
variable (v14 v23 v33 v35 : FVec Ideal S256x1024 .f32) (v17 : FVec Ideal S256x2048 .f32) (v36 : Vec Ideal S3x1024 .f32)
  (v48 v50 : Vec Ideal S256x1024 .bf16) (v63 : Vec Ideal S1024x2048 .bf16) (v71 : Vec Ideal S1x2048 .f32) (v72 : Vec Ideal S256x2048 .f32)
  (h14 : ∀ (r : Fin 256) (l : Fin 1024), v14 (ix2 r l) = ((ya I (256 * t.val + r.val) l : ℝ) : EReal))
  (h17 : ∀ (r : Fin 256) (j : Fin 2048), v17 (ix2 r j) = ((∑ l : Fin 1024, ya I (256 * t.val + r.val) l * I.P (hi l) j : ℝ) : EReal))
  (h23 : ∀ (r : Fin 256) (l : Fin 1024), v23 (ix2 r l) = ((back I.x I.c (256 * t.val + r.val) l 0 : ℝ) : EReal))
  (h33 : ∀ (r : Fin 256) (l : Fin 1024), v33 (ix2 r l) = ((back I.x I.c (256 * t.val + r.val) l 1 : ℝ) : EReal))
  (h35 : ∀ (r : Fin 256) (l : Fin 1024), v35 (ix2 r l) = ((back I.x I.c (256 * t.val + r.val) l 2 : ℝ) : EReal))
  (h36 : ∀ (k : Fin 3) (l : Fin 1024), v36 (ix2 k l) = ((I.w k l : ℝ) : EReal))
  (h48 : ∀ (r : Fin 256) (l : Fin 1024), v48 (ix2 r l) = ((I.z (256 * t.val + r.val) l : ℝ) : EReal))
  (h50 : ∀ (r : Fin 256) (l : Fin 1024), v50 (ix2 r l) = ((I.b (256 * t.val + r.val) l : ℝ) : EReal))
  (h63 : ∀ (l : Fin 1024) (j : Fin 2048), v63 (ix2 l j) = ((I.P (lo l) j : ℝ) : EReal))
  (h71 : ∀ j : Fin 2048, v71 (ix2 0 j) = ((I.g j : ℝ) : EReal))
  (h72 : ∀ (r : Fin 256) (j : Fin 2048), v72 (ix2 r j) = ((I.X (256 * t.val + r.val) j : ℝ) : EReal))
  (r : Fin 256) (l : Fin 1024) (j : Fin 2048)

include h23 h33 h35 h36 h48 h50
theorem pay17_at : k0_pay17 v23 v33 v35 v36 v48 v50 (ix2 r l) = ((yc I (256 * t.val + r.val) l : ℝ) : EReal) := by
  pointwise [k0_pay17]
  rw [h23, h33, h35, h36, h36, h36, h48, h50, sgm_eq', yc, conv]
  simp only [EReal.coe_mul, EReal.coe_add]

include h14 in
theorem pay19_at : k0_pay19 v14 v23 v33 v35 v36 v48 v50 (ix2 j r) = ((ycat I (256 * t.val + r.val) j : ℝ) : EReal) := by
  pointwise [k0_pay19]
  rw [ycat]
  by_cases h : j.val < 1024
  · exact (dif_pos h).trans ((pay17_at t I v23 v33 v35 v36 v48 v50 h23 h33 h35 h36 h48 h50 r ⟨j.val, h⟩).trans (by rw [dif_pos h]))
  · exact (dif_neg h).trans ((h14 r _).trans (by rw [dif_neg h]))

include h17 h63
theorem pay18_at : k0_pay18 v17 v23 v33 v35 v36 v48 v50 v63 (ix2 r j) = ((proj I (256 * t.val + r.val) j : ℝ) : EReal) := by
  pointwise [k0_pay18]
  rw [h17, proj_halves, EReal.coe_add, ← coe_sum Finset.univ fun l => yc I (256 * t.val + r.val) l * I.P (lo l) j]
  exact congrArg₂ (· + ·) rfl (Finset.sum_congr rfl fun l _ => by
    rw [pay17_at t I v23 v33 v35 v36 v48 v50 h23 h33 h35 h36 h48 h50, h63, EReal.coe_mul])

include h71 h72
theorem pay20_at : k0_pay20 v17 v23 v33 v35 v36 v48 v50 v63 v71 v72 (ix2 r j)
    = ((I.X (256 * t.val + r.val) j + I.g j * proj I (256 * t.val + r.val) j : ℝ) : EReal) := by
  pointwise [k0_pay20]
  rw [h71, h72, pay18_at t I v23 v33 v35 v17 v36 v48 v50 v63 h17 h23 h33 h35 h36 h48 h50 h63, EReal.coe_add, EReal.coe_mul]
end

section
variable (v3 v5 v12 v13 : FVec Ideal S256x1024 .f32) (v65 v75 : FVec Ideal S256x2048 .f32) (v71 : Vec Ideal S1x2048 .f32) (v76 : Vec Ideal S256x2048 .f32)
  (v85 : Vec Ideal S2048x2048 .bf16)
  (h3 : ∀ (r : Fin 256) (l : Fin 1024), v3 (ix2 r l) = ((I.a (256 * t.val + r.val) l : ℝ) : EReal))
  (h5 : ∀ (r : Fin 256) (l : Fin 1024), v5 (ix2 r l) = ((I.o (256 * t.val + r.val) l : ℝ) : EReal))
  (h12 : ∀ (r : Fin 256) (l : Fin 1024), v12 (ix2 r l) = ((sgm (I.a (256 * t.val + r.val) l) : ℝ) : EReal))
  (h13 : ∀ (r : Fin 256) (l : Fin 1024), v13 (ix2 r l) = ((I.a (256 * t.val + r.val) l * sgm (I.a (256 * t.val + r.val) l) : ℝ) : EReal))
  (h65 : ∀ (r : Fin 256) (j : Fin 2048), v65 (ix2 r j) = ((proj I (256 * t.val + r.val) j : ℝ) : EReal))
  (h71 : ∀ j : Fin 2048, v71 (ix2 0 j) = ((I.g j : ℝ) : EReal))
  (h75 : ∀ (r : Fin 256) (j : Fin 2048), v75 (ix2 r j)
    = ((I.X (256 * t.val + r.val) j + I.g j * proj I (256 * t.val + r.val) j : ℝ) : EReal))
  (h76 : ∀ (r : Fin 256) (j : Fin 2048), v76 (ix2 r j) = ((I.T (256 * t.val + r.val) j : ℝ) : EReal))
  (h85 : ∀ i j : Fin 2048, v85 (ix2 i j) = ((I.P i j : ℝ) : EReal))
  (r : Fin 256) (l : Fin 1024) (j : Fin 2048)

include h75 h76
theorem pay21_at : k0_pay21 v75 v76 (ix2 r j) = ((err I (256 * t.val + r.val) j : ℝ) : EReal) := by
  pointwise [k0_pay21]
  rw [h75, h76, ← EReal.coe_sub, err]

theorem pay22_at : k0_pay22 v75 v76 (ix2 r j) = ((dout I (256 * t.val + r.val) j : ℝ) : EReal) := by
  pointwise [k0_pay22]
  rw [pay21_at t I v75 v76 h75 h76, ofBits_inv_2048, ← EReal.coe_mul, dout]

/-- A block's part of the loss, in every lane, -/
theorem pay4_at (k : Fin 128) : k0_pay4 (k0_pay21 v75 v76) (ix2 0 k)
    = (((∑ r : Fin 256, sq I (256 * t.val + r.val)) * (1 / 4096) : ℝ) : EReal) := by
  pointwise [k0_pay4]
  simp only [pay21_at t I v75 v76 h75 h76, ofBits_inv_4096, ← EReal.coe_mul, coe_sum]
  rw [Finset.sum_comm]
  rfl

include h65 in
/-- and of the residual gate's gradient. -/
theorem pay3_at : k0_pay3 v65 (k0_pay22 v75 v76) (ix2 0 j)
    = ((∑ r : Fin 256, dout I (256 * t.val + r.val) j * proj I (256 * t.val + r.val) j : ℝ) : EReal) := by
  pointwise [k0_pay3]
  simp only [pay22_at t I v75 v76 h75 h76, h65, ← EReal.coe_mul, coe_sum]

include h71
theorem pay23_at : k0_pay23 v71 v75 v76 (ix2 r j) = ((dproj I (256 * t.val + r.val) j : ℝ) : EReal) := by
  pointwise [k0_pay23]
  rw [pay22_at t I v75 v76 h75 h76, h71, ← EReal.coe_mul, dproj]

include h85
theorem pay24_at : k0_pay24 v71 v75 v76 v85 (ix2 r j) = ((dcat I (256 * t.val + r.val) j : ℝ) : EReal) := by
  pointwise [k0_pay24]
  rw [dcat, ← coe_sum]
  exact Finset.sum_congr rfl fun k _ => by rw [pay23_at t I v75 v71 v76 h71 h75 h76, h85, EReal.coe_mul]

theorem pay25_at : k0_pay25 v71 v75 v76 v85 (ix2 r l) = ((dcat I (256 * t.val + r.val) (lo l) : ℝ) : EReal) := by
  pointwise [k0_pay25]
  exact pay24_at t I v75 v71 v76 v85 h71 h75 h76 h85 r (lo l)

theorem pay26_at : k0_pay26 v71 v75 v76 v85 (ix2 r l) = ((dcat I (256 * t.val + r.val) (hi l) : ℝ) : EReal) := by
  pointwise [k0_pay26]
  exact pay24_at t I v75 v71 v76 v85 h71 h75 h76 h85 r (hi l)

include h13 in
theorem pay27_at : k0_pay27 v13 v71 v75 v76 v85 (ix2 r l) = ((dov I (256 * t.val + r.val) l : ℝ) : EReal) := by
  pointwise [k0_pay27]
  rw [pay26_at t I v75 v71 v76 v85 h71 h75 h76 h85, h13, ← EReal.coe_mul, dov]

include h13 in
theorem pay28_at : k0_pay28 v13 v71 v75 v76 v85 (ix2 r l) = ((dov I (256 * t.val + r.val) l : ℝ) : EReal) := by
  pointwise [k0_pay28]
  exact pay27_at t I v13 v75 v71 v76 v85 h13 h71 h75 h76 h85 r l

include h3 h5 h12 in
theorem pay29_at : k0_pay29 v3 v5 v12 v71 v75 v76 v85 (ix2 r l) = ((dza I (256 * t.val + r.val) l : ℝ) : EReal) := by
  pointwise [k0_pay29]
  rw [pay26_at t I v75 v71 v76 v85 h71 h75 h76 h85, h3, h5, h12, dza]
  simp only [← EReal.coe_one, ← EReal.coe_mul, ← EReal.coe_sub, ← EReal.coe_add]

include h5 h13 in
theorem pay30_at : k0_pay30 v5 v13 v71 v75 v76 v85 (ix2 l r)
    = ((dov I (256 * t.val + r.val) l * I.o (256 * t.val + r.val) l : ℝ) : EReal) := by
  pointwise [k0_pay30]
  rw [pay27_at t I v13 v75 v71 v76 v85 h13 h71 h75 h76 h85, h5, ← EReal.coe_mul]
end

/-! A head's row sums, eight times the same from another row on. -/

section
variable (v105 : FVec Ideal S1024x256 .f32) (h105 : ∀ (r : Fin 256) (l : Fin 1024), v105 (ix2 l r)
    = ((dov I (256 * t.val + r.val) l * I.o (256 * t.val + r.val) l : ℝ) : EReal)) (r : Fin 256)

include h105
theorem head_at (h : Fin 8) (row : Fin 128 → Fin 1024) (hr : ∀ q, (row q).val = h.val * 128 + q.val) :
    ∑ q : Fin 128, v105 (ix2 (row q) r) = ((rowdot I (256 * t.val + r.val) h : ℝ) : EReal) := by
  rw [rowdot, ← coe_sum]
  refine Finset.sum_congr rfl fun q _ => ?_
  rw [h105, show row q = ⟨h.val * 128 + q.val, by have := h.isLt; have := q.isLt; omega⟩ from Fin.ext (hr q)]

omit h105 in
/-- A stored row of head `k` is what the window holds at head `h`, where the two are the same. -/
theorem piece_at (h k : Fin 8) (w : Vec Ideal S1x1x256 .f32) (hw : ∀ r : Fin 256, w (ix3 0 0 r) = ((rowdot I (256 * t.val + r.val) k : ℝ) : EReal))
    (x : S1x1x256.Idx) (e0 : h.val = k.val + (x 0).val) (e2 : r.val = 0 + (x 2).val) :
    w x = ((rowdot I (256 * t.val + r.val) h : ℝ) : EReal) := by
  have hx : x = ix3 (0 : Fin 1) (0 : Fin 1) (x 2 : Fin 256) := by blk_ext
  have h0 : (x 0).val < 1 := (x 0).isLt
  have hr : r = (x 2 : Fin 256) := Fin.ext (by omega)
  exact (congrArg w hx).trans ((hw _).trans (by rw [hr, show h = k from Fin.ext (by omega)]))

/-- The block of row sums, stored head by head. -/
def rowsOf (v105 : FVec Ideal S1024x256 .f32) (v108 : FVec Ideal S1x256 .f32) : Vec Ideal S8x1x256 .f32 :=
  View.canon [⟨Rect.unit ![7, 0, 0] ![1, 1, 256] inb_S8x1x256_S1x1x256_7_0_0, k0_pay2 v105⟩,
    ⟨Rect.unit ![6, 0, 0] ![1, 1, 256] inb_S8x1x256_S1x1x256_6_0_0, k0_pay1 (k0_pay38 v105)⟩,
    ⟨Rect.unit ![5, 0, 0] ![1, 1, 256] inb_S8x1x256_S1x1x256_5_0_0, k0_pay37 v105⟩,
    ⟨Rect.unit ![4, 0, 0] ![1, 1, 256] inb_S8x1x256_S1x1x256_4_0_0, k0_pay36 v105⟩,
    ⟨Rect.unit ![3, 0, 0] ![1, 1, 256] inb_S8x1x256_S1x1x256_3_0_0, k0_pay35 v105⟩,
    ⟨Rect.unit ![2, 0, 0] ![1, 1, 256] inb_S8x1x256_S1x1x256_2_0_0, k0_pay34 v105⟩,
    ⟨Rect.unit ![1, 0, 0] ![1, 1, 256] inb_S8x1x256_S1x1x256_1_0_0, k0_pay33 v105⟩,
    ⟨Rect.unit ![0, 0, 0] ![1, 1, 256] inb_S8x1x256_S1x1x256_0_0_0, k0_pay32 v108⟩]

theorem rowsOf_at (v108 : FVec Ideal S1x256 .f32)
    (h108 : ∀ r : Fin 256, v108 (ix2 0 r) = ∑ q : Fin 128, v105 (ix2 ⟨q.val, Nat.lt_of_lt_of_le q.isLt (Nat.le_of_ble_eq_true rfl)⟩ r)) (h : Fin 8) :
    rowsOf v105 v108 (ix3 h 0 r) = ((rowdot I (256 * t.val + r.val) h : ℝ) : EReal) := by
  refine View.canon_eq_of_allAt _ _ _ (View.cover_of_tiledL _ ![1, 1, 256] (by sl_kernel_rfl) _) ?_
  refine View.allAt_cons_unit _ _ _ _ _ (fun x hx => piece_at t I r h 7 _ (fun r => ?_) x (hx 0) (hx 2))
    (View.allAt_cons_unit _ _ _ _ _ (fun x hx => piece_at t I r h 6 _ (fun r => ?_) x (hx 0) (hx 2))
    (View.allAt_cons_unit _ _ _ _ _ (fun x hx => piece_at t I r h 5 _ (fun r => ?_) x (hx 0) (hx 2))
    (View.allAt_cons_unit _ _ _ _ _ (fun x hx => piece_at t I r h 4 _ (fun r => ?_) x (hx 0) (hx 2))
    (View.allAt_cons_unit _ _ _ _ _ (fun x hx => piece_at t I r h 3 _ (fun r => ?_) x (hx 0) (hx 2))
    (View.allAt_cons_unit _ _ _ _ _ (fun x hx => piece_at t I r h 2 _ (fun r => ?_) x (hx 0) (hx 2))
    (View.allAt_cons_unit _ _ _ _ _ (fun x hx => piece_at t I r h 1 _ (fun r => ?_) x (hx 0) (hx 2))
    (View.allAt_cons_unit _ _ _ _ _ (fun x hx => piece_at t I r h 0 _ (fun r => ?_) x (hx 0) (hx 2))
    (View.allAt_nil _ _))))))))
  · exact Eq.trans (by pointwise [k0_pay2]) (head_at t I v105 h105 r 7 (fun q => ⟨896 + q.val, by have := q.isLt; omega⟩) fun q => rfl)
  · exact Eq.trans (by pointwise [k0_pay1, k0_pay38]) (head_at t I v105 h105 r 6 (fun q => ⟨768 + q.val, by have := q.isLt; omega⟩) fun q => rfl)
  · exact Eq.trans (by pointwise [k0_pay37]) (head_at t I v105 h105 r 5 (fun q => ⟨640 + q.val, by have := q.isLt; omega⟩) fun q => rfl)
  · exact Eq.trans (by pointwise [k0_pay36]) (head_at t I v105 h105 r 4 (fun q => ⟨512 + q.val, by have := q.isLt; omega⟩) fun q => rfl)
  · exact Eq.trans (by pointwise [k0_pay35]) (head_at t I v105 h105 r 3 (fun q => ⟨384 + q.val, by have := q.isLt; omega⟩) fun q => rfl)
  · exact Eq.trans (by pointwise [k0_pay34]) (head_at t I v105 h105 r 2 (fun q => ⟨256 + q.val, by have := q.isLt; omega⟩) fun q => rfl)
  · exact Eq.trans (by pointwise [k0_pay33]) (head_at t I v105 h105 r 1 (fun q => ⟨128 + q.val, by have := q.isLt; omega⟩) fun q => rfl)
  · exact Eq.trans (by pointwise [k0_pay32]) ((h108 r).trans (head_at t I v105 h105 r 0 (fun q => ⟨q.val, by have := q.isLt; omega⟩) fun q => by simp))
end

end Cert.TailIdeal.Rows

end
-- ==== Proof.TailArray.lean ====
/-
  The tail kernel's nine result arrays after the whole grid, for arguments that are real numbers.
-/
module

public import proofs.«01_k».proof.Proof.TailPay

@[expose] public section

set_option maxRecDepth 16384

noncomputable section

open Idealize.ShloMosaic Idealize.ShloMosaic.TcCoe Idealize.SL.Sem
open Idealize.ShloMosaic.Tactic
open Idealize.ShloMosaic.Pipeline (Dat)

namespace Cert.TailIdeal.Rows

open Cert.TailIdeal Cert.TailIdeal.Gen Cert.ConvMath Cert.TailMath Cert.Finite

variable (m : (ℓ : Loc nD τ sig) → Buf (Elt Ideal) ℓ) (c : Dev nD)

/-- The arguments as launched, as arrays. -/
def aX : Vec Ideal S8192x2048 .f32 := m ((c : Thread nD τ).loc main_arg0)
def aT : Vec Ideal S8192x2048 .f32 := m ((c : Thread nD τ).loc main_arg1)
def aO : Vec Ideal S8192x1024 .bf16 := m ((c : Thread nD τ).loc main_arg2)
def aU : Vec Ideal S8192x6144 .bf16 := m ((c : Thread nD τ).loc main_arg3)
def aM : Vec Ideal S1x6144 .f32 := m ((c : Thread nD τ).loc main_arg4)
def aP : Vec Ideal S2048x2048 .bf16 := m ((c : Thread nD τ).loc main_arg5)
def aW : Vec Ideal S3x1024 .f32 := m ((c : Thread nD τ).loc main_arg6)

/-- The arguments hold the inputs' numbers. -/
structure Holds (I : Inputs) : Prop where
  X : ∀ (n : Fin 8192) (j : Fin 2048), aX m c (ix2 n j) = ((I.X n.val j : ℝ) : EReal)
  T : ∀ (n : Fin 8192) (j : Fin 2048), aT m c (ix2 n j) = ((I.T n.val j : ℝ) : EReal)
  o : ∀ (n : Fin 8192) (l : Fin 1024), aO m c (ix2 n l) = ((I.o n.val l : ℝ) : EReal)
  x : ∀ (n : Fin 8192) (l : Fin 1024) (k : Fin 6144), k.val = l.val → aU m c (ix2 n k) = ((I.x n.val l : ℝ) : EReal)
  b : ∀ (n : Fin 8192) (l : Fin 1024) (k : Fin 6144), k.val = 1024 + l.val → aU m c (ix2 n k) = ((I.b n.val l : ℝ) : EReal)
  cc : ∀ (n : Fin 8192) (l : Fin 1024) (k : Fin 6144), k.val = 2048 + l.val → aU m c (ix2 n k) = ((I.c n.val l : ℝ) : EReal)
  z : ∀ (n : Fin 8192) (l : Fin 1024) (k : Fin 6144), k.val = 3072 + l.val → aU m c (ix2 n k) = ((I.z n.val l : ℝ) : EReal)
  a : ∀ (n : Fin 8192) (l : Fin 1024) (k : Fin 6144), k.val = 4928 + l.val → aU m c (ix2 n k) = ((I.a n.val l : ℝ) : EReal)
  g : ∀ (j : Fin 2048) (k : Fin 6144), k.val = 4096 + j.val → aM m c (ix2 0 k) = ((I.g j : ℝ) : EReal)
  P : ∀ i j : Fin 2048, aP m c (ix2 i j) = ((I.P i j : ℝ) : EReal)
  w : ∀ (k : Fin 3) (l : Fin 1024), aW m c (ix2 k l) = ((I.w k l : ℝ) : EReal)

theorem idx : ∀ t : Fin cfg0.N, win0_0.index t = ![t.val, 0] ∧ win0_1.index t = ![t.val, 0] ∧ win0_2.index t = ![t.val, 0]
    ∧ win0_3.index t = ![t.val, 2] ∧ win0_4.index t = ![0, 0] ∧ win0_5.index t = ![0, 0] ∧ win0_6.index t = ![t.val, 0]
    ∧ win0_7.index t = ![t.val, 1] ∧ win0_8.index t = ![t.val, 2] ∧ win0_9.index t = ![t.val, 3] ∧ win0_10.index t = ![16 * t.val - 1, 0]
    ∧ win0_11.index t = ![16 * t.val - 1, 2] ∧ win0_12.index t = ![0, 0] ∧ win0_13.index t = ![t.val, 0] ∧ win0_14.index t = ![t.val, 0]
    ∧ win0_15.index t = ![0, t.val] ∧ win0_16.index t = ![t.val, 0] ∧ win0_17.index t = ![t.val, 0] ∧ win0_18.index t = ![t.val, 0]
    ∧ win0_19.index t = ![0, 0, t.val] ∧ win0_20.index t = ![0, 0] ∧ win0_21.index t = ![0, 0] :=
  (by decide +kernel : ∀ t : Fin grid0.N, _)

theorem lt32 (t : Fin cfg0.N) : t.val < 32 := lt_of_lt_of_eq t.isLt N_0

/-- The point, by its number. -/
def pt (t : Fin cfg0.N) : Fin 32 := ⟨t.val, lt32 t⟩

theorem coord : ∀ t : Fin cfg0.N, (grid0.coords t 0).val = (pt t).val := (by decide +kernel : ∀ t : Fin grid0.N, _)

theorem row_lt (t : Fin cfg0.N) (r : Fin 256) : 256 * t.val + r.val < 8192 := by
  have := lt32 t
  have := r.isLt
  omega

section
variable (t : Fin cfg0.N)

/-- The parts of blocks that the kernel loads. -/
def ldA : Vec Ideal S256x1152 .bf16 := View.ld (iblk m c 3 t) (Rect.unit ![0, 768] ![256, 1152] inb_S256x2048_S256x1152_0_768)
def ldG : Vec Ideal S1x2048 .f32 := View.ld (iblk m c 4 t) (Rect.unit ![0, 4096] ![1, 2048] inb_S1x6144_S1x2048_0_4096)
def ldHi : Vec Ideal S1024x2048 .bf16 := View.ld (iblk m c 5 t) (Rect.unit ![1024, 0] ![1024, 2048] inb_S2048x2048_S1024x2048_1024_0)
def ldLo : Vec Ideal S1024x2048 .bf16 := View.ld (iblk m c 5 t) (Rect.unit ![0, 0] ![1024, 2048] inb_S2048x2048_S1024x2048_0_0)

variable (r : Fin 256) (q : Fin 16) (l : Fin 1024) (j : Fin 2048)

theorem blk0 : iblk m c 0 t (ix2 r j) = aX m c (ix2 ⟨256 * t.val + r.val, row_lt t r⟩ j) := by
  unfold aX
  blk_point [iblk, V, idx t]

theorem blk1 : iblk m c 1 t (ix2 r j) = aT m c (ix2 ⟨256 * t.val + r.val, row_lt t r⟩ j) := by
  unfold aT
  blk_point [iblk, V, idx t]

theorem blk2 : iblk m c 2 t (ix2 r l) = aO m c (ix2 ⟨256 * t.val + r.val, row_lt t r⟩ l) := by
  unfold aO
  blk_point [iblk, V, idx t]

theorem blkA (k : Fin 1152) : ldA m c t (ix2 r k) = aU m c (ix2 ⟨256 * t.val + r.val, row_lt t r⟩ ⟨4864 + k.val, by have := k.isLt; omega⟩) := by
  unfold aU ldA
  blk_point [iblk, V, idx t]

theorem blkG : ldG m c t (ix2 0 j) = aM m c (ix2 0 ⟨4096 + j.val, by have := j.isLt; omega⟩) := by
  unfold aM ldG
  blk_point [iblk, V, idx t]

theorem blk5 (i : Fin 2048) : iblk m c 5 t (ix2 i j) = aP m c (ix2 i j) := by
  unfold aP
  blk_point [iblk, V, idx t]

theorem blkHi : ldHi m c t (ix2 l j) = aP m c (ix2 (hi l) j) := by
  unfold aP ldHi hi
  blk_point [iblk, V, idx t]

theorem blkLo : ldLo m c t (ix2 l j) = aP m c (ix2 (lo l) j) := by
  unfold aP ldLo lo
  blk_point [iblk, V, idx t]

theorem blk6 : iblk m c 6 t (ix2 r l) = aU m c (ix2 ⟨256 * t.val + r.val, row_lt t r⟩ ⟨l.val, by have := l.isLt; omega⟩) := by
  unfold aU
  blk_point [iblk, V, idx t]

theorem blk7 : iblk m c 7 t (ix2 r l) = aU m c (ix2 ⟨256 * t.val + r.val, row_lt t r⟩ ⟨1024 + l.val, by have := l.isLt; omega⟩) := by
  unfold aU
  blk_point [iblk, V, idx t]

theorem blk8 : iblk m c 8 t (ix2 r l) = aU m c (ix2 ⟨256 * t.val + r.val, row_lt t r⟩ ⟨2048 + l.val, by have := l.isLt; omega⟩) := by
  unfold aU
  blk_point [iblk, V, idx t]

theorem blk9 : iblk m c 9 t (ix2 r l) = aU m c (ix2 ⟨256 * t.val + r.val, row_lt t r⟩ ⟨3072 + l.val, by have := l.isLt; omega⟩) := by
  unfold aU
  blk_point [iblk, V, idx t]

theorem prev_lt : 16 * (16 * t.val - 1) + q.val < 8192 := by
  have := lt32 t
  have := q.isLt
  omega

theorem prev_row (h : (pt t).val ≠ 0) : 16 * (16 * t.val - 1) + q.val = 256 * (pt t).val + q.val - 16 := by
  have h : t.val ≠ 0 := h
  show _ = 256 * t.val + q.val - 16
  omega

theorem blk10 : iblk m c 10 t (ix2 q l) = aU m c (ix2 ⟨16 * (16 * t.val - 1) + q.val, prev_lt t q⟩ ⟨l.val, by have := l.isLt; omega⟩) := by
  unfold aU
  blk_point [iblk, V, idx t]

theorem blk11 : iblk m c 11 t (ix2 q l) = aU m c (ix2 ⟨16 * (16 * t.val - 1) + q.val, prev_lt t q⟩ ⟨2048 + l.val, by have := l.isLt; omega⟩) := by
  unfold aU
  blk_point [iblk, V, idx t]

theorem blk12 (k : Fin 3) : iblk m c 12 t (ix2 k l) = aW m c (ix2 k l) := by
  unfold aW
  blk_point [iblk, V, idx t]

/-! What a point computes before it stores, by name. -/

def pA := k0_pay11 (ldA m c t) (iblk m c 2 t)
def pAP := k0_pay12 (ldA m c t) (iblk m c 2 t) (ldHi m c t)
def pB0 := k0_pay13 (F := Ideal) (iblk m c 8 t) (iblk m c 6 t)
def pB1 := k0_pay15 (F := Ideal) (grid0.coords t) (iblk m c 8 t) (iblk m c 6 t) (iblk m c 11 t) (iblk m c 10 t)
def pB2 := k0_pay16 (F := Ideal) (grid0.coords t) (iblk m c 8 t) (iblk m c 6 t) (iblk m c 11 t) (iblk m c 10 t)
def pProj := k0_pay18 (pAP m c t) (pB0 m c t) (pB1 m c t) (pB2 m c t) (iblk m c 12 t) (iblk m c 9 t) (iblk m c 7 t) (ldLo m c t)
def pY := k0_pay20 (pAP m c t) (pB0 m c t) (pB1 m c t) (pB2 m c t) (iblk m c 12 t) (iblk m c 9 t) (iblk m c 7 t) (ldLo m c t) (ldG m c t) (iblk m c 0 t)
def pDO := k0_pay30 (k0_pay8 (iblk m c 2 t)) (k0_pay10 (ldA m c t)) (ldG m c t) (pY m c t) (iblk m c 1 t) (iblk m c 5 t)
def pDO0 := k0_pay31 (k0_pay8 (iblk m c 2 t)) (k0_pay10 (ldA m c t)) (ldG m c t) (pY m c t) (iblk m c 1 t) (iblk m c 5 t)

/-! What it stores. -/

theorem point13 : (outsAt0 m c t.val t.isLt).1 = k0_pay22 (pY m c t) (iblk m c 1 t) := by
  by_cases h : t.val % 32 = 0
  · rw [outsAt0_A m c t h (by have := lt32 t; omega)]
    frame_out
    rfl
  · rw [outsAt0_B m c t h (by omega)]
    frame_out
    rfl

theorem point14 : (outsAt0 m c t.val t.isLt).2.1 = k0_pay23 (ldG m c t) (pY m c t) (iblk m c 1 t) := by
  by_cases h : t.val % 32 = 0
  · rw [outsAt0_A m c t h (by have := lt32 t; omega)]
    frame_out
    rfl
  · rw [outsAt0_B m c t h (by omega)]
    frame_out
    rfl

theorem point15 : (outsAt0 m c t.val t.isLt).2.2.1 = k0_pay19 (pA m c t) (pB0 m c t) (pB1 m c t) (pB2 m c t) (iblk m c 12 t) (iblk m c 9 t) (iblk m c 7 t) := by
  by_cases h : t.val % 32 = 0
  · rw [outsAt0_A m c t h (by have := lt32 t; omega)]
    frame_out
    rfl
  · rw [outsAt0_B m c t h (by omega)]
    frame_out
    rfl

theorem point16 : (outsAt0 m c t.val t.isLt).2.2.2.1 = k0_pay25 (ldG m c t) (pY m c t) (iblk m c 1 t) (iblk m c 5 t) := by
  by_cases h : t.val % 32 = 0
  · rw [outsAt0_A m c t h (by have := lt32 t; omega)]
    frame_out
    rfl
  · rw [outsAt0_B m c t h (by omega)]
    frame_out
    rfl

theorem point17 : (outsAt0 m c t.val t.isLt).2.2.2.2.1 = k0_pay28 (k0_pay10 (ldA m c t)) (ldG m c t) (pY m c t) (iblk m c 1 t) (iblk m c 5 t) := by
  by_cases h : t.val % 32 = 0
  · rw [outsAt0_A m c t h (by have := lt32 t; omega)]
    frame_out
    rfl
  · rw [outsAt0_B m c t h (by omega)]
    frame_out
    rfl

theorem point18 : (outsAt0 m c t.val t.isLt).2.2.2.2.2.1 = k0_pay29 (k0_pay7 (ldA m c t)) (k0_pay8 (iblk m c 2 t)) (k0_pay9 (ldA m c t)) (ldG m c t) (pY m c t) (iblk m c 1 t) (iblk m c 5 t) := by
  by_cases h : t.val % 32 = 0
  · rw [outsAt0_A m c t h (by have := lt32 t; omega)]
    frame_out
    rfl
  · rw [outsAt0_B m c t h (by omega)]
    frame_out
    rfl

theorem point19 : (outsAt0 m c t.val t.isLt).2.2.2.2.2.2.1 = rowsOf (pDO m c t) (pDO0 m c t) := by
  by_cases h : t.val % 32 = 0
  · rw [outsAt0_A m c t h (by have := lt32 t; omega)]
    frame_out
    rfl
  · rw [outsAt0_B m c t h (by omega)]
    frame_out
    rfl

theorem pred_lt : t.val - 1 < cfg0.N := Nat.lt_of_le_of_lt (Nat.sub_le _ _) t.isLt

theorem add_gate (v65 v79 : FVec Ideal S256x2048 .f32) (a : Vec Ideal S1x2048 .f32) (k : S1x2048.Idx) :
    k0_pay5 v65 v79 a k = a k + k0_pay3 v65 v79 k := by
  pointwise [k0_pay5]

theorem add_loss (v77 : FVec Ideal S256x2048 .f32) (a : Vec Ideal S1x128 .f32) (k : S1x128.Idx) : k0_pay6 v77 a k = a k + k0_pay4 v77 k := by
  pointwise [k0_pay6]

def part20 : Vec Ideal S1x2048 .f32 := k0_pay3 (pProj m c t) (k0_pay22 (pY m c t) (iblk m c 1 t))

theorem reset20 (h : t.val % 32 = 0) (k : S1x2048.Idx) : (outsAt0 m c t.val t.isLt).2.2.2.2.2.2.2.1 k = part20 m c t k := by
  rw [outsAt0_A m c t h (by have := lt32 t; omega)]
  frame_out
  rfl

theorem step20 (h : ¬t.val % 32 = 0) (k : S1x2048.Idx) :
    (outsAt0 m c t.val t.isLt).2.2.2.2.2.2.2.1 k = (outsAt0 m c (t.val - 1) (pred_lt t)).2.2.2.2.2.2.2.1 k + part20 m c t k := by
  unfold part20
  rw [outsAt0_B m c t h (by omega), ← add_gate]
  frame_out
  rfl

def part21 : Vec Ideal S1x128 .f32 := k0_pay4 (k0_pay21 (pY m c t) (iblk m c 1 t))

theorem reset21 (h : t.val % 32 = 0) (k : S1x128.Idx) : (outsAt0 m c t.val t.isLt).2.2.2.2.2.2.2.2 k = part21 m c t k := by
  rw [outsAt0_A m c t h (by have := lt32 t; omega)]
  frame_out
  rfl

theorem step21 (h : ¬t.val % 32 = 0) (k : S1x128.Idx) :
    (outsAt0 m c t.val t.isLt).2.2.2.2.2.2.2.2 k = (outsAt0 m c (t.val - 1) (pred_lt t)).2.2.2.2.2.2.2.2 k + part21 m c t k := by
  unfold part21
  rw [outsAt0_B m c t h (by omega), ← add_loss]
  frame_out
  rfl

end

end Cert.TailIdeal.Rows

end
-- ==== Proof.TailFinal.lean ====
/-
  The tail kernel's nine result arrays after the whole grid, in real numbers.
-/
module

public import proofs.«01_k».proof.Proof.TailArray

@[expose] public section

set_option maxRecDepth 16384

noncomputable section

open Idealize.ShloMosaic Idealize.ShloMosaic.TcCoe Idealize.SL.Sem
open Idealize.ShloMosaic.Tactic
open Idealize.ShloMosaic.Pipeline (Dat)

namespace Cert.TailIdeal.Rows

open Cert.TailIdeal Cert.TailIdeal.Gen Cert.ConvMath Cert.TailMath Cert.Finite

variable (m : (ℓ : Loc nD τ sig) → Buf (Elt Ideal) ℓ) (c : Dev nD) (I : Inputs) (H : Holds m c I)

/-! What each result's window holds after a point. -/

def w13 (n : ℕ) (h : n < cfg0.N) : Vec Ideal S256x2048 .f32 := (outsAt0 m c n h).1
theorem after13 (t : Fin cfg0.N) : (dats m 0 c).after 13 t = w13 m c t.val t.isLt := after0_13 m c t
def w14 (n : ℕ) (h : n < cfg0.N) : Vec Ideal S256x2048 .bf16 := (outsAt0 m c n h).2.1
theorem after14 (t : Fin cfg0.N) : (dats m 0 c).after 14 t = w14 m c t.val t.isLt := after0_14 m c t
def w15 (n : ℕ) (h : n < cfg0.N) : Vec Ideal S2048x256 .bf16 := (outsAt0 m c n h).2.2.1
theorem after15 (t : Fin cfg0.N) : (dats m 0 c).after 15 t = w15 m c t.val t.isLt := after0_15 m c t
def w16 (n : ℕ) (h : n < cfg0.N) : Vec Ideal S256x1024 .bf16 := (outsAt0 m c n h).2.2.2.1
theorem after16 (t : Fin cfg0.N) : (dats m 0 c).after 16 t = w16 m c t.val t.isLt := after0_16 m c t
def w17 (n : ℕ) (h : n < cfg0.N) : Vec Ideal S256x1024 .bf16 := (outsAt0 m c n h).2.2.2.2.1
theorem after17 (t : Fin cfg0.N) : (dats m 0 c).after 17 t = w17 m c t.val t.isLt := after0_17 m c t
def w18 (n : ℕ) (h : n < cfg0.N) : Vec Ideal S256x1024 .bf16 := (outsAt0 m c n h).2.2.2.2.2.1
theorem after18 (t : Fin cfg0.N) : (dats m 0 c).after 18 t = w18 m c t.val t.isLt := after0_18 m c t
def w19 (n : ℕ) (h : n < cfg0.N) : Vec Ideal S8x1x256 .f32 := (outsAt0 m c n h).2.2.2.2.2.2.1
theorem after19 (t : Fin cfg0.N) : (dats m 0 c).after 19 t = w19 m c t.val t.isLt := after0_19 m c t
def w20 (n : ℕ) (h : n < cfg0.N) : Vec Ideal S1x2048 .f32 := (outsAt0 m c n h).2.2.2.2.2.2.2.1
theorem after20 (t : Fin cfg0.N) : (dats m 0 c).after 20 t = w20 m c t.val t.isLt := after0_20 m c t
def w21 (n : ℕ) (h : n < cfg0.N) : Vec Ideal S1x128 .f32 := (outsAt0 m c n h).2.2.2.2.2.2.2.2
theorem after21 (t : Fin cfg0.N) : (dats m 0 c).after 21 t = w21 m c t.val t.isLt := after0_21 m c t

section
variable (t : Fin cfg0.N)
include H

theorem hA (r : Fin 256) (l : Fin 1024) (k : Fin 1152) (e : k.val = 64 + l.val) :
    ldA m c t (ix2 r k) = ((I.a (256 * (pt t).val + r.val) l : ℝ) : EReal) :=
  (blkA m c t r k).trans (H.a _ l _ (by dsimp only; omega))

theorem hO (r : Fin 256) (l : Fin 1024) : iblk m c 2 t (ix2 r l) = ((I.o (256 * (pt t).val + r.val) l : ℝ) : EReal) :=
  (blk2 m c t r l).trans (H.o _ l)

theorem hG (j : Fin 2048) : ldG m c t (ix2 0 j) = ((I.g j : ℝ) : EReal) := (blkG m c t j).trans (H.g j _ rfl)

theorem hT (r : Fin 256) (j : Fin 2048) : iblk m c 1 t (ix2 r j) = ((I.T (256 * (pt t).val + r.val) j : ℝ) : EReal) :=
  (blk1 m c t r j).trans (H.T _ j)

theorem hP (i j : Fin 2048) : iblk m c 5 t (ix2 i j) = ((I.P i j : ℝ) : EReal) := (blk5 m c t j i).trans (H.P i j)

theorem hx (r : Fin 256) (l : Fin 1024) : iblk m c 6 t (ix2 r l) = ((I.x (256 * (pt t).val + r.val) l : ℝ) : EReal) :=
  (blk6 m c t r l).trans (H.x _ l _ rfl)

theorem hb (r : Fin 256) (l : Fin 1024) : iblk m c 7 t (ix2 r l) = ((I.b (256 * (pt t).val + r.val) l : ℝ) : EReal) :=
  (blk7 m c t r l).trans (H.b _ l _ rfl)

theorem hc (r : Fin 256) (l : Fin 1024) : iblk m c 8 t (ix2 r l) = ((I.c (256 * (pt t).val + r.val) l : ℝ) : EReal) :=
  (blk8 m c t r l).trans (H.cc _ l _ rfl)

theorem hz (r : Fin 256) (l : Fin 1024) : iblk m c 9 t (ix2 r l) = ((I.z (256 * (pt t).val + r.val) l : ℝ) : EReal) :=
  (blk9 m c t r l).trans (H.z _ l _ rfl)

theorem hxp (h : (pt t).val ≠ 0) (q : Fin 16) (l : Fin 1024) : iblk m c 10 t (ix2 q l) = ((I.x (256 * (pt t).val + q.val - 16) l : ℝ) : EReal) :=
  (blk10 m c t q l).trans ((H.x _ l _ rfl).trans (congrArg (fun n => ((I.x n l : ℝ) : EReal)) (prev_row t q h)))

theorem hcp (h : (pt t).val ≠ 0) (q : Fin 16) (l : Fin 1024) : iblk m c 11 t (ix2 q l) = ((I.c (256 * (pt t).val + q.val - 16) l : ℝ) : EReal) :=
  (blk11 m c t q l).trans ((H.cc _ l _ rfl).trans (congrArg (fun n => ((I.c n l : ℝ) : EReal)) (prev_row t q h)))

theorem hw (k : Fin 3) (l : Fin 1024) : iblk m c 12 t (ix2 k l) = ((I.w k l : ℝ) : EReal) := (blk12 m c t l k).trans (H.w k l)

theorem pA_at (r : Fin 256) (l : Fin 1024) : pA m c t (ix2 r l) = ((ya I (256 * (pt t).val + r.val) l : ℝ) : EReal) :=
  pay11_at (pt t) I _ _ (hA m c I H t) (hO m c I H t) r l

theorem pAP_at (r : Fin 256) (j : Fin 2048) :
    pAP m c t (ix2 r j) = ((∑ l : Fin 1024, ya I (256 * (pt t).val + r.val) l * I.P (hi l) j : ℝ) : EReal) :=
  pay12_at (pt t) I _ _ _ (hA m c I H t) (hO m c I H t) (fun l j => (blkHi m c t l j).trans (H.P _ _)) r j

theorem pB0_at (r : Fin 256) (l : Fin 1024) : pB0 m c t (ix2 r l) = ((back I.x I.c (256 * (pt t).val + r.val) l 0 : ℝ) : EReal) :=
  pay13_at (pt t) I _ _ (hc m c I H t) (hx m c I H t) r l

theorem pB1_at (r : Fin 256) (l : Fin 1024) : pB1 m c t (ix2 r l) = ((back I.x I.c (256 * (pt t).val + r.val) l 1 : ℝ) : EReal) :=
  pay15_at _ (pt t) (coord t) I _ _ _ _ (hc m c I H t) (hx m c I H t) (hcp m c I H t) (hxp m c I H t) r l

theorem pB2_at (r : Fin 256) (l : Fin 1024) : pB2 m c t (ix2 r l) = ((back I.x I.c (256 * (pt t).val + r.val) l 2 : ℝ) : EReal) :=
  pay16_at _ (pt t) (coord t) I _ _ _ _ (hc m c I H t) (hx m c I H t) (hcp m c I H t) (hxp m c I H t) r l

theorem hPlo (l : Fin 1024) (j : Fin 2048) : ldLo m c t (ix2 l j) = ((I.P (lo l) j : ℝ) : EReal) := (blkLo m c t l j).trans (H.P _ _)

theorem pProj_at (r : Fin 256) (j : Fin 2048) : pProj m c t (ix2 r j) = ((proj I (256 * (pt t).val + r.val) j : ℝ) : EReal) :=
  pay18_at (pt t) I _ _ _ _ _ _ _ _ (pAP_at m c I H t) (pB0_at m c I H t) (pB1_at m c I H t) (pB2_at m c I H t) (hw m c I H t) (hz m c I H t)
    (hb m c I H t) (hPlo m c I H t) r j

theorem pY_at (r : Fin 256) (j : Fin 2048) :
    pY m c t (ix2 r j) = ((I.X (256 * (pt t).val + r.val) j + I.g j * proj I (256 * (pt t).val + r.val) j : ℝ) : EReal) :=
  pay20_at (pt t) I _ _ _ _ _ _ _ _ _ _ (pAP_at m c I H t) (pB0_at m c I H t) (pB1_at m c I H t) (pB2_at m c I H t) (hw m c I H t) (hz m c I H t)
    (hb m c I H t) (hPlo m c I H t) (hG m c I H t) (fun r j => (blk0 m c t r j).trans (H.X _ j)) r j

theorem p10_at (r : Fin 256) (l : Fin 1024) : k0_pay10 (ldA m c t) (ix2 r l)
    = ((I.a (256 * (pt t).val + r.val) l * sgm (I.a (256 * (pt t).val + r.val) l) : ℝ) : EReal) :=
  pay10_at (pt t) I _ (hA m c I H t) r l

theorem p8_at (r : Fin 256) (l : Fin 1024) : k0_pay8 (F := Ideal) (iblk m c 2 t) (ix2 r l) = ((I.o (256 * (pt t).val + r.val) l : ℝ) : EReal) := by
  pointwise [k0_pay8]
  exact hO m c I H t r l

theorem pDO_at (r : Fin 256) (l : Fin 1024) : pDO m c t (ix2 l r)
    = ((dov I (256 * (pt t).val + r.val) l * I.o (256 * (pt t).val + r.val) l : ℝ) : EReal) :=
  pay30_at (pt t) I _ _ _ _ _ _ (p8_at m c I H t) (p10_at m c I H t) (hG m c I H t) (pY_at m c I H t) (hT m c I H t) (hP m c I H t) r l

theorem pDO0_at (r : Fin 256) :
    pDO0 m c t (ix2 0 r) = ∑ q : Fin 128, pDO m c t (ix2 ⟨q.val, Nat.lt_of_lt_of_le q.isLt (Nat.le_of_ble_eq_true rfl)⟩ r) := by
  unfold pDO0 pDO
  pointwise [k0_pay31]

/-! The blocks that a point stores. -/

variable (r : Fin 256) (l : Fin 1024) (j : Fin 2048)

theorem at13 : w13 m c t.val t.isLt (ix2 r j) = ((dout I (256 * t.val + r.val) j : ℝ) : EReal) :=
  (congrFun (point13 m c t) _).trans (pay22_at (pt t) I _ _ (pY_at m c I H t) (hT m c I H t) r j)

theorem at14 : w14 m c t.val t.isLt (ix2 r j) = ((dproj I (256 * t.val + r.val) j : ℝ) : EReal) :=
  (congrFun (point14 m c t) _).trans (pay23_at (pt t) I _ _ _ (hG m c I H t) (pY_at m c I H t) (hT m c I H t) r j)

theorem at15 : w15 m c t.val t.isLt (ix2 j r) = ((ycat I (256 * t.val + r.val) j : ℝ) : EReal) :=
  (congrFun (point15 m c t) _).trans (pay19_at (pt t) I _ _ _ _ _ _ _ (pA_at m c I H t) (pB0_at m c I H t) (pB1_at m c I H t) (pB2_at m c I H t)
    (hw m c I H t) (hz m c I H t) (hb m c I H t) r j)

theorem at16 : w16 m c t.val t.isLt (ix2 r l) = ((dcat I (256 * t.val + r.val) (lo l) : ℝ) : EReal) :=
  (congrFun (point16 m c t) _).trans (pay25_at (pt t) I _ _ _ _ (hG m c I H t) (pY_at m c I H t) (hT m c I H t) (hP m c I H t) r l)

theorem at17 : w17 m c t.val t.isLt (ix2 r l) = ((dov I (256 * t.val + r.val) l : ℝ) : EReal) :=
  (congrFun (point17 m c t) _).trans (pay28_at (pt t) I _ _ _ _ _ (p10_at m c I H t) (hG m c I H t) (pY_at m c I H t) (hT m c I H t) (hP m c I H t) r l)

theorem at18 : w18 m c t.val t.isLt (ix2 r l) = ((dza I (256 * t.val + r.val) l : ℝ) : EReal) :=
  (congrFun (point18 m c t) _).trans (pay29_at (pt t) I _ _ _ _ _ _ _ (pay7_at (pt t) I _ (hA m c I H t)) (p8_at m c I H t)
    (pay9_at (pt t) I _ (hA m c I H t)) (hG m c I H t) (pY_at m c I H t) (hT m c I H t) (hP m c I H t) r l)

theorem at19 (h : Fin 8) : w19 m c t.val t.isLt (ix3 h 0 r) = ((rowdot I (256 * t.val + r.val) h : ℝ) : EReal) :=
  (congrFun (point19 m c t) _).trans (rowsOf_at (pt t) I _ (pDO_at m c I H t) r _ (pDO0_at m c I H t) h)

theorem part20_at : part20 m c t (ix2 0 j)
    = ((∑ r : Fin 256, dout I (256 * t.val + r.val) j * proj I (256 * t.val + r.val) j : ℝ) : EReal) :=
  pay3_at (pt t) I _ _ _ (pProj_at m c I H t) (pY_at m c I H t) (hT m c I H t) j

theorem part21_at (k : Fin 128) : part21 m c t (ix2 0 k) = (((∑ r : Fin 256, sq I (256 * t.val + r.val)) * (1 / 4096) : ℝ) : EReal) :=
  pay4_at (pt t) I _ _ (pY_at m c I H t) (hT m c I H t) k
end

/-! The arrays. -/

def o13 : FVec Ideal S8192x2048 .f32 := fun i => ((dout I (i 0).val (i 1) : ℝ) : EReal)
def o14 : FVec Ideal S8192x2048 .bf16 := fun i => ((dproj I (i 0).val (i 1) : ℝ) : EReal)
def o15 : FVec Ideal S2048x8192 .bf16 := fun i => ((ycat I (i 1).val (i 0) : ℝ) : EReal)
def o16 : FVec Ideal S8192x1024 .bf16 := fun i => ((dcat I (i 0).val (lo (i 1)) : ℝ) : EReal)
def o17 : FVec Ideal S8192x1024 .bf16 := fun i => ((dov I (i 0).val (i 1) : ℝ) : EReal)
def o18 : FVec Ideal S8192x1024 .bf16 := fun i => ((dza I (i 0).val (i 1) : ℝ) : EReal)
def o19 : FVec Ideal S8x1x8192 .f32 := fun i => ((rowdot I (i 2).val (i 0) : ℝ) : EReal)
def o20 : FVec Ideal S1x2048 .f32 := fun i => ((dgate I (i 1) : ℝ) : EReal)
def o21 : FVec Ideal S1x128 .f32 := fun i => ((loss I : ℝ) : EReal)

section
include H

omit H in
theorem emb13 (t : Fin cfg0.N) (y : (win0_13.xblock (grid0.coords t)).Idx) :
    (win0_13.blk t).view.emb y = (ix2 ⟨256 * t.val + (y 0 : Fin 256).val, row_lt t (y 0)⟩ (y 1) : S8192x2048.Idx) := by
  blk_ext [idx t]

theorem final13 : (dats m 0 c).arrAt 13 (cfgs 0).N = o13 I := by
  refine (dats m 0 c).arrAt_eq_of_covers 13 _ (by decide +kernel) fun t _ (y : (win0_13.xblock (grid0.coords t)).Idx) => ?_
  blk_simp
  rw [after13, emb13]
  obtain ⟨r, l, rfl⟩ : ∃ (r : Fin 256) (l : Fin 2048), y = (ix2 r l : S256x2048.Idx) := ⟨y 0, y 1, eq_ix2 _⟩
  exact at13 m c I H t r l

omit H in
theorem emb14 (t : Fin cfg0.N) (y : (win0_14.xblock (grid0.coords t)).Idx) :
    (win0_14.blk t).view.emb y = (ix2 ⟨256 * t.val + (y 0 : Fin 256).val, row_lt t (y 0)⟩ (y 1) : S8192x2048.Idx) := by
  blk_ext [idx t]

theorem final14 : (dats m 0 c).arrAt 14 (cfgs 0).N = o14 I := by
  refine (dats m 0 c).arrAt_eq_of_covers 14 _ (by decide +kernel) fun t _ (y : (win0_14.xblock (grid0.coords t)).Idx) => ?_
  blk_simp
  rw [after14, emb14]
  obtain ⟨r, l, rfl⟩ : ∃ (r : Fin 256) (l : Fin 2048), y = (ix2 r l : S256x2048.Idx) := ⟨y 0, y 1, eq_ix2 _⟩
  exact at14 m c I H t r l

omit H in
theorem emb16 (t : Fin cfg0.N) (y : (win0_16.xblock (grid0.coords t)).Idx) :
    (win0_16.blk t).view.emb y = (ix2 ⟨256 * t.val + (y 0 : Fin 256).val, row_lt t (y 0)⟩ (y 1) : S8192x1024.Idx) := by
  blk_ext [idx t]

theorem final16 : (dats m 0 c).arrAt 16 (cfgs 0).N = o16 I := by
  refine (dats m 0 c).arrAt_eq_of_covers 16 _ (by decide +kernel) fun t _ (y : (win0_16.xblock (grid0.coords t)).Idx) => ?_
  blk_simp
  rw [after16, emb16]
  obtain ⟨r, l, rfl⟩ : ∃ (r : Fin 256) (l : Fin 1024), y = (ix2 r l : S256x1024.Idx) := ⟨y 0, y 1, eq_ix2 _⟩
  exact at16 m c I H t r l

omit H in
theorem emb17 (t : Fin cfg0.N) (y : (win0_17.xblock (grid0.coords t)).Idx) :
    (win0_17.blk t).view.emb y = (ix2 ⟨256 * t.val + (y 0 : Fin 256).val, row_lt t (y 0)⟩ (y 1) : S8192x1024.Idx) := by
  blk_ext [idx t]

theorem final17 : (dats m 0 c).arrAt 17 (cfgs 0).N = o17 I := by
  refine (dats m 0 c).arrAt_eq_of_covers 17 _ (by decide +kernel) fun t _ (y : (win0_17.xblock (grid0.coords t)).Idx) => ?_
  blk_simp
  rw [after17, emb17]
  obtain ⟨r, l, rfl⟩ : ∃ (r : Fin 256) (l : Fin 1024), y = (ix2 r l : S256x1024.Idx) := ⟨y 0, y 1, eq_ix2 _⟩
  exact at17 m c I H t r l

omit H in
theorem emb18 (t : Fin cfg0.N) (y : (win0_18.xblock (grid0.coords t)).Idx) :
    (win0_18.blk t).view.emb y = (ix2 ⟨256 * t.val + (y 0 : Fin 256).val, row_lt t (y 0)⟩ (y 1) : S8192x1024.Idx) := by
  blk_ext [idx t]

theorem final18 : (dats m 0 c).arrAt 18 (cfgs 0).N = o18 I := by
  refine (dats m 0 c).arrAt_eq_of_covers 18 _ (by decide +kernel) fun t _ (y : (win0_18.xblock (grid0.coords t)).Idx) => ?_
  blk_simp
  rw [after18, emb18]
  obtain ⟨r, l, rfl⟩ : ∃ (r : Fin 256) (l : Fin 1024), y = (ix2 r l : S256x1024.Idx) := ⟨y 0, y 1, eq_ix2 _⟩
  exact at18 m c I H t r l

omit H in
theorem emb15 (t : Fin cfg0.N) (y : (win0_15.xblock (grid0.coords t)).Idx) :
    (win0_15.blk t).view.emb y = (ix2 (y 0) ⟨256 * t.val + (y 1 : Fin 256).val, row_lt t (y 1)⟩ : S2048x8192.Idx) := by
  blk_ext [idx t]

theorem final15 : (dats m 0 c).arrAt 15 (cfgs 0).N = o15 I := by
  refine (dats m 0 c).arrAt_eq_of_covers 15 _ (by decide +kernel) fun t _ (y : (win0_15.xblock (grid0.coords t)).Idx) => ?_
  blk_simp
  rw [after15, emb15]
  obtain ⟨l, r, rfl⟩ : ∃ (l : Fin 2048) (r : Fin 256), y = (ix2 l r : S2048x256.Idx) := ⟨y 0, y 1, eq_ix2 _⟩
  exact at15 m c I H t r l

omit H in
theorem emb19 (t : Fin cfg0.N) (y : (win0_19.xblock (grid0.coords t)).Idx) :
    (win0_19.blk t).view.emb y = (ix3 (y 0) 0 ⟨256 * t.val + (y 2 : Fin 256).val, row_lt t (y 2)⟩ : S8x1x8192.Idx) := by
  blk_ext [idx t]

theorem final19 : (dats m 0 c).arrAt 19 (cfgs 0).N = o19 I := by
  refine (dats m 0 c).arrAt_eq_of_covers 19 _ (by decide +kernel) fun t _ (y : (win0_19.xblock (grid0.coords t)).Idx) => ?_
  blk_simp
  rw [after19, emb19]
  obtain ⟨h, r, rfl⟩ : ∃ (h : Fin 8) (r : Fin 256), y = (ix3 h 0 r : S8x1x256.Idx) := ⟨y 0, y 2, by blk_ext⟩
  exact at19 m c I H t r h

/-- The last point. -/
def last : Fin cfg0.N := ⟨31, Nat.lt_of_lt_of_eq (by decide) N_0.symm⟩

omit H in
theorem over_blocks (f : ℕ → ℝ) : ∑ t : Fin cfg0.N, (((∑ r : Fin 256, f (256 * t.val + r.val) : ℝ)) : EReal) = ((∑ R : Fin 8192, f R.val : ℝ) : EReal) := by
  rw [Fin.sum_univ_eq_sum_range (fun t => (((∑ r : Fin 256, f (256 * t + r.val) : ℝ)) : EReal)) cfg0.N, show cfg0.N = 32 from N_0,
    ← Fin.sum_univ_eq_sum_range (fun t => (((∑ r : Fin 256, f (256 * t + r.val) : ℝ)) : EReal)) 32, coe_sum, sum_blocks]

theorem last20 (j : Fin 2048) : w20 m c last.val last.isLt (ix2 0 j) = ((dgate I j : ℝ) : EReal) := by
  rw [Pipeline.eq_sum_fin_of_reset_step_apply_last (w20 m c) 32 (fun _ => 0) (fun t k => part20 m c t k)
    (fun t h k => (reset20 m c t h k).trans (zero_add _).symm) (step20 m c) (le_of_eq N_0) last rfl, zero_add]
  exact (Finset.sum_congr rfl fun t _ => part20_at m c I H t j).trans (over_blocks fun R => dout I R j * proj I R j)

theorem last21 (k : Fin 128) : w21 m c last.val last.isLt (ix2 0 k) = ((loss I : ℝ) : EReal) := by
  rw [Pipeline.eq_sum_fin_of_reset_step_apply_last (w21 m c) 32 (fun _ => 0) (fun t k => part21 m c t k)
    (fun t h k => (reset21 m c t h k).trans (zero_add _).symm) (step21 m c) (le_of_eq N_0) last rfl, zero_add]
  refine (Finset.sum_congr rfl fun t _ => (part21_at m c I H t k).trans (by rw [Finset.sum_mul])).trans ((over_blocks fun R => sq I R * (1 / 4096)).trans ?_)
  rw [loss, Finset.sum_mul]

theorem final20 : (dats m 0 c).arrAt 20 (cfgs 0).N = o20 I := by
  refine (dats m 0 c).arrAt_eq_of_after_last 20 last (by decide +kernel) _ fun (j : S1x2048.Idx) => ?_
  blk_simp
  rw [after20]
  obtain ⟨k, rfl⟩ : ∃ k : Fin 2048, j = ix2 0 k := ⟨j 1, by blk_ext⟩
  exact last20 m c I H k

theorem final21 : (dats m 0 c).arrAt 21 (cfgs 0).N = o21 I := by
  refine (dats m 0 c).arrAt_eq_of_after_last 21 last (by decide +kernel) _ fun (j : S1x128.Idx) => ?_
  blk_simp
  rw [after21]
  obtain ⟨k, rfl⟩ : ∃ k : Fin 128, j = ix2 0 k := ⟨j 1, by blk_ext⟩
  exact last21 m c I H k
end

end Cert.TailIdeal.Rows

end
-- ==== Proof.TailRef.lean ====
/-
  The tail reference's nine results at an index, for arguments that are real numbers.
-/
module

public import proofs.«01_k».proof.Proof.Gen.TailRefIdeal.Read
public import proofs.«01_k».proof.Proof.TailMath

@[expose] public section

set_option maxRecDepth 16384

noncomputable section

open Idealize.ShloMosaic Idealize.ShloMosaic.TcCoe Idealize.SL.Sem
open Idealize.ShloMosaic.Tactic

namespace Cert.TailRefIdeal.Rows

open Cert.TailRefIdeal Cert.TailRefIdeal.Gen Cert.TailRefIdeal.Read Cert.ConvMath Cert.TailMath Cert.Finite

variable (x0 x1 : (⟨S8192x2048, .f32⟩ : BufTy).Contents (Elt Ideal)) (x2 : (⟨S8192x1024, .bf16⟩ : BufTy).Contents (Elt Ideal))
  (x3 : (⟨S8192x6144, .bf16⟩ : BufTy).Contents (Elt Ideal)) (x4 : (⟨S1x6144, .f32⟩ : BufTy).Contents (Elt Ideal))
  (x5 : (⟨S2048x2048, .bf16⟩ : BufTy).Contents (Elt Ideal)) (x6 : (⟨S3x1024, .f32⟩ : BufTy).Contents (Elt Ideal))

/-- The seven arguments hold the inputs' numbers. -/
structure Holds (I : Inputs) : Prop where
  X : ∀ (n : Fin 8192) (j : Fin 2048), x0 (ix2 n j) = ((I.X n.val j : ℝ) : EReal)
  T : ∀ (n : Fin 8192) (j : Fin 2048), x1 (ix2 n j) = ((I.T n.val j : ℝ) : EReal)
  o : ∀ (n : Fin 8192) (l : Fin 1024), x2 (ix2 n l) = ((I.o n.val l : ℝ) : EReal)
  x : ∀ (n : Fin 8192) (l : Fin 1024) (k : Fin 6144), k.val = l.val → x3 (ix2 n k) = ((I.x n.val l : ℝ) : EReal)
  b : ∀ (n : Fin 8192) (l : Fin 1024) (k : Fin 6144), k.val = 1024 + l.val → x3 (ix2 n k) = ((I.b n.val l : ℝ) : EReal)
  c : ∀ (n : Fin 8192) (l : Fin 1024) (k : Fin 6144), k.val = 2048 + l.val → x3 (ix2 n k) = ((I.c n.val l : ℝ) : EReal)
  z : ∀ (n : Fin 8192) (l : Fin 1024) (k : Fin 6144), k.val = 3072 + l.val → x3 (ix2 n k) = ((I.z n.val l : ℝ) : EReal)
  a : ∀ (n : Fin 8192) (l : Fin 1024) (k : Fin 6144), k.val = 4928 + l.val → x3 (ix2 n k) = ((I.a n.val l : ℝ) : EReal)
  g : ∀ (j : Fin 2048) (k : Fin 6144), k.val = 4096 + j.val → x4 (ix2 0 k) = ((I.g j : ℝ) : EReal)
  P : ∀ i j : Fin 2048, x5 (ix2 i j) = ((I.P i j : ℝ) : EReal)
  w : ∀ (k : Fin 3) (l : Fin 1024), x6 (ix2 k l) = ((I.w k l : ℝ) : EReal)

variable (I : Inputs) (H : Holds x0 x1 x2 x3 x4 x5 x6 I) (n : Fin 8192) (l : Fin 1024) (j : Fin 2048)
include H

theorem v13_at : val_main_v13 x3 (ix3 0 n l) = ((inp I.x I.c l n.val : ℝ) : EReal) := by
  pointwise [val_main_v13, val_main_v11, val_main_v9, val_main_v6, val_main_v4, val_main_v3, val_main_v1]
  rw [H.c n l _ rfl, H.x n l _ rfl, ← EReal.coe_mul, inp]

theorem v16_at (n : Fin 8194) :
    val_main_v16 x3 (ix3 0 n l) = if n.val < 2 then 0 else ((inp I.x I.c l (n.val - 2) : ℝ) : EReal) := by
  pointwise [val_main_v16, val_main_v15, val_main_cst]
  by_cases h : n.val < 2
  · rw [if_pos h]
    exact dif_pos h
  · rw [if_neg h]
    exact (dif_neg h).trans (v13_at x0 x1 x2 x3 x4 x5 x6 I H _ l)

/-- The shifted input, by how far it is shifted. -/
theorem shifted (k : ℕ) (hk : k ≤ 2) (m : Fin 8194) (hm : m.val + k = n.val + 2) :
    val_main_v16 x3 (ix3 0 m l) = ((back I.x I.c n.val l k : ℝ) : EReal) := by
  rw [v16_at x0 x1 x2 x3 x4 x5 x6 I H, back]
  by_cases h : n.val < k
  · rw [if_pos h, if_pos (by omega)]
    rfl
  · rw [if_neg h, if_neg (by omega)]
    exact congrArg (fun n => ((inp I.x I.c l n : ℝ) : EReal)) (by omega)

theorem v38_at : val_main_v38 x3 x6 (ix3 0 n l) = ((conv I.x I.c I.w n.val l : ℝ) : EReal) := by
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_cst_0, val_main_v22, val_main_v21,
    val_main_v20, val_main_v19, val_main_v18, val_main_v17]
  rw [shifted x0 x1 x2 x3 x4 x5 x6 I H n l 2 (by omega) _ (by simp only), shifted x0 x1 x2 x3 x4 x5 x6 I H n l 1 (by omega) _ (by simp only; omega),
    shifted x0 x1 x2 x3 x4 x5 x6 I H n l 0 (by omega) _ (by simp only; omega), H.w, H.w, H.w, conv]
  simp only [EReal.coe_add, EReal.coe_mul]

theorem v42_at : val_main_v42 x3 x6 (ix2 n l) = ((yc I n.val l : ℝ) : EReal) := by
  pointwise [val_main_v42, val_main_v41, val_main_v40, val_main_call0_v5, val_main_call0_v4, val_main_call0_cst_0, val_main_call0_v3,
    val_main_call0_v2, val_main_call0_cst, val_main_call0_v1, val_main_call0_v0, val_main_v39, val_main_v12, val_main_v10, val_main_v7,
    val_main_v5, val_main_v3, val_main_v1]
  rw [v38_at x0 x1 x2 x3 x4 x5 x6 I H, H.b n l _ rfl, H.z n l _ rfl, sgm_eq, yc]
  simp only [EReal.coe_mul]

theorem v46_2_at : val_main_v46_2 x3 (ix2 n l) = ((sgm (I.a n.val l) : ℝ) : EReal) := by
  pointwise [val_main_v46_2, val_main_call1_v4, val_main_call1_cst_0, val_main_call1_v3, val_main_call1_v2, val_main_call1_cst, val_main_call1_v1,
    val_main_call1_v0, val_main_v8, val_main_v1]
  rw [H.a n l _ rfl, sgm_eq]

theorem v46_0_at : val_main_v46_0 x3 (ix2 n l) = ((I.a n.val l * sgm (I.a n.val l) : ℝ) : EReal) := by
  pointwise [val_main_v46_0, val_main_v8, val_main_v1]
  rw [v46_2_at x0 x1 x2 x3 x4 x5 x6 I H, H.a n l _ rfl, ← EReal.coe_mul]

theorem v46_1_at : val_main_v46_1 x3 (ix2 n l) = ((sgm (I.a n.val l) * (1 - sgm (I.a n.val l)) : ℝ) : EReal) := by
  pointwise [val_main_v46_1, val_main_call1_v7, val_main_call1_v6, val_main_call1_cst_1]
  rw [v46_2_at x0 x1 x2 x3 x4 x5 x6 I H, ← EReal.coe_one, ← EReal.coe_sub, ← EReal.coe_mul]

theorem v47_at : val_main_v47 x2 x3 (ix2 n l) = ((ya I n.val l : ℝ) : EReal) := by
  pointwise [val_main_v47, val_main_v0]
  rw [v46_0_at x0 x1 x2 x3 x4 x5 x6 I H, H.o, ← EReal.coe_mul, ya]

theorem v48_at (i : Fin 2048) : val_main_v48 x2 x3 x6 (ix2 n i) = ((ycat I n.val i : ℝ) : EReal) := by
  pointwise [val_main_v48]
  rw [ycat]
  by_cases h : i.val < 1024
  · exact (dif_pos h).trans ((v42_at x0 x1 x2 x3 x4 x5 x6 I H n ⟨i.val, h⟩).trans (by rw [dif_pos h]))
  · exact (dif_neg h).trans ((v47_at x0 x1 x2 x3 x4 x5 x6 I H n _).trans (by rw [dif_neg h]))

theorem v49_at : val_main_v49 x2 x3 x5 x6 (ix2 n j) = ((proj I n.val j : ℝ) : EReal) := by
  pointwise [val_main_v49, val_main_v2]
  rw [proj, ← coe_sum]
  exact Finset.sum_congr rfl fun i _ => by rw [v48_at x0 x1 x2 x3 x4 x5 x6 I H, H.P, EReal.coe_mul]

theorem v53_at : val_main_v53 x0 x1 x2 x3 x4 x5 x6 (ix2 n j) = ((err I n.val j : ℝ) : EReal) := by
  pointwise [val_main_v53, val_main_v52, val_main_v51, val_main_v50, val_main_v45]
  rw [v49_at x0 x1 x2 x3 x4 x5 x6 I H, H.X, H.T, H.g j _ rfl, err]
  simp only [EReal.coe_mul, EReal.coe_add, EReal.coe_sub]

theorem v67_at : val_main_v67 x0 x1 x2 x3 x4 x5 x6 (ix2 n j) = ((dout I n.val j : ℝ) : EReal) := by
  pointwise [val_main_v67, val_main_v66, val_main_v65, val_main_v64, val_main_cst_8, val_main_v63, val_main_v62, val_main_cst_7, val_main_cst_6,
    val_main_v56, val_main_v55, val_main_cst_1]
  rw [v53_at x0 x1 x2 x3 x4 x5 x6 I H]
  simp only [ofBits_half, ofBits_two, ofBits_2048, mul_one]
  rw [div_coe _ _ (by norm_num), ← EReal.coe_mul, ← EReal.coe_mul, dout]
  exact congrArg _ (by ring)

theorem v69_at : val_main_v69 x0 x1 x2 x3 x4 x5 x6 (ix2 n j) = ((dproj I n.val j : ℝ) : EReal) := by
  pointwise [val_main_v69, val_main_v68, val_main_v45]
  rw [v67_at x0 x1 x2 x3 x4 x5 x6 I H, H.g j _ rfl, ← EReal.coe_mul, mul_comm, dproj]

theorem v73_at (i : Fin 2048) : val_main_v73 x0 x1 x2 x3 x4 x5 x6 (ix2 n i) = ((dcat I n.val i : ℝ) : EReal) := by
  pointwise [val_main_v73, val_main_v2]
  rw [dcat, ← coe_sum]
  exact Finset.sum_congr rfl fun j _ => by rw [v69_at x0 x1 x2 x3 x4 x5 x6 I H, H.P, EReal.coe_mul]

theorem v77_at : val_main_v77 x0 x1 x2 x3 x4 x5 x6 (ix2 n l) = ((dov I n.val l : ℝ) : EReal) := by
  pointwise [val_main_v77, val_main_v75]
  rw [v73_at x0 x1 x2 x3 x4 x5 x6 I H, v46_0_at x0 x1 x2 x3 x4 x5 x6 I H, ← EReal.coe_mul]
  rfl

/-! The results. -/

theorem v84_at : val_main_v84 x0 x1 x2 x3 x4 x5 x6 (ix2 n j) = ((dproj I n.val j : ℝ) : EReal) := by
  pointwise [val_main_v84]
  exact v69_at x0 x1 x2 x3 x4 x5 x6 I H n j

theorem v86_at : val_main_v86 x2 x3 x6 (ix2 j n) = ((ycat I n.val j : ℝ) : EReal) := by
  pointwise [val_main_v86, val_main_v85]
  exact v48_at x0 x1 x2 x3 x4 x5 x6 I H n j

theorem v87_at : val_main_v87 x0 x1 x2 x3 x4 x5 x6 (ix2 n l) = ((dcat I n.val (lo l) : ℝ) : EReal) := by
  pointwise [val_main_v87, val_main_v74]
  exact v73_at x0 x1 x2 x3 x4 x5 x6 I H n (lo l)

theorem v88_at : val_main_v88 x0 x1 x2 x3 x4 x5 x6 (ix2 n l) = ((dov I n.val l : ℝ) : EReal) := by
  pointwise [val_main_v88]
  exact v77_at x0 x1 x2 x3 x4 x5 x6 I H n l

theorem v89_at : val_main_v89 x0 x1 x2 x3 x4 x5 x6 (ix2 n l) = ((dza I n.val l : ℝ) : EReal) := by
  pointwise [val_main_v89, val_main_v78, val_main_call2_v2, val_main_call2_v1, val_main_call2_v0, val_main_v76, val_main_v75, val_main_v8, val_main_v1,
    val_main_v0]
  rw [v73_at x0 x1 x2 x3 x4 x5 x6 I H, v46_2_at x0 x1 x2 x3 x4 x5 x6 I H, v46_1_at x0 x1 x2 x3 x4 x5 x6 I H, H.o, H.a n l _ rfl]
  simp only [← EReal.coe_mul, ← EReal.coe_add]
  exact congrArg _ (show _ = dcat I n.val (hi l) * I.o n.val l * (sgm (I.a n.val l) * (1 + I.a n.val l * (1 - sgm (I.a n.val l)))) by
    rw [show hi l = ⟨1024 + l.val, by have := l.isLt; omega⟩ from rfl]
    ring)

theorem v83_at (h : Fin 8) : val_main_v83 x0 x1 x2 x3 x4 x5 x6 (ix3 h 0 n) = ((rowdot I n.val h : ℝ) : EReal) := by
  pointwise [val_main_v83, val_main_v82, val_main_v81, val_main_v80, val_main_v79, val_main_cst_10, val_main_v0]
  rw [rowdot, ← coe_sum]
  refine Finset.sum_congr rfl fun r _ => ?_
  rw [v77_at x0 x1 x2 x3 x4 x5 x6 I H, H.o, ← EReal.coe_mul]

theorem v72_at : val_main_v72 x0 x1 x2 x3 x4 x5 x6 (ix2 0 j) = ((dgate I j : ℝ) : EReal) := by
  pointwise [val_main_v72, val_main_v71, val_main_v70, val_main_cst_9]
  rw [dgate, ← coe_sum]
  exact Finset.sum_congr rfl fun n _ => by rw [v67_at x0 x1 x2 x3 x4 x5 x6 I H, v49_at x0 x1 x2 x3 x4 x5 x6 I H, EReal.coe_mul]

theorem v90_at (k : Fin 128) : val_main_v90 x0 x1 x2 x3 x4 x5 x6 (ix2 0 k) = ((loss I : ℝ) : EReal) := by
  pointwise [val_main_v90, val_main_v61, val_main_v60, val_main_v59, val_main_v58, val_main_v57, val_main_v54, val_main_cst_2, val_main_cst_3,
    val_main_cst_4, val_main_cst_5]
  simp only [v53_at x0 x1 x2 x3 x4 x5 x6 I H, ← EReal.coe_mul, coe_sum, ofBits_half, ofBits_2048, div_coe _ _ (show (2048 : ℝ) ≠ 0 by norm_num)]
  rw [loss, ← Finset.sum_div]
  exact congrArg _ (show (1 / 2 : ℝ) * ((∑ n : Fin 8192, sq I n.val) / 2048) = _ by ring)

end Cert.TailRefIdeal.Rows

end
-- ==== Proof.TailClaim.lean ====
/-
  The claims about the step's tail: the reference's frame, and the equation of its nine results on finite arguments.
-/
module

public import proofs.«01_k».proof.Defs
public import proofs.«01_k».proof.Proof.TailFinal
public import proofs.«01_k».proof.Proof.TailRef
public import proofs.«01_k».proof.Proof.Gen.TailRefIdeal.Run
public import proofs.«01_k».proof.Proof.Gen.Pre_finite_tail
public import Idealize.ShloMosaic.Lib.Quiescent

@[expose] public section

set_option maxRecDepth 16384

noncomputable section

open Idealize.ShloMosaic Idealize.ShloMosaic.TcCoe Idealize.SL.Sem
open Idealize.ShloMosaic.Tactic

namespace Cert.TailClaim

open Cert.TailIdeal Cert.TailIdeal.Gen Cert.TailIdeal.Rows Cert.ConvMath Cert.TailMath

theorem frame_ref : Cert.quiescent_TailRefIdeal := fun m ρ _ =>
  (θ_run (Cert.TailRefIdeal.defs (F := Ideal)) _ _).mono
    (fun r h => ⟨fun c => (h c).2.2.2.2.2.2.2.2.2, sem_eq_zero_of_no_sems (by decide) r.2⟩)
    (Cert.TailRefIdeal.Value.run (F := Ideal) m ρ)

/-- Rows at any row number, from rows of an array. -/
def rows {k : ℕ} (A : Fin 8192 → Fin k → ℝ) : ℕ → Fin k → ℝ := fun n l => if h : n < 8192 then A ⟨n, h⟩ l else 0

theorem rows_at {k : ℕ} (A : Fin 8192 → Fin k → ℝ) (n : Fin 8192) (l : Fin k) : rows A n.val l = A n l := dif_pos n.isLt

section
variable (X T : S8192x2048.Idx → ℝ) (O : S8192x1024.Idx → ℝ) (U : S8192x6144.Idx → ℝ) (M : S1x6144.Idx → ℝ) (P : S2048x2048.Idx → ℝ)
  (W : S3x1024.Idx → ℝ)

/-- A group of 1024 columns of the wide argument. -/
def cols (o : Fin 5121) : Rows := rows fun n l => U (ix2 n ⟨o.val + l.val, by have := o.isLt; have := l.isLt; omega⟩)

theorem cols_at (o : Fin 5121) (n : Fin 8192) (l : Fin 1024) (k : Fin 6144) (e : k.val = o.val + l.val) : U (ix2 n k) = cols U o n.val l := by
  rw [cols, rows_at]
  exact congrArg (fun k => U (ix2 n k)) (Fin.ext e)

/-- The inputs that the arrays hold. -/
def inputs : Inputs where
  x := cols U 0
  b := cols U 1024
  c := cols U 2048
  z := cols U 3072
  o := rows fun n l => O (ix2 n l)
  a := cols U 4928
  w := fun k l => W (ix2 k l)
  P := fun i j => P (ix2 i j)
  X := rows fun n j => X (ix2 n j)
  T := rows fun n j => T (ix2 n j)
  g := fun j => M (ix2 0 ⟨4096 + j.val, by have := j.isLt; omega⟩)

variable (m : (ℓ : Loc nD τ sig) → Buf (Elt Ideal) ℓ) (c : Dev nD)
  (hX : aX m c = fun i => ((X i : ℝ) : EReal)) (hT : aT m c = fun i => ((T i : ℝ) : EReal)) (hO : aO m c = fun i => ((O i : ℝ) : EReal))
  (hU : aU m c = fun i => ((U i : ℝ) : EReal)) (hM : aM m c = fun i => ((M i : ℝ) : EReal)) (hP : aP m c = fun i => ((P i : ℝ) : EReal))
  (hW : aW m c = fun i => ((W i : ℝ) : EReal))

include hX hT hO hU hM hP hW
theorem holds : Holds m c (inputs X T O U M P W) where
  X := fun n j => (congrFun hX _).trans (congrArg _ (rows_at (fun n j => X (ix2 n j)) n j).symm)
  T := fun n j => (congrFun hT _).trans (congrArg _ (rows_at (fun n j => T (ix2 n j)) n j).symm)
  o := fun n l => (congrFun hO _).trans (congrArg _ (rows_at (fun n l => O (ix2 n l)) n l).symm)
  x := fun n l k e => (congrFun hU _).trans (congrArg _ (cols_at U 0 n l k (by rw [e]; simp)))
  b := fun n l k e => (congrFun hU _).trans (congrArg _ (cols_at U 1024 n l k e))
  cc := fun n l k e => (congrFun hU _).trans (congrArg _ (cols_at U 2048 n l k e))
  z := fun n l k e => (congrFun hU _).trans (congrArg _ (cols_at U 3072 n l k e))
  a := fun n l k e => (congrFun hU _).trans (congrArg _ (cols_at U 4928 n l k e))
  g := fun j k e => (congrFun hM _).trans (congrArg (fun k => ((M (ix2 0 k) : ℝ) : EReal)) (Fin.ext e))
  P := fun i j => congrFun hP _
  w := fun k l => congrFun hW _
end

/-- The precondition read back: the seven arrays hold reals. -/
theorem reals (m : (ℓ : Loc nD τ sig) → Buf (Elt Ideal) ℓ) (h : Cert.Pre_TailIdeal_finite_tail m) (c : Dev nD) : ∃ I : Inputs, Holds m c I := by
  have e := congrFun (h c) ix0
  unfold Cert.Pre_finite_tail.fn at e
  dsimp only at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨X, hX⟩ := Cert.Finite.reals (S := S8192x2048) _ _ _ _ _ _ e0
  obtain ⟨T, hT⟩ := Cert.Finite.reals (S := S8192x2048) _ _ _ _ _ _ e1
  obtain ⟨O, hO⟩ := Cert.Finite.reals (S := S8192x1024) _ _ _ _ _ _ e2
  obtain ⟨U, hU⟩ := Cert.Finite.reals (S := S8192x6144) _ _ _ _ _ _ e3
  obtain ⟨M, hM⟩ := Cert.Finite.reals (S := S1x6144) _ _ _ _ _ _ e4
  obtain ⟨P, hP⟩ := Cert.Finite.reals (S := S2048x2048) _ _ _ _ _ _ e5
  obtain ⟨W, hW⟩ := Cert.Finite.reals (S := S3x1024) _ _ _ _ _ _ e6
  exact ⟨_, holds X T O U M P W m c hX hT hO hU hM hP hW⟩

set_option maxHeartbeats 1000000 in
theorem algebraic : Cert.algebraic_TailIdeal_TailRefIdeal_pre_finite_tail := by
  intro m g m' g' hpre hag
  refine ⟨fun c => (dats m 0 c).arrAt 13 cfg0.N, fun c => (dats m 0 c).arrAt 14 cfg0.N, fun c => (dats m 0 c).arrAt 15 cfg0.N,
    fun c => (dats m 0 c).arrAt 16 cfg0.N, fun c => (dats m 0 c).arrAt 17 cfg0.N, fun c => (dats m 0 c).arrAt 18 cfg0.N,
    fun c => (dats m 0 c).arrAt 19 cfg0.N, fun c => (dats m 0 c).arrAt 20 cfg0.N, fun c => (dats m 0 c).arrAt 21 cfg0.N,
    Cert.TailIdeal.Value.run_blocks m g, ?_⟩
  refine (θ_run Cert.TailRefIdeal.defs _ _).mono (fun r h c => ?_) (Cert.TailRefIdeal.Value.run (F := Ideal) m' g')
  obtain ⟨r0, r1, r2, r3, r4, r5, r6, r7, r8, h⟩ := h c
  obtain ⟨I, H⟩ := reals m hpre c
  obtain ⟨a0, a1, a2, a3, a4, a5, a6⟩ := hag c
  have R : Cert.TailRefIdeal.Rows.Holds (aX m c) (aT m c) (aO m c) (aU m c) (aM m c) (aP m c) (aW m c) I :=
    ⟨H.X, H.T, H.o, H.x, H.b, H.cc, H.z, H.a, H.g, H.P, H.w⟩
  refine ⟨r0.trans ?_, r1.trans ?_, r2.trans ?_, r3.trans ?_, r4.trans ?_, r5.trans ?_, r6.trans ?_, r7.trans ?_, r8.trans ?_, h⟩
  · rw [Cert.TailRefIdeal.Read.val_main_v67_eq, a0, a1, a2, a3, a4, a5, a6]
    refine Eq.trans (funext fun i => ?_) (final13 m c I H).symm
    rw [eq_ix2 i]
    exact Cert.TailRefIdeal.Rows.v67_at _ _ _ _ _ _ _ I R (i 0) (i 1)
  · rw [Cert.TailRefIdeal.Read.val_main_v84_eq, a0, a1, a2, a3, a4, a5, a6]
    refine Eq.trans (funext fun i => ?_) (final14 m c I H).symm
    rw [eq_ix2 i]
    exact Cert.TailRefIdeal.Rows.v84_at _ _ _ _ _ _ _ I R (i 0) (i 1)
  · rw [Cert.TailRefIdeal.Read.val_main_v86_eq, a2, a3, a6]
    refine Eq.trans (funext fun i => ?_) (final15 m c I H).symm
    rw [eq_ix2 i]
    exact Cert.TailRefIdeal.Rows.v86_at (aX m c) (aT m c) _ _ (aM m c) (aP m c) _ I R (i 1) (i 0)
  · rw [Cert.TailRefIdeal.Read.val_main_v87_eq, a0, a1, a2, a3, a4, a5, a6]
    refine Eq.trans (funext fun i => ?_) (final16 m c I H).symm
    rw [eq_ix2 i]
    exact Cert.TailRefIdeal.Rows.v87_at _ _ _ _ _ _ _ I R (i 0) (i 1)
  · rw [Cert.TailRefIdeal.Read.val_main_v88_eq, a0, a1, a2, a3, a4, a5, a6]
    refine Eq.trans (funext fun i => ?_) (final17 m c I H).symm
    rw [eq_ix2 i]
    exact Cert.TailRefIdeal.Rows.v88_at _ _ _ _ _ _ _ I R (i 0) (i 1)
  · rw [Cert.TailRefIdeal.Read.val_main_v89_eq, a0, a1, a2, a3, a4, a5, a6]
    refine Eq.trans (funext fun i => ?_) (final18 m c I H).symm
    rw [eq_ix2 i]
    exact Cert.TailRefIdeal.Rows.v89_at _ _ _ _ _ _ _ I R (i 0) (i 1)
  · rw [Cert.TailRefIdeal.Read.val_main_v83_eq, a0, a1, a2, a3, a4, a5, a6]
    refine Eq.trans (funext fun i => ?_) (final19 m c I H).symm
    obtain ⟨h, n, rfl⟩ : ∃ (h : Fin 8) (n : Fin 8192), i = ix3 h 0 n := ⟨i 0, i 2, by blk_ext⟩
    exact Cert.TailRefIdeal.Rows.v83_at _ _ _ _ _ _ _ I R n h
  · rw [Cert.TailRefIdeal.Read.val_main_v72_eq, a0, a1, a2, a3, a4, a5, a6]
    refine Eq.trans (funext fun i => ?_) (final20 m c I H).symm
    obtain ⟨j, rfl⟩ : ∃ j : Fin 2048, i = ix2 0 j := ⟨i 1, by blk_ext⟩
    exact Cert.TailRefIdeal.Rows.v72_at _ _ _ _ _ _ _ I R j
  · rw [Cert.TailRefIdeal.Read.val_main_v90_eq, a0, a1, a2, a3, a4, a5, a6]
    dsimp only
    rw [final21 m c I H]
    refine funext fun i => ?_
    obtain ⟨k, rfl⟩ : ∃ k : Fin 128, i = ix2 0 k := ⟨i 1, by blk_ext⟩
    exact Cert.TailRefIdeal.Rows.v90_at _ _ _ _ _ _ _ I R k

end Cert.TailClaim
-- ==== Proof.AdawClaim.lean ====
/-
  The gradient of the modulation's weight: the reference's frame, and the equation of the two programs' results.
  At each entry both sum, over the eight rows, the product of `c/(1+exp(-c))` and the cotangent.
-/
module

public import proofs.«01_k».proof.Defs
public import proofs.«01_k».proof.Proof.Gen.AdawIdeal.Value
public import proofs.«01_k».proof.Proof.Gen.AdawRefIdeal.Run
public import proofs.«01_k».proof.Proof.Gen.AdawRefIdeal.Read
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Tactic

namespace Cert.AdawClaim

open Cert.AdawIdeal Cert.AdawIdeal.Gen

theorem frame_ref : Cert.quiescent_AdawRefIdeal := fun m ρ _ =>
  (θ_run (Cert.AdawRefIdeal.defs (F := Ideal)) _ _).mono
    (fun r h => ⟨fun c => (h c).2, sem_eq_zero_of_no_sems (by decide) r.2⟩)
    (Cert.AdawRefIdeal.Value.run (F := Ideal) m ρ)

/-- The activation `c/(1+exp(-c))` of one number. -/
def act (x : EReal) : EReal := x * Ideal.div 1 (1 + Ideal.exp (-x))

theorem act_at (C : FVec Ideal S2048x8 .f32) (j : Fin 2048) (b : Fin 8) : k0_pay2 (F := Ideal) C (ix2 j b) = act (C (ix2 j b)) := by
  pointwise [k0_pay2]
  rw [act, sub_eq_add_neg, zero_add]

theorem ref_at (C : FVec Ideal S8x2048 .f32) (D : FVec Ideal S8x768 .f32) (j : Fin 2048) (l : Fin 768) :
    Cert.AdawRefIdeal.Read.val_main_v4 (F := Ideal) C D (ix2 j l) = ∑ b : Fin 8, act (C (ix2 b j)) * D (ix2 b l) := by
  pointwise [Cert.AdawRefIdeal.Read.val_main_v4, Cert.AdawRefIdeal.Read.val_main_v3, Cert.AdawRefIdeal.Read.val_main_v1,
    Cert.AdawRefIdeal.Read.val_main_call0_v5, Cert.AdawRefIdeal.Read.val_main_call0_v4, Cert.AdawRefIdeal.Read.val_main_call0_v3,
    Cert.AdawRefIdeal.Read.val_main_call0_v2, Cert.AdawRefIdeal.Read.val_main_call0_v1, Cert.AdawRefIdeal.Read.val_main_call0_v0,
    Cert.AdawRefIdeal.Read.val_main_call0_cst, Cert.AdawRefIdeal.Read.val_main_call0_cst_0]
  exact Finset.sum_congr rfl fun b _ => mul_comm _ _

variable (m : (ℓ : Loc nD τ sig) → Buf (Elt Ideal) ℓ) (c : Dev nD)

abbrev aC : S8x2048.Idx → EReal := m ((c.tc : Thread nD τ).loc main_arg0)
abbrev aD : S8x768.Idx → EReal := m ((c.tc : Thread nD τ).loc main_arg1)

/-- The entry both programs compute. -/
def entry (i : S2048x768.Idx) : EReal := ∑ b : Fin 8, act (aC m c (ix2 b (i 0))) * aD m c (ix2 b (i 1))

theorem idx (t : Fin cfg0.N) : win0_0.index t = ![0, 0] ∧ win0_1.index t = ![0, 0] ∧ win0_2.index t = ![0, 0] := by
  revert t
  decide +kernel

theorem blkC (t : Fin cfg0.N) (j : Fin 2048) (b : Fin 8) : iblk m c 0 t (ix2 j b) = aC m c (ix2 b j) := by
  blk_point [iblk, V, idx t]
  done

theorem blkD (t : Fin cfg0.N) (b : Fin 8) (l : Fin 768) : iblk m c 1 t (ix2 b l) = aD m c (ix2 b l) := by
  blk_point [iblk, V, idx t]
  done

theorem out_at (C : FVec Ideal S2048x8 .f32) (D : FVec Ideal S8x768 .f32) (j : Fin 2048) (l : Fin 768) :
    out0_2 (F := Ideal) C D (ix2 j l) = ∑ b : Fin 8, act (C (ix2 j b)) * D (ix2 b l) := by
  rw [Fin.sum_univ_eight]
  unfold out0_2
  frame_out
  pointwise [k0_pay1, k0_pay3, k0_pay4, k0_pay5]
  simp only [act_at]

theorem final2 : (dats m 0 c).arrAt 2 (cfgs 0).N = entry m c := by
  refine (dats m 0 c).arrAt_eq_of_covers 2 _ (by decide +kernel) fun t _ y => ?_
  blk_simp
  rw [after0_2]
  have hy : y = (ix2 (y 0 : Fin 2048) (y 1 : Fin 768) : S2048x768.Idx) := by blk_ext
  have he : ((cfg0.win 2).blk t).view.emb y = (ix2 (y 0) (y 1) : S2048x768.Idx) := by
    blk_ext [idx t]
  refine (congrArg (out0_2 (iblk m c 0 t) (iblk m c 1 t)) hy).trans ((out_at _ _ (y 0) (y 1)).trans (Eq.trans ?_ (congrArg (entry m c) he.symm)))
  exact Finset.sum_congr rfl fun b _ => congrArg₂ (fun x y : EReal => act x * y) (blkC m c t (y 0) b) (blkD m c t b (y 1))

theorem algebraic : Cert.algebraic_AdawIdeal_AdawRefIdeal := by
  intro m g m' g' _ hag
  refine ⟨fun c => (dats m 0 c).arrAt 2 cfg0.N, Cert.AdawIdeal.Value.run_blocks m g, ?_⟩
  refine (θ_run Cert.AdawRefIdeal.defs _ _).mono (fun r h c => ?_) (Cert.AdawRefIdeal.Value.run (F := Ideal) m' g')
  obtain ⟨r0, h⟩ := h c
  obtain ⟨a0, a1⟩ := hag c
  refine ⟨r0.trans ?_, h⟩
  rw [Cert.AdawRefIdeal.Read.val_main_v4_eq, a0, a1]
  refine Eq.trans (funext fun i => ?_) (final2 m c).symm
  rw [eq_ix2 i]
  exact ref_at _ _ (i 0) (i 1)

end Cert.AdawClaim
-- ==== Proof.FwdMath.lean ====
/-
  A row of causal attention, keys in blocks of 512: the running maximum and the running sums stand for the keys passed,
  whatever real number the maximum is.
-/
module

public import proofs.«01_k».proof.Proof.FlashMath

@[expose] public section

noncomputable section

namespace Cert.FwdMath

open Idealize.ShloMosaic Cert.Finite Cert.FlashMath

variable (q k : Heads 192) (v : Heads 128) (h : Fin 8) (n : Fin 8192)

/-- The values, with ones beside them: the ones add up the exponentials. -/
def ones (x : Fin 8192) (d : Fin 256) : ℝ := if hd : d.val < 128 then v x h ⟨d.val, hd⟩ else 1

/-- What key number `x` adds to column `d`. -/
def term (M : ℝ) (d : Fin 256) (x : ℕ) : ℝ := if hx : x < 8192 then shifted q k h n ⟨x, hx⟩ M * ones v h ⟨x, hx⟩ d else 0

/-- A maximum and sums that stand for the first `N` keys. -/
def Holds (N : ℕ) (m : EReal) (a : Fin 256 → EReal) : Prop :=
  (N = 0 ∧ m = ⊥ ∧ ∀ d, a d = 0)
    ∨ ∃ M : ℝ, m = (M : EReal) ∧ ∀ d, a d = ((∑ x ∈ Finset.range N, term q k v h n (M * Real.log 2) d x : ℝ) : EReal)

theorem exp2_shift (s M : ℝ) : Ideal.exp2 ((s : EReal) - (M : EReal)) = ((Real.exp ((s - M) * Real.log 2) : ℝ) : EReal) := by
  rw [← EReal.coe_sub, Ideal.exp2_coe]
  exact congrArg Real.toEReal ((Real.rpow_def_of_pos (by norm_num) _).trans (congrArg Real.exp (mul_comm _ _)))

/-- The exponential to base 2 of a masked score over a shift. -/
theorem exp2_masked (x : Fin 8192) (M : ℝ) :
    Ideal.exp2 ((if x ≤ n then ((score q k h n x / Real.log 2 : ℝ) : EReal) else ⊥) - (M : EReal))
      = ((shifted q k h n x (M * Real.log 2) : ℝ) : EReal) := by
  unfold shifted
  split_ifs
  · rw [exp2_shift, sub_mul, div_mul_cancel₀ _ ln2_pos.ne']
  · rw [EReal.bot_sub, Ideal.exp2_bot]; rfl

theorem term_shift (M M' : ℝ) (d : Fin 256) (x : ℕ) :
    Real.exp ((M - M') * Real.log 2) * term q k v h n (M * Real.log 2) d x = term q k v h n (M' * Real.log 2) d x := by
  unfold term
  split_ifs
  · rw [shifted_eq q k h n _ (M * Real.log 2), shifted_eq q k h n _ (M' * Real.log 2),
      show (M - M') * Real.log 2 = M * Real.log 2 + -(M' * Real.log 2) by ring, Real.exp_add]
    have e : Real.exp (M * Real.log 2) * Real.exp (-(M * Real.log 2)) = 1 := by rw [← Real.exp_add, add_neg_cancel, Real.exp_zero]
    generalize shifted q k h n _ 0 = s
    linear_combination (s * Real.exp (-(M' * Real.log 2)) * ones v h _ d) * e
  · exact mul_zero _

/-- A block of 512 keys, its first key not after the query, folded in. -/
theorem Holds.step {N : ℕ} {m m' : EReal} {a a' : Fin 256 → EReal} (hN : N + 512 ≤ 8192) (hn : N ≤ n.val) (s : Fin 512 → EReal)
    (V : Fin 512 → Fin 256 → EReal)
    (hs : ∀ b : Fin 512, s b = if N + b.val ≤ n.val then ((score q k h n ⟨N + b.val, by omega⟩ / Real.log 2 : ℝ) : EReal) else ⊥)
    (hV : ∀ (b : Fin 512) d, V b d = ((ones v h ⟨N + b.val, by omega⟩ d : ℝ) : EReal))
    (hm : m' = max m (Finset.univ.fold max ⊥ s))
    (ha : ∀ d, a' d = Ideal.exp2 (m - m') * a d + ∑ b, Ideal.exp2 (s b - m') * V b d)
    (H : Holds q k v h n N m a) : Holds q k v h n (N + 512) m' a' := by
  have hm' : ∃ M' : ℝ, m' = (M' : EReal) := by
    obtain ⟨B, hB⟩ := fold_max_real Finset.univ s (fun b _ => by rw [hs]; split_ifs; exacts [EReal.coe_lt_top _, bot_lt_top])
      ⟨0, by norm_num⟩ (Finset.mem_univ _) (by rw [hs, if_pos (show N + 0 ≤ n.val from hn)]; exact EReal.bot_lt_coe _)
    rw [hm, hB]
    rcases H with ⟨-, rfl, -⟩ | ⟨M, rfl, -⟩
    · exact ⟨B, max_bot_left _⟩
    · exact ⟨max M B, (EReal.coe_strictMono.monotone.map_max).symm⟩
  obtain ⟨M', rfl⟩ := hm'
  refine Or.inr ⟨M', rfl, fun d => ?_⟩
  have hb : ∑ b, Ideal.exp2 (s b - (M' : EReal)) * V b d = ((∑ b ∈ Finset.range 512, term q k v h n (M' * Real.log 2) d (N + b) : ℝ) : EReal) := by
    rw [Finset.sum_range, ← coe_sum]
    refine Finset.sum_congr rfl fun b _ => ?_
    rw [hs, hV]
    refine (congrArg (· * _) (exp2_masked q k h n ⟨N + b.val, by omega⟩ M')).trans ?_
    rw [← EReal.coe_mul, term, dif_pos (show N + b.val < 8192 by omega)]
  rw [ha, hb, Finset.sum_range_add, EReal.coe_add]
  refine congrArg (· + _) ?_
  rcases H with ⟨rfl, rfl, h0⟩ | ⟨M, rfl, h0⟩
  · rw [h0, mul_zero, Finset.sum_range_zero, EReal.coe_zero]
  · rw [h0, exp2_shift, ← EReal.coe_mul, Finset.mul_sum]
    exact congrArg Real.toEReal (Finset.sum_congr rfl fun x _ => term_shift q k v h n M M' d x)

/-- With every key up to the query passed, the sums are over all keys. -/
theorem sum_all (N : ℕ) (hN : N ≤ 8192) (hn : n.val < N) (M : ℝ) (d : Fin 256) :
    ∑ x ∈ Finset.range N, term q k v h n M d x = ∑ x : Fin 8192, shifted q k h n x M * ones v h x d := by
  rw [Finset.sum_subset (Finset.range_subset_range.2 hN), Finset.sum_range]
  · exact Finset.sum_congr rfl fun x _ => dif_pos x.isLt
  · intro x hx hx'
    rw [Finset.mem_range] at hx hx'
    rw [term, dif_pos hx, shifted, if_neg (fun e => hx' (lt_of_le_of_lt (Fin.le_def.1 e) hn)), zero_mul]

/-- The row's output -/
def outR (d : Fin 128) : ℝ := ∑ x, prob q k h n x * v x h d
/-- and log-sum to base 2. -/
def lseR : ℝ := Real.log (mass q k h n 0) / Real.log 2

theorem outR_eq (M : ℝ) (d : Fin 128) : (∑ x, shifted q k h n x M * v x h d) / mass q k h n M = outR q k v h n d := by
  rw [outR, Finset.sum_div]
  refine Finset.sum_congr rfl fun x _ => ?_
  rw [← prob_shift q k h n x M]
  ring

theorem lseR_eq (M : ℝ) : (M + Real.log (mass q k h n M)) / Real.log 2 = lseR q k h n := by
  rw [lseR, mass_eq, Real.log_mul (mass_pos q k h n 0).ne' (Real.exp_pos _).ne', Real.log_exp]
  congr 1
  ring

section
variable {N : ℕ} {m : EReal} {a : Fin 256 → EReal}

theorem Holds.all (H : Holds q k v h n N m a) (hN : N ≤ 8192) (hn : n.val < N) :
    ∃ M : ℝ, m = (M : EReal)
      ∧ (∀ d : Fin 128, a ⟨d.val, by omega⟩ = ((∑ x, shifted q k h n x (M * Real.log 2) * v x h d : ℝ) : EReal))
      ∧ ∀ d : Fin 128, a ⟨128 + d.val, by omega⟩ = ((mass q k h n (M * Real.log 2) : ℝ) : EReal) := by
  rcases H with ⟨rfl, -⟩ | ⟨M, hM, h0⟩
  · exact absurd hn (Nat.not_lt_zero _)
  · refine ⟨M, hM, fun d => ?_, fun d => ?_⟩
    · rw [h0, sum_all q k v h n N hN hn]
      exact congrArg Real.toEReal (Finset.sum_congr rfl fun x _ => by rw [ones, dif_pos d.isLt])
    · rw [h0, sum_all q k v h n N hN hn, mass]
      exact congrArg Real.toEReal (Finset.sum_congr rfl fun x _ => by rw [ones, dif_neg (by simp), mul_one])

/-- The quotient is the row's output -/
theorem Holds.out (H : Holds q k v h n N m a) (hN : N ≤ 8192) (hn : n.val < N) (d : Fin 128) :
    Ideal.div (a ⟨d.val, by omega⟩) (a ⟨128 + d.val, by omega⟩) = ((outR q k v h n d : ℝ) : EReal) := by
  obtain ⟨M, -, h1, h2⟩ := H.all q k v h n hN hn
  rw [h1, h2, div_coe _ _ (mass_pos ..).ne', outR_eq]

/-- and the maximum with the logarithm of the sum the row's log-sum. -/
theorem Holds.lse (H : Holds q k v h n N m a) (hN : N ≤ 8192) (hn : n.val < N) :
    m + Ideal.log (a ⟨128, by omega⟩) * (((Real.log 2)⁻¹ : ℝ) : EReal) = ((lseR q k h n : ℝ) : EReal) := by
  obtain ⟨M, rfl, -, h2⟩ := H.all q k v h n hN hn
  rw [show a ⟨128, by omega⟩ = _ from h2 ⟨0, by norm_num⟩, log_pos _ (mass_pos ..), ← EReal.coe_mul, ← EReal.coe_add,
    ← lseR_eq q k h n (M * Real.log 2)]
  refine congrArg Real.toEReal ?_
  have := ln2_pos.ne'
  field_simp
end

end Cert.FwdMath
-- ==== Proof.FwdPay.lean ====
/-
  One block of keys in the attention forward body: the scores, masked or not, the running maximum and the running sums
  after it, at an index; and every block's lines are these.
-/
module

public import proofs.«01_k».proof.Proof.Gen.FwdIdeal.Value
public import proofs.«01_k».proof.Proof.FwdMath
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Tactic

namespace Cert.FwdIdeal.Body

open Cert.FwdIdeal Cert.FwdIdeal.Gen Cert.FlashMath Cert.FwdMath

/-! ### The mask -/

theorem masked : Named.named (F := Ideal) κ "masked" (φ := .f32) 0xF149F2CA#32 = ⊥ := IdealRules.named_const.ideal_named_scalar _ _ _ _ rfl
theorem log2e : Named.named (F := Ideal) κ "log2e" (φ := .f32) 0x3FB8AA3B#32 = (((Real.log 2)⁻¹ : ℝ) : EReal) :=
  IdealRules.named_const.ideal_named_scalar _ _ _ _ rfl

theorem key0 : ∀ b : Fin 512, (IntOp.addi (BitVec.ofNat 32 b.val) 0#32).toInt = (b.val : ℤ) := by decide +kernel
theorem key256 : ∀ b : Fin 512, (IntOp.addi (BitVec.ofNat 32 b.val) 4294967040#32).toInt = (b.val : ℤ) - 256 := by decide +kernel
theorem row_toInt : ∀ r : Fin 256, (BitVec.ofNat 32 r.val).toInt = (r.val : ℤ) := by decide +kernel

theorem select_toInt (x y : BitVec 32) (p : Prop) [Decidable p] (h : x.toInt ≤ y.toInt ↔ p) (u w : EReal) :
    Scalar.select (IntOp.cmpi CmpIPredicate.sle x y) u w = if p then u else w := by
  by_cases hp : p
  · simp [Scalar.select, IntOp.cmpi, BitVec.sle_eq_decide, h, hp]
  · simp [Scalar.select, IntOp.cmpi, BitVec.sle_eq_decide, h, hp]

/-! ### A block's lines at an index -/

section Lines

variable (Q : FVec Ideal S256x256 .bf16) (K V : Vec Ideal S1x512x256 .bf16) (m : FVec Ideal S256x1 .f32) (a : FVec Ideal S256x256 .f32)
  (s : FVec Ideal S256x512 .f32)

theorem score_at (r : Fin 256) (b : Fin 512) : k0_pay2 (F := Ideal) Q K (ix2 r b) = ∑ x : Fin 256, Q (ix2 r x) * K (ix3 0 b x) := by
  pointwise [k0_pay2]

theorem top_at (r : Fin 256) : k0_pay63 (F := Ideal) m s (ix2 r 0) = max (m (ix2 r 0)) (Finset.univ.fold max ⊥ fun b => s (ix2 r b)) := by
  pointwise [k0_pay63]
  rw [ofBits_ninf]

theorem sums_at (r d : Fin 256) : k0_pay64 (F := Ideal) m a s V (ix2 r d)
    = Ideal.exp2 (m (ix2 r 0) - k0_pay63 (F := Ideal) m s (ix2 r 0)) * a (ix2 r d)
      + ∑ b : Fin 512, Ideal.exp2 (s (ix2 r b) - k0_pay63 (F := Ideal) m s (ix2 r 0)) * V (ix3 0 b d) := by
  pointwise [k0_pay64]
  rfl

theorem mask_at (r : Fin 256) (b : Fin 512) : k0_pay79 (F := Ideal) Q K (ix2 r b)
    = if b.val ≤ r.val then ∑ x : Fin 256, Q (ix2 r x) * K (ix3 0 b x) else ⊥ := by
  pointwise [k0_pay79]
  rw [masked]
  exact select_toInt _ _ _ (by rw [key0, row_toInt]; omega) _ _

theorem mask256_at (r : Fin 256) (b : Fin 512) : k0_pay65 (F := Ideal) Q K (ix2 r b)
    = if b.val ≤ 256 + r.val then ∑ x : Fin 256, Q (ix2 r x) * K (ix3 0 b x) else ⊥ := by
  pointwise [k0_pay65]
  rw [masked]
  exact select_toInt _ _ _ (by rw [key256, row_toInt]; omega) _ _

/-- The quotient of the two halves -/
theorem quot_at (r : Fin 256) (d : Fin 128) :
    k0_pay86 (F := Ideal) a (ix2 r d) = Ideal.div (a (ix2 r ⟨d.val, by omega⟩)) (a (ix2 r ⟨128 + d.val, by omega⟩)) := by
  pointwise [k0_pay86, k0_pay85]

/-- and the row's log-sum, laid along the last axis. -/
theorem logsum_at (r : Fin 256) : k0_pay88 (F := Ideal) (k0_pay87 m a) (ix3 0 0 r)
    = m (ix2 r 0) + Ideal.log (a (ix2 r ⟨128, by omega⟩)) * (((Real.log 2)⁻¹ : ℝ) : EReal) := by
  pointwise [k0_pay88, k0_pay87, k0_pay85]
  rw [log2e]

theorem first_at (r : Fin 256) : k0_pay54 (F := Ideal) (ix2 r 0) = ⊥ := by
  pointwise [k0_pay54]
  exact masked
theorem zero_at (r d : Fin 256) : k0_pay55 (F := Ideal) (ix2 r d) = 0 := by
  pointwise [k0_pay55]

end Lines

/-! ### Every block's lines are these -/

section Same

variable (Q : FVec Ideal S256x256 .bf16) (q : Vec Ideal S1x256x256 .bf16) (K V : Vec Ideal S1x512x256 .bf16) (m : FVec Ideal S256x1 .f32)
  (a : FVec Ideal S256x256 .f32)

/-- The running maximum and sums after a block of scores. -/
abbrev next (p : FVec Ideal S256x1 .f32 × FVec Ideal S256x256 .f32) (s : FVec Ideal S256x512 .f32) (V : Vec Ideal S1x512x256 .bf16) :
    FVec Ideal S256x1 .f32 × FVec Ideal S256x256 .f32 := (k0_pay63 p.1 s, k0_pay64 p.1 p.2 s V)

variable (p : FVec Ideal S256x1 .f32 × FVec Ideal S256x256 .f32)

theorem two0 (K' V' : Vec Ideal S1x512x256 .bf16) :
    (k0_pay18 Q (k0_pay3 Q m K) K', k0_pay19 Q (k0_pay3 Q m K) (k0_pay4 Q m a K V) K' V')
      = next (next (m, a) (k0_pay2 Q K) V) (k0_pay2 Q K') V' := rfl
theorem two1 (K' V' : Vec Ideal S1x512x256 .bf16) :
    (k0_pay21 Q (k0_pay6 Q m K) K', k0_pay22 Q (k0_pay6 Q m K) (k0_pay9 a (k0_pay7 Q m K) (k0_pay8 Q m K) V) K' V')
      = next (next (m, a) (k0_pay2 Q K) V) (k0_pay2 Q K') V' := rfl
theorem two2 (K' V' : Vec Ideal S1x512x256 .bf16) :
    (k0_pay24 Q (k0_pay11 Q m K) K', k0_pay25 Q (k0_pay11 Q m K) (k0_pay12 Q m a K V) K' V')
      = next (next (m, a) (k0_pay2 Q K) V) (k0_pay2 Q K') V' := rfl
theorem two3 (K' V' : Vec Ideal S1x512x256 .bf16) :
    (k0_pay57 q (k0_pay15 m (k0_pay14 (k0_pay53 q) K)) K',
        k0_pay58 q (k0_pay15 m (k0_pay14 (k0_pay53 q) K)) (k0_pay16 m a (k0_pay13 (k0_pay53 q) K) (k0_pay14 (k0_pay53 q) K) V) K' V')
      = next (next (m, a) (k0_pay2 (k0_pay53 q) K) V) (k0_pay2 (k0_pay53 q) K') V' := rfl

end Same

end Cert.FwdIdeal.Body
-- ==== Proof.FwdTrip.lean ====
/-
  The loop over the key blocks below the diagonal: each of the four row groups carries a maximum and sums, and a trip
  takes two blocks of 512 keys.
-/
module

public import proofs.«01_k».proof.Proof.FwdPay
public import Idealize.ShloMosaic.Lib.WholeRead

@[expose] public section

set_option maxRecDepth 16384

noncomputable section

open Idealize.ShloMosaic Idealize.ShloMosaic.TcCoe Idealize.SL.Sem
open Idealize.ShloMosaic.Tactic
open Idealize.ShloMosaic.Pipeline (Dat)

namespace Cert.FwdIdeal.Body

open Cert.FwdIdeal Cert.FwdIdeal.Gen Cert.FlashMath Cert.FwdMath

/-- A load of rows from `lo` on. -/
theorem rows_at {N D n lo : ℕ} (X : (⟨3, ![1, N, D]⟩ : Shape).Idx → EReal) (off : Fin 3 → ℕ)
    (inb : ∀ a, off a + (⟨3, ![1, n, D]⟩ : Shape).size a ≤ (⟨3, ![1, N, D]⟩ : Shape).size a) (ho : off = ![0, lo, 0]) (b : Fin n) (d : Fin D)
    (hb : lo + b.val < N) :
    X ((Rect.unit (s := ⟨3, ![1, N, D]⟩) off (⟨3, ![1, n, D]⟩ : Shape).size inb).toLoadRect.idx (ix3 0 b d)) = X (ix3 0 ⟨lo + b.val, hb⟩ d) := by
  subst ho
  refine congrArg X (funext fun a => Fin.ext ?_)
  fin_cases a <;> simp [LoadRect.idx, Rect.unit, ix3]

/-- What a row group carries: the rows' maxima and sums. -/
abbrev Pair := FVec Ideal S256x1 .f32 × FVec Ideal S256x256 .f32
/-- What the loop carries: the four groups'. -/
abbrev Four := FVec Ideal S256x1 .f32 × FVec Ideal S256x256 .f32 × FVec Ideal S256x1 .f32 × FVec Ideal S256x256 .f32
  × FVec Ideal S256x1 .f32 × FVec Ideal S256x256 .f32 × FVec Ideal S256x1 .f32 × FVec Ideal S256x256 .f32

abbrev pack (p0 p1 p2 p3 : Pair) : Four := (p0.1, p0.2, p1.1, p1.2, p2.1, p2.2, p3.1, p3.2)

/-! ### One block of keys -/

section Block

variable (q k : Heads 192) (v : Heads 128) (h : Fin 8)

/-- A group's pair stands, row by row from row `lo` on, for the first `N` keys. -/
def Stands (lo N : ℕ) (p : Pair) : Prop :=
  ∀ (r : Fin 256) (hr : lo + r.val < 8192), Holds q k v h ⟨lo + r.val, hr⟩ N (p.1 (ix2 r 0)) fun d => p.2 (ix2 r d)

variable {q k v h} {lo N : ℕ} {p : Pair} {s : FVec Ideal S256x512 .f32} {V : Vec Ideal S1x512x256 .bf16}

theorem Stands.next (H : Stands q k v h lo N p) (hN : N + 512 ≤ 8192) (hlo : N ≤ lo)
    (hs : ∀ (r : Fin 256) (b : Fin 512) (hr : lo + r.val < 8192), s (ix2 r b)
      = if N + b.val ≤ lo + r.val then ((score q k h ⟨lo + r.val, hr⟩ ⟨N + b.val, by omega⟩ / Real.log 2 : ℝ) : EReal) else ⊥)
    (hV : ∀ (b : Fin 512) d, V (ix3 0 b d) = ((ones v h ⟨N + b.val, by omega⟩ d : ℝ) : EReal)) :
    Stands q k v h lo (N + 512) (next p s V) := fun r hr =>
  Holds.step q k v h ⟨lo + r.val, hr⟩ hN (show N ≤ lo + r.val by omega) (fun b => s (ix2 r b)) (fun b d => V (ix3 0 b d)) (fun b => hs r b hr) hV
    (top_at p.1 s r) (fun d => sums_at V p.1 p.2 s r d) (H r hr)

/-! The blocks of a grid point: row `r` of the queries is row `1024 i + r`. -/

variable (q k v h)
variable (X2 : S1x1024x256.Idx → EReal) (X3 X4 : S1x8192x256.Idx → EReal) (i : ℕ)

/-- What the blocks hold. -/
structure Blocks : Prop where
  lt : i < 8
  scores : ∀ (r : Fin 1024) (hr : 1024 * i + r.val < 8192) (j : Fin 8192), ∑ x : Fin 256, X2 (ix3 0 r x) * X3 (ix3 0 j x)
    = ((score q k h ⟨1024 * i + r.val, hr⟩ j / Real.log 2 : ℝ) : EReal)
  values : ∀ (j : Fin 8192) (d : Fin 256), X4 (ix3 0 j d) = ((ones v h j d : ℝ) : EReal)

variable {q k v h X2 X3 X4 i}
variable {c : ℕ} {Q : FVec Ideal S256x256 .bf16} {K : Vec Ideal S1x512x256 .bf16}

/-- Group `c`'s queries. -/
def IsQ (X2 : S1x1024x256.Idx → EReal) (c : ℕ) (Q : FVec Ideal S256x256 .bf16) : Prop :=
  ∀ (r x : Fin 256) (hr : 256 * c + r.val < 1024), Q (ix2 r x) = X2 (ix3 0 ⟨256 * c + r.val, hr⟩ x)
/-- Rows of a block from row `N` on. -/
def IsRows (X : S1x8192x256.Idx → EReal) (N : ℕ) (K : Vec Ideal S1x512x256 .bf16) : Prop :=
  ∀ (b : Fin 512) (x : Fin 256) (hb : N + b.val < 8192), K (ix3 0 b x) = X (ix3 0 ⟨N + b.val, hb⟩ x)

theorem Blocks.dot (B : Blocks q k v h X2 X3 X4 i) (hc : c < 4) (hQ : IsQ X2 c Q) (hN : N + 512 ≤ 8192) (hK : IsRows X3 N K)
    (r : Fin 256) (b : Fin 512) (hr : 1024 * i + 256 * c + r.val < 8192) : ∑ x : Fin 256, Q (ix2 r x) * K (ix3 0 b x)
      = ((score q k h ⟨1024 * i + 256 * c + r.val, hr⟩ ⟨N + b.val, by omega⟩ / Real.log 2 : ℝ) : EReal) := by
  have e := B.scores ⟨256 * c + r.val, by omega⟩ (by show 1024 * i + (256 * c + r.val) < 8192; omega) ⟨N + b.val, by omega⟩
  rw [Finset.sum_congr rfl fun x _ => by rw [hQ r x (by omega), hK b x (by omega)], e]
  simp only [Nat.add_assoc]

theorem Blocks.full (B : Blocks q k v h X2 X3 X4 i) (hc : c < 4) (hQ : IsQ X2 c Q) (hK : IsRows X3 N K) (hV : IsRows X4 N V)
    (hN : N + 512 ≤ 1024 * i + 256 * c + 1) (H : Stands q k v h (1024 * i + 256 * c) N p) :
    Stands q k v h (1024 * i + 256 * c) (N + 512) (next p (k0_pay2 Q K) V) := by
  have := B.lt
  refine H.next (by omega) (by omega) (fun r b hr => ?_) fun b d => (hV b d (by omega)).trans (B.values _ _)
  rw [score_at, if_pos (by omega)]
  exact B.dot hc hQ (by omega) hK r b hr

theorem Blocks.edge (B : Blocks q k v h X2 X3 X4 i) (hc : c < 4) (hQ : IsQ X2 c Q) (hK : IsRows X3 N K) (hV : IsRows X4 N V)
    (hN : N + 512 ≤ 8192) (e : N = 1024 * i + 256 * c) (H : Stands q k v h (1024 * i + 256 * c) N p) :
    Stands q k v h (1024 * i + 256 * c) (N + 512) (next p (k0_pay79 Q K) V) := by
  have := B.lt
  refine H.next hN (by omega) (fun r b hr => ?_) fun b d => (hV b d (by omega)).trans (B.values _ _)
  rw [mask_at, B.dot hc hQ hN hK r b hr]
  exact if_congr (by omega) rfl rfl

theorem Blocks.edge256 (B : Blocks q k v h X2 X3 X4 i) (hc : c < 4) (hQ : IsQ X2 c Q) (hK : IsRows X3 N K) (hV : IsRows X4 N V)
    (hN : N + 512 ≤ 8192) (e : N + 256 = 1024 * i + 256 * c) (H : Stands q k v h (1024 * i + 256 * c) N p) :
    Stands q k v h (1024 * i + 256 * c) (N + 512) (next p (k0_pay65 Q K) V) := by
  have := B.lt
  refine H.next hN (by omega) (fun r b hr => ?_) fun b d => (hV b d (by omega)).trans (B.values _ _)
  rw [mask256_at, B.dot hc hQ hN hK r b hr]
  exact if_congr (by omega) rfl rfl

theorem Stands.first (lo : ℕ) : Stands q k v h lo 0 (k0_pay54 (F := Ideal), k0_pay55 (F := Ideal)) := fun r hr =>
  Or.inl ⟨rfl, first_at r, fun d => zero_at r d⟩

end Block

/-! ### The loop -/

variable (c : Dev nD) (i : grid0.Coords)
variable (a2 : Memref sig .tc .vmem S1x1024x256 .bf16) (h2 : a2.IsWhole) (a3 : Memref sig .tc .vmem S1x8192x256 .bf16) (h3 : a3.IsWhole)
variable (a4 : Memref sig .tc .vmem S1x8192x256 .bf16) (h4 : a4.IsWhole) (a5 : Memref sig .tc .vmem S1024x128 .bf16) (h5 : a5.IsWhole)
variable (a6 : Memref sig .tc .vmem S1x1x1024 .f32) (h6 : a6.IsWhole)
variable (X2 : S1x1024x256.Idx → EReal) (X3 X4 : S1x8192x256.Idx → EReal)
variable (v0 v2 v4 v6 : Vec Ideal S1x256x256 .bf16)

/-- Two blocks of keys in a trip. -/
abbrev two (p : Pair) (Q : FVec Ideal S256x256 .bf16) (K V K' V' : Vec Ideal S1x512x256 .bf16) : Pair :=
  next (next p (k0_pay2 Q K) V) (k0_pay2 Q K') V'

section Trip

variable (f3 : BufTy.Contents (Elt Ideal) a3.view.ty) (f4 : BufTy.Contents (Elt Ideal) a4.view.ty)

/-- A trip's loads of keys or values. -/
abbrev part0 (a : Memref sig .tc .vmem S1x8192x256 .bf16) (f : BufTy.Contents (Elt Ideal) a.view.ty) (k : Fin (k0_t1_loop i).trips) : Vec Ideal S1x512x256 .bf16 :=
  a.view.readAt (Elt Ideal) (Rect.unit (s := S1x8192x256) (k0_off1 i k 0#32) S1x512x256.size (k0_off1_inb i k 0)).toLoadRect f
abbrev part1 (a : Memref sig .tc .vmem S1x8192x256 .bf16) (f : BufTy.Contents (Elt Ideal) a.view.ty) (k : Fin (k0_t1_loop i).trips) : Vec Ideal S1x512x256 .bf16 :=
  a.view.readAt (Elt Ideal) (Rect.unit (s := S1x8192x256) (k0_off1 i k 1#32) S1x512x256.size (k0_off1_inb i k 1)).toLoadRect f

abbrev run := st_k0_t1 (F := Ideal) Variants.none c none i a2 h2 a3 h3 a4 h4 a5 h5 a6 h6 v0 v2 v4 v6 f3 f4
  (pack (k0_pay54, k0_pay55) (k0_pay54, k0_pay55) (k0_pay54, k0_pay55) (k0_pay54, k0_pay55))

theorem run_succ (k : Fin (k0_t1_loop i).trips) (p0 p1 p2 p3 : Pair)
    (hs : run c i a2 h2 a3 h3 a4 h4 a5 h5 a6 h6 v0 v2 v4 v6 f3 f4 k.val = pack p0 p1 p2 p3) :
    run c i a2 h2 a3 h3 a4 h4 a5 h5 a6 h6 v0 v2 v4 v6 f3 f4 (k.val + 1)
      = pack (two p0 (k0_pay50 v0) (part0 i a3 f3 k) (part0 i a4 f4 k) (part1 i a3 f3 k) (part1 i a4 f4 k))
          (two p1 (k0_pay51 v2) (part0 i a3 f3 k) (part0 i a4 f4 k) (part1 i a3 f3 k) (part1 i a4 f4 k))
          (two p2 (k0_pay52 v4) (part0 i a3 f3 k) (part0 i a4 f4 k) (part1 i a3 f3 k) (part1 i a4 f4 k))
          (two p3 (k0_pay53 v6) (part0 i a3 f3 k) (part0 i a4 f4 k) (part1 i a3 f3 k) (part1 i a4 f4 k)) := by
  refine (st_k0_t1_succ (F := Ideal) Variants.none c none i a2 h2 a3 h3 a4 h4 a5 h5 a6 h6 v0 v2 v4 v6 f3 f4 _ k).trans ?_
  refine (congrArg (tripR_k0_t1 (F := Ideal) Variants.none c none i a2 h2 a3 h3 a4 h4 a5 h5 a6 h6 v0 v2 v4 v6 f3 f4 k) hs).trans ?_
  unfold tripR_k0_t1 trip_k0_t1
  rfl

end Trip

variable {X2 X3 X4} {q k : Heads 192} {v : Heads 128} {h : Fin 8}

theorem rows0 (a : Memref sig .tc .vmem S1x8192x256 .bf16) (ha : a.IsWhole) (X : S1x8192x256.Idx → EReal) (k : Fin (k0_t1_loop i).trips) :
    IsRows X (1024 * k.val) (part0 i a (ha.unread X) k) := fun b x hb =>
  (Memref.IsWhole.readAt_unread (Val := Elt Ideal) ha X _ _).trans (rows_at X _ _ (k0_off1_eq i k 0) b x hb)
theorem rows1 (a : Memref sig .tc .vmem S1x8192x256 .bf16) (ha : a.IsWhole) (X : S1x8192x256.Idx → EReal) (k : Fin (k0_t1_loop i).trips) :
    IsRows X (1024 * k.val + 512) (part1 i a (ha.unread X) k) := fun b x hb =>
  (Memref.IsWhole.readAt_unread (Val := Elt Ideal) ha X _ _).trans (rows_at X _ _ (k0_off1_eq i k 1) b x hb)

/-- The four groups stand for the first `N` keys. -/
def AllStand (q k : Heads 192) (v : Heads 128) (h : Fin 8) (i N : ℕ) (p0 p1 p2 p3 : Pair) : Prop :=
  Stands q k v h (1024 * i + 256 * 0) N p0 ∧ Stands q k v h (1024 * i + 256 * 1) N p1 ∧ Stands q k v h (1024 * i + 256 * 2) N p2
    ∧ Stands q k v h (1024 * i + 256 * 3) N p3

/-- The groups' queries. -/
structure Queries (X2 : S1x1024x256.Idx → EReal) (v0 v2 v4 v6 : Vec Ideal S1x256x256 .bf16) : Prop where
  g0 : IsQ X2 0 (k0_pay50 v0)
  g1 : IsQ X2 1 (k0_pay51 v2)
  g2 : IsQ X2 2 (k0_pay52 v4)
  g3 : IsQ X2 3 (k0_pay53 v6)

theorem trips1 : ∀ i : grid0.Coords, (k0_t1_loop i).trips = (i 1).val := by decide +kernel
theorem trips2 : ∀ i : grid0.Coords, (k0_t2_loop i).trips = 0 := by decide +kernel

theorem run_stands (B : Blocks q k v h X2 X3 X4 (i 1).val) (hq : Queries X2 v0 v2 v4 v6) (n : ℕ) (hn : n ≤ (k0_t1_loop i).trips) :
    ∃ p0 p1 p2 p3 : Pair, run c i a2 h2 a3 h3 a4 h4 a5 h5 a6 h6 v0 v2 v4 v6 (h3.unread X3) (h4.unread X4) n = pack p0 p1 p2 p3
      ∧ AllStand q k v h (i 1).val (1024 * n) p0 p1 p2 p3 := by
  induction n with
  | zero => exact ⟨_, _, _, _, rfl, Stands.first _, Stands.first _, Stands.first _, Stands.first _⟩
  | succ n ih =>
    obtain ⟨p0, p1, p2, p3, hs, H0, H1, H2, H3⟩ := ih (by omega)
    have hn' : n < (i 1).val := by rw [trips1] at hn; omega
    have e : 1024 * (n + 1) = 1024 * n + 512 + 512 := by ring
    have step : ∀ (g : ℕ) (hg : g < 4) (p : Pair) (Q : FVec Ideal S256x256 .bf16), IsQ X2 g Q → Stands q k v h (1024 * (i 1).val + 256 * g) (1024 * n) p →
        Stands q k v h (1024 * (i 1).val + 256 * g) (1024 * (n + 1)) (two p Q (part0 i a3 (h3.unread X3) ⟨n, hn⟩) (part0 i a4 (h4.unread X4) ⟨n, hn⟩)
          (part1 i a3 (h3.unread X3) ⟨n, hn⟩) (part1 i a4 (h4.unread X4) ⟨n, hn⟩)) := fun g hg p Q hQ H => by
      rw [e]
      exact B.full hg hQ (rows1 i a3 h3 X3 ⟨n, hn⟩) (rows1 i a4 h4 X4 ⟨n, hn⟩) (by dsimp only; omega)
        (B.full hg hQ (rows0 i a3 h3 X3 ⟨n, hn⟩) (rows0 i a4 h4 X4 ⟨n, hn⟩) (by dsimp only; omega) H)
    exact ⟨_, _, _, _, run_succ c i a2 h2 a3 h3 a4 h4 a5 h5 a6 h6 v0 v2 v4 v6 _ _ ⟨n, hn⟩ p0 p1 p2 p3 hs,
      step 0 (by norm_num) _ _ hq.g0 H0, step 1 (by norm_num) _ _ hq.g1 H1, step 2 (by norm_num) _ _ hq.g2 H2, step 3 (by norm_num) _ _ hq.g3 H3⟩

end Cert.FwdIdeal.Body
-- ==== Proof.FwdPoint.lean ====
/-
  A grid point of the attention forward call: the blocks on the diagonal after the loop, and the two blocks the point
  leaves, in the mathematics' words.
-/
module

public import proofs.«01_k».proof.Proof.FwdTrip

@[expose] public section

set_option maxRecDepth 16384

noncomputable section

open Idealize.ShloMosaic Idealize.ShloMosaic.TcCoe Idealize.SL.Sem
open Idealize.ShloMosaic.Tactic
open Idealize.ShloMosaic.Pipeline (Dat)

namespace Cert.FwdIdeal.Body

open Cert.FwdIdeal Cert.FwdIdeal.Gen Cert.FlashMath Cert.FwdMath

variable (c : Dev nD) (i : grid0.Coords)
variable (a2 : Memref sig .tc .vmem S1x1024x256 .bf16) (h2 : a2.IsWhole) (a3 : Memref sig .tc .vmem S1x8192x256 .bf16) (h3 : a3.IsWhole)
variable (a4 : Memref sig .tc .vmem S1x8192x256 .bf16) (h4 : a4.IsWhole) (a5 : Memref sig .tc .vmem S1024x128 .bf16) (h5 : a5.IsWhole)
variable (a6 : Memref sig .tc .vmem S1x1x1024 .f32) (h6 : a6.IsWhole)
variable (X2 : S1x1024x256.Idx → EReal) (X3 X4 : S1x8192x256.Idx → EReal)

/-! ### The loads outside the loop -/

abbrev q0 : Vec Ideal S1x256x256 .bf16 :=
  a2.view.readAt (Elt Ideal) (Rect.unit (s := S1x1024x256) ![0, 0, 0] S1x256x256.size inb_S1x1024x256_S1x256x256_0_0_0).toLoadRect (h2.unread X2)
abbrev q1 : Vec Ideal S1x256x256 .bf16 :=
  a2.view.readAt (Elt Ideal) (Rect.unit (s := S1x1024x256) ![0, 256, 0] S1x256x256.size inb_S1x1024x256_S1x256x256_0_256_0).toLoadRect (h2.unread X2)
abbrev q2 : Vec Ideal S1x256x256 .bf16 :=
  a2.view.readAt (Elt Ideal) (Rect.unit (s := S1x1024x256) ![0, 512, 0] S1x256x256.size inb_S1x1024x256_S1x256x256_0_512_0).toLoadRect (h2.unread X2)
abbrev q3 : Vec Ideal S1x256x256 .bf16 :=
  a2.view.readAt (Elt Ideal) (Rect.unit (s := S1x1024x256) ![0, 768, 0] S1x256x256.size inb_S1x1024x256_S1x256x256_0_768_0).toLoadRect (h2.unread X2)
abbrev diag0 (a : Memref sig .tc .vmem S1x8192x256 .bf16) (h : a.IsWhole) (X : S1x8192x256.Idx → EReal) : Vec Ideal S1x512x256 .bf16 :=
  a.view.readAt (Elt Ideal) (Rect.unit (s := S1x8192x256) (k0_off3 i 0#32) S1x512x256.size (k0_off3_inb i 0)).toLoadRect (h.unread X)
abbrev diag1 (a : Memref sig .tc .vmem S1x8192x256 .bf16) (h : a.IsWhole) (X : S1x8192x256.Idx → EReal) : Vec Ideal S1x512x256 .bf16 :=
  a.view.readAt (Elt Ideal) (Rect.unit (s := S1x8192x256) (k0_off3 i 1#32) S1x512x256.size (k0_off3_inb i 1)).toLoadRect (h.unread X)

theorem unit_at (a : Vec Ideal S1x256x256 .bf16) (r x : Fin 256) : k0_pay50 (F := Ideal) a (ix2 r x) = a (ix3 0 r x) := by
  pointwise [k0_pay50]

theorem queries : Queries X2 (q0 a2 h2 X2) (q1 a2 h2 X2) (q2 a2 h2 X2) (q3 a2 h2 X2) where
  g0 r x hr := (unit_at _ r x).trans ((Memref.IsWhole.readAt_unread (Val := Elt Ideal) h2 X2 _ _).trans (rows_at X2 _ _ rfl r x hr))
  g1 r x hr := (unit_at _ r x).trans ((Memref.IsWhole.readAt_unread (Val := Elt Ideal) h2 X2 _ _).trans (rows_at X2 _ _ rfl r x hr))
  g2 r x hr := (unit_at _ r x).trans ((Memref.IsWhole.readAt_unread (Val := Elt Ideal) h2 X2 _ _).trans (rows_at X2 _ _ rfl r x hr))
  g3 r x hr := (unit_at _ r x).trans ((Memref.IsWhole.readAt_unread (Val := Elt Ideal) h2 X2 _ _).trans (rows_at X2 _ _ rfl r x hr))

theorem diag0_rows (a : Memref sig .tc .vmem S1x8192x256 .bf16) (h : a.IsWhole) (X : S1x8192x256.Idx → EReal) :
    IsRows X (1024 * (i 1).val) (diag0 i a h X) := fun b x hb =>
  (Memref.IsWhole.readAt_unread (Val := Elt Ideal) h X _ _).trans (rows_at X _ _ (k0_off3_eq i 0) b x hb)
theorem diag1_rows (a : Memref sig .tc .vmem S1x8192x256 .bf16) (h : a.IsWhole) (X : S1x8192x256.Idx → EReal) :
    IsRows X (1024 * (i 1).val + 512) (diag1 i a h X) := fun b x hb =>
  (Memref.IsWhole.readAt_unread (Val := Elt Ideal) h X _ _).trans (rows_at X _ _ (k0_off3_eq i 1) b x hb)

/-! ### The state after the loops, and after the diagonal -/

/-- The second loop passes no trip. -/
abbrev done : Four := st_k0_t2 (F := Ideal) Variants.none c none i a2 h2 a3 h3 a4 h4 a5 h5 a6 h6 (q0 a2 h2 X2) (q1 a2 h2 X2) (q2 a2 h2 X2) (q3 a2 h2 X2)
  (Scalar.addi 0#32 (Scalar.muli (Scalar.divsi (Scalar.subi (BitVec.ofNat 32 (i 1).val) 0#32) 1#32) 1#32)) (h3.unread X3) (h4.unread X4)
  (run c i a2 h2 a3 h3 a4 h4 a5 h5 a6 h6 (q0 a2 h2 X2) (q1 a2 h2 X2) (q2 a2 h2 X2) (q3 a2 h2 X2) (h3.unread X3) (h4.unread X4) (k0_t1_loop i).trips)
  (k0_t2_loop i).trips

/-- The four groups' pairs after the diagonal. -/
abbrev end0 (s : Four) : Pair := next (s.1, s.2.1) (k0_pay79 (k0_pay50 (q0 a2 h2 X2)) (diag0 i a3 h3 X3)) (diag0 i a4 h4 X4)
abbrev end1 (s : Four) : Pair := next (s.2.2.1, s.2.2.2.1) (k0_pay65 (k0_pay51 (q1 a2 h2 X2)) (diag0 i a3 h3 X3)) (diag0 i a4 h4 X4)
abbrev end2 (s : Four) : Pair := next (next (s.2.2.2.2.1, s.2.2.2.2.2.1) (k0_pay2 (k0_pay52 (q2 a2 h2 X2)) (diag0 i a3 h3 X3)) (diag0 i a4 h4 X4))
  (k0_pay79 (k0_pay52 (q2 a2 h2 X2)) (diag1 i a3 h3 X3)) (diag1 i a4 h4 X4)
abbrev end3 (s : Four) : Pair := next (next (s.2.2.2.2.2.2.1, s.2.2.2.2.2.2.2) (k0_pay2 (k0_pay53 (q3 a2 h2 X2)) (diag0 i a3 h3 X3)) (diag0 i a4 h4 X4))
  (k0_pay65 (k0_pay53 (q3 a2 h2 X2)) (diag1 i a3 h3 X3)) (diag1 i a4 h4 X4)

/-- The pieces stored into the output's block, -/
abbrev pieces3 (p0 p1 p2 p3 : Pair) : List (View.Piece (Elt Ideal) S1024x128 .bf16) :=
  [⟨Rect.unit (s := S1024x128) ![768, 0] S256x128.size inb_S1024x128_S256x128_768_0, k0_pay86 p3.2⟩,
    ⟨Rect.unit (s := S1024x128) ![512, 0] S256x128.size inb_S1024x128_S256x128_512_0, k0_pay86 p2.2⟩,
    ⟨Rect.unit (s := S1024x128) ![256, 0] S256x128.size inb_S1024x128_S256x128_256_0, k0_pay86 p1.2⟩,
    ⟨Rect.unit (s := S1024x128) ![0, 0] S256x128.size inb_S1024x128_S256x128_0_0, k0_pay86 p0.2⟩]
/-- and into the log-sums' block. -/
abbrev pieces4 (p0 p1 p2 p3 : Pair) : List (View.Piece (Elt Ideal) S1x1x1024 .f32) :=
  [⟨Rect.unit (s := S1x1x1024) ![0, 0, 768] S1x1x256.size inb_S1x1x1024_S1x1x256_0_0_768, k0_pay88 (k0_pay87 p3.1 p3.2)⟩,
    ⟨Rect.unit (s := S1x1x1024) ![0, 0, 512] S1x1x256.size inb_S1x1x1024_S1x1x256_0_0_512, k0_pay88 (k0_pay87 p2.1 p2.2)⟩,
    ⟨Rect.unit (s := S1x1x1024) ![0, 0, 256] S1x1x256.size inb_S1x1x1024_S1x1x256_0_0_256, k0_pay88 (k0_pay87 p1.1 p1.2)⟩,
    ⟨Rect.unit (s := S1x1x1024) ![0, 0, 0] S1x1x256.size inb_S1x1x1024_S1x1x256_0_0_0, k0_pay88 (k0_pay87 p0.1 p0.2)⟩]

theorem run_pieces3 : (kernelRun0_A (F := Ideal) c i a2 h2 a3 h3 a4 h4 a5 h5 a6 h6 X2 X3 X4).1
    = pieces3 (end0 i a2 h2 a3 h3 a4 h4 X2 X3 X4 (done c i a2 h2 a3 h3 a4 h4 a5 h5 a6 h6 X2 X3 X4))
        (end1 i a2 h2 a3 h3 a4 h4 X2 X3 X4 (done c i a2 h2 a3 h3 a4 h4 a5 h5 a6 h6 X2 X3 X4))
        (end2 i a2 h2 a3 h3 a4 h4 X2 X3 X4 (done c i a2 h2 a3 h3 a4 h4 a5 h5 a6 h6 X2 X3 X4))
        (end3 i a2 h2 a3 h3 a4 h4 X2 X3 X4 (done c i a2 h2 a3 h3 a4 h4 a5 h5 a6 h6 X2 X3 X4)) := by
  unfold kernelRun0_A
  rfl

theorem run_pieces4 : (kernelRun0_A (F := Ideal) c i a2 h2 a3 h3 a4 h4 a5 h5 a6 h6 X2 X3 X4).2.1
    = pieces4 (end0 i a2 h2 a3 h3 a4 h4 X2 X3 X4 (done c i a2 h2 a3 h3 a4 h4 a5 h5 a6 h6 X2 X3 X4))
        (end1 i a2 h2 a3 h3 a4 h4 X2 X3 X4 (done c i a2 h2 a3 h3 a4 h4 a5 h5 a6 h6 X2 X3 X4))
        (end2 i a2 h2 a3 h3 a4 h4 X2 X3 X4 (done c i a2 h2 a3 h3 a4 h4 a5 h5 a6 h6 X2 X3 X4))
        (end3 i a2 h2 a3 h3 a4 h4 X2 X3 X4 (done c i a2 h2 a3 h3 a4 h4 a5 h5 a6 h6 X2 X3 X4)) := by
  unfold kernelRun0_A
  sl_kernel_rfl

variable {X2 X3 X4} {q k : Heads 192} {v : Heads 128} {h : Fin 8}

/-- A group's pair stands for all the keys its rows see. -/
def Whole (q k : Heads 192) (v : Heads 128) (h : Fin 8) (lo : ℕ) (p : Pair) : Prop :=
  ∃ N, N ≤ 8192 ∧ lo + 256 ≤ N ∧ Stands q k v h lo N p

theorem done_whole (B : Blocks q k v h X2 X3 X4 (i 1).val) :
    Whole q k v h (1024 * (i 1).val + 256 * 0) (end0 i a2 h2 a3 h3 a4 h4 X2 X3 X4 (done c i a2 h2 a3 h3 a4 h4 a5 h5 a6 h6 X2 X3 X4))
      ∧ Whole q k v h (1024 * (i 1).val + 256 * 1) (end1 i a2 h2 a3 h3 a4 h4 X2 X3 X4 (done c i a2 h2 a3 h3 a4 h4 a5 h5 a6 h6 X2 X3 X4))
      ∧ Whole q k v h (1024 * (i 1).val + 256 * 2) (end2 i a2 h2 a3 h3 a4 h4 X2 X3 X4 (done c i a2 h2 a3 h3 a4 h4 a5 h5 a6 h6 X2 X3 X4))
      ∧ Whole q k v h (1024 * (i 1).val + 256 * 3) (end3 i a2 h2 a3 h3 a4 h4 X2 X3 X4 (done c i a2 h2 a3 h3 a4 h4 a5 h5 a6 h6 X2 X3 X4)) := by
  have hi := B.lt
  have hq := queries a2 h2 X2
  obtain ⟨p0, p1, p2, p3, hs, H0, H1, H2, H3⟩ := run_stands c i a2 h2 a3 h3 a4 h4 a5 h5 a6 h6 _ _ _ _ B hq (k0_t1_loop i).trips le_rfl
  have hd : done c i a2 h2 a3 h3 a4 h4 a5 h5 a6 h6 X2 X3 X4 = pack p0 p1 p2 p3 := (congrArg (st_k0_t2 (F := Ideal) Variants.none c none i a2 h2 a3 h3 a4 h4 a5 h5 a6 h6 _ _ _ _ _ _ _ _) (trips2 i)).trans hs
  rw [trips1] at H0 H1 H2 H3
  rw [hd]
  have k0 := diag0_rows i a3 h3 X3
  have k1 := diag1_rows i a3 h3 X3
  have w0 := diag0_rows i a4 h4 X4
  have w1 := diag1_rows i a4 h4 X4
  refine ⟨⟨_, ?_, ?_, B.edge (by norm_num) hq.g0 k0 w0 ?_ ?_ H0⟩, ⟨_, ?_, ?_, B.edge256 (by norm_num) hq.g1 k0 w0 ?_ ?_ H1⟩,
    ⟨_, ?_, ?_, B.edge (by norm_num) hq.g2 k1 w1 ?_ ?_ (B.full (by norm_num) hq.g2 k0 w0 ?_ H2)⟩,
    ⟨_, ?_, ?_, B.edge256 (by norm_num) hq.g3 k1 w1 ?_ ?_ (B.full (by norm_num) hq.g3 k0 w0 ?_ H3)⟩⟩ <;> omega

/-! ### What the point leaves -/

theorem row_out {lo : ℕ} {p : Pair} (H : Whole q k v h lo p) (r : Fin 256) (hr : lo + r.val < 8192) (d : Fin 128) :
    k0_pay86 (F := Ideal) p.2 (ix2 r d) = ((outR q k v h ⟨lo + r.val, hr⟩ d : ℝ) : EReal) := by
  obtain ⟨N, hN, hlo, S⟩ := H
  exact (quot_at p.2 r d).trans ((S r hr).out q k v h _ hN (by show lo + r.val < N; omega) d)
theorem row_lse {lo : ℕ} {p : Pair} (H : Whole q k v h lo p) (r : Fin 256) (hr : lo + r.val < 8192) :
    k0_pay88 (F := Ideal) (k0_pay87 p.1 p.2) (ix3 0 0 r) = ((lseR q k h ⟨lo + r.val, hr⟩ : ℝ) : EReal) := by
  obtain ⟨N, hN, hlo, S⟩ := H
  exact (logsum_at p.1 p.2 r).trans ((S r hr).lse q k v h _ hN (by show lo + r.val < N; omega))

section Pieces

variable {p0 p1 p2 p3 : Pair} {n : ℕ} (H0 : Whole q k v h (n + 256 * 0) p0) (H1 : Whole q k v h (n + 256 * 1) p1)
  (H2 : Whole q k v h (n + 256 * 2) p2) (H3 : Whole q k v h (n + 256 * 3) p3)

theorem piece_out {lo s : ℕ} {p : Pair} (H : Whole q k v h lo p) (r : Fin 1024) (d : Fin 128) (hr : n + r.val < 8192) (hl : n + s = lo)
    (x : S256x128.Idx) (h0 : r.val = s + (x 0 : Fin 256).val) (h1 : d.val = 0 + (x 1 : Fin 128).val) :
    k0_pay86 (F := Ideal) p.2 x = ((outR q k v h ⟨n + r.val, hr⟩ d : ℝ) : EReal) := by
  have hd : (x 1 : Fin 128) = d := Fin.ext (by omega)
  have e : x = ix2 (x 0 : Fin 256) (x 1 : Fin 128) := by blk_ext
  have hn : (⟨n + r.val, hr⟩ : Fin 8192) = ⟨lo + (x 0 : Fin 256).val, by omega⟩ := Fin.ext (by dsimp only; omega)
  rw [hn, ← hd]
  exact (congrArg _ e).trans (row_out H _ _ _)

theorem piece_lse {lo s : ℕ} {p : Pair} (H : Whole q k v h lo p) (r : Fin 1024) (hr : n + r.val < 8192) (hl : n + s = lo)
    (x : S1x1x256.Idx) (h0 : r.val = s + (x 2 : Fin 256).val) :
    k0_pay88 (F := Ideal) (k0_pay87 p.1 p.2) x = ((lseR q k h ⟨n + r.val, hr⟩ : ℝ) : EReal) := by
  have e : x = ix3 (0 : Fin 1) (0 : Fin 1) (x 2 : Fin 256) := by blk_ext
  have hn : (⟨n + r.val, hr⟩ : Fin 8192) = ⟨lo + (x 2 : Fin 256).val, by omega⟩ := Fin.ext (by dsimp only; omega)
  rw [hn]
  exact (congrArg _ e).trans (row_lse H _ _)

include H0 H1 H2 H3

theorem pieces3_at (r : Fin 1024) (d : Fin 128) (hr : n + r.val < 8192) :
    View.canon (pieces3 p0 p1 p2 p3) (ix2 r d) = ((outR q k v h ⟨n + r.val, hr⟩ d : ℝ) : EReal) := by
  refine View.canon_eq_of_allAt _ _ _ (View.cover_of_tiledL _ ![256, 128] (by sl_kernel_rfl) _) ?_
  exact View.allAt_cons_unit _ _ _ _ _ (fun x hx => piece_out H3 r d hr rfl x (hx 0) (hx 1))
    (View.allAt_cons_unit _ _ _ _ _ (fun x hx => piece_out H2 r d hr rfl x (hx 0) (hx 1))
      (View.allAt_cons_unit _ _ _ _ _ (fun x hx => piece_out H1 r d hr rfl x (hx 0) (hx 1))
        (View.allAt_cons_unit _ _ _ _ _ (fun x hx => piece_out H0 r d hr rfl x (hx 0) (hx 1)) (View.allAt_nil _ _))))

theorem pieces4_at (r : Fin 1024) (hr : n + r.val < 8192) :
    View.canon (pieces4 p0 p1 p2 p3) (ix3 0 0 r) = ((lseR q k h ⟨n + r.val, hr⟩ : ℝ) : EReal) := by
  refine View.canon_eq_of_allAt _ _ _ (View.cover_of_tiledL _ ![1, 1, 256] (by sl_kernel_rfl) _) ?_
  exact View.allAt_cons_unit _ _ _ _ _ (fun x hx => piece_lse H3 r hr rfl x (hx 2))
    (View.allAt_cons_unit _ _ _ _ _ (fun x hx => piece_lse H2 r hr rfl x (hx 2))
      (View.allAt_cons_unit _ _ _ _ _ (fun x hx => piece_lse H1 r hr rfl x (hx 2))
        (View.allAt_cons_unit _ _ _ _ _ (fun x hx => piece_lse H0 r hr rfl x (hx 2)) (View.allAt_nil _ _))))

end Pieces

theorem out3_at (B : Blocks q k v h X2 X3 X4 (i 1).val) (r : Fin 1024) (d : Fin 128) (hr : 1024 * (i 1).val + r.val < 8192) :
    out0_A_3 (F := Ideal) c i a2 h2 a3 h3 a4 h4 a5 h5 a6 h6 X2 X3 X4 (ix2 r d) = ((outR q k v h ⟨1024 * (i 1).val + r.val, hr⟩ d : ℝ) : EReal) := by
  obtain ⟨H0, H1, H2, H3⟩ := done_whole c i a2 h2 a3 h3 a4 h4 a5 h5 a6 h6 B
  unfold out0_A_3
  rw [View.read_writes_eq_canon _ _ _ (cover0_A_3 (F := Ideal) c i a2 h2 a3 h3 a4 h4 a5 h5 a6 h6 X2 X3 X4), run_pieces3]
  exact pieces3_at H0 H1 H2 H3 r d hr

theorem out4_at (B : Blocks q k v h X2 X3 X4 (i 1).val) (r : Fin 1024) (hr : 1024 * (i 1).val + r.val < 8192) :
    out0_A_4 (F := Ideal) c i a2 h2 a3 h3 a4 h4 a5 h5 a6 h6 X2 X3 X4 (ix3 0 0 r) = ((lseR q k h ⟨1024 * (i 1).val + r.val, hr⟩ : ℝ) : EReal) := by
  obtain ⟨H0, H1, H2, H3⟩ := done_whole c i a2 h2 a3 h3 a4 h4 a5 h5 a6 h6 B
  unfold out0_A_4
  rw [View.read_writes_eq_canon _ _ _ (cover0_A_4 (F := Ideal) c i a2 h2 a3 h3 a4 h4 a5 h5 a6 h6 X2 X3 X4), run_pieces4]
  exact pieces4_at H0 H1 H2 H3 r hr

end Cert.FwdIdeal.Body
-- ==== Proof.FwdArray.lean ====
/-
  The two arrays the attention forward call leaves: the output and the rows' log-sums, of real arguments.
-/
module

public import proofs.«01_k».proof.Proof.FwdPoint
public import proofs.«01_k».proof.Proof.FlashSaved

@[expose] public section

set_option maxRecDepth 16384

noncomputable section

open Idealize.ShloMosaic Idealize.ShloMosaic.TcCoe Idealize.SL.Sem
open Idealize.ShloMosaic.Tactic
open Idealize.ShloMosaic.Pipeline (Dat)

namespace Cert.FwdIdeal.Body

open Cert.FwdIdeal Cert.FwdIdeal.Gen Cert.FlashMath Cert.FwdMath Cert.Finite

/-! ### The host's lines -/

/-- Columns of zeros behind a head's columns, -/
def wide (x : FVec Ideal S8x8192x192 .f32) : FVec Ideal S8x8192x256 .f32 :=
  pad S8x8192x256 ![0, 0, 0] ![0, 0, 64] ![0, 0, 0] x (sitofp (F := Ideal) .f32 (constantI S_ 32 0#32)) pads_S8x8192x192_S8x8192x256_000_000_0640 h_S_
/-- the queries scaled, in units of the logarithm of 2, -/
def lineQ (x : FVec Ideal S8192x8x192 .f32) : FVec Ideal S8x8192x256 .f32 :=
  wide (transpose S8x8192x192 [1, 0, 2] (mulf x (broadcastInDim S8192x8x192 ![] bcast_S_S8192x8x192
    (Host.divf (F := Ideal) (constant (F := Ideal) S_ FTy.f32 0x3D93CD3A#32) (Host.log (F := Ideal) (constant (F := Ideal) S_ FTy.f32 0x40000000#32)))))
    transposes_S8192x8x192_S8x8192x192_1_0_2)
/-- the keys, -/
def lineK (x : FVec Ideal S8192x8x192 .f32) : FVec Ideal S8x8192x256 .f32 :=
  wide (transpose S8x8192x192 [1, 0, 2] x transposes_S8192x8x192_S8x8192x192_1_0_2)
/-- the values with ones beside them. -/
def lineV (x : FVec Ideal S8192x8x128 .f32) : FVec Ideal S8x8192x256 .f32 :=
  concatenate S8x8192x256 2 [⟨S8x8192x128, transpose S8x8192x128 [1, 0, 2] x transposes_S8192x8x128_S8x8192x128_1_0_2⟩,
    ⟨S8x8192x128, broadcastInDim S8x8192x128 ![] bcast_S_S8x8192x128 (constant (F := Ideal) S_ .f32 0x3F800000#32)⟩]
    concatenates_S8x8192x128_S8x8192x128_S8x8192x256_d2

section Entry

variable (m : (ℓ : Loc nD τ sig) → Buf (Elt Ideal) ℓ) (c : Dev nD)

/-- The arguments as launched. -/
abbrev argQ : FVec Ideal S8192x8x192 .f32 := m ((c : Thread nD τ).loc main_arg0)
abbrev argK : FVec Ideal S8192x8x192 .f32 := m ((c : Thread nD τ).loc main_arg1)
abbrev argV : FVec Ideal S8192x8x128 .f32 := m ((c : Thread nD τ).loc main_arg2)

/-- The arrays the call is given. -/
def bQ : Vec Ideal S8x8192x256 .bf16 := V m c main_v6
def bK : Vec Ideal S8x8192x256 .bf16 := V m c main_v9
def bV : Vec Ideal S8x8192x256 .bf16 := V m c main_v13

theorem bQ_eq : bQ m c = truncf .bf16 (lineQ (argQ m c)) bitsLt_bf16_f32 := by
  unfold bQ
  after_reads_simp
  rfl
theorem bK_eq : bK m c = truncf .bf16 (lineK (argK m c)) bitsLt_bf16_f32 := by
  unfold bK
  after_reads_simp
  rfl
theorem bV_eq : bV m c = truncf .bf16 (lineV (argV m c)) bitsLt_bf16_f32 := by
  unfold bV
  after_reads_simp
  rfl

end Entry

section Lines

variable (q k : Heads 192) (v : Heads 128) (h : Fin 8) (n : Fin 8192)

theorem lineQ_at {x : FVec Ideal S8192x8x192 .f32} (hx : ∀ n h d, x (ix3 n h d) = ((q n h d : ℝ) : EReal)) (d : Fin 256) :
    lineQ x (ix3 h n d) = if hd : d.val < 192 then ((q n h ⟨d.val, hd⟩ * (scale / Real.log 2) : ℝ) : EReal) else 0 := by
  pointwise [lineQ, wide]
  rw [FlashIdeal.Host.sitofp_zero, log_two, ofBits_scale]
  split_ifs
  · rw [hx, div_coe _ _ ln2_pos.ne', ← EReal.coe_mul]
  · rfl

theorem lineK_at {x : FVec Ideal S8192x8x192 .f32} (hx : ∀ n h d, x (ix3 n h d) = ((k n h d : ℝ) : EReal)) (d : Fin 256) :
    lineK x (ix3 h n d) = if hd : d.val < 192 then ((k n h ⟨d.val, hd⟩ : ℝ) : EReal) else 0 := by
  pointwise [lineK, wide]
  rw [FlashIdeal.Host.sitofp_zero]
  split_ifs
  · rw [hx]
  · rfl

theorem lineV_at {x : FVec Ideal S8192x8x128 .f32} (hx : ∀ n h d, x (ix3 n h d) = ((v n h d : ℝ) : EReal)) (d : Fin 256) :
    lineV x (ix3 h n d) = ((ones v h n d : ℝ) : EReal) := by
  pointwise [lineV]
  unfold ones
  split_ifs
  · exact hx _ _ _
  · rfl

/-- The scores, of rows of queries and keys. -/
theorem rows_dot {Q K : Fin 256 → EReal} {a : Fin 8192}
    (hQ : ∀ d, Q d = if hd : d.val < 192 then ((q n h ⟨d.val, hd⟩ * (scale / Real.log 2) : ℝ) : EReal) else 0)
    (hK : ∀ d, K d = if hd : d.val < 192 then ((k a h ⟨d.val, hd⟩ : ℝ) : EReal) else 0) :
    ∑ d, Q d * K d = ((score q k h n a / Real.log 2 : ℝ) : EReal) := by
  rw [Finset.sum_congr rfl fun d _ => by rw [hQ d, hK d],
    FlashIdeal.Host.dot_padded (fun d => q n h d * (scale / Real.log 2)) (fun d => k a h d), ← FlashIdeal.Host.score_units]
  exact congrArg Real.toEReal (Finset.sum_congr rfl fun d _ => by ring)

end Lines

/-! ### The blocks -/

theorem idx : ∀ t : Fin cfg0.N, win0_0.index t = ![t.val / 8, t.val % 8, 0] ∧ win0_1.index t = ![t.val / 8, 0, 0]
    ∧ win0_2.index t = ![t.val / 8, 0, 0] ∧ win0_3.index t = ![t.val % 8, t.val / 8] ∧ win0_4.index t = ![t.val / 8, 0, t.val % 8] :=
  (by decide +kernel : ∀ t : Fin grid0.N, _)
theorem block : ∀ t : Fin cfg0.N, (grid0.coords t 1).val = t.val % 8 := (by decide +kernel : ∀ t : Fin grid0.N, _)

section Results

variable (m : (ℓ : Loc nD τ sig) → Buf (Elt Ideal) ℓ) (c : Dev nD) (t : Fin cfg0.N)

/-- The head of a point, -/
abbrev head : Fin 8 := ⟨t.val / 8, by have := lt_of_lt_of_eq t.isLt N_0; omega⟩
/-- and a row of its queries among all. -/
abbrev row (r : Fin 1024) : Fin 8192 := ⟨1024 * (t.val % 8) + r.val, by omega⟩

theorem blkQ (r : Fin 1024) (d : Fin 256) : iblk m c 0 t (ix3 (0 : Fin 1) r d) = bQ m c (ix3 (head t) (row t r) d) := by
  unfold bQ
  blk_point [iblk, idx t]
theorem blkK (n : Fin 8192) (d : Fin 256) : iblk m c 1 t (ix3 (0 : Fin 1) n d) = bK m c (ix3 (head t) n d) := by
  unfold bK
  blk_point [iblk, idx t]
theorem blkV (n : Fin 8192) (d : Fin 256) : iblk m c 2 t (ix3 (0 : Fin 1) n d) = bV m c (ix3 (head t) n d) := by
  unfold bV
  blk_point [iblk, idx t]

variable (q k : Heads 192) (v : Heads 128)
  (h0 : ∀ n h d, argQ m c (ix3 n h d) = ((q n h d : ℝ) : EReal)) (h1 : ∀ n h d, argK m c (ix3 n h d) = ((k n h d : ℝ) : EReal))
  (h2 : ∀ n h d, argV m c (ix3 n h d) = ((v n h d : ℝ) : EReal))

include h0 h1 h2

theorem blocks : Blocks q k v (head t) (iblk m c 0 t) (iblk m c 1 t) (iblk m c 2 t) (grid0.coords t 1).val where
  lt := by rw [block]; omega
  scores r hr j := by
    have e : (⟨1024 * (grid0.coords t 1).val + r.val, hr⟩ : Fin 8192) = row t r := Fin.ext (by dsimp only; rw [block])
    rw [e]
    exact rows_dot q k (head t) (row t r) (a := j)
      (fun d => (blkQ m c t r d).trans ((congrFun (bQ_eq m c) _).trans (lineQ_at q (head t) (row t r) h0 d)))
      (fun d => (blkK m c t j d).trans ((congrFun (bK_eq m c) _).trans (lineK_at k (head t) j h1 d)))
  values j d := (blkV m c t j d).trans ((congrFun (bV_eq m c) _).trans (lineV_at v (head t) j h2 d))

omit h0 h1 h2

/-- Column `d` of head `h` among all heads' columns. -/
abbrev col (h : Fin 8) (d : Fin 128) : Fin 1024 := ⟨128 * h.val + d.val, by omega⟩
/-- An entry of the output. -/
def outAt (n : Fin 8192) (j : Fin 1024) : EReal := ((outR q k v ⟨j.val / 128, by omega⟩ n ⟨j.val % 128, by omega⟩ : ℝ) : EReal)
/-- The output, -/
def outA (i : S8192x1024.Idx) : EReal := outAt q k v (i 0) (i 1)
/-- and the log-sums. -/
def lseA (i : S8x1x8192.Idx) : EReal := ((lseR q k (i 0) (i 2) : ℝ) : EReal)

theorem outAt_col (h : Fin 8) (n : Fin 8192) (d : Fin 128) : outAt q k v n (col h d) = ((outR q k v h n d : ℝ) : EReal) := by
  have e : (⟨(col h d).val / 128, by omega⟩ : Fin 8) = h := Fin.ext (by show (128 * h.val + d.val) / 128 = h.val; omega)
  have e' : (⟨(col h d).val % 128, by omega⟩ : Fin 128) = d := Fin.ext (by show (128 * h.val + d.val) % 128 = d.val; omega)
  unfold outAt
  rw [e, e']

theorem row_eq (r : Fin 1024) : 1024 * (grid0.coords t 1).val + r.val = 1024 * (t.val % 8) + r.val := by rw [block]
theorem row_lt (r : Fin 1024) : 1024 * (grid0.coords t 1).val + r.val < 8192 := by rw [row_eq]; omega

include h0 h1 h2

theorem final3 : (dats m 0 c).arrAt 3 (cfgs 0).N = outA q k v := by
  refine (dats m 0 c).arrAt_eq_of_covers 3 _ (by decide +kernel) fun t _ y => ?_
  blk_simp
  rw [after0_3]
  have hy : y = (ix2 (y 0 : Fin 1024) (y 1 : Fin 128) : S1024x128.Idx) := by blk_ext
  have he : ((cfg0.win 3).blk t).view.emb y = (ix2 (row t (y 0)) (col (head t) (y 1)) : S8192x1024.Idx) := by
    blk_ext [idx t]
  refine (congrArg (outsAt0 m c t).1 hy).trans ?_
  refine ((out3_at c (grid0.coords t) _ _ _ _ _ _ _ _ _ _ (blocks m c t q k v h0 h1 h2) (y 0) (y 1) (row_lt t (y 0))).trans ?_).trans (congrArg (outA q k v) he.symm)
  refine Eq.trans ?_ (outAt_col q k v (head t) (row t (y 0)) (y 1)).symm
  exact congrArg (fun n => ((outR q k v (head t) n (y 1) : ℝ) : EReal)) (Fin.ext (row_eq t (y 0)))

set_option maxHeartbeats 1000000 in
theorem final4 : (dats m 0 c).arrAt 4 (cfgs 0).N = lseA q k := by
  refine (dats m 0 c).arrAt_eq_of_covers 4 _ (by decide +kernel) fun t _ y => ?_
  blk_simp
  rw [after0_4]
  have hy : y = (ix3 (0 : Fin 1) (0 : Fin 1) (y 2 : Fin 1024) : S1x1x1024.Idx) := by blk_ext
  have he : ((cfg0.win 4).blk t).view.emb y = (ix3 (head t) 0 (row t (y 2)) : S8x1x8192.Idx) := by
    blk_ext [idx t]
  refine (congrArg (outsAt0 m c t).2 hy).trans ?_
  refine ((out4_at c (grid0.coords t) _ _ _ _ _ _ _ _ _ _ (blocks m c t q k v h0 h1 h2) (y 2) (row_lt t (y 2))).trans ?_).trans (congrArg (lseA q k) he.symm)
  exact congrArg (fun n => ((lseR q k (head t) n : ℝ) : EReal)) (Fin.ext (row_eq t (y 2)))

end Results

end Cert.FwdIdeal.Body
-- ==== Proof.FwdRef.lean ====
/-
  The attention forward reference's two results at an index, for arguments that are real numbers.
-/
module

public import proofs.«01_k».proof.Proof.Gen.FwdRefIdeal.Read
public import proofs.«01_k».proof.Proof.FwdMath

@[expose] public section

set_option maxRecDepth 16384

noncomputable section

open Idealize.ShloMosaic Idealize.ShloMosaic.TcCoe Idealize.SL.Sem
open Idealize.ShloMosaic.Tactic

namespace Cert.FwdRefIdeal.Rows

open Cert.FwdRefIdeal Cert.FwdRefIdeal.Gen Cert.FwdRefIdeal.Read Cert.FlashMath Cert.FwdMath Cert.Finite

/-- A row of numbers repeated along a new last axis, at an index. -/
theorem along_at (t : FVec Ideal S8x8192 .f32) (h : Fin 8) (n a : Fin 8192) :
    broadcastInDim S8x8192x8192 ![0, 1, 2] bcast_S8x8192x1_S8x8192x8192_0_1_2
      (broadcastInDim S8x8192x1 ![0, 1] bcast_S8x8192_S8x8192x1_0_1 t) (ix3 h n a) = t (ix2 h n) := by
  pointwise []

/-- The exponential over a row's number -/
theorem exp_along (s : FVec Ideal S8x8192x8192 .f32) (t : FVec Ideal S8x8192 .f32) (h : Fin 8) (n a : Fin 8192) :
    Host.exp (F := Ideal) (subf s (broadcastInDim S8x8192x8192 ![0, 1, 2] bcast_S8x8192x1_S8x8192x8192_0_1_2
      (broadcastInDim S8x8192x1 ![0, 1] bcast_S8x8192_S8x8192x1_0_1 t))) (ix3 h n a) = Ideal.exp (s (ix3 h n a) - t (ix2 h n)) := by
  pointwise []

/-- and the quotient by it. -/
theorem div_along (s : FVec Ideal S8x8192x8192 .f32) (t : FVec Ideal S8x8192 .f32) (h : Fin 8) (n a : Fin 8192) :
    Host.divf (F := Ideal) s (broadcastInDim S8x8192x8192 ![0, 1, 2] bcast_S8x8192x1_S8x8192x8192_0_1_2
      (broadcastInDim S8x8192x1 ![0, 1] bcast_S8x8192_S8x8192x1_0_1 t)) (ix3 h n a) = Ideal.div (s (ix3 h n a)) (t (ix2 h n)) := by
  pointwise []

theorem over_at (t : FVec Ideal S8x8192 .f32) (h : Fin 8) (n : Fin 8192) :
    maximumf (broadcastInDim S8x8192 ![] bcast_S_S8x8192 (constant (F := Ideal) S_ .f32 0xFF800000#32)) t (ix2 h n) = t (ix2 h n) := by
  pointwise []
  rw [ofBits_ninf, max_bot_left]

theorem sum_at (s : FVec Ideal S8x8192x8192 .f32) (h : Fin 8) (n : Fin 8192) :
    Host.reduceAdd (F := Ideal) s (constant (F := Ideal) S_ .f32 0x00000000#32) reducesTo_S8x8192x8192_S8x8192_d2 h_S_ (ix2 h n)
      = ∑ a : Fin 8192, s (ix3 h n a) := by
  pointwise []

/-- A row's number plus the logarithm of another, over the logarithm of 2. -/
theorem lse_at (s t : FVec Ideal S8x8192 .f32) (h : Fin 8) (n : Fin 8192) :
    shapeCast S8x1x8192 (Host.divf (F := Ideal) (addf s (Host.log (F := Ideal) t))
      (broadcastInDim S8x8192 ![] bcast_S_S8x8192 (Host.log (F := Ideal) (constant (F := Ideal) S_ .f32 0x40000000#32)))) shapeCasts_S8x8192_S8x1x8192 (ix3 h 0 n)
      = Ideal.div (s (ix2 h n) + Ideal.log (t (ix2 h n))) (Ideal.log (Ideal.ofBits .f32 0x40000000#32)) := by
  pointwise []

/-- The product with the values, its columns by head. -/
theorem out_at (x : FVec Ideal S8192x8x128 .f32) (p : FVec Ideal S8x8192x8192 .f32) (n : Fin 8192) (h : Fin 8) (d : Fin 128) :
    (truncf .bf16 (shapeCast S8192x1024 (transpose S8192x8x128 [2, 0, 1] (Host.dotGeneral dot_S8192x8x128_S8x8192x8192_S8x128x8192_0_2_2_1_1_0 none x p)
      transposes_S8x128x8192_S8192x8x128_2_0_1) shapeCasts_S8192x8x128_S8192x1024) bitsLt_bf16_f32 : FVec Ideal S8192x1024 .bf16) (ix2 n ⟨h.val * 128 + d.val, by omega⟩)
      = ∑ a : Fin 8192, x (ix3 a h d) * p (ix3 h n a) := by
  pointwise []

variable (x0 x1 : (⟨S8192x8x192, .f32⟩ : BufTy).Contents (Elt Ideal)) (x2 : (⟨S8192x8x128, .f32⟩ : BufTy).Contents (Elt Ideal))
  (q k : Heads 192) (v : Heads 128)
  (h0 : ∀ n h d, x0 (ix3 n h d) = ((q n h d : ℝ) : EReal)) (h1 : ∀ n h d, x1 (ix3 n h d) = ((k n h d : ℝ) : EReal))
  (h2 : ∀ n h d, x2 (ix3 n h d) = ((v n h d : ℝ) : EReal))

include h0 h1

/-- The masked scores, -/
theorem v10_at (h : Fin 8) (n a : Fin 8192) :
    val_main_v10 x0 x1 (ix3 h n a) = if a ≤ n then ((score q k h n a : ℝ) : EReal) else ⊥ := by
  pointwise [val_main_v10, val_main_v9, val_main_v8, val_main_v7, val_main_v6, val_main_v5, val_main_v4, val_main_v0, val_main_v3, val_main_v1,
    val_main_v2, val_main_cst, val_main_call0_v0, val_main_call0_v1, val_main_call0_v2, val_main_cst_0]
  rw [select_le, ofBits_scale, score, EReal.coe_mul, ← coe_sum]
  refine if_congr Iff.rfl (congrArg (· * _) (Finset.sum_congr rfl fun d _ => ?_)) ofBits_ninf
  rw [h0, h1, ← EReal.coe_mul]

/-- a row's maximum, taken twice, -/
theorem v11_real : ∃ M : Fin 8 → Fin 8192 → ℝ, ∀ h n, val_main_v11 x0 x1 (ix2 h n) = ((M h n : ℝ) : EReal)
    ∧ val_main_v26 x0 x1 (ix2 h n) = ((M h n : ℝ) : EReal) := by
  have e : ∀ h n, ∃ M : ℝ, val_main_v11 x0 x1 (ix2 h n) = (M : EReal) ∧ val_main_v26 x0 x1 (ix2 h n) = (M : EReal) := fun h n => by
    obtain ⟨M, e⟩ := max_masked n fun a => score q k h n a
    have e' := e.symm.trans (congrArg (fun f => Finset.univ.fold max ⊥ f) (funext fun a => (v10_at x0 x1 q k h0 h1 h n a).symm))
    refine ⟨M, ?_, ?_⟩
    · pointwise [val_main_v11, val_main_cst_1]
      rw [ofBits_ninf]
      exact e'.symm
    · pointwise [val_main_v26, val_main_cst_4]
      rw [ofBits_ninf]
      exact e'.symm
  exact ⟨fun h n => (e h n).choose, fun h n => (e h n).choose_spec⟩

section
variable {M : Fin 8 → Fin 8192 → ℝ} (hM : ∀ h n, val_main_v11 x0 x1 (ix2 h n) = ((M h n : ℝ) : EReal)
    ∧ val_main_v26 x0 x1 (ix2 h n) = ((M h n : ℝ) : EReal))
include hM

/-- the exponentials, twice, -/
theorem v17_at (h : Fin 8) (n a : Fin 8192) : val_main_v17 x0 x1 (ix3 h n a) = ((shifted q k h n a (M h n) : ℝ) : EReal) := by
  refine (exp_along (val_main_v10 x0 x1) (val_main_v13 x0 x1) h n a).trans ?_
  rw [v10_at x0 x1 q k h0 h1, show val_main_v13 x0 x1 (ix2 h n) = _ from (over_at (val_main_v11 x0 x1) h n).trans (hM h n).1, exp_masked]
theorem v30_at (h : Fin 8) (n a : Fin 8192) : val_main_v30 x0 x1 (ix3 h n a) = ((shifted q k h n a (M h n) : ℝ) : EReal) := by
  refine (exp_along (val_main_v10 x0 x1) (val_main_v26 x0 x1) h n a).trans ?_
  rw [v10_at x0 x1 q k h0 h1, (hM h n).2, exp_masked]

/-- the probabilities. -/
theorem v21_at (h : Fin 8) (n a : Fin 8192) : val_main_v21 x0 x1 (ix3 h n a) = ((FlashMath.prob q k h n a : ℝ) : EReal) := by
  refine (div_along (val_main_v17 x0 x1) (val_main_v18 x0 x1) h n a).trans ?_
  have e : val_main_v18 x0 x1 (ix2 h n) = ((mass q k h n (M h n) : ℝ) : EReal) := by
    refine (sum_at (val_main_v17 x0 x1) h n).trans ?_
    rw [mass, ← coe_sum]
    exact Finset.sum_congr rfl fun a _ => v17_at x0 x1 q k h0 h1 hM h n a
  rw [v17_at x0 x1 q k h0 h1 hM, e, div_coe _ _ (mass_pos ..).ne', prob_shift]
end

/-- The two results. -/
theorem v37_at (h : Fin 8) (n : Fin 8192) : val_main_v37 x0 x1 (ix3 h 0 n) = ((lseR q k h n : ℝ) : EReal) := by
  obtain ⟨M, hM⟩ := v11_real x0 x1 q k h0 h1
  refine (lse_at (val_main_v26 x0 x1) (val_main_v31 x0 x1) h n).trans ?_
  have e : val_main_v31 x0 x1 (ix2 h n) = ((mass q k h n (M h n) : ℝ) : EReal) := by
    refine (sum_at (val_main_v30 x0 x1) h n).trans ?_
    rw [mass, ← coe_sum]
    exact Finset.sum_congr rfl fun a _ => v30_at x0 x1 q k h0 h1 hM h n a
  rw [(hM h n).2, e, log_two, log_pos _ (mass_pos ..), ← EReal.coe_add, div_coe _ _ ln2_pos.ne', lseR_eq]

include h2

theorem v25_at (n : Fin 8192) (h : Fin 8) (d : Fin 128) :
    val_main_v25 x0 x1 x2 (ix2 n ⟨h.val * 128 + d.val, by omega⟩) = ((outR q k v h n d : ℝ) : EReal) := by
  obtain ⟨M, hM⟩ := v11_real x0 x1 q k h0 h1
  refine (out_at x2 (val_main_v21 x0 x1) n h d).trans ?_
  rw [outR, ← coe_sum]
  refine Finset.sum_congr rfl fun a _ => ?_
  rw [h2, v21_at x0 x1 q k h0 h1 hM, ← EReal.coe_mul, mul_comm]

end Cert.FwdRefIdeal.Rows
-- ==== Proof.FwdClaim.lean ====
/-
  The attention's forward call: what it leaves is causal attention's output and the rows' log-sums.
-/
module

public import proofs.«01_k».proof.Defs
public import proofs.«01_k».proof.Proof.Finite
public import proofs.«01_k».proof.Proof.FwdArray
public import proofs.«01_k».proof.Proof.FwdRef
public import proofs.«01_k».proof.Proof.Gen.FwdIdeal.Value
public import proofs.«01_k».proof.Proof.Gen.FwdRefIdeal.Run
public import proofs.«01_k».proof.Proof.Gen.FwdRefIdeal.Read
public import proofs.«01_k».proof.Proof.Gen.Pre_finite_fwd
public import Idealize.ShloMosaic.Lib.Quiescent

@[expose] public section

set_option maxRecDepth 16384

noncomputable section

open Idealize.ShloMosaic Idealize.ShloMosaic.TcCoe Idealize.SL.Sem

namespace Cert.FwdClaim

theorem frame_ref : Cert.quiescent_FwdRefIdeal := fun m ρ _ =>
  (θ_run (Cert.FwdRefIdeal.defs (F := Ideal)) _ _).mono
    (fun r h => ⟨fun c => (h c).2.2, sem_eq_zero_of_no_sems (by decide) r.2⟩)
    (Cert.FwdRefIdeal.Value.run (F := Ideal) m ρ)

theorem preserves : Cert.preserves_Fwd_FwdIdeal :=
  ⟨IdealRules.named_const.statement Cert.FwdIdeal.κ "masked" .f32 0xF149F2CA#32 (⊥ : EReal) rfl,
    IdealRules.named_const.statement Cert.FwdIdeal.κ "log2e" .f32 0x3FB8AA3B#32 (((Real.log 2)⁻¹ : ℝ) : EReal) rfl⟩

open Cert.FwdIdeal Cert.FwdIdeal.Gen Cert.FwdIdeal.Body Cert.FlashMath Cert.FwdMath

/-- The precondition read back: the three arguments hold reals. -/
theorem reals (m : (ℓ : Loc nD τ sig) → Buf (Elt Ideal) ℓ) (h : Cert.Pre_FwdIdeal_finite_fwd m) (c : Dev nD) :
    ∃ (q k : Heads 192) (v : Heads 128), (∀ n h d, argQ m c (ix3 n h d) = ((q n h d : ℝ) : EReal))
      ∧ (∀ n h d, argK m c (ix3 n h d) = ((k n h d : ℝ) : EReal)) ∧ ∀ n h d, argV m c (ix3 n h d) = ((v n h d : ℝ) : EReal) := by
  have e := congrFun (h c) ix0
  unfold Cert.Pre_finite_fwd.fn at e
  dsimp only at e
  obtain ⟨e, e3⟩ := IntOp.andi_eq_one.1 e
  obtain ⟨e1, e2⟩ := IntOp.andi_eq_one.1 e
  obtain ⟨Q, hQ⟩ := Cert.Finite.reals (S := S8192x8x192) _ _ _ _ _ _ e1
  obtain ⟨K, hK⟩ := Cert.Finite.reals (S := S8192x8x192) _ _ _ _ _ _ e2
  obtain ⟨W, hW⟩ := Cert.Finite.reals (S := S8192x8x128) _ _ _ _ _ _ e3
  exact ⟨fun n h d => Q (ix3 n h d), fun n h d => K (ix3 n h d), fun n h d => W (ix3 n h d), fun n h d => congrFun hQ _,
    fun n h d => congrFun hK _, fun n h d => congrFun hW _⟩

section
variable (x0 x1 : Cert.FwdRefIdeal.S8192x8x192.Idx → EReal) (x2 : Cert.FwdRefIdeal.S8192x8x128.Idx → EReal) (q k : Heads 192) (v : Heads 128)
  (h0 : ∀ n h d, x0 (ix3 n h d) = ((q n h d : ℝ) : EReal)) (h1 : ∀ n h d, x1 (ix3 n h d) = ((k n h d : ℝ) : EReal))
  (h2 : ∀ n h d, x2 (ix3 n h d) = ((v n h d : ℝ) : EReal))
include h0 h1

/-- The reference's log-sums at any index, -/
theorem ref_lse (h : Fin 8) (z : Fin 1) (n : Fin 8192) :
    Cert.FwdRefIdeal.Read.val_main_v37 (F := Ideal) x0 x1 (ix3 h z n) = ((lseR q k h n : ℝ) : EReal) := by
  rw [Subsingleton.elim z 0]
  exact Cert.FwdRefIdeal.Rows.v37_at x0 x1 q k h0 h1 h n

include h2

/-- and its output at any column. -/
theorem ref_out (n : Fin 8192) (j : Fin 1024) :
    Cert.FwdRefIdeal.Read.val_main_v25 (F := Ideal) x0 x1 x2 (ix2 n j) = outAt q k v n j := by
  have e := Cert.FwdRefIdeal.Rows.v25_at x0 x1 x2 q k v h0 h1 h2 n ⟨j.val / 128, by omega⟩ ⟨j.val % 128, by omega⟩
  have hj : (⟨j.val / 128 * 128 + j.val % 128, by omega⟩ : Fin 1024) = j := Fin.ext (by show j.val / 128 * 128 + j.val % 128 = j.val; omega)
  exact (congrArg (fun j => Cert.FwdRefIdeal.Read.val_main_v25 (F := Ideal) x0 x1 x2 (ix2 n j)) hj.symm).trans e
end

theorem algebraic : Cert.algebraic_FwdIdeal_FwdRefIdeal_pre_finite_fwd := by
  intro m g m' g' hpre hag
  refine ⟨fun c => (dats m 0 c).arrAt 3 cfg0.N, fun c => (dats m 0 c).arrAt 4 cfg0.N, Cert.FwdIdeal.Value.run_blocks m g, ?_⟩
  refine (θ_run Cert.FwdRefIdeal.defs _ _).mono (fun r h c => ?_) (Cert.FwdRefIdeal.Value.run (F := Ideal) m' g')
  obtain ⟨r0, r1, h⟩ := h c
  obtain ⟨q, k, v, hq, hk, hv⟩ := reals m hpre c
  obtain ⟨e0, e1, e2⟩ := hag c
  refine ⟨r0.trans ?_, r1.trans ?_, h⟩
  · rw [Cert.FwdRefIdeal.Read.val_main_v25_eq, e0, e1, e2]
    refine Eq.trans (funext fun i => ?_) (final3 m c q k v hq hk hv).symm
    exact (congrArg _ (eq_ix2 i)).trans (ref_out _ _ _ q k v hq hk hv (i 0) (i 1))
  · rw [e0, e1]
    refine Eq.trans (funext fun i => ?_) (final4 m c q k v hq hk hv).symm
    exact (congrArg _ (eq_ix3 i)).trans (ref_lse _ _ q k hq hk (i 0) (i 1) (i 2))

end Cert.FwdClaim

end
-- ==== Proof.AdamodClaim.lean ====
/-
  The modulation: the reference's frame, and the equation of the two programs' results. At each entry both sum, over the
  2048 channels, the product of `c/(1+exp(-c))` and the weight, and add the bias.
-/
module

public import proofs.«01_k».proof.Defs
public import proofs.«01_k».proof.Proof.AdawClaim
public import proofs.«01_k».proof.Proof.Gen.AdamodIdeal.Value
public import proofs.«01_k».proof.Proof.Gen.AdamodRefIdeal.Run
public import proofs.«01_k».proof.Proof.Gen.AdamodRefIdeal.Read
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Tactic

namespace Cert.AdamodClaim

open Cert.AdamodIdeal Cert.AdamodIdeal.Gen Cert.AdamodRefIdeal.Read
open Cert.AdawClaim (act)

theorem frame_ref : Cert.quiescent_AdamodRefIdeal := fun m ρ _ =>
  (θ_run (Cert.AdamodRefIdeal.defs (F := Ideal)) _ _).mono
    (fun r h => ⟨fun c => (h c).2, sem_eq_zero_of_no_sems (by decide) r.2⟩)
    (Cert.AdamodRefIdeal.Value.run (F := Ideal) m ρ)

variable (C : FVec Ideal S16x2048 .f32) (W : FVec Ideal S2048x768 .f32) (B : FVec Ideal S1x768 .f32) (r : Fin 16) (j : Fin 768)

/-- The entry both programs compute. -/
def entry : EReal := (∑ a : Fin 2048, act (C (ix2 r a)) * W (ix2 a j)) + B (ix2 0 j)

theorem pay_at : k0_pay1 (F := Ideal) C W B (ix2 r j) = entry C W B r j := by
  pointwise [k0_pay1]
  simp only [entry, act, sub_eq_add_neg, zero_add]

theorem ref_at : val_main_v3 (F := Ideal) C W B (ix2 r j) = entry C W B r j := by
  pointwise [val_main_v3, val_main_v2, val_main_v1, val_main_v0, val_main_call0_v5, val_main_call0_v4, val_main_call0_v3,
    val_main_call0_v2, val_main_call0_v1, val_main_call0_v0, val_main_call0_cst, val_main_call0_cst_0]
  rfl

theorem algebraic : Cert.algebraic_AdamodIdeal_AdamodRefIdeal := by
  intro m g m' g' _ hag
  refine ⟨_, Cert.AdamodIdeal.Value.run (F := Ideal) m g, ?_⟩
  refine (θ_run Cert.AdamodRefIdeal.defs _ _).mono (fun r h c => ?_) (Cert.AdamodRefIdeal.Value.run (F := Ideal) m' g')
  obtain ⟨r0, h⟩ := h c
  obtain ⟨a0, a1, a2⟩ := hag c
  refine ⟨r0.trans ?_, h⟩
  rw [val_main_v3_eq, a0, a1, a2]
  funext i
  rw [eq_ix2 i]
  exact (ref_at _ _ _ (i 0) (i 1)).trans (pay_at _ _ _ (i 0) (i 1)).symm

end Cert.AdamodClaim
-- ==== Proof.lean ====
/-
  The proof of `Cert.Claim`: the programs' stated facts, then each call's frames, then each call's results against the
  reference's.
-/
module

public import proofs.«01_k».proof.Defs
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Flash
public import proofs.«01_k».proof.Proof.Gen.FlashIdeal
public import proofs.«01_k».proof.Proof.Gen.FlashIdeal.Frame
public import proofs.«01_k».proof.Proof.Gen.FlashIdeal.Skeleton
public import proofs.«01_k».proof.Proof.Gen.FlashIdeal.Loops
public import proofs.«01_k».proof.Proof.Gen.FlashRefIdeal
public import proofs.«01_k».proof.Proof.Gen.FlashRefIdeal.Run
public import proofs.«01_k».proof.Proof.Gen.FlashRefIdeal.Read
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.TailRefIdeal
public import proofs.«01_k».proof.Proof.Gen.TailRefIdeal.Run
public import proofs.«01_k».proof.Proof.Gen.TailRefIdeal.Read
public import proofs.«01_k».proof.Proof.Gen.Adaw
public import proofs.«01_k».proof.Proof.Gen.Adaw.Frame
public import proofs.«01_k».proof.Proof.Gen.AdawIdeal
public import proofs.«01_k».proof.Proof.Gen.AdawIdeal.Frame
public import proofs.«01_k».proof.Proof.Gen.AdawIdeal.Value
public import proofs.«01_k».proof.Proof.Gen.AdawRefIdeal
public import proofs.«01_k».proof.Proof.Gen.AdawRefIdeal.Run
public import proofs.«01_k».proof.Proof.Gen.AdawRefIdeal.Read
public import proofs.«01_k».proof.Proof.Gen.Fwd
public import proofs.«01_k».proof.Proof.Gen.Fwd.Frame
public import proofs.«01_k».proof.Proof.Gen.FwdIdeal
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.Adamod
public import proofs.«01_k».proof.Proof.Gen.Adamod.Frame
public import proofs.«01_k».proof.Proof.Gen.AdamodIdeal
public import proofs.«01_k».proof.Proof.Gen.AdamodIdeal.Frame
public import proofs.«01_k».proof.Proof.Gen.AdamodIdeal.Value
public import proofs.«01_k».proof.Proof.Gen.AdamodRefIdeal
public import proofs.«01_k».proof.Proof.Gen.AdamodRefIdeal.Run
public import proofs.«01_k».proof.Proof.Gen.AdamodRefIdeal.Read
public import proofs.«01_k».proof.Proof.Gen.Pre_finite_norm
public import proofs.«01_k».proof.Proof.Gen.Pre_finite_flash
public import proofs.«01_k».proof.Proof.Gen.Pre_finite_conv
public import proofs.«01_k».proof.Proof.Gen.Pre_finite_tail
public import proofs.«01_k».proof.Proof.Gen.Pre_finite_fwd
public import proofs.«01_k».proof.Proof.Gen.On_conv_columns
public import proofs.«01_k».proof.Proof.NormClaim
public import proofs.«01_k».proof.Proof.FlashClaim
public import proofs.«01_k».proof.Proof.ConvClaim
public import proofs.«01_k».proof.Proof.TailClaim
public import proofs.«01_k».proof.Proof.AdawClaim
public import proofs.«01_k».proof.Proof.FwdClaim
public import proofs.«01_k».proof.Proof.AdamodClaim

@[expose] public section

noncomputable section

namespace Cert.Proof

open Idealize.ShloMosaic Idealize.SL.Sem

theorem claim : Cert.Claim :=
  ⟨Cert.Norm.Gen.facts,
    Cert.NormIdeal.Gen.facts,
    Cert.NormRefIdeal.Gen.facts,
    Cert.Flash.Gen.facts,
    Cert.FlashIdeal.Gen.facts,
    Cert.FlashRefIdeal.Gen.facts,
    Cert.Conv.Gen.facts,
    Cert.ConvIdeal.Gen.facts,
    Cert.ConvRefIdeal.Gen.facts,
    Cert.Tail.Gen.facts,
    Cert.TailIdeal.Gen.facts,
    Cert.TailRefIdeal.Gen.facts,
    Cert.Adaw.Gen.facts,
    Cert.AdawIdeal.Gen.facts,
    Cert.AdawRefIdeal.Gen.facts,
    Cert.Fwd.Gen.facts,
    Cert.FwdIdeal.Gen.facts,
    Cert.FwdRefIdeal.Gen.facts,
    Cert.Adamod.Gen.facts,
    Cert.AdamodIdeal.Gen.facts,
    Cert.AdamodRefIdeal.Gen.facts,
    Cert.Pre_finite_norm.Gen.facts,
    Cert.Pre_finite_flash.Gen.facts,
    Cert.Pre_finite_conv.Gen.facts,
    Cert.Pre_finite_tail.Gen.facts,
    Cert.Pre_finite_fwd.Gen.facts,
    Cert.On_conv_columns.Gen.facts,
    fun m ρ _ => Cert.Norm.Gen.frame m ρ,
    fun m ρ _ => Cert.NormIdeal.Gen.frame m ρ,
    fun m ρ _ => Cert.NormIdeal.Gen.frame m ρ,
    Cert.NormClaim.frame_ref,
    fun m ρ _ => Cert.NormClaim.frame_ref m ρ trivial,
    Cert.FlashClaim.frame_bits,
    Cert.FlashClaim.frame_ideal,
    fun m ρ _ => Cert.FlashClaim.frame_ideal m ρ trivial,
    Cert.FlashClaim.frame_ref,
    fun m ρ _ => Cert.FlashClaim.frame_ref m ρ trivial,
    fun m ρ _ => Cert.Conv.Gen.frame m ρ,
    fun m ρ _ => Cert.ConvIdeal.Gen.frame m ρ,
    fun m ρ _ => Cert.ConvIdeal.Gen.frame m ρ,
    Cert.ConvClaim.frame_ref,
    fun m ρ _ => Cert.ConvClaim.frame_ref m ρ trivial,
    fun m ρ _ => Cert.Tail.Gen.frame m ρ,
    fun m ρ _ => Cert.TailIdeal.Gen.frame m ρ,
    fun m ρ _ => Cert.TailIdeal.Gen.frame m ρ,
    Cert.TailClaim.frame_ref,
    fun m ρ _ => Cert.TailClaim.frame_ref m ρ trivial,
    fun m ρ _ => Cert.Adaw.Gen.frame m ρ,
    fun m ρ _ => Cert.AdawIdeal.Gen.frame m ρ,
    Cert.AdawClaim.frame_ref,
    fun m ρ _ => Cert.Fwd.Gen.frame m ρ,
    fun m ρ _ => Cert.FwdIdeal.Gen.frame m ρ,
    fun m ρ _ => Cert.FwdIdeal.Gen.frame m ρ,
    Cert.FwdClaim.frame_ref,
    fun m ρ _ => Cert.FwdClaim.frame_ref m ρ trivial,
    fun m ρ _ => Cert.Adamod.Gen.frame m ρ,
    fun m ρ _ => Cert.AdamodIdeal.Gen.frame m ρ,
    Cert.AdamodClaim.frame_ref,
    trivial,
    Cert.NormClaim.algebraic,
    Cert.FlashClaim.preserves,
    Cert.FlashClaim.algebraic,
    trivial,
    Cert.ConvClaim.algebraic,
    trivial,
    Cert.TailClaim.algebraic,
    trivial,
    Cert.AdawClaim.algebraic,
    Cert.FwdClaim.preserves,
    Cert.FwdClaim.algebraic,
    trivial,
    Cert.AdamodClaim.algebraic⟩

end Cert.Proof

end
